-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_borders_ok [hPre_borders_ok : Cert.Pre_borders_ok.Facts] (m : (ℓ : Loc Cert.KernelIdeal.nD Cert.KernelIdeal.τ Cert.KernelIdeal.sig) → Buf (Elt Ideal) ℓ) : Prop :=
  ∀ c : Dev Cert.KernelIdeal.nD,
    (Cert.Pre_borders_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_borders_ok [hPre_borders_ok : Cert.Pre_borders_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_borders_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_borders_ok [hKernelIdeal : Cert.KernelIdeal.Facts] [hPre_borders_ok : Cert.Pre_borders_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_borders_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_borders_ok [hReferenceIdeal : Cert.ReferenceIdeal.Facts] [hPre_borders_ok : Cert.Pre_borders_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_borders_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_borders_ok [hKernelIdeal : Cert.KernelIdeal.Facts] [hReferenceIdeal : Cert.ReferenceIdeal.Facts] [hPre_borders_ok : Cert.Pre_borders_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_borders_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_borders_ok : Cert.Pre_borders_ok.Facts),
    quiescent_Kernel (hKernel := hKernel)
    ∧ quiescent_KernelIdeal (hKernelIdeal := hKernelIdeal)
    ∧ quiescent_KernelIdeal_pre_borders_ok (hKernelIdeal := hKernelIdeal) (hPre_borders_ok := hPre_borders_ok)
    ∧ quiescent_ReferenceIdeal (hReferenceIdeal := hReferenceIdeal)
    ∧ quiescent_ReferenceIdeal_pre_borders_ok (hReferenceIdeal := hReferenceIdeal) (hPre_borders_ok := hPre_borders_ok)
    ∧ preserves_Kernel_KernelIdeal
    ∧ algebraic_KernelIdeal_ReferenceIdeal_pre_borders_ok (hKernelIdeal := hKernelIdeal) (hReferenceIdeal := hReferenceIdeal) (hPre_borders_ok := hPre_borders_ok)
-- ==== Pre_borders_ok.lean ====
abbrev S8192x5000 : Shape := ⟨2, ![8192, 5000]⟩
abbrev S5001 : Shape := ⟨1, ![5001]⟩
abbrev S_ : Shape := ⟨0, ![]⟩
abbrev S8192 : Shape := ⟨1, ![8192]⟩
abbrev S5000 : Shape := ⟨1, ![5000]⟩

class Facts : Prop where
  reducesTo_S8192x5000_S8192_d1 : S8192x5000.ReducesTo [1] S8192
  h_S_ : 0 < S_.numel
  bcast_S_S8192 : S_.BroadcastsInDim S8192 (![] : Fin 0 → Fin S8192.rank)
  reducesTo_S8192_S_d0 : S8192.ReducesTo [0] S_
  bcast_S_S5001 : S_.BroadcastsInDim S5001 (![] : Fin 0 → Fin S5001.rank)
  reducesTo_S5001_S_d0 : S5001.ReducesTo [0] S_
  slices_S5001_S5000_1 : S5001.Slices ![1] S5000
  slices_S5001_S5000_0 : S5001.Slices ![0] S5000
  reducesTo_S5000_S_d0 : S5000.ReducesTo [0] S_

variable [Facts]

def fn_part1 {F : FTy → Type} [FloatOps F] (main_v14 : IVec S_ 1) (main_v17 : IVec S5000 1) : IVec S_ 1 :=
  let main_c_4 : IVec S_ 1 := constantI S_ 1 1#1
  let main_v18 : IVec S_ 1 := (fun x v => Host.reduce IntOp.andi x v reducesTo_S5000_S_d0 h_S_) main_v17 main_c_4
  let main_v19 : IVec S_ 1 := andi main_v14 main_v18
  main_v19

def fn {F : FTy → Type} [FloatOps F] (main_arg0 : FVec F S8192x5000 .f32) (main_arg1 : FVec F S5001 .f32) (main_arg2 : FVec F S5001 .f32) : IVec S_ 1 :=
  let main_cst : FVec F S_ .f32 := constant S_ .f32 0xFF800000#32
  let main_v0 : FVec F S8192 .f32 := (fun x v => Host.reduce FloatOps.maximumf x v reducesTo_S8192x5000_S8192_d1 h_S_) main_arg0 main_cst
  let main_v1 : FVec F S8192 .f32 := Host.absf main_v0
  let main_cst_0 : FVec F S_ .f32 := constant S_ .f32 0x7F800000#32
  let main_v2 : FVec F S8192 .f32 := broadcastInDim S8192 ![] bcast_S_S8192 main_cst_0
  let main_v3 : IVec S8192 1 := cmpf .olt main_v1 main_v2
  let main_c : IVec S_ 1 := constantI S_ 1 1#1
  let main_v4 : IVec S_ 1 := (fun x v => Host.reduce IntOp.andi x v reducesTo_S8192_S_d0 h_S_) main_v3 main_c
  let main_v5 : FVec F S5001 .f32 := Host.absf main_arg1
  let main_cst_1 : FVec F S_ .f32 := constant S_ .f32 0x7149F2CA#32
  let main_v6 : FVec F S5001 .f32 := broadcastInDim S5001 ![] bcast_S_S5001 main_cst_1
  let main_v7 : IVec S5001 1 := cmpf .ole main_v5 main_v6
  let main_c_2 : IVec S_ 1 := constantI S_ 1 1#1
  let main_v8 : IVec S_ 1 := (fun x v => Host.reduce IntOp.andi x v reducesTo_S5001_S_d0 h_S_) main_v7 main_c_2
  let main_v9 : IVec S_ 1 := andi main_v4 main_v8
  let main_v10 : FVec F S5000 .f32 := (extractStridedSlice S5000 ![1] · slices_S5001_S5000_1) main_arg1
  let main_v11 : FVec F S5000 .f32 := (extractStridedSlice S5000 ![0] · slices_S5001_S5000_0) main_arg1
  let main_v12 : IVec S5000 1 := cmpf .ogt main_v10 main_v11
  let main_c_3 : IVec S_ 1 := constantI S_ 1 1#1
  let main_v13 : IVec S_ 1 := (fun x v => Host.reduce IntOp.andi x v reducesTo_S5000_S_d0 h_S_) main_v12 main_c_3
  let main_v14 : IVec S_ 1 := andi main_v9 main_v13
  let main_v15 : FVec F S5000 .f32 := (extractStridedSlice S5000 ![1] · slices_S5001_S5000_1) main_arg2
  let main_v16 : FVec F S5000 .f32 := (extractStridedSlice S5000 ![0] · slices_S5001_S5000_0) main_arg2
  let main_v17 : IVec S5000 1 := cmpf .oge main_v15 main_v16
  fn_part1 (F := F) main_v14 main_v17
-- ==== Kernel.lean ====
abbrev S8192x5000 : Shape := ⟨2, ![8192, 5000]⟩
abbrev S5001 : Shape := ⟨1, ![5001]⟩
abbrev S5000 : Shape := ⟨1, ![5000]⟩
abbrev S_ : Shape := ⟨0, ![]⟩
abbrev S120 : Shape := ⟨1, ![120]⟩
abbrev S5120 : Shape := ⟨1, ![5120]⟩
abbrev S1 : Shape := ⟨1, ![1]⟩
abbrev S40x128 : Shape := ⟨2, ![40, 128]⟩
abbrev S40x128x1 : Shape := ⟨3, ![40, 128, 1]⟩
abbrev S40x1x128 : Shape := ⟨3, ![40, 1, 128]⟩
abbrev S5121 : Shape := ⟨1, ![5121]⟩
abbrev S40 : Shape := ⟨1, ![40]⟩
abbrev S1x40 : Shape := ⟨2, ![1, 40]⟩
abbrev S4x40 : Shape := ⟨2, ![4, 40]⟩
abbrev S512x5000 : Shape := ⟨2, ![512, 5000]⟩
abbrev S40x512x128 : Shape := ⟨3, ![40, 512, 128]⟩
abbrev S1x1 : Shape := ⟨2, ![1, 1]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S512x8 : Shape := ⟨2, ![512, 8]⟩
abbrev S512x120 : Shape := ⟨2, ![512, 120]⟩
abbrev S1x128x1 : Shape := ⟨3, ![1, 128, 1]⟩
abbrev S128x1 : Shape := ⟨2, ![128, 1]⟩
abbrev S1x1x128 : Shape := ⟨3, ![1, 1, 128]⟩
abbrev S1x128 : Shape := ⟨2, ![1, 128]⟩
abbrev S128x128 : Shape := ⟨2, ![128, 128]⟩

abbrev nBuf : Space → Nat
  | .hbm => 60
  | .vmem => 9
  | .smem => 3
  | _ => 0

abbrev bufTy : (tb : Table) → Fin (tcTables nBuf tb) → BufTy
  | .hbm, ⟨0, _⟩ => ⟨S8192x5000, .f32⟩
  | .hbm, ⟨1, _⟩ => ⟨S5001, .f32⟩
  | .hbm, ⟨2, _⟩ => ⟨S5001, .f32⟩
  | .hbm, ⟨3, _⟩ => ⟨S5000, .f32⟩
  | .hbm, ⟨4, _⟩ => ⟨S5000, .f32⟩
  | .hbm, ⟨5, _⟩ => ⟨S5000, .f32⟩
  | .hbm, ⟨6, _⟩ => ⟨S5000, .f32⟩
  | .hbm, ⟨7, _⟩ => ⟨S_, .f32⟩
  | .hbm, ⟨8, _⟩ => ⟨S5000, .f32⟩
  | .hbm, ⟨9, _⟩ => ⟨S5000, .f32⟩
  | .hbm, ⟨10, _⟩ => ⟨S_, .f32⟩
  | .hbm, ⟨11, _⟩ => ⟨S120, .f32⟩
  | .hbm, ⟨12, _⟩ => ⟨S5120, .f32⟩
  | .hbm, ⟨13, _⟩ => ⟨S_, .f32⟩
  | .hbm, ⟨14, _⟩ => ⟨S120, .f32⟩
  | .hbm, ⟨15, _⟩ => ⟨S5120, .f32⟩
  | .hbm, ⟨16, _⟩ => ⟨S5000, .f32⟩
  | .hbm, ⟨17, _⟩ => ⟨S_, .f32⟩
  | .hbm, ⟨18, _⟩ => ⟨S120, .f32⟩
  | .hbm, ⟨19, _⟩ => ⟨S5120, .f32⟩
  | .hbm, ⟨20, _⟩ => ⟨S_, .i32⟩
  | .hbm, ⟨21, _⟩ => ⟨S1, .i32⟩
  | .hbm, ⟨22, _⟩ => ⟨S_, .f32⟩
  | .hbm, ⟨23, _⟩ => ⟨S5120, .f32⟩
  | .hbm, ⟨24, _⟩ => ⟨S5000, .f32⟩
  | .hbm, ⟨25, _⟩ => ⟨S_, .f32⟩
  | .hbm, ⟨26, _⟩ => ⟨S120, .f32⟩
  | .hbm, ⟨27, _⟩ => ⟨S5120, .f32⟩
  | .hbm, ⟨28, _⟩ => ⟨S_, .i32⟩
  | .hbm, ⟨29, _⟩ => ⟨S1, .i32⟩
  | .hbm, ⟨30, _⟩ => ⟨S_, .f32⟩
  | .hbm, ⟨31, _⟩ => ⟨S5120, .f32⟩
  | .hbm, ⟨32, _⟩ => ⟨S40x128, .f32⟩
  | .hbm, ⟨33, _⟩ => ⟨S40x128x1, .f32⟩
  | .hbm, ⟨34, _⟩ => ⟨S40x128, .f32⟩
  | .hbm, ⟨35, _⟩ => ⟨S40x128x1, .f32⟩
  | .hbm, ⟨36, _⟩ => ⟨S40x128, .f32⟩
  | .hbm, ⟨37, _⟩ => ⟨S40x1x128, .f32⟩
  | .hbm, ⟨38, _⟩ => ⟨S40x128, .f32⟩
  | .hbm, ⟨39, _⟩ => ⟨S40x1x128, .f32⟩
  | .hbm, ⟨40, _⟩ => ⟨S_, .f32⟩
  | .hbm, ⟨41, _⟩ => ⟨S120, .f32⟩
  | .hbm, ⟨42, _⟩ => ⟨S5121, .f32⟩
  | .hbm, ⟨43, _⟩ => ⟨S_, .f32⟩
  | .hbm, ⟨44, _⟩ => ⟨S120, .f32⟩
  | .hbm, ⟨45, _⟩ => ⟨S5121, .f32⟩
  | .hbm, ⟨46, _⟩ => ⟨S_, .i32⟩
  | .hbm, ⟨47, _⟩ => ⟨S1, .i32⟩
  | .hbm, ⟨48, _⟩ => ⟨S_, .f32⟩
  | .hbm, ⟨49, _⟩ => ⟨S5121, .f32⟩
  | .hbm, ⟨50, _⟩ => ⟨S40, .f32⟩
  | .hbm, ⟨51, _⟩ => ⟨S40, .f32⟩
  | .hbm, ⟨52, _⟩ => ⟨S40, .f32⟩
  | .hbm, ⟨53, _⟩ => ⟨S40, .f32⟩
  | .hbm, ⟨54, _⟩ => ⟨S1x40, .f32⟩
  | .hbm, ⟨55, _⟩ => ⟨S1x40, .f32⟩
  | .hbm, ⟨56, _⟩ => ⟨S1x40, .f32⟩
  | .hbm, ⟨57, _⟩ => ⟨S1x40, .f32⟩
  | .hbm, ⟨58, _⟩ => ⟨S4x40, .f32⟩
  | .hbm, ⟨59, _⟩ => ⟨S8192x5000, .f32⟩
  | .local _ .vmem, ⟨0, _⟩ => ⟨S512x5000, .f32⟩
  | .local _ .vmem, ⟨1, _⟩ => ⟨S512x5000, .f32⟩
  | .local _ .vmem, ⟨2, _⟩ => ⟨S40x128x1, .f32⟩
  | .local _ .vmem, ⟨3, _⟩ => ⟨S40x128x1, .f32⟩
  | .local _ .vmem, ⟨4, _⟩ => ⟨S40x1x128, .f32⟩
  | .local _ .vmem, ⟨5, _⟩ => ⟨S40x1x128, .f32⟩
  | .local _ .vmem, ⟨6, _⟩ => ⟨S512x5000, .f32⟩
  | .local _ .vmem, ⟨7, _⟩ => ⟨S512x5000, .f32⟩
  | .local _ .vmem, ⟨8, _⟩ => ⟨S40x512x128, .bf16⟩
  | .local _ .smem, ⟨0, _⟩ => ⟨S4x40, .f32⟩
  | .local _ .smem, ⟨1, _⟩ => ⟨S40, .i32⟩
  | .local _ .smem, ⟨2, _⟩ => ⟨S40, .i32⟩
  | _, _ => ⟨S8192x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_cst : Ref sig .tc := ⟨.hbm, 7, rfl⟩
abbrev main_call0_v4 : Ref sig .tc := ⟨.hbm, 8, rfl⟩
abbrev main_call0_v5 : Ref sig .tc := ⟨.hbm, 9, rfl⟩
abbrev main_call0_cst_0 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_cst_2 : Ref sig .tc := ⟨.hbm, 17, rfl⟩
abbrev main_call0_v11 : Ref sig .tc := ⟨.hbm, 18, rfl⟩
abbrev main_call0_v12 : Ref sig .tc := ⟨.hbm, 19, rfl⟩
abbrev main_call0_c : Ref sig .tc := ⟨.hbm, 20, rfl⟩
abbrev main_call0_v13 : Ref sig .tc := ⟨.hbm, 21, rfl⟩
abbrev main_call0_cst_3 : Ref sig .tc := ⟨.hbm, 22, rfl⟩
abbrev main_call0_v14 : Ref sig .tc := ⟨.hbm, 23, rfl⟩
abbrev main_call0_v15 : Ref sig .tc := ⟨.hbm, 24, rfl⟩
abbrev main_call0_cst_4 : Ref sig .tc := ⟨.hbm, 25, rfl⟩
abbrev main_call0_v16 : Ref sig .tc := ⟨.hbm, 26, rfl⟩
abbrev main_call0_v17 : Ref sig .tc := ⟨.hbm, 27, rfl⟩
abbrev main_call0_c_5 : Ref sig .tc := ⟨.hbm, 28, rfl⟩
abbrev main_call0_v18 : Ref sig .tc := ⟨.hbm, 29, rfl⟩
abbrev main_call0_cst_6 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_v27 : Ref sig .tc := ⟨.hbm, 39, rfl⟩
abbrev main_call0_cst_7 : Ref sig .tc := ⟨.hbm, 40, rfl⟩
abbrev main_call0_v28 : Ref sig .tc := ⟨.hbm, 41, rfl⟩
abbrev main_call0_v29 : Ref sig .tc := ⟨.hbm, 42, rfl⟩
abbrev main_call0_cst_8 : Ref sig .tc := ⟨.hbm, 43, rfl⟩
abbrev main_call0_v30 : Ref sig .tc := ⟨.hbm, 44, rfl⟩
abbrev main_call0_v31 : Ref sig .tc := ⟨.hbm, 45, rfl⟩
abbrev main_call0_c_9 : Ref sig .tc := ⟨.hbm, 46, rfl⟩
abbrev main_call0_v32 : Ref sig .tc := ⟨.hbm, 47, rfl⟩
abbrev main_call0_cst_10 : Ref sig .tc := ⟨.hbm, 48, rfl⟩
abbrev main_call0_v33 : Ref sig .tc := ⟨.hbm, 49, rfl⟩
abbrev main_call0_v34 : Ref sig .tc := ⟨.hbm, 50, rfl⟩
abbrev main_call0_v35 : Ref sig .tc := ⟨.hbm, 51, rfl⟩
abbrev main_call0_v36 : Ref sig .tc := ⟨.hbm, 52, rfl⟩
abbrev main_call0_v37 : Ref sig .tc := ⟨.hbm, 53, rfl⟩
abbrev main_call0_v38 : Ref sig .tc := ⟨.hbm, 54, rfl⟩
abbrev main_call0_v39 : Ref sig .tc := ⟨.hbm, 55, rfl⟩
abbrev main_call0_v40 : Ref sig .tc := ⟨.hbm, 56, rfl⟩
abbrev main_call0_v41 : Ref sig .tc := ⟨.hbm, 57, rfl⟩
abbrev main_call0_v42 : Ref sig .tc := ⟨.hbm, 58, rfl⟩
abbrev main_v0 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_stg5_0 : Ref sig .tc := ⟨.smem, 0, rfl⟩
abbrev cc0_scratch1 : Ref sig .tc := ⟨.smem, 1, rfl⟩
abbrev cc0_scratch2 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_0 : BitVec 32 := 0#32
  let c40_i32 : BitVec 32 := 40#32
  let v0 : BitVec 32 := Scalar.addi c0_i32_0 c40_i32
  let c1_i32 : BitVec 32 := 1#32
  ⟨c0_i32_0, v0, c1_i32⟩
def k0_off1 (arg13 : BitVec 32) : Fin 2 → Nat :=
  let c3_1104 : Index := 3#32
  let c39_i32_1103 : BitVec 32 := 39#32
  let v2072 : BitVec 32 := Scalar.minsi arg13 c39_i32_1103
  let v2073 : Index := Scalar.indexCast v2072
  ![3, v2073.toNat]

def k0_chk1 (arg13 : BitVec 32) : Prop :=
  (∀ a, (k0_off1 arg13) a + S1x1.size a ≤ S4x40.size a)
theorem k0_off1_inb : ∀ (arg13 : BitVec 32) (k0_hw1 : k0_chk1 arg13), ∀ a, (k0_off1 arg13) a + S1x1.size a ≤ S4x40.size a := fun arg13 k0_hw1 => k0_hw1

def k0_off2 (k0_t1 : Fin k0_t1_loop.trips) : Fin 2 → Nat :=
  let c0_1105 : Index := 0#32
  let c0_i32_0 : BitVec 32 := 0#32
  let c1_i32 : BitVec 32 := 1#32
  let arg11 : BitVec 32 := Scf.iv c0_i32_0 c1_i32 k0_t1
  let v2075 : Index := Scalar.indexCast arg11
  ![0, v2075.toNat]
def k0_off3 (k0_t1 : Fin k0_t1_loop.trips) : Fin 1 → Nat :=
  let c0_i32_0 : BitVec 32 := 0#32
  let c1_i32 : BitVec 32 := 1#32
  let arg11 : BitVec 32 := Scf.iv c0_i32_0 c1_i32 k0_t1
  let v2069 : Index := Scalar.indexCast arg11
  ![v2069.toNat]
@[reducible] def k0_t2_loop : Scf.Loop 32 :=
  let c0_i32_3 : BitVec 32 := 0#32
  let c40_i32_4 : BitVec 32 := 40#32
  let v2 : BitVec 32 := Scalar.addi c0_i32_3 c40_i32_4
  let c1_i32_5 : BitVec 32 := 1#32
  ⟨c0_i32_3, v2, c1_i32_5⟩
def k0_off4 (arg13 : BitVec 32) : Fin 2 → Nat :=
  let c2_1105 : Index := 2#32
  let c39_i32_1104 : BitVec 32 := 39#32
  let v2073 : BitVec 32 := Scalar.minsi arg13 c39_i32_1104
  let v2074 : Index := Scalar.indexCast v2073
  ![2, v2074.toNat]

def k0_chk2 (arg13 : BitVec 32) : Prop :=
  (∀ a, (k0_off4 arg13) a + S1x1.size a ≤ S4x40.size a)
theorem k0_off4_inb : ∀ (arg13 : BitVec 32) (k0_hw2 : k0_chk2 arg13), ∀ a, (k0_off4 arg13) a + S1x1.size a ≤ S4x40.size a := fun arg13 k0_hw2 => k0_hw2

def k0_off5 (k0_t2 : Fin k0_t2_loop.trips) : Fin 2 → Nat :=
  let c1_1106 : Index := 1#32
  let c0_i32_3 : BitVec 32 := 0#32
  let c1_i32_5 : BitVec 32 := 1#32
  let arg11 : BitVec 32 := Scf.iv c0_i32_3 c1_i32_5 k0_t2
  let v2076 : Index := Scalar.indexCast arg11
  ![1, v2076.toNat]
def k0_off6 (k0_t2 : Fin k0_t2_loop.trips) : Fin 1 → Nat :=
  let c0_i32_3 : BitVec 32 := 0#32
  let c1_i32_5 : BitVec 32 := 1#32
  let arg11 : BitVec 32 := Scf.iv c0_i32_3 c1_i32_5 k0_t2
  let v2070 : Index := Scalar.indexCast arg11
  ![v2070.toNat]
@[reducible] def k0_t3_loop : Scf.Loop 32 :=
  let c0_i32_8 : BitVec 32 := 0#32
  let c40_i32_9 : BitVec 32 := 40#32
  let v4 : BitVec 32 := Scalar.addi c0_i32_8 c40_i32_9
  let c1_i32_10 : BitVec 32 := 1#32
  ⟨c0_i32_8, v4, c1_i32_10⟩
def k0_off7 (k0_t3 : Fin k0_t3_loop.trips) : Fin 1 → Nat :=
  let c0_i32_8 : BitVec 32 := 0#32
  let c1_i32_10 : BitVec 32 := 1#32
  let arg11 : BitVec 32 := Scf.iv c0_i32_8 c1_i32_10 k0_t3
  let v2068 : Index := Scalar.indexCast arg11
  ![v2068.toNat]
def k0_off8 (v220 : BitVec 32) : Fin 3 → Nat :=
  let c0_i32_99 : BitVec 32 := 0#32
  let v222 : BitVec 32 := Scalar.addi v220 c0_i32_99
  let c39_i32 : BitVec 32 := 39#32
  let v223 : BitVec 32 := Scalar.minsi v222 c39_i32
  let v227 : Index := Scalar.indexCast v223
  let c0_103 : Index := 0#32
  let c0_104 : Index := 0#32
  ![v227.toNat, 0, 0]

def k0_off9 (v220 : BitVec 32) : Fin 3 → Nat :=
  let c0_i32_99 : BitVec 32 := 0#32
  let v222 : BitVec 32 := Scalar.addi v220 c0_i32_99
  let c39_i32 : BitVec 32 := 39#32
  let v223 : BitVec 32 := Scalar.minsi v222 c39_i32
  let v261 : Index := Scalar.indexCast v223
  let c0_117 : Index := 0#32
  let c0_118 : Index := 0#32
  ![v261.toNat, 0, 0]

def k0_chk3 (v220 : BitVec 32) : Prop :=
  (∀ a, (k0_off8 v220) a + S1x128x1.size a ≤ S40x128x1.size a) ∧
  (∀ a, (k0_off9 v220) a + S1x512x128.size a ≤ S40x512x128.size a)
theorem k0_off8_inb : ∀ (v220 : BitVec 32) (k0_hw3 : k0_chk3 v220), ∀ a, (k0_off8 v220) a + S1x128x1.size a ≤ S40x128x1.size a := fun v220 k0_hw3 => k0_hw3.1
theorem k0_off9_inb : ∀ (v220 : BitVec 32) (k0_hw3 : k0_chk3 v220), ∀ a, (k0_off9 v220) a + S1x512x128.size a ≤ S40x512x128.size a := fun v220 k0_hw3 => k0_hw3.2

def k0_off10 (v266 : BitVec 32) : Fin 3 → Nat :=
  let c0_i32_124 : BitVec 32 := 0#32
  let v268 : BitVec 32 := Scalar.addi v266 c0_i32_124
  let c39_i32_125 : BitVec 32 := 39#32
  let v269 : BitVec 32 := Scalar.minsi v268 c39_i32_125
  let v273 : Index := Scalar.indexCast v269
  let c0_129 : Index := 0#32
  let c0_130 : Index := 0#32
  ![v273.toNat, 0, 0]

def k0_off11 (v266 : BitVec 32) : Fin 3 → Nat :=
  let c0_i32_124 : BitVec 32 := 0#32
  let v268 : BitVec 32 := Scalar.addi v266 c0_i32_124
  let c39_i32_125 : BitVec 32 := 39#32
  let v269 : BitVec 32 := Scalar.minsi v268 c39_i32_125
  let v307 : Index := Scalar.indexCast v269
  let c0_143 : Index := 0#32
  let c0_144 : Index := 0#32
  ![v307.toNat, 0, 0]

def k0_chk4 (v266 : BitVec 32) : Prop :=
  (∀ a, (k0_off10 v266) a + S1x128x1.size a ≤ S40x128x1.size a) ∧
  (∀ a, (k0_off11 v266) a + S1x512x128.size a ≤ S40x512x128.size a)
theorem k0_off10_inb : ∀ (v266 : BitVec 32) (k0_hw4 : k0_chk4 v266), ∀ a, (k0_off10 v266) a + S1x128x1.size a ≤ S40x128x1.size a := fun v266 k0_hw4 => k0_hw4.1
theorem k0_off11_inb : ∀ (v266 : BitVec 32) (k0_hw4 : k0_chk4 v266), ∀ a, (k0_off11 v266) a + S1x512x128.size a ≤ S40x512x128.size a := fun v266 k0_hw4 => k0_hw4.2

def k0_off12 (v312 : BitVec 32) : Fin 3 → Nat :=
  let c0_i32_149 : BitVec 32 := 0#32
  let v314 : BitVec 32 := Scalar.addi v312 c0_i32_149
  let c39_i32_150 : BitVec 32 := 39#32
  let v315 : BitVec 32 := Scalar.minsi v314 c39_i32_150
  let v319 : Index := Scalar.indexCast v315
  let c0_154 : Index := 0#32
  let c0_155 : Index := 0#32
  ![v319.toNat, 0, 0]

def k0_off13 (v312 : BitVec 32) : Fin 3 → Nat :=
  let c0_i32_149 : BitVec 32 := 0#32
  let v314 : BitVec 32 := Scalar.addi v312 c0_i32_149
  let c39_i32_150 : BitVec 32 := 39#32
  let v315 : BitVec 32 := Scalar.minsi v314 c39_i32_150
  let v353 : Index := Scalar.indexCast v315
  let c0_168 : Index := 0#32
  let c0_169 : Index := 0#32
  ![v353.toNat, 0, 0]

def k0_chk5 (v312 : BitVec 32) : Prop :=
  (∀ a, (k0_off12 v312) a + S1x128x1.size a ≤ S40x128x1.size a) ∧
  (∀ a, (k0_off13 v312) a + S1x512x128.size a ≤ S40x512x128.size a)
theorem k0_off12_inb : ∀ (v312 : BitVec 32) (k0_hw5 : k0_chk5 v312), ∀ a, (k0_off12 v312) a + S1x128x1.size a ≤ S40x128x1.size a := fun v312 k0_hw5 => k0_hw5.1
theorem k0_off13_inb : ∀ (v312 : BitVec 32) (k0_hw5 : k0_chk5 v312), ∀ a, (k0_off13 v312) a + S1x512x128.size a ≤ S40x512x128.size a := fun v312 k0_hw5 => k0_hw5.2

def k0_off14 (v358 : BitVec 32) : Fin 3 → Nat :=
  let c0_i32_174 : BitVec 32 := 0#32
  let v360 : BitVec 32 := Scalar.addi v358 c0_i32_174
  let c39_i32_175 : BitVec 32 := 39#32
  let v361 : BitVec 32 := Scalar.minsi v360 c39_i32_175
  let v365 : Index := Scalar.indexCast v361
  let c0_179 : Index := 0#32
  let c0_180 : Index := 0#32
  ![v365.toNat, 0, 0]

def k0_off15 (v358 : BitVec 32) : Fin 3 → Nat :=
  let c0_i32_174 : BitVec 32 := 0#32
  let v360 : BitVec 32 := Scalar.addi v358 c0_i32_174
  let c39_i32_175 : BitVec 32 := 39#32
  let v361 : BitVec 32 := Scalar.minsi v360 c39_i32_175
  let v399 : Index := Scalar.indexCast v361
  let c0_193 : Index := 0#32
  let c0_194 : Index := 0#32
  ![v399.toNat, 0, 0]

def k0_chk6 (v358 : BitVec 32) : Prop :=
  (∀ a, (k0_off14 v358) a + S1x128x1.size a ≤ S40x128x1.size a) ∧
  (∀ a, (k0_off15 v358) a + S1x512x128.size a ≤ S40x512x128.size a)
theorem k0_off14_inb : ∀ (v358 : BitVec 32) (k0_hw6 : k0_chk6 v358), ∀ a, (k0_off14 v358) a + S1x128x1.size a ≤ S40x128x1.size a := fun v358 k0_hw6 => k0_hw6.1
theorem k0_off15_inb : ∀ (v358 : BitVec 32) (k0_hw6 : k0_chk6 v358), ∀ a, (k0_off15 v358) a + S1x512x128.size a ≤ S40x512x128.size a := fun v358 k0_hw6 => k0_hw6.2

def k0_off16 (v404 : BitVec 32) : Fin 3 → Nat :=
  let c0_i32_199 : BitVec 32 := 0#32
  let v406 : BitVec 32 := Scalar.addi v404 c0_i32_199
  let c39_i32_200 : BitVec 32 := 39#32
  let v407 : BitVec 32 := Scalar.minsi v406 c39_i32_200
  let v411 : Index := Scalar.indexCast v407
  let c0_204 : Index := 0#32
  let c0_205 : Index := 0#32
  ![v411.toNat, 0, 0]

def k0_off17 (v404 : BitVec 32) : Fin 3 → Nat :=
  let c0_i32_199 : BitVec 32 := 0#32
  let v406 : BitVec 32 := Scalar.addi v404 c0_i32_199
  let c39_i32_200 : BitVec 32 := 39#32
  let v407 : BitVec 32 := Scalar.minsi v406 c39_i32_200
  let v445 : Index := Scalar.indexCast v407
  let c0_218 : Index := 0#32
  let c0_219 : Index := 0#32
  ![v445.toNat, 0, 0]

def k0_chk7 (v404 : BitVec 32) : Prop :=
  (∀ a, (k0_off16 v404) a + S1x128x1.size a ≤ S40x128x1.size a) ∧
  (∀ a, (k0_off17 v404) a + S1x512x128.size a ≤ S40x512x128.size a)
theorem k0_off16_inb : ∀ (v404 : BitVec 32) (k0_hw7 : k0_chk7 v404), ∀ a, (k0_off16 v404) a + S1x128x1.size a ≤ S40x128x1.size a := fun v404 k0_hw7 => k0_hw7.1
theorem k0_off17_inb : ∀ (v404 : BitVec 32) (k0_hw7 : k0_chk7 v404), ∀ a, (k0_off17 v404) a + S1x512x128.size a ≤ S40x512x128.size a := fun v404 k0_hw7 => k0_hw7.2

def k0_off18 (v450 : BitVec 32) : Fin 3 → Nat :=
  let c0_i32_224 : BitVec 32 := 0#32
  let v452 : BitVec 32 := Scalar.addi v450 c0_i32_224
  let c39_i32_225 : BitVec 32 := 39#32
  let v453 : BitVec 32 := Scalar.minsi v452 c39_i32_225
  let v457 : Index := Scalar.indexCast v453
  let c0_229 : Index := 0#32
  let c0_230 : Index := 0#32
  ![v457.toNat, 0, 0]

def k0_off19 (v450 : BitVec 32) : Fin 3 → Nat :=
  let c0_i32_224 : BitVec 32 := 0#32
  let v452 : BitVec 32 := Scalar.addi v450 c0_i32_224
  let c39_i32_225 : BitVec 32 := 39#32
  let v453 : BitVec 32 := Scalar.minsi v452 c39_i32_225
  let v491 : Index := Scalar.indexCast v453
  let c0_243 : Index := 0#32
  let c0_244 : Index := 0#32
  ![v491.toNat, 0, 0]

def k0_chk8 (v450 : BitVec 32) : Prop :=
  (∀ a, (k0_off18 v450) a + S1x128x1.size a ≤ S40x128x1.size a) ∧
  (∀ a, (k0_off19 v450) a + S1x512x128.size a ≤ S40x512x128.size a)
theorem k0_off18_inb : ∀ (v450 : BitVec 32) (k0_hw8 : k0_chk8 v450), ∀ a, (k0_off18 v450) a + S1x128x1.size a ≤ S40x128x1.size a := fun v450 k0_hw8 => k0_hw8.1
theorem k0_off19_inb : ∀ (v450 : BitVec 32) (k0_hw8 : k0_chk8 v450), ∀ a, (k0_off19 v450) a + S1x512x128.size a ≤ S40x512x128.size a := fun v450 k0_hw8 => k0_hw8.2

def k0_off20 (v496 : BitVec 32) : Fin 3 → Nat :=
  let c0_i32_249 : BitVec 32 := 0#32
  let v498 : BitVec 32 := Scalar.addi v496 c0_i32_249
  let c39_i32_250 : BitVec 32 := 39#32
  let v499 : BitVec 32 := Scalar.minsi v498 c39_i32_250
  let v503 : Index := Scalar.indexCast v499
  let c0_254 : Index := 0#32
  let c0_255 : Index := 0#32
  ![v503.toNat, 0, 0]

def k0_off21 (v496 : BitVec 32) : Fin 3 → Nat :=
  let c0_i32_249 : BitVec 32 := 0#32
  let v498 : BitVec 32 := Scalar.addi v496 c0_i32_249
  let c39_i32_250 : BitVec 32 := 39#32
  let v499 : BitVec 32 := Scalar.minsi v498 c39_i32_250
  let v537 : Index := Scalar.indexCast v499
  let c0_268 : Index := 0#32
  let c0_269 : Index := 0#32
  ![v537.toNat, 0, 0]

def k0_chk9 (v496 : BitVec 32) : Prop :=
  (∀ a, (k0_off20 v496) a + S1x128x1.size a ≤ S40x128x1.size a) ∧
  (∀ a, (k0_off21 v496) a + S1x512x128.size a ≤ S40x512x128.size a)
theorem k0_off20_inb : ∀ (v496 : BitVec 32) (k0_hw9 : k0_chk9 v496), ∀ a, (k0_off20 v496) a + S1x128x1.size a ≤ S40x128x1.size a := fun v496 k0_hw9 => k0_hw9.1
theorem k0_off21_inb : ∀ (v496 : BitVec 32) (k0_hw9 : k0_chk9 v496), ∀ a, (k0_off21 v496) a + S1x512x128.size a ≤ S40x512x128.size a := fun v496 k0_hw9 => k0_hw9.2

def k0_off22 (v542 : BitVec 32) : Fin 3 → Nat :=
  let c0_i32_274 : BitVec 32 := 0#32
  let v544 : BitVec 32 := Scalar.addi v542 c0_i32_274
  let c39_i32_275 : BitVec 32 := 39#32
  let v545 : BitVec 32 := Scalar.minsi v544 c39_i32_275
  let v549 : Index := Scalar.indexCast v545
  let c0_279 : Index := 0#32
  let c0_280 : Index := 0#32
  ![v549.toNat, 0, 0]

def k0_off23 (v542 : BitVec 32) : Fin 3 → Nat :=
  let c0_i32_274 : BitVec 32 := 0#32
  let v544 : BitVec 32 := Scalar.addi v542 c0_i32_274
  let c39_i32_275 : BitVec 32 := 39#32
  let v545 : BitVec 32 := Scalar.minsi v544 c39_i32_275
  let v583 : Index := Scalar.indexCast v545
  let c0_293 : Index := 0#32
  let c0_294 : Index := 0#32
  ![v583.toNat, 0, 0]

def k0_chk10 (v542 : BitVec 32) : Prop :=
  (∀ a, (k0_off22 v542) a + S1x128x1.size a ≤ S40x128x1.size a) ∧
  (∀ a, (k0_off23 v542) a + S1x512x128.size a ≤ S40x512x128.size a)
theorem k0_off22_inb : ∀ (v542 : BitVec 32) (k0_hw10 : k0_chk10 v542), ∀ a, (k0_off22 v542) a + S1x128x1.size a ≤ S40x128x1.size a := fun v542 k0_hw10 => k0_hw10.1
theorem k0_off23_inb : ∀ (v542 : BitVec 32) (k0_hw10 : k0_chk10 v542), ∀ a, (k0_off23 v542) a + S1x512x128.size a ≤ S40x512x128.size a := fun v542 k0_hw10 => k0_hw10.2

def k0_off24 (v588 : BitVec 32) : Fin 3 → Nat :=
  let c0_i32_299 : BitVec 32 := 0#32
  let v590 : BitVec 32 := Scalar.addi v588 c0_i32_299
  let c39_i32_300 : BitVec 32 := 39#32
  let v591 : BitVec 32 := Scalar.minsi v590 c39_i32_300
  let v595 : Index := Scalar.indexCast v591
  let c0_304 : Index := 0#32
  let c0_305 : Index := 0#32
  ![v595.toNat, 0, 0]

def k0_off25 (v588 : BitVec 32) : Fin 3 → Nat :=
  let c0_i32_299 : BitVec 32 := 0#32
  let v590 : BitVec 32 := Scalar.addi v588 c0_i32_299
  let c39_i32_300 : BitVec 32 := 39#32
  let v591 : BitVec 32 := Scalar.minsi v590 c39_i32_300
  let v629 : Index := Scalar.indexCast v591
  let c0_318 : Index := 0#32
  let c0_319 : Index := 0#32
  ![v629.toNat, 0, 0]

def k0_chk11 (v588 : BitVec 32) : Prop :=
  (∀ a, (k0_off24 v588) a + S1x128x1.size a ≤ S40x128x1.size a) ∧
  (∀ a, (k0_off25 v588) a + S1x512x128.size a ≤ S40x512x128.size a)
theorem k0_off24_inb : ∀ (v588 : BitVec 32) (k0_hw11 : k0_chk11 v588), ∀ a, (k0_off24 v588) a + S1x128x1.size a ≤ S40x128x1.size a := fun v588 k0_hw11 => k0_hw11.1
theorem k0_off25_inb : ∀ (v588 : BitVec 32) (k0_hw11 : k0_chk11 v588), ∀ a, (k0_off25 v588) a + S1x512x128.size a ≤ S40x512x128.size a := fun v588 k0_hw11 => k0_hw11.2

def k0_off26 (v634 : BitVec 32) : Fin 3 → Nat :=
  let c0_i32_324 : BitVec 32 := 0#32
  let v636 : BitVec 32 := Scalar.addi v634 c0_i32_324
  let c39_i32_325 : BitVec 32 := 39#32
  let v637 : BitVec 32 := Scalar.minsi v636 c39_i32_325
  let v641 : Index := Scalar.indexCast v637
  let c0_329 : Index := 0#32
  let c0_330 : Index := 0#32
  ![v641.toNat, 0, 0]

def k0_off27 (v634 : BitVec 32) : Fin 3 → Nat :=
  let c0_i32_324 : BitVec 32 := 0#32
  let v636 : BitVec 32 := Scalar.addi v634 c0_i32_324
  let c39_i32_325 : BitVec 32 := 39#32
  let v637 : BitVec 32 := Scalar.minsi v636 c39_i32_325
  let v675 : Index := Scalar.indexCast v637
  let c0_343 : Index := 0#32
  let c0_344 : Index := 0#32
  ![v675.toNat, 0, 0]

def k0_chk12 (v634 : BitVec 32) : Prop :=
  (∀ a, (k0_off26 v634) a + S1x128x1.size a ≤ S40x128x1.size a) ∧
  (∀ a, (k0_off27 v634) a + S1x512x128.size a ≤ S40x512x128.size a)
theorem k0_off26_inb : ∀ (v634 : BitVec 32) (k0_hw12 : k0_chk12 v634), ∀ a, (k0_off26 v634) a + S1x128x1.size a ≤ S40x128x1.size a := fun v634 k0_hw12 => k0_hw12.1
theorem k0_off27_inb : ∀ (v634 : BitVec 32) (k0_hw12 : k0_chk12 v634), ∀ a, (k0_off27 v634) a + S1x512x128.size a ≤ S40x512x128.size a := fun v634 k0_hw12 => k0_hw12.2

def k0_off28 (v680 : BitVec 32) : Fin 3 → Nat :=
  let c0_i32_349 : BitVec 32 := 0#32
  let v682 : BitVec 32 := Scalar.addi v680 c0_i32_349
  let c39_i32_350 : BitVec 32 := 39#32
  let v683 : BitVec 32 := Scalar.minsi v682 c39_i32_350
  let v687 : Index := Scalar.indexCast v683
  let c0_354 : Index := 0#32
  let c0_355 : Index := 0#32
  ![v687.toNat, 0, 0]

def k0_off29 (v680 : BitVec 32) : Fin 3 → Nat :=
  let c0_i32_349 : BitVec 32 := 0#32
  let v682 : BitVec 32 := Scalar.addi v680 c0_i32_349
  let c39_i32_350 : BitVec 32 := 39#32
  let v683 : BitVec 32 := Scalar.minsi v682 c39_i32_350
  let v721 : Index := Scalar.indexCast v683
  let c0_368 : Index := 0#32
  let c0_369 : Index := 0#32
  ![v721.toNat, 0, 0]

def k0_chk13 (v680 : BitVec 32) : Prop :=
  (∀ a, (k0_off28 v680) a + S1x128x1.size a ≤ S40x128x1.size a) ∧
  (∀ a, (k0_off29 v680) a + S1x512x128.size a ≤ S40x512x128.size a)
theorem k0_off28_inb : ∀ (v680 : BitVec 32) (k0_hw13 : k0_chk13 v680), ∀ a, (k0_off28 v680) a + S1x128x1.size a ≤ S40x128x1.size a := fun v680 k0_hw13 => k0_hw13.1
theorem k0_off29_inb : ∀ (v680 : BitVec 32) (k0_hw13 : k0_chk13 v680), ∀ a, (k0_off29 v680) a + S1x512x128.size a ≤ S40x512x128.size a := fun v680 k0_hw13 => k0_hw13.2

def k0_off30 (v726 : BitVec 32) : Fin 3 → Nat :=
  let c0_i32_374 : BitVec 32 := 0#32
  let v728 : BitVec 32 := Scalar.addi v726 c0_i32_374
  let c39_i32_375 : BitVec 32 := 39#32
  let v729 : BitVec 32 := Scalar.minsi v728 c39_i32_375
  let v733 : Index := Scalar.indexCast v729
  let c0_379 : Index := 0#32
  let c0_380 : Index := 0#32
  ![v733.toNat, 0, 0]

def k0_off31 (v726 : BitVec 32) : Fin 3 → Nat :=
  let c0_i32_374 : BitVec 32 := 0#32
  let v728 : BitVec 32 := Scalar.addi v726 c0_i32_374
  let c39_i32_375 : BitVec 32 := 39#32
  let v729 : BitVec 32 := Scalar.minsi v728 c39_i32_375
  let v767 : Index := Scalar.indexCast v729
  let c0_393 : Index := 0#32
  let c0_394 : Index := 0#32
  ![v767.toNat, 0, 0]

def k0_chk14 (v726 : BitVec 32) : Prop :=
  (∀ a, (k0_off30 v726) a + S1x128x1.size a ≤ S40x128x1.size a) ∧
  (∀ a, (k0_off31 v726) a + S1x512x128.size a ≤ S40x512x128.size a)
theorem k0_off30_inb : ∀ (v726 : BitVec 32) (k0_hw14 : k0_chk14 v726), ∀ a, (k0_off30 v726) a + S1x128x1.size a ≤ S40x128x1.size a := fun v726 k0_hw14 => k0_hw14.1
theorem k0_off31_inb : ∀ (v726 : BitVec 32) (k0_hw14 : k0_chk14 v726), ∀ a, (k0_off31 v726) a + S1x512x128.size a ≤ S40x512x128.size a := fun v726 k0_hw14 => k0_hw14.2

def k0_off32 (v772 : BitVec 32) : Fin 3 → Nat :=
  let c0_i32_399 : BitVec 32 := 0#32
  let v774 : BitVec 32 := Scalar.addi v772 c0_i32_399
  let c39_i32_400 : BitVec 32 := 39#32
  let v775 : BitVec 32 := Scalar.minsi v774 c39_i32_400
  let v779 : Index := Scalar.indexCast v775
  let c0_404 : Index := 0#32
  let c0_405 : Index := 0#32
  ![v779.toNat, 0, 0]

def k0_off33 (v772 : BitVec 32) : Fin 3 → Nat :=
  let c0_i32_399 : BitVec 32 := 0#32
  let v774 : BitVec 32 := Scalar.addi v772 c0_i32_399
  let c39_i32_400 : BitVec 32 := 39#32
  let v775 : BitVec 32 := Scalar.minsi v774 c39_i32_400
  let v813 : Index := Scalar.indexCast v775
  let c0_418 : Index := 0#32
  let c0_419 : Index := 0#32
  ![v813.toNat, 0, 0]

def k0_chk15 (v772 : BitVec 32) : Prop :=
  (∀ a, (k0_off32 v772) a + S1x128x1.size a ≤ S40x128x1.size a) ∧
  (∀ a, (k0_off33 v772) a + S1x512x128.size a ≤ S40x512x128.size a)
theorem k0_off32_inb : ∀ (v772 : BitVec 32) (k0_hw15 : k0_chk15 v772), ∀ a, (k0_off32 v772) a + S1x128x1.size a ≤ S40x128x1.size a := fun v772 k0_hw15 => k0_hw15.1
theorem k0_off33_inb : ∀ (v772 : BitVec 32) (k0_hw15 : k0_chk15 v772), ∀ a, (k0_off33 v772) a + S1x512x128.size a ≤ S40x512x128.size a := fun v772 k0_hw15 => k0_hw15.2

def k0_off34 (v818 : BitVec 32) : Fin 3 → Nat :=
  let c0_i32_424 : BitVec 32 := 0#32
  let v820 : BitVec 32 := Scalar.addi v818 c0_i32_424
  let c39_i32_425 : BitVec 32 := 39#32
  let v821 : BitVec 32 := Scalar.minsi v820 c39_i32_425
  let v825 : Index := Scalar.indexCast v821
  let c0_429 : Index := 0#32
  let c0_430 : Index := 0#32
  ![v825.toNat, 0, 0]

def k0_off35 (v818 : BitVec 32) : Fin 3 → Nat :=
  let c0_i32_424 : BitVec 32 := 0#32
  let v820 : BitVec 32 := Scalar.addi v818 c0_i32_424
  let c39_i32_425 : BitVec 32 := 39#32
  let v821 : BitVec 32 := Scalar.minsi v820 c39_i32_425
  let v859 : Index := Scalar.indexCast v821
  let c0_443 : Index := 0#32
  let c0_444 : Index := 0#32
  ![v859.toNat, 0, 0]

def k0_chk16 (v818 : BitVec 32) : Prop :=
  (∀ a, (k0_off34 v818) a + S1x128x1.size a ≤ S40x128x1.size a) ∧
  (∀ a, (k0_off35 v818) a + S1x512x128.size a ≤ S40x512x128.size a)
theorem k0_off34_inb : ∀ (v818 : BitVec 32) (k0_hw16 : k0_chk16 v818), ∀ a, (k0_off34 v818) a + S1x128x1.size a ≤ S40x128x1.size a := fun v818 k0_hw16 => k0_hw16.1
theorem k0_off35_inb : ∀ (v818 : BitVec 32) (k0_hw16 : k0_chk16 v818), ∀ a, (k0_off35 v818) a + S1x512x128.size a ≤ S40x512x128.size a := fun v818 k0_hw16 => k0_hw16.2

def k0_off36 (v864 : BitVec 32) : Fin 3 → Nat :=
  let c0_i32_449 : BitVec 32 := 0#32
  let v866 : BitVec 32 := Scalar.addi v864 c0_i32_449
  let c39_i32_450 : BitVec 32 := 39#32
  let v867 : BitVec 32 := Scalar.minsi v866 c39_i32_450
  let v871 : Index := Scalar.indexCast v867
  let c0_454 : Index := 0#32
  let c0_455 : Index := 0#32
  ![v871.toNat, 0, 0]

def k0_off37 (v864 : BitVec 32) : Fin 3 → Nat :=
  let c0_i32_449 : BitVec 32 := 0#32
  let v866 : BitVec 32 := Scalar.addi v864 c0_i32_449
  let c39_i32_450 : BitVec 32 := 39#32
  let v867 : BitVec 32 := Scalar.minsi v866 c39_i32_450
  let v905 : Index := Scalar.indexCast v867
  let c0_468 : Index := 0#32
  let c0_469 : Index := 0#32
  ![v905.toNat, 0, 0]

def k0_chk17 (v864 : BitVec 32) : Prop :=
  (∀ a, (k0_off36 v864) a + S1x128x1.size a ≤ S40x128x1.size a) ∧
  (∀ a, (k0_off37 v864) a + S1x512x128.size a ≤ S40x512x128.size a)
theorem k0_off36_inb : ∀ (v864 : BitVec 32) (k0_hw17 : k0_chk17 v864), ∀ a, (k0_off36 v864) a + S1x128x1.size a ≤ S40x128x1.size a := fun v864 k0_hw17 => k0_hw17.1
theorem k0_off37_inb : ∀ (v864 : BitVec 32) (k0_hw17 : k0_chk17 v864), ∀ a, (k0_off37 v864) a + S1x512x128.size a ≤ S40x512x128.size a := fun v864 k0_hw17 => k0_hw17.2

def k0_off38 (v910 : BitVec 32) : Fin 3 → Nat :=
  let c0_i32_474 : BitVec 32 := 0#32
  let v912 : BitVec 32 := Scalar.addi v910 c0_i32_474
  let c39_i32_475 : BitVec 32 := 39#32
  let v913 : BitVec 32 := Scalar.minsi v912 c39_i32_475
  let v917 : Index := Scalar.indexCast v913
  let c0_479 : Index := 0#32
  let c0_480 : Index := 0#32
  ![v917.toNat, 0, 0]

def k0_off39 (v910 : BitVec 32) : Fin 3 → Nat :=
  let c0_i32_474 : BitVec 32 := 0#32
  let v912 : BitVec 32 := Scalar.addi v910 c0_i32_474
  let c39_i32_475 : BitVec 32 := 39#32
  let v913 : BitVec 32 := Scalar.minsi v912 c39_i32_475
  let v951 : Index := Scalar.indexCast v913
  let c0_493 : Index := 0#32
  let c0_494 : Index := 0#32
  ![v951.toNat, 0, 0]

def k0_chk18 (v910 : BitVec 32) : Prop :=
  (∀ a, (k0_off38 v910) a + S1x128x1.size a ≤ S40x128x1.size a) ∧
  (∀ a, (k0_off39 v910) a + S1x512x128.size a ≤ S40x512x128.size a)
theorem k0_off38_inb : ∀ (v910 : BitVec 32) (k0_hw18 : k0_chk18 v910), ∀ a, (k0_off38 v910) a + S1x128x1.size a ≤ S40x128x1.size a := fun v910 k0_hw18 => k0_hw18.1
theorem k0_off39_inb : ∀ (v910 : BitVec 32) (k0_hw18 : k0_chk18 v910), ∀ a, (k0_off39 v910) a + S1x512x128.size a ≤ S40x512x128.size a := fun v910 k0_hw18 => k0_hw18.2

def k0_off40 (v956 : BitVec 32) : Fin 3 → Nat :=
  let c0_i32_499 : BitVec 32 := 0#32
  let v958 : BitVec 32 := Scalar.addi v956 c0_i32_499
  let c39_i32_500 : BitVec 32 := 39#32
  let v959 : BitVec 32 := Scalar.minsi v958 c39_i32_500
  let v963 : Index := Scalar.indexCast v959
  let c0_504 : Index := 0#32
  let c0_505 : Index := 0#32
  ![v963.toNat, 0, 0]

def k0_off41 (v956 : BitVec 32) : Fin 3 → Nat :=
  let c0_i32_499 : BitVec 32 := 0#32
  let v958 : BitVec 32 := Scalar.addi v956 c0_i32_499
  let c39_i32_500 : BitVec 32 := 39#32
  let v959 : BitVec 32 := Scalar.minsi v958 c39_i32_500
  let v997 : Index := Scalar.indexCast v959
  let c0_518 : Index := 0#32
  let c0_519 : Index := 0#32
  ![v997.toNat, 0, 0]

def k0_chk19 (v956 : BitVec 32) : Prop :=
  (∀ a, (k0_off40 v956) a + S1x128x1.size a ≤ S40x128x1.size a) ∧
  (∀ a, (k0_off41 v956) a + S1x512x128.size a ≤ S40x512x128.size a)
theorem k0_off40_inb : ∀ (v956 : BitVec 32) (k0_hw19 : k0_chk19 v956), ∀ a, (k0_off40 v956) a + S1x128x1.size a ≤ S40x128x1.size a := fun v956 k0_hw19 => k0_hw19.1
theorem k0_off41_inb : ∀ (v956 : BitVec 32) (k0_hw19 : k0_chk19 v956), ∀ a, (k0_off41 v956) a + S1x512x128.size a ≤ S40x512x128.size a := fun v956 k0_hw19 => k0_hw19.2

def k0_off42 (v1002 : BitVec 32) : Fin 3 → Nat :=
  let c0_i32_524 : BitVec 32 := 0#32
  let v1004 : BitVec 32 := Scalar.addi v1002 c0_i32_524
  let c39_i32_525 : BitVec 32 := 39#32
  let v1005 : BitVec 32 := Scalar.minsi v1004 c39_i32_525
  let v1009 : Index := Scalar.indexCast v1005
  let c0_529 : Index := 0#32
  let c0_530 : Index := 0#32
  ![v1009.toNat, 0, 0]

def k0_off43 (v1002 : BitVec 32) : Fin 3 → Nat :=
  let c0_i32_524 : BitVec 32 := 0#32
  let v1004 : BitVec 32 := Scalar.addi v1002 c0_i32_524
  let c39_i32_525 : BitVec 32 := 39#32
  let v1005 : BitVec 32 := Scalar.minsi v1004 c39_i32_525
  let v1043 : Index := Scalar.indexCast v1005
  let c0_543 : Index := 0#32
  let c0_544 : Index := 0#32
  ![v1043.toNat, 0, 0]

def k0_chk20 (v1002 : BitVec 32) : Prop :=
  (∀ a, (k0_off42 v1002) a + S1x128x1.size a ≤ S40x128x1.size a) ∧
  (∀ a, (k0_off43 v1002) a + S1x512x128.size a ≤ S40x512x128.size a)
theorem k0_off42_inb : ∀ (v1002 : BitVec 32) (k0_hw20 : k0_chk20 v1002), ∀ a, (k0_off42 v1002) a + S1x128x1.size a ≤ S40x128x1.size a := fun v1002 k0_hw20 => k0_hw20.1
theorem k0_off43_inb : ∀ (v1002 : BitVec 32) (k0_hw20 : k0_chk20 v1002), ∀ a, (k0_off43 v1002) a + S1x512x128.size a ≤ S40x512x128.size a := fun v1002 k0_hw20 => k0_hw20.2

def k0_off44 (v1048 : BitVec 32) : Fin 3 → Nat :=
  let c0_i32_549 : BitVec 32 := 0#32
  let v1050 : BitVec 32 := Scalar.addi v1048 c0_i32_549
  let c39_i32_550 : BitVec 32 := 39#32
  let v1051 : BitVec 32 := Scalar.minsi v1050 c39_i32_550
  let v1055 : Index := Scalar.indexCast v1051
  let c0_554 : Index := 0#32
  let c0_555 : Index := 0#32
  ![v1055.toNat, 0, 0]

def k0_off45 (v1048 : BitVec 32) : Fin 3 → Nat :=
  let c0_i32_549 : BitVec 32 := 0#32
  let v1050 : BitVec 32 := Scalar.addi v1048 c0_i32_549
  let c39_i32_550 : BitVec 32 := 39#32
  let v1051 : BitVec 32 := Scalar.minsi v1050 c39_i32_550
  let v1089 : Index := Scalar.indexCast v1051
  let c0_568 : Index := 0#32
  let c0_569 : Index := 0#32
  ![v1089.toNat, 0, 0]

def k0_chk21 (v1048 : BitVec 32) : Prop :=
  (∀ a, (k0_off44 v1048) a + S1x128x1.size a ≤ S40x128x1.size a) ∧
  (∀ a, (k0_off45 v1048) a + S1x512x128.size a ≤ S40x512x128.size a)
theorem k0_off44_inb : ∀ (v1048 : BitVec 32) (k0_hw21 : k0_chk21 v1048), ∀ a, (k0_off44 v1048) a + S1x128x1.size a ≤ S40x128x1.size a := fun v1048 k0_hw21 => k0_hw21.1
theorem k0_off45_inb : ∀ (v1048 : BitVec 32) (k0_hw21 : k0_chk21 v1048), ∀ a, (k0_off45 v1048) a + S1x512x128.size a ≤ S40x512x128.size a := fun v1048 k0_hw21 => k0_hw21.2

def k0_off46 (v1094 : BitVec 32) : Fin 3 → Nat :=
  let c0_i32_574 : BitVec 32 := 0#32
  let v1096 : BitVec 32 := Scalar.addi v1094 c0_i32_574
  let c39_i32_575 : BitVec 32 := 39#32
  let v1097 : BitVec 32 := Scalar.minsi v1096 c39_i32_575
  let v1101 : Index := Scalar.indexCast v1097
  let c0_579 : Index := 0#32
  let c0_580 : Index := 0#32
  ![v1101.toNat, 0, 0]

def k0_off47 (v1094 : BitVec 32) : Fin 3 → Nat :=
  let c0_i32_574 : BitVec 32 := 0#32
  let v1096 : BitVec 32 := Scalar.addi v1094 c0_i32_574
  let c39_i32_575 : BitVec 32 := 39#32
  let v1097 : BitVec 32 := Scalar.minsi v1096 c39_i32_575
  let v1135 : Index := Scalar.indexCast v1097
  let c0_593 : Index := 0#32
  let c0_594 : Index := 0#32
  ![v1135.toNat, 0, 0]

def k0_chk22 (v1094 : BitVec 32) : Prop :=
  (∀ a, (k0_off46 v1094) a + S1x128x1.size a ≤ S40x128x1.size a) ∧
  (∀ a, (k0_off47 v1094) a + S1x512x128.size a ≤ S40x512x128.size a)
theorem k0_off46_inb : ∀ (v1094 : BitVec 32) (k0_hw22 : k0_chk22 v1094), ∀ a, (k0_off46 v1094) a + S1x128x1.size a ≤ S40x128x1.size a := fun v1094 k0_hw22 => k0_hw22.1
theorem k0_off47_inb : ∀ (v1094 : BitVec 32) (k0_hw22 : k0_chk22 v1094), ∀ a, (k0_off47 v1094) a + S1x512x128.size a ≤ S40x512x128.size a := fun v1094 k0_hw22 => k0_hw22.2

def k0_off48 (v1140 : BitVec 32) : Fin 3 → Nat :=
  let c0_i32_599 : BitVec 32 := 0#32
  let v1142 : BitVec 32 := Scalar.addi v1140 c0_i32_599
  let c39_i32_600 : BitVec 32 := 39#32
  let v1143 : BitVec 32 := Scalar.minsi v1142 c39_i32_600
  let v1147 : Index := Scalar.indexCast v1143
  let c0_604 : Index := 0#32
  let c0_605 : Index := 0#32
  ![v1147.toNat, 0, 0]

def k0_off49 (v1140 : BitVec 32) : Fin 3 → Nat :=
  let c0_i32_599 : BitVec 32 := 0#32
  let v1142 : BitVec 32 := Scalar.addi v1140 c0_i32_599
  let c39_i32_600 : BitVec 32 := 39#32
  let v1143 : BitVec 32 := Scalar.minsi v1142 c39_i32_600
  let v1181 : Index := Scalar.indexCast v1143
  let c0_618 : Index := 0#32
  let c0_619 : Index := 0#32
  ![v1181.toNat, 0, 0]

def k0_chk23 (v1140 : BitVec 32) : Prop :=
  (∀ a, (k0_off48 v1140) a + S1x128x1.size a ≤ S40x128x1.size a) ∧
  (∀ a, (k0_off49 v1140) a + S1x512x128.size a ≤ S40x512x128.size a)
theorem k0_off48_inb : ∀ (v1140 : BitVec 32) (k0_hw23 : k0_chk23 v1140), ∀ a, (k0_off48 v1140) a + S1x128x1.size a ≤ S40x128x1.size a := fun v1140 k0_hw23 => k0_hw23.1
theorem k0_off49_inb : ∀ (v1140 : BitVec 32) (k0_hw23 : k0_chk23 v1140), ∀ a, (k0_off49 v1140) a + S1x512x128.size a ≤ S40x512x128.size a := fun v1140 k0_hw23 => k0_hw23.2

def k0_off50 (v1186 : BitVec 32) : Fin 3 → Nat :=
  let c0_i32_624 : BitVec 32 := 0#32
  let v1188 : BitVec 32 := Scalar.addi v1186 c0_i32_624
  let c39_i32_625 : BitVec 32 := 39#32
  let v1189 : BitVec 32 := Scalar.minsi v1188 c39_i32_625
  let v1193 : Index := Scalar.indexCast v1189
  let c0_629 : Index := 0#32
  let c0_630 : Index := 0#32
  ![v1193.toNat, 0, 0]

def k0_off51 (v1186 : BitVec 32) : Fin 3 → Nat :=
  let c0_i32_624 : BitVec 32 := 0#32
  let v1188 : BitVec 32 := Scalar.addi v1186 c0_i32_624
  let c39_i32_625 : BitVec 32 := 39#32
  let v1189 : BitVec 32 := Scalar.minsi v1188 c39_i32_625
  let v1227 : Index := Scalar.indexCast v1189
  let c0_643 : Index := 0#32
  let c0_644 : Index := 0#32
  ![v1227.toNat, 0, 0]

def k0_chk24 (v1186 : BitVec 32) : Prop :=
  (∀ a, (k0_off50 v1186) a + S1x128x1.size a ≤ S40x128x1.size a) ∧
  (∀ a, (k0_off51 v1186) a + S1x512x128.size a ≤ S40x512x128.size a)
theorem k0_off50_inb : ∀ (v1186 : BitVec 32) (k0_hw24 : k0_chk24 v1186), ∀ a, (k0_off50 v1186) a + S1x128x1.size a ≤ S40x128x1.size a := fun v1186 k0_hw24 => k0_hw24.1
theorem k0_off51_inb : ∀ (v1186 : BitVec 32) (k0_hw24 : k0_chk24 v1186), ∀ a, (k0_off51 v1186) a + S1x512x128.size a ≤ S40x512x128.size a := fun v1186 k0_hw24 => k0_hw24.2

def k0_off52 (v1232 : BitVec 32) : Fin 3 → Nat :=
  let c0_i32_649 : BitVec 32 := 0#32
  let v1234 : BitVec 32 := Scalar.addi v1232 c0_i32_649
  let c39_i32_650 : BitVec 32 := 39#32
  let v1235 : BitVec 32 := Scalar.minsi v1234 c39_i32_650
  let v1239 : Index := Scalar.indexCast v1235
  let c0_654 : Index := 0#32
  let c0_655 : Index := 0#32
  ![v1239.toNat, 0, 0]

def k0_off53 (v1232 : BitVec 32) : Fin 3 → Nat :=
  let c0_i32_649 : BitVec 32 := 0#32
  let v1234 : BitVec 32 := Scalar.addi v1232 c0_i32_649
  let c39_i32_650 : BitVec 32 := 39#32
  let v1235 : BitVec 32 := Scalar.minsi v1234 c39_i32_650
  let v1273 : Index := Scalar.indexCast v1235
  let c0_668 : Index := 0#32
  let c0_669 : Index := 0#32
  ![v1273.toNat, 0, 0]

def k0_chk25 (v1232 : BitVec 32) : Prop :=
  (∀ a, (k0_off52 v1232) a + S1x128x1.size a ≤ S40x128x1.size a) ∧
  (∀ a, (k0_off53 v1232) a + S1x512x128.size a ≤ S40x512x128.size a)
theorem k0_off52_inb : ∀ (v1232 : BitVec 32) (k0_hw25 : k0_chk25 v1232), ∀ a, (k0_off52 v1232) a + S1x128x1.size a ≤ S40x128x1.size a := fun v1232 k0_hw25 => k0_hw25.1
theorem k0_off53_inb : ∀ (v1232 : BitVec 32) (k0_hw25 : k0_chk25 v1232), ∀ a, (k0_off53 v1232) a + S1x512x128.size a ≤ S40x512x128.size a := fun v1232 k0_hw25 => k0_hw25.2

def k0_off54 (v1278 : BitVec 32) : Fin 3 → Nat :=
  let c0_i32_674 : BitVec 32 := 0#32
  let v1280 : BitVec 32 := Scalar.addi v1278 c0_i32_674
  let c39_i32_675 : BitVec 32 := 39#32
  let v1281 : BitVec 32 := Scalar.minsi v1280 c39_i32_675
  let v1285 : Index := Scalar.indexCast v1281
  let c0_679 : Index := 0#32
  let c0_680 : Index := 0#32
  ![v1285.toNat, 0, 0]

def k0_off55 (v1278 : BitVec 32) : Fin 3 → Nat :=
  let c0_i32_674 : BitVec 32 := 0#32
  let v1280 : BitVec 32 := Scalar.addi v1278 c0_i32_674
  let c39_i32_675 : BitVec 32 := 39#32
  let v1281 : BitVec 32 := Scalar.minsi v1280 c39_i32_675
  let v1319 : Index := Scalar.indexCast v1281
  let c0_693 : Index := 0#32
  let c0_694 : Index := 0#32
  ![v1319.toNat, 0, 0]

def k0_chk26 (v1278 : BitVec 32) : Prop :=
  (∀ a, (k0_off54 v1278) a + S1x128x1.size a ≤ S40x128x1.size a) ∧
  (∀ a, (k0_off55 v1278) a + S1x512x128.size a ≤ S40x512x128.size a)
theorem k0_off54_inb : ∀ (v1278 : BitVec 32) (k0_hw26 : k0_chk26 v1278), ∀ a, (k0_off54 v1278) a + S1x128x1.size a ≤ S40x128x1.size a := fun v1278 k0_hw26 => k0_hw26.1
theorem k0_off55_inb : ∀ (v1278 : BitVec 32) (k0_hw26 : k0_chk26 v1278), ∀ a, (k0_off55 v1278) a + S1x512x128.size a ≤ S40x512x128.size a := fun v1278 k0_hw26 => k0_hw26.2

def k0_off56 (v1324 : BitVec 32) : Fin 3 → Nat :=
  let c0_i32_699 : BitVec 32 := 0#32
  let v1326 : BitVec 32 := Scalar.addi v1324 c0_i32_699
  let c39_i32_700 : BitVec 32 := 39#32
  let v1327 : BitVec 32 := Scalar.minsi v1326 c39_i32_700
  let v1331 : Index := Scalar.indexCast v1327
  let c0_704 : Index := 0#32
  let c0_705 : Index := 0#32
  ![v1331.toNat, 0, 0]

def k0_off57 (v1324 : BitVec 32) : Fin 3 → Nat :=
  let c0_i32_699 : BitVec 32 := 0#32
  let v1326 : BitVec 32 := Scalar.addi v1324 c0_i32_699
  let c39_i32_700 : BitVec 32 := 39#32
  let v1327 : BitVec 32 := Scalar.minsi v1326 c39_i32_700
  let v1365 : Index := Scalar.indexCast v1327
  let c0_718 : Index := 0#32
  let c0_719 : Index := 0#32
  ![v1365.toNat, 0, 0]

def k0_chk27 (v1324 : BitVec 32) : Prop :=
  (∀ a, (k0_off56 v1324) a + S1x128x1.size a ≤ S40x128x1.size a) ∧
  (∀ a, (k0_off57 v1324) a + S1x512x128.size a ≤ S40x512x128.size a)
theorem k0_off56_inb : ∀ (v1324 : BitVec 32) (k0_hw27 : k0_chk27 v1324), ∀ a, (k0_off56 v1324) a + S1x128x1.size a ≤ S40x128x1.size a := fun v1324 k0_hw27 => k0_hw27.1
theorem k0_off57_inb : ∀ (v1324 : BitVec 32) (k0_hw27 : k0_chk27 v1324), ∀ a, (k0_off57 v1324) a + S1x512x128.size a ≤ S40x512x128.size a := fun v1324 k0_hw27 => k0_hw27.2

def k0_off58 (v1370 : BitVec 32) : Fin 3 → Nat :=
  let c0_i32_724 : BitVec 32 := 0#32
  let v1372 : BitVec 32 := Scalar.addi v1370 c0_i32_724
  let c39_i32_725 : BitVec 32 := 39#32
  let v1373 : BitVec 32 := Scalar.minsi v1372 c39_i32_725
  let v1377 : Index := Scalar.indexCast v1373
  let c0_729 : Index := 0#32
  let c0_730 : Index := 0#32
  ![v1377.toNat, 0, 0]

def k0_off59 (v1370 : BitVec 32) : Fin 3 → Nat :=
  let c0_i32_724 : BitVec 32 := 0#32
  let v1372 : BitVec 32 := Scalar.addi v1370 c0_i32_724
  let c39_i32_725 : BitVec 32 := 39#32
  let v1373 : BitVec 32 := Scalar.minsi v1372 c39_i32_725
  let v1411 : Index := Scalar.indexCast v1373
  let c0_743 : Index := 0#32
  let c0_744 : Index := 0#32
  ![v1411.toNat, 0, 0]

def k0_chk28 (v1370 : BitVec 32) : Prop :=
  (∀ a, (k0_off58 v1370) a + S1x128x1.size a ≤ S40x128x1.size a) ∧
  (∀ a, (k0_off59 v1370) a + S1x512x128.size a ≤ S40x512x128.size a)
theorem k0_off58_inb : ∀ (v1370 : BitVec 32) (k0_hw28 : k0_chk28 v1370), ∀ a, (k0_off58 v1370) a + S1x128x1.size a ≤ S40x128x1.size a := fun v1370 k0_hw28 => k0_hw28.1
theorem k0_off59_inb : ∀ (v1370 : BitVec 32) (k0_hw28 : k0_chk28 v1370), ∀ a, (k0_off59 v1370) a + S1x512x128.size a ≤ S40x512x128.size a := fun v1370 k0_hw28 => k0_hw28.2

def k0_off60 (v1416 : BitVec 32) : Fin 3 → Nat :=
  let c0_i32_749 : BitVec 32 := 0#32
  let v1418 : BitVec 32 := Scalar.addi v1416 c0_i32_749
  let c39_i32_750 : BitVec 32 := 39#32
  let v1419 : BitVec 32 := Scalar.minsi v1418 c39_i32_750
  let v1423 : Index := Scalar.indexCast v1419
  let c0_754 : Index := 0#32
  let c0_755 : Index := 0#32
  ![v1423.toNat, 0, 0]

def k0_off61 (v1416 : BitVec 32) : Fin 3 → Nat :=
  let c0_i32_749 : BitVec 32 := 0#32
  let v1418 : BitVec 32 := Scalar.addi v1416 c0_i32_749
  let c39_i32_750 : BitVec 32 := 39#32
  let v1419 : BitVec 32 := Scalar.minsi v1418 c39_i32_750
  let v1457 : Index := Scalar.indexCast v1419
  let c0_768 : Index := 0#32
  let c0_769 : Index := 0#32
  ![v1457.toNat, 0, 0]

def k0_chk29 (v1416 : BitVec 32) : Prop :=
  (∀ a, (k0_off60 v1416) a + S1x128x1.size a ≤ S40x128x1.size a) ∧
  (∀ a, (k0_off61 v1416) a + S1x512x128.size a ≤ S40x512x128.size a)
theorem k0_off60_inb : ∀ (v1416 : BitVec 32) (k0_hw29 : k0_chk29 v1416), ∀ a, (k0_off60 v1416) a + S1x128x1.size a ≤ S40x128x1.size a := fun v1416 k0_hw29 => k0_hw29.1
theorem k0_off61_inb : ∀ (v1416 : BitVec 32) (k0_hw29 : k0_chk29 v1416), ∀ a, (k0_off61 v1416) a + S1x512x128.size a ≤ S40x512x128.size a := fun v1416 k0_hw29 => k0_hw29.2

def k0_off62 (v1462 : BitVec 32) : Fin 3 → Nat :=
  let c0_i32_774 : BitVec 32 := 0#32
  let v1464 : BitVec 32 := Scalar.addi v1462 c0_i32_774
  let c39_i32_775 : BitVec 32 := 39#32
  let v1465 : BitVec 32 := Scalar.minsi v1464 c39_i32_775
  let v1469 : Index := Scalar.indexCast v1465
  let c0_779 : Index := 0#32
  let c0_780 : Index := 0#32
  ![v1469.toNat, 0, 0]

def k0_off63 (v1462 : BitVec 32) : Fin 3 → Nat :=
  let c0_i32_774 : BitVec 32 := 0#32
  let v1464 : BitVec 32 := Scalar.addi v1462 c0_i32_774
  let c39_i32_775 : BitVec 32 := 39#32
  let v1465 : BitVec 32 := Scalar.minsi v1464 c39_i32_775
  let v1503 : Index := Scalar.indexCast v1465
  let c0_793 : Index := 0#32
  let c0_794 : Index := 0#32
  ![v1503.toNat, 0, 0]

def k0_chk30 (v1462 : BitVec 32) : Prop :=
  (∀ a, (k0_off62 v1462) a + S1x128x1.size a ≤ S40x128x1.size a) ∧
  (∀ a, (k0_off63 v1462) a + S1x512x128.size a ≤ S40x512x128.size a)
theorem k0_off62_inb : ∀ (v1462 : BitVec 32) (k0_hw30 : k0_chk30 v1462), ∀ a, (k0_off62 v1462) a + S1x128x1.size a ≤ S40x128x1.size a := fun v1462 k0_hw30 => k0_hw30.1
theorem k0_off63_inb : ∀ (v1462 : BitVec 32) (k0_hw30 : k0_chk30 v1462), ∀ a, (k0_off63 v1462) a + S1x512x128.size a ≤ S40x512x128.size a := fun v1462 k0_hw30 => k0_hw30.2

def k0_off64 (v1508 : BitVec 32) : Fin 3 → Nat :=
  let c0_i32_799 : BitVec 32 := 0#32
  let v1510 : BitVec 32 := Scalar.addi v1508 c0_i32_799
  let c39_i32_800 : BitVec 32 := 39#32
  let v1511 : BitVec 32 := Scalar.minsi v1510 c39_i32_800
  let v1515 : Index := Scalar.indexCast v1511
  let c0_804 : Index := 0#32
  let c0_805 : Index := 0#32
  ![v1515.toNat, 0, 0]

def k0_off65 (v1508 : BitVec 32) : Fin 3 → Nat :=
  let c0_i32_799 : BitVec 32 := 0#32
  let v1510 : BitVec 32 := Scalar.addi v1508 c0_i32_799
  let c39_i32_800 : BitVec 32 := 39#32
  let v1511 : BitVec 32 := Scalar.minsi v1510 c39_i32_800
  let v1549 : Index := Scalar.indexCast v1511
  let c0_818 : Index := 0#32
  let c0_819 : Index := 0#32
  ![v1549.toNat, 0, 0]

def k0_chk31 (v1508 : BitVec 32) : Prop :=
  (∀ a, (k0_off64 v1508) a + S1x128x1.size a ≤ S40x128x1.size a) ∧
  (∀ a, (k0_off65 v1508) a + S1x512x128.size a ≤ S40x512x128.size a)
theorem k0_off64_inb : ∀ (v1508 : BitVec 32) (k0_hw31 : k0_chk31 v1508), ∀ a, (k0_off64 v1508) a + S1x128x1.size a ≤ S40x128x1.size a := fun v1508 k0_hw31 => k0_hw31.1
theorem k0_off65_inb : ∀ (v1508 : BitVec 32) (k0_hw31 : k0_chk31 v1508), ∀ a, (k0_off65 v1508) a + S1x512x128.size a ≤ S40x512x128.size a := fun v1508 k0_hw31 => k0_hw31.2

def k0_off66 (v1554 : BitVec 32) : Fin 3 → Nat :=
  let c0_i32_824 : BitVec 32 := 0#32
  let v1556 : BitVec 32 := Scalar.addi v1554 c0_i32_824
  let c39_i32_825 : BitVec 32 := 39#32
  let v1557 : BitVec 32 := Scalar.minsi v1556 c39_i32_825
  let v1561 : Index := Scalar.indexCast v1557
  let c0_829 : Index := 0#32
  let c0_830 : Index := 0#32
  ![v1561.toNat, 0, 0]

def k0_off67 (v1554 : BitVec 32) : Fin 3 → Nat :=
  let c0_i32_824 : BitVec 32 := 0#32
  let v1556 : BitVec 32 := Scalar.addi v1554 c0_i32_824
  let c39_i32_825 : BitVec 32 := 39#32
  let v1557 : BitVec 32 := Scalar.minsi v1556 c39_i32_825
  let v1595 : Index := Scalar.indexCast v1557
  let c0_843 : Index := 0#32
  let c0_844 : Index := 0#32
  ![v1595.toNat, 0, 0]

def k0_chk32 (v1554 : BitVec 32) : Prop :=
  (∀ a, (k0_off66 v1554) a + S1x128x1.size a ≤ S40x128x1.size a) ∧
  (∀ a, (k0_off67 v1554) a + S1x512x128.size a ≤ S40x512x128.size a)
theorem k0_off66_inb : ∀ (v1554 : BitVec 32) (k0_hw32 : k0_chk32 v1554), ∀ a, (k0_off66 v1554) a + S1x128x1.size a ≤ S40x128x1.size a := fun v1554 k0_hw32 => k0_hw32.1
theorem k0_off67_inb : ∀ (v1554 : BitVec 32) (k0_hw32 : k0_chk32 v1554), ∀ a, (k0_off67 v1554) a + S1x512x128.size a ≤ S40x512x128.size a := fun v1554 k0_hw32 => k0_hw32.2

def k0_off68 (v1600 : BitVec 32) : Fin 3 → Nat :=
  let c0_i32_849 : BitVec 32 := 0#32
  let v1602 : BitVec 32 := Scalar.addi v1600 c0_i32_849
  let c39_i32_850 : BitVec 32 := 39#32
  let v1603 : BitVec 32 := Scalar.minsi v1602 c39_i32_850
  let v1607 : Index := Scalar.indexCast v1603
  let c0_854 : Index := 0#32
  let c0_855 : Index := 0#32
  ![v1607.toNat, 0, 0]

def k0_off69 (v1600 : BitVec 32) : Fin 3 → Nat :=
  let c0_i32_849 : BitVec 32 := 0#32
  let v1602 : BitVec 32 := Scalar.addi v1600 c0_i32_849
  let c39_i32_850 : BitVec 32 := 39#32
  let v1603 : BitVec 32 := Scalar.minsi v1602 c39_i32_850
  let v1641 : Index := Scalar.indexCast v1603
  let c0_868 : Index := 0#32
  let c0_869 : Index := 0#32
  ![v1641.toNat, 0, 0]

def k0_chk33 (v1600 : BitVec 32) : Prop :=
  (∀ a, (k0_off68 v1600) a + S1x128x1.size a ≤ S40x128x1.size a) ∧
  (∀ a, (k0_off69 v1600) a + S1x512x128.size a ≤ S40x512x128.size a)
theorem k0_off68_inb : ∀ (v1600 : BitVec 32) (k0_hw33 : k0_chk33 v1600), ∀ a, (k0_off68 v1600) a + S1x128x1.size a ≤ S40x128x1.size a := fun v1600 k0_hw33 => k0_hw33.1
theorem k0_off69_inb : ∀ (v1600 : BitVec 32) (k0_hw33 : k0_chk33 v1600), ∀ a, (k0_off69 v1600) a + S1x512x128.size a ≤ S40x512x128.size a := fun v1600 k0_hw33 => k0_hw33.2

def k0_off70 (v1646 : BitVec 32) : Fin 3 → Nat :=
  let c0_i32_874 : BitVec 32 := 0#32
  let v1648 : BitVec 32 := Scalar.addi v1646 c0_i32_874
  let c39_i32_875 : BitVec 32 := 39#32
  let v1649 : BitVec 32 := Scalar.minsi v1648 c39_i32_875
  let v1653 : Index := Scalar.indexCast v1649
  let c0_879 : Index := 0#32
  let c0_880 : Index := 0#32
  ![v1653.toNat, 0, 0]

def k0_off71 (v1646 : BitVec 32) : Fin 3 → Nat :=
  let c0_i32_874 : BitVec 32 := 0#32
  let v1648 : BitVec 32 := Scalar.addi v1646 c0_i32_874
  let c39_i32_875 : BitVec 32 := 39#32
  let v1649 : BitVec 32 := Scalar.minsi v1648 c39_i32_875
  let v1687 : Index := Scalar.indexCast v1649
  let c0_893 : Index := 0#32
  let c0_894 : Index := 0#32
  ![v1687.toNat, 0, 0]

def k0_chk34 (v1646 : BitVec 32) : Prop :=
  (∀ a, (k0_off70 v1646) a + S1x128x1.size a ≤ S40x128x1.size a) ∧
  (∀ a, (k0_off71 v1646) a + S1x512x128.size a ≤ S40x512x128.size a)
theorem k0_off70_inb : ∀ (v1646 : BitVec 32) (k0_hw34 : k0_chk34 v1646), ∀ a, (k0_off70 v1646) a + S1x128x1.size a ≤ S40x128x1.size a := fun v1646 k0_hw34 => k0_hw34.1
theorem k0_off71_inb : ∀ (v1646 : BitVec 32) (k0_hw34 : k0_chk34 v1646), ∀ a, (k0_off71 v1646) a + S1x512x128.size a ≤ S40x512x128.size a := fun v1646 k0_hw34 => k0_hw34.2

def k0_off72 (v1692 : BitVec 32) : Fin 3 → Nat :=
  let c0_i32_899 : BitVec 32 := 0#32
  let v1694 : BitVec 32 := Scalar.addi v1692 c0_i32_899
  let c39_i32_900 : BitVec 32 := 39#32
  let v1695 : BitVec 32 := Scalar.minsi v1694 c39_i32_900
  let v1699 : Index := Scalar.indexCast v1695
  let c0_904 : Index := 0#32
  let c0_905 : Index := 0#32
  ![v1699.toNat, 0, 0]

def k0_off73 (v1692 : BitVec 32) : Fin 3 → Nat :=
  let c0_i32_899 : BitVec 32 := 0#32
  let v1694 : BitVec 32 := Scalar.addi v1692 c0_i32_899
  let c39_i32_900 : BitVec 32 := 39#32
  let v1695 : BitVec 32 := Scalar.minsi v1694 c39_i32_900
  let v1733 : Index := Scalar.indexCast v1695
  let c0_918 : Index := 0#32
  let c0_919 : Index := 0#32
  ![v1733.toNat, 0, 0]

def k0_chk35 (v1692 : BitVec 32) : Prop :=
  (∀ a, (k0_off72 v1692) a + S1x128x1.size a ≤ S40x128x1.size a) ∧
  (∀ a, (k0_off73 v1692) a + S1x512x128.size a ≤ S40x512x128.size a)
theorem k0_off72_inb : ∀ (v1692 : BitVec 32) (k0_hw35 : k0_chk35 v1692), ∀ a, (k0_off72 v1692) a + S1x128x1.size a ≤ S40x128x1.size a := fun v1692 k0_hw35 => k0_hw35.1
theorem k0_off73_inb : ∀ (v1692 : BitVec 32) (k0_hw35 : k0_chk35 v1692), ∀ a, (k0_off73 v1692) a + S1x512x128.size a ≤ S40x512x128.size a := fun v1692 k0_hw35 => k0_hw35.2

def k0_off74 (v1738 : BitVec 32) : Fin 3 → Nat :=
  let c0_i32_924 : BitVec 32 := 0#32
  let v1740 : BitVec 32 := Scalar.addi v1738 c0_i32_924
  let c39_i32_925 : BitVec 32 := 39#32
  let v1741 : BitVec 32 := Scalar.minsi v1740 c39_i32_925
  let v1745 : Index := Scalar.indexCast v1741
  let c0_929 : Index := 0#32
  let c0_930 : Index := 0#32
  ![v1745.toNat, 0, 0]

def k0_off75 (v1738 : BitVec 32) : Fin 3 → Nat :=
  let c0_i32_924 : BitVec 32 := 0#32
  let v1740 : BitVec 32 := Scalar.addi v1738 c0_i32_924
  let c39_i32_925 : BitVec 32 := 39#32
  let v1741 : BitVec 32 := Scalar.minsi v1740 c39_i32_925
  let v1779 : Index := Scalar.indexCast v1741
  let c0_943 : Index := 0#32
  let c0_944 : Index := 0#32
  ![v1779.toNat, 0, 0]

def k0_chk36 (v1738 : BitVec 32) : Prop :=
  (∀ a, (k0_off74 v1738) a + S1x128x1.size a ≤ S40x128x1.size a) ∧
  (∀ a, (k0_off75 v1738) a + S1x512x128.size a ≤ S40x512x128.size a)
theorem k0_off74_inb : ∀ (v1738 : BitVec 32) (k0_hw36 : k0_chk36 v1738), ∀ a, (k0_off74 v1738) a + S1x128x1.size a ≤ S40x128x1.size a := fun v1738 k0_hw36 => k0_hw36.1
theorem k0_off75_inb : ∀ (v1738 : BitVec 32) (k0_hw36 : k0_chk36 v1738), ∀ a, (k0_off75 v1738) a + S1x512x128.size a ≤ S40x512x128.size a := fun v1738 k0_hw36 => k0_hw36.2

def k0_off76 (v1784 : BitVec 32) : Fin 3 → Nat :=
  let c0_i32_949 : BitVec 32 := 0#32
  let v1786 : BitVec 32 := Scalar.addi v1784 c0_i32_949
  let c39_i32_950 : BitVec 32 := 39#32
  let v1787 : BitVec 32 := Scalar.minsi v1786 c39_i32_950
  let v1791 : Index := Scalar.indexCast v1787
  let c0_954 : Index := 0#32
  let c0_955 : Index := 0#32
  ![v1791.toNat, 0, 0]

def k0_off77 (v1784 : BitVec 32) : Fin 3 → Nat :=
  let c0_i32_949 : BitVec 32 := 0#32
  let v1786 : BitVec 32 := Scalar.addi v1784 c0_i32_949
  let c39_i32_950 : BitVec 32 := 39#32
  let v1787 : BitVec 32 := Scalar.minsi v1786 c39_i32_950
  let v1825 : Index := Scalar.indexCast v1787
  let c0_968 : Index := 0#32
  let c0_969 : Index := 0#32
  ![v1825.toNat, 0, 0]

def k0_chk37 (v1784 : BitVec 32) : Prop :=
  (∀ a, (k0_off76 v1784) a + S1x128x1.size a ≤ S40x128x1.size a) ∧
  (∀ a, (k0_off77 v1784) a + S1x512x128.size a ≤ S40x512x128.size a)
theorem k0_off76_inb : ∀ (v1784 : BitVec 32) (k0_hw37 : k0_chk37 v1784), ∀ a, (k0_off76 v1784) a + S1x128x1.size a ≤ S40x128x1.size a := fun v1784 k0_hw37 => k0_hw37.1
theorem k0_off77_inb : ∀ (v1784 : BitVec 32) (k0_hw37 : k0_chk37 v1784), ∀ a, (k0_off77 v1784) a + S1x512x128.size a ≤ S40x512x128.size a := fun v1784 k0_hw37 => k0_hw37.2

def k0_off78 (v1830 : BitVec 32) : Fin 3 → Nat :=
  let c0_i32_974 : BitVec 32 := 0#32
  let v1832 : BitVec 32 := Scalar.addi v1830 c0_i32_974
  let c39_i32_975 : BitVec 32 := 39#32
  let v1833 : BitVec 32 := Scalar.minsi v1832 c39_i32_975
  let v1837 : Index := Scalar.indexCast v1833
  let c0_979 : Index := 0#32
  let c0_980 : Index := 0#32
  ![v1837.toNat, 0, 0]

def k0_off79 (v1830 : BitVec 32) : Fin 3 → Nat :=
  let c0_i32_974 : BitVec 32 := 0#32
  let v1832 : BitVec 32 := Scalar.addi v1830 c0_i32_974
  let c39_i32_975 : BitVec 32 := 39#32
  let v1833 : BitVec 32 := Scalar.minsi v1832 c39_i32_975
  let v1871 : Index := Scalar.indexCast v1833
  let c0_993 : Index := 0#32
  let c0_994 : Index := 0#32
  ![v1871.toNat, 0, 0]

def k0_chk38 (v1830 : BitVec 32) : Prop :=
  (∀ a, (k0_off78 v1830) a + S1x128x1.size a ≤ S40x128x1.size a) ∧
  (∀ a, (k0_off79 v1830) a + S1x512x128.size a ≤ S40x512x128.size a)
theorem k0_off78_inb : ∀ (v1830 : BitVec 32) (k0_hw38 : k0_chk38 v1830), ∀ a, (k0_off78 v1830) a + S1x128x1.size a ≤ S40x128x1.size a := fun v1830 k0_hw38 => k0_hw38.1
theorem k0_off79_inb : ∀ (v1830 : BitVec 32) (k0_hw38 : k0_chk38 v1830), ∀ a, (k0_off79 v1830) a + S1x512x128.size a ≤ S40x512x128.size a := fun v1830 k0_hw38 => k0_hw38.2

def k0_off80 (v1876 : BitVec 32) : Fin 3 → Nat :=
  let c0_i32_999 : BitVec 32 := 0#32
  let v1878 : BitVec 32 := Scalar.addi v1876 c0_i32_999
  let c39_i32_1000 : BitVec 32 := 39#32
  let v1879 : BitVec 32 := Scalar.minsi v1878 c39_i32_1000
  let v1883 : Index := Scalar.indexCast v1879
  let c0_1004 : Index := 0#32
  let c0_1005 : Index := 0#32
  ![v1883.toNat, 0, 0]

def k0_off81 (v1876 : BitVec 32) : Fin 3 → Nat :=
  let c0_i32_999 : BitVec 32 := 0#32
  let v1878 : BitVec 32 := Scalar.addi v1876 c0_i32_999
  let c39_i32_1000 : BitVec 32 := 39#32
  let v1879 : BitVec 32 := Scalar.minsi v1878 c39_i32_1000
  let v1917 : Index := Scalar.indexCast v1879
  let c0_1018 : Index := 0#32
  let c0_1019 : Index := 0#32
  ![v1917.toNat, 0, 0]

def k0_chk39 (v1876 : BitVec 32) : Prop :=
  (∀ a, (k0_off80 v1876) a + S1x128x1.size a ≤ S40x128x1.size a) ∧
  (∀ a, (k0_off81 v1876) a + S1x512x128.size a ≤ S40x512x128.size a)
theorem k0_off80_inb : ∀ (v1876 : BitVec 32) (k0_hw39 : k0_chk39 v1876), ∀ a, (k0_off80 v1876) a + S1x128x1.size a ≤ S40x128x1.size a := fun v1876 k0_hw39 => k0_hw39.1
theorem k0_off81_inb : ∀ (v1876 : BitVec 32) (k0_hw39 : k0_chk39 v1876), ∀ a, (k0_off81 v1876) a + S1x512x128.size a ≤ S40x512x128.size a := fun v1876 k0_hw39 => k0_hw39.2

def k0_off82 (v1922 : BitVec 32) : Fin 3 → Nat :=
  let c0_i32_1024 : BitVec 32 := 0#32
  let v1924 : BitVec 32 := Scalar.addi v1922 c0_i32_1024
  let c39_i32_1025 : BitVec 32 := 39#32
  let v1925 : BitVec 32 := Scalar.minsi v1924 c39_i32_1025
  let v1929 : Index := Scalar.indexCast v1925
  let c0_1029 : Index := 0#32
  let c0_1030 : Index := 0#32
  ![v1929.toNat, 0, 0]

def k0_off83 (v1922 : BitVec 32) : Fin 3 → Nat :=
  let c0_i32_1024 : BitVec 32 := 0#32
  let v1924 : BitVec 32 := Scalar.addi v1922 c0_i32_1024
  let c39_i32_1025 : BitVec 32 := 39#32
  let v1925 : BitVec 32 := Scalar.minsi v1924 c39_i32_1025
  let v1963 : Index := Scalar.indexCast v1925
  let c0_1043 : Index := 0#32
  let c0_1044 : Index := 0#32
  ![v1963.toNat, 0, 0]

def k0_chk40 (v1922 : BitVec 32) : Prop :=
  (∀ a, (k0_off82 v1922) a + S1x128x1.size a ≤ S40x128x1.size a) ∧
  (∀ a, (k0_off83 v1922) a + S1x512x128.size a ≤ S40x512x128.size a)
theorem k0_off82_inb : ∀ (v1922 : BitVec 32) (k0_hw40 : k0_chk40 v1922), ∀ a, (k0_off82 v1922) a + S1x128x1.size a ≤ S40x128x1.size a := fun v1922 k0_hw40 => k0_hw40.1
theorem k0_off83_inb : ∀ (v1922 : BitVec 32) (k0_hw40 : k0_chk40 v1922), ∀ a, (k0_off83 v1922) a + S1x512x128.size a ≤ S40x512x128.size a := fun v1922 k0_hw40 => k0_hw40.2

def k0_off84 (v1968 : BitVec 32) : Fin 3 → Nat :=
  let c0_i32_1049 : BitVec 32 := 0#32
  let v1970 : BitVec 32 := Scalar.addi v1968 c0_i32_1049
  let c39_i32_1050 : BitVec 32 := 39#32
  let v1971 : BitVec 32 := Scalar.minsi v1970 c39_i32_1050
  let v1975 : Index := Scalar.indexCast v1971
  let c0_1054 : Index := 0#32
  let c0_1055 : Index := 0#32
  ![v1975.toNat, 0, 0]

def k0_off85 (v1968 : BitVec 32) : Fin 3 → Nat :=
  let c0_i32_1049 : BitVec 32 := 0#32
  let v1970 : BitVec 32 := Scalar.addi v1968 c0_i32_1049
  let c39_i32_1050 : BitVec 32 := 39#32
  let v1971 : BitVec 32 := Scalar.minsi v1970 c39_i32_1050
  let v2009 : Index := Scalar.indexCast v1971
  let c0_1068 : Index := 0#32
  let c0_1069 : Index := 0#32
  ![v2009.toNat, 0, 0]

def k0_chk41 (v1968 : BitVec 32) : Prop :=
  (∀ a, (k0_off84 v1968) a + S1x128x1.size a ≤ S40x128x1.size a) ∧
  (∀ a, (k0_off85 v1968) a + S1x512x128.size a ≤ S40x512x128.size a)
theorem k0_off84_inb : ∀ (v1968 : BitVec 32) (k0_hw41 : k0_chk41 v1968), ∀ a, (k0_off84 v1968) a + S1x128x1.size a ≤ S40x128x1.size a := fun v1968 k0_hw41 => k0_hw41.1
theorem k0_off85_inb : ∀ (v1968 : BitVec 32) (k0_hw41 : k0_chk41 v1968), ∀ a, (k0_off85 v1968) a + S1x512x128.size a ≤ S40x512x128.size a := fun v1968 k0_hw41 => k0_hw41.2

def k0_off86 (v2014 : BitVec 32) : Fin 3 → Nat :=
  let c0_i32_1074 : BitVec 32 := 0#32
  let v2016 : BitVec 32 := Scalar.addi v2014 c0_i32_1074
  let c39_i32_1075 : BitVec 32 := 39#32
  let v2017 : BitVec 32 := Scalar.minsi v2016 c39_i32_1075
  let v2021 : Index := Scalar.indexCast v2017
  let c0_1079 : Index := 0#32
  let c0_1080 : Index := 0#32
  ![v2021.toNat, 0, 0]

def k0_off87 (v2014 : BitVec 32) : Fin 3 → Nat :=
  let c0_i32_1074 : BitVec 32 := 0#32
  let v2016 : BitVec 32 := Scalar.addi v2014 c0_i32_1074
  let c39_i32_1075 : BitVec 32 := 39#32
  let v2017 : BitVec 32 := Scalar.minsi v2016 c39_i32_1075
  let v2055 : Index := Scalar.indexCast v2017
  let c0_1093 : Index := 0#32
  let c0_1094 : Index := 0#32
  ![v2055.toNat, 0, 0]

def k0_chk42 (v2014 : BitVec 32) : Prop :=
  (∀ a, (k0_off86 v2014) a + S1x128x1.size a ≤ S40x128x1.size a) ∧
  (∀ a, (k0_off87 v2014) a + S1x512x128.size a ≤ S40x512x128.size a)
theorem k0_off86_inb : ∀ (v2014 : BitVec 32) (k0_hw42 : k0_chk42 v2014), ∀ a, (k0_off86 v2014) a + S1x128x1.size a ≤ S40x128x1.size a := fun v2014 k0_hw42 => k0_hw42.1
theorem k0_off87_inb : ∀ (v2014 : BitVec 32) (k0_hw42 : k0_chk42 v2014), ∀ a, (k0_off87 v2014) a + S1x512x128.size a ≤ S40x512x128.size a := fun v2014 k0_hw42 => k0_hw42.2

@[reducible] def k0_t4_loop (v5 : BitVec 32) : Scf.Loop 32 :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1100 : BitVec 32 := 1#32
  ⟨c1_i32_1097, v2065, c1_i32_1100⟩

def k0_off88 (v5 : BitVec 32) (k0_t4 : Fin (k0_t4_loop v5).trips) (v2068 : BitVec 32) : Fin 3 → Nat :=
  let c1_i32_1097 : BitVec 32 := 1#32
  let c1_i32_1100 : BitVec 32 := 1#32
  let arg11 : BitVec 32 := Scf.iv c1_i32_1097 c1_i32_1100 k0_t4
  let v2070 : BitVec 32 := Scalar.addi v2068 arg11
  let c39_i32_1104 : BitVec 32 := 39#32
  let v2071 : BitVec 32 := Scalar.minsi v2070 c39_i32_1104
  let v2075 : Index := Scalar.indexCast v2071
  let c0_1107 : Index := 0#32
  let c0_1108 : Index := 0#32
  ![v2075.toNat, 0, 0]

def k0_off89 (v5 : BitVec 32) (k0_t4 : Fin (k0_t4_loop v5).trips) (v2068 : BitVec 32) : Fin 3 → Nat :=
  let c1_i32_1097 : BitVec 32 := 1#32
  let c1_i32_1100 : BitVec 32 := 1#32
  let arg11 : BitVec 32 := Scf.iv c1_i32_1097 c1_i32_1100 k0_t4
  let v2070 : BitVec 32 := Scalar.addi v2068 arg11
  let c39_i32_1104 : BitVec 32 := 39#32
  let v2071 : BitVec 32 := Scalar.minsi v2070 c39_i32_1104
  let v2109 : Index := Scalar.indexCast v2071
  let c0_1121 : Index := 0#32
  let c0_1122 : Index := 0#32
  ![v2109.toNat, 0, 0]

def k0_chk44 (v5 : BitVec 32) (k0_t4 : Fin (k0_t4_loop v5).trips) (v2068 : BitVec 32) : Prop :=
  (∀ a, (k0_off88 v5 k0_t4 v2068) a + S1x128x1.size a ≤ S40x128x1.size a) ∧
  (∀ a, (k0_off89 v5 k0_t4 v2068) a + S1x512x128.size a ≤ S40x512x128.size a)
theorem k0_off88_inb : ∀ (v5 : BitVec 32) (k0_t4 : Fin (k0_t4_loop v5).trips) (v2068 : BitVec 32) (k0_hw44 : k0_chk44 v5 k0_t4 v2068), ∀ a, (k0_off88 v5 k0_t4 v2068) a + S1x128x1.size a ≤ S40x128x1.size a := fun v5 k0_t4 v2068 k0_hw44 => k0_hw44.1
theorem k0_off89_inb : ∀ (v5 : BitVec 32) (k0_t4 : Fin (k0_t4_loop v5).trips) (v2068 : BitVec 32) (k0_hw44 : k0_chk44 v5 k0_t4 v2068), ∀ a, (k0_off89 v5 k0_t4 v2068) a + S1x512x128.size a ≤ S40x512x128.size a := fun v5 k0_t4 v2068 k0_hw44 => k0_hw44.2

def k0_off90 (v5 : BitVec 32) (k0_t4 : Fin (k0_t4_loop v5).trips) (v2117 : BitVec 32) : Fin 3 → Nat :=
  let c1_i32_1097 : BitVec 32 := 1#32
  let c1_i32_1100 : BitVec 32 := 1#32
  let arg11 : BitVec 32 := Scf.iv c1_i32_1097 c1_i32_1100 k0_t4
  let v2119 : BitVec 32 := Scalar.addi v2117 arg11
  let c39_i32_1130 : BitVec 32 := 39#32
  let v2120 : BitVec 32 := Scalar.minsi v2119 c39_i32_1130
  let v2124 : Index := Scalar.indexCast v2120
  let c0_1133 : Index := 0#32
  let c0_1134 : Index := 0#32
  ![v2124.toNat, 0, 0]

def k0_off91 (v5 : BitVec 32) (k0_t4 : Fin (k0_t4_loop v5).trips) (v2117 : BitVec 32) : Fin 3 → Nat :=
  let c1_i32_1097 : BitVec 32 := 1#32
  let c1_i32_1100 : BitVec 32 := 1#32
  let arg11 : BitVec 32 := Scf.iv c1_i32_1097 c1_i32_1100 k0_t4
  let v2119 : BitVec 32 := Scalar.addi v2117 arg11
  let c39_i32_1130 : BitVec 32 := 39#32
  let v2120 : BitVec 32 := Scalar.minsi v2119 c39_i32_1130
  let v2158 : Index := Scalar.indexCast v2120
  let c0_1147 : Index := 0#32
  let c0_1148 : Index := 0#32
  ![v2158.toNat, 0, 0]

def k0_chk45 (v5 : BitVec 32) (k0_t4 : Fin (k0_t4_loop v5).trips) (v2117 : BitVec 32) : Prop :=
  (∀ a, (k0_off90 v5 k0_t4 v2117) a + S1x128x1.size a ≤ S40x128x1.size a) ∧
  (∀ a, (k0_off91 v5 k0_t4 v2117) a + S1x512x128.size a ≤ S40x512x128.size a)
theorem k0_off90_inb : ∀ (v5 : BitVec 32) (k0_t4 : Fin (k0_t4_loop v5).trips) (v2117 : BitVec 32) (k0_hw45 : k0_chk45 v5 k0_t4 v2117), ∀ a, (k0_off90 v5 k0_t4 v2117) a + S1x128x1.size a ≤ S40x128x1.size a := fun v5 k0_t4 v2117 k0_hw45 => k0_hw45.1
theorem k0_off91_inb : ∀ (v5 : BitVec 32) (k0_t4 : Fin (k0_t4_loop v5).trips) (v2117 : BitVec 32) (k0_hw45 : k0_chk45 v5 k0_t4 v2117), ∀ a, (k0_off91 v5 k0_t4 v2117) a + S1x512x128.size a ≤ S40x512x128.size a := fun v5 k0_t4 v2117 k0_hw45 => k0_hw45.2

def k0_off92 (v5 : BitVec 32) (k0_t4 : Fin (k0_t4_loop v5).trips) (v2166 : BitVec 32) : Fin 3 → Nat :=
  let c1_i32_1097 : BitVec 32 := 1#32
  let c1_i32_1100 : BitVec 32 := 1#32
  let arg11 : BitVec 32 := Scf.iv c1_i32_1097 c1_i32_1100 k0_t4
  let v2168 : BitVec 32 := Scalar.addi v2166 arg11
  let c39_i32_1156 : BitVec 32 := 39#32
  let v2169 : BitVec 32 := Scalar.minsi v2168 c39_i32_1156
  let v2173 : Index := Scalar.indexCast v2169
  let c0_1159 : Index := 0#32
  let c0_1160 : Index := 0#32
  ![v2173.toNat, 0, 0]

def k0_off93 (v5 : BitVec 32) (k0_t4 : Fin (k0_t4_loop v5).trips) (v2166 : BitVec 32) : Fin 3 → Nat :=
  let c1_i32_1097 : BitVec 32 := 1#32
  let c1_i32_1100 : BitVec 32 := 1#32
  let arg11 : BitVec 32 := Scf.iv c1_i32_1097 c1_i32_1100 k0_t4
  let v2168 : BitVec 32 := Scalar.addi v2166 arg11
  let c39_i32_1156 : BitVec 32 := 39#32
  let v2169 : BitVec 32 := Scalar.minsi v2168 c39_i32_1156
  let v2207 : Index := Scalar.indexCast v2169
  let c0_1173 : Index := 0#32
  let c0_1174 : Index := 0#32
  ![v2207.toNat, 0, 0]

def k0_chk46 (v5 : BitVec 32) (k0_t4 : Fin (k0_t4_loop v5).trips) (v2166 : BitVec 32) : Prop :=
  (∀ a, (k0_off92 v5 k0_t4 v2166) a + S1x128x1.size a ≤ S40x128x1.size a) ∧
  (∀ a, (k0_off93 v5 k0_t4 v2166) a + S1x512x128.size a ≤ S40x512x128.size a)
theorem k0_off92_inb : ∀ (v5 : BitVec 32) (k0_t4 : Fin (k0_t4_loop v5).trips) (v2166 : BitVec 32) (k0_hw46 : k0_chk46 v5 k0_t4 v2166), ∀ a, (k0_off92 v5 k0_t4 v2166) a + S1x128x1.size a ≤ S40x128x1.size a := fun v5 k0_t4 v2166 k0_hw46 => k0_hw46.1
theorem k0_off93_inb : ∀ (v5 : BitVec 32) (k0_t4 : Fin (k0_t4_loop v5).trips) (v2166 : BitVec 32) (k0_hw46 : k0_chk46 v5 k0_t4 v2166), ∀ a, (k0_off93 v5 k0_t4 v2166) a + S1x512x128.size a ≤ S40x512x128.size a := fun v5 k0_t4 v2166 k0_hw46 => k0_hw46.2

def k0_off94 (v5 : BitVec 32) (k0_t4 : Fin (k0_t4_loop v5).trips) (v2215 : BitVec 32) : Fin 3 → Nat :=
  let c1_i32_1097 : BitVec 32 := 1#32
  let c1_i32_1100 : BitVec 32 := 1#32
  let arg11 : BitVec 32 := Scf.iv c1_i32_1097 c1_i32_1100 k0_t4
  let v2217 : BitVec 32 := Scalar.addi v2215 arg11
  let c39_i32_1182 : BitVec 32 := 39#32
  let v2218 : BitVec 32 := Scalar.minsi v2217 c39_i32_1182
  let v2222 : Index := Scalar.indexCast v2218
  let c0_1185 : Index := 0#32
  let c0_1186 : Index := 0#32
  ![v2222.toNat, 0, 0]

def k0_off95 (v5 : BitVec 32) (k0_t4 : Fin (k0_t4_loop v5).trips) (v2215 : BitVec 32) : Fin 3 → Nat :=
  let c1_i32_1097 : BitVec 32 := 1#32
  let c1_i32_1100 : BitVec 32 := 1#32
  let arg11 : BitVec 32 := Scf.iv c1_i32_1097 c1_i32_1100 k0_t4
  let v2217 : BitVec 32 := Scalar.addi v2215 arg11
  let c39_i32_1182 : BitVec 32 := 39#32
  let v2218 : BitVec 32 := Scalar.minsi v2217 c39_i32_1182
  let v2256 : Index := Scalar.indexCast v2218
  let c0_1199 : Index := 0#32
  let c0_1200 : Index := 0#32
  ![v2256.toNat, 0, 0]

def k0_chk47 (v5 : BitVec 32) (k0_t4 : Fin (k0_t4_loop v5).trips) (v2215 : BitVec 32) : Prop :=
  (∀ a, (k0_off94 v5 k0_t4 v2215) a + S1x128x1.size a ≤ S40x128x1.size a) ∧
  (∀ a, (k0_off95 v5 k0_t4 v2215) a + S1x512x128.size a ≤ S40x512x128.size a)
theorem k0_off94_inb : ∀ (v5 : BitVec 32) (k0_t4 : Fin (k0_t4_loop v5).trips) (v2215 : BitVec 32) (k0_hw47 : k0_chk47 v5 k0_t4 v2215), ∀ a, (k0_off94 v5 k0_t4 v2215) a + S1x128x1.size a ≤ S40x128x1.size a := fun v5 k0_t4 v2215 k0_hw47 => k0_hw47.1
theorem k0_off95_inb : ∀ (v5 : BitVec 32) (k0_t4 : Fin (k0_t4_loop v5).trips) (v2215 : BitVec 32) (k0_hw47 : k0_chk47 v5 k0_t4 v2215), ∀ a, (k0_off95 v5 k0_t4 v2215) a + S1x512x128.size a ≤ S40x512x128.size a := fun v5 k0_t4 v2215 k0_hw47 => k0_hw47.2

def k0_off96 (v5 : BitVec 32) (k0_t4 : Fin (k0_t4_loop v5).trips) (v2264 : BitVec 32) : Fin 3 → Nat :=
  let c1_i32_1097 : BitVec 32 := 1#32
  let c1_i32_1100 : BitVec 32 := 1#32
  let arg11 : BitVec 32 := Scf.iv c1_i32_1097 c1_i32_1100 k0_t4
  let v2266 : BitVec 32 := Scalar.addi v2264 arg11
  let c39_i32_1208 : BitVec 32 := 39#32
  let v2267 : BitVec 32 := Scalar.minsi v2266 c39_i32_1208
  let v2271 : Index := Scalar.indexCast v2267
  let c0_1211 : Index := 0#32
  let c0_1212 : Index := 0#32
  ![v2271.toNat, 0, 0]

def k0_off97 (v5 : BitVec 32) (k0_t4 : Fin (k0_t4_loop v5).trips) (v2264 : BitVec 32) : Fin 3 → Nat :=
  let c1_i32_1097 : BitVec 32 := 1#32
  let c1_i32_1100 : BitVec 32 := 1#32
  let arg11 : BitVec 32 := Scf.iv c1_i32_1097 c1_i32_1100 k0_t4
  let v2266 : BitVec 32 := Scalar.addi v2264 arg11
  let c39_i32_1208 : BitVec 32 := 39#32
  let v2267 : BitVec 32 := Scalar.minsi v2266 c39_i32_1208
  let v2305 : Index := Scalar.indexCast v2267
  let c0_1225 : Index := 0#32
  let c0_1226 : Index := 0#32
  ![v2305.toNat, 0, 0]

def k0_chk48 (v5 : BitVec 32) (k0_t4 : Fin (k0_t4_loop v5).trips) (v2264 : BitVec 32) : Prop :=
  (∀ a, (k0_off96 v5 k0_t4 v2264) a + S1x128x1.size a ≤ S40x128x1.size a) ∧
  (∀ a, (k0_off97 v5 k0_t4 v2264) a + S1x512x128.size a ≤ S40x512x128.size a)
theorem k0_off96_inb : ∀ (v5 : BitVec 32) (k0_t4 : Fin (k0_t4_loop v5).trips) (v2264 : BitVec 32) (k0_hw48 : k0_chk48 v5 k0_t4 v2264), ∀ a, (k0_off96 v5 k0_t4 v2264) a + S1x128x1.size a ≤ S40x128x1.size a := fun v5 k0_t4 v2264 k0_hw48 => k0_hw48.1
theorem k0_off97_inb : ∀ (v5 : BitVec 32) (k0_t4 : Fin (k0_t4_loop v5).trips) (v2264 : BitVec 32) (k0_hw48 : k0_chk48 v5 k0_t4 v2264), ∀ a, (k0_off97 v5 k0_t4 v2264) a + S1x512x128.size a ≤ S40x512x128.size a := fun v5 k0_t4 v2264 k0_hw48 => k0_hw48.2

def k0_off98 (v5 : BitVec 32) (k0_t4 : Fin (k0_t4_loop v5).trips) (v2313 : BitVec 32) : Fin 3 → Nat :=
  let c1_i32_1097 : BitVec 32 := 1#32
  let c1_i32_1100 : BitVec 32 := 1#32
  let arg11 : BitVec 32 := Scf.iv c1_i32_1097 c1_i32_1100 k0_t4
  let v2315 : BitVec 32 := Scalar.addi v2313 arg11
  let c39_i32_1234 : BitVec 32 := 39#32
  let v2316 : BitVec 32 := Scalar.minsi v2315 c39_i32_1234
  let v2320 : Index := Scalar.indexCast v2316
  let c0_1237 : Index := 0#32
  let c0_1238 : Index := 0#32
  ![v2320.toNat, 0, 0]

def k0_off99 (v5 : BitVec 32) (k0_t4 : Fin (k0_t4_loop v5).trips) (v2313 : BitVec 32) : Fin 3 → Nat :=
  let c1_i32_1097 : BitVec 32 := 1#32
  let c1_i32_1100 : BitVec 32 := 1#32
  let arg11 : BitVec 32 := Scf.iv c1_i32_1097 c1_i32_1100 k0_t4
  let v2315 : BitVec 32 := Scalar.addi v2313 arg11
  let c39_i32_1234 : BitVec 32 := 39#32
  let v2316 : BitVec 32 := Scalar.minsi v2315 c39_i32_1234
  let v2354 : Index := Scalar.indexCast v2316
  let c0_1251 : Index := 0#32
  let c0_1252 : Index := 0#32
  ![v2354.toNat, 0, 0]

def k0_chk49 (v5 : BitVec 32) (k0_t4 : Fin (k0_t4_loop v5).trips) (v2313 : BitVec 32) : Prop :=
  (∀ a, (k0_off98 v5 k0_t4 v2313) a + S1x128x1.size a ≤ S40x128x1.size a) ∧
  (∀ a, (k0_off99 v5 k0_t4 v2313) a + S1x512x128.size a ≤ S40x512x128.size a)
theorem k0_off98_inb : ∀ (v5 : BitVec 32) (k0_t4 : Fin (k0_t4_loop v5).trips) (v2313 : BitVec 32) (k0_hw49 : k0_chk49 v5 k0_t4 v2313), ∀ a, (k0_off98 v5 k0_t4 v2313) a + S1x128x1.size a ≤ S40x128x1.size a := fun v5 k0_t4 v2313 k0_hw49 => k0_hw49.1
theorem k0_off99_inb : ∀ (v5 : BitVec 32) (k0_t4 : Fin (k0_t4_loop v5).trips) (v2313 : BitVec 32) (k0_hw49 : k0_chk49 v5 k0_t4 v2313), ∀ a, (k0_off99 v5 k0_t4 v2313) a + S1x512x128.size a ≤ S40x512x128.size a := fun v5 k0_t4 v2313 k0_hw49 => k0_hw49.2

def k0_off100 (v5 : BitVec 32) (k0_t4 : Fin (k0_t4_loop v5).trips) (v2362 : BitVec 32) : Fin 3 → Nat :=
  let c1_i32_1097 : BitVec 32 := 1#32
  let c1_i32_1100 : BitVec 32 := 1#32
  let arg11 : BitVec 32 := Scf.iv c1_i32_1097 c1_i32_1100 k0_t4
  let v2364 : BitVec 32 := Scalar.addi v2362 arg11
  let c39_i32_1260 : BitVec 32 := 39#32
  let v2365 : BitVec 32 := Scalar.minsi v2364 c39_i32_1260
  let v2369 : Index := Scalar.indexCast v2365
  let c0_1263 : Index := 0#32
  let c0_1264 : Index := 0#32
  ![v2369.toNat, 0, 0]

def k0_off101 (v5 : BitVec 32) (k0_t4 : Fin (k0_t4_loop v5).trips) (v2362 : BitVec 32) : Fin 3 → Nat :=
  let c1_i32_1097 : BitVec 32 := 1#32
  let c1_i32_1100 : BitVec 32 := 1#32
  let arg11 : BitVec 32 := Scf.iv c1_i32_1097 c1_i32_1100 k0_t4
  let v2364 : BitVec 32 := Scalar.addi v2362 arg11
  let c39_i32_1260 : BitVec 32 := 39#32
  let v2365 : BitVec 32 := Scalar.minsi v2364 c39_i32_1260
  let v2403 : Index := Scalar.indexCast v2365
  let c0_1277 : Index := 0#32
  let c0_1278 : Index := 0#32
  ![v2403.toNat, 0, 0]

def k0_chk50 (v5 : BitVec 32) (k0_t4 : Fin (k0_t4_loop v5).trips) (v2362 : BitVec 32) : Prop :=
  (∀ a, (k0_off100 v5 k0_t4 v2362) a + S1x128x1.size a ≤ S40x128x1.size a) ∧
  (∀ a, (k0_off101 v5 k0_t4 v2362) a + S1x512x128.size a ≤ S40x512x128.size a)
theorem k0_off100_inb : ∀ (v5 : BitVec 32) (k0_t4 : Fin (k0_t4_loop v5).trips) (v2362 : BitVec 32) (k0_hw50 : k0_chk50 v5 k0_t4 v2362), ∀ a, (k0_off100 v5 k0_t4 v2362) a + S1x128x1.size a ≤ S40x128x1.size a := fun v5 k0_t4 v2362 k0_hw50 => k0_hw50.1
theorem k0_off101_inb : ∀ (v5 : BitVec 32) (k0_t4 : Fin (k0_t4_loop v5).trips) (v2362 : BitVec 32) (k0_hw50 : k0_chk50 v5 k0_t4 v2362), ∀ a, (k0_off101 v5 k0_t4 v2362) a + S1x512x128.size a ≤ S40x512x128.size a := fun v5 k0_t4 v2362 k0_hw50 => k0_hw50.2

def k0_off102 (v5 : BitVec 32) (k0_t4 : Fin (k0_t4_loop v5).trips) (v2411 : BitVec 32) : Fin 3 → Nat :=
  let c1_i32_1097 : BitVec 32 := 1#32
  let c1_i32_1100 : BitVec 32 := 1#32
  let arg11 : BitVec 32 := Scf.iv c1_i32_1097 c1_i32_1100 k0_t4
  let v2413 : BitVec 32 := Scalar.addi v2411 arg11
  let c39_i32_1286 : BitVec 32 := 39#32
  let v2414 : BitVec 32 := Scalar.minsi v2413 c39_i32_1286
  let v2418 : Index := Scalar.indexCast v2414
  let c0_1289 : Index := 0#32
  let c0_1290 : Index := 0#32
  ![v2418.toNat, 0, 0]

def k0_off103 (v5 : BitVec 32) (k0_t4 : Fin (k0_t4_loop v5).trips) (v2411 : BitVec 32) : Fin 3 → Nat :=
  let c1_i32_1097 : BitVec 32 := 1#32
  let c1_i32_1100 : BitVec 32 := 1#32
  let arg11 : BitVec 32 := Scf.iv c1_i32_1097 c1_i32_1100 k0_t4
  let v2413 : BitVec 32 := Scalar.addi v2411 arg11
  let c39_i32_1286 : BitVec 32 := 39#32
  let v2414 : BitVec 32 := Scalar.minsi v2413 c39_i32_1286
  let v2452 : Index := Scalar.indexCast v2414
  let c0_1303 : Index := 0#32
  let c0_1304 : Index := 0#32
  ![v2452.toNat, 0, 0]

def k0_chk51 (v5 : BitVec 32) (k0_t4 : Fin (k0_t4_loop v5).trips) (v2411 : BitVec 32) : Prop :=
  (∀ a, (k0_off102 v5 k0_t4 v2411) a + S1x128x1.size a ≤ S40x128x1.size a) ∧
  (∀ a, (k0_off103 v5 k0_t4 v2411) a + S1x512x128.size a ≤ S40x512x128.size a)
theorem k0_off102_inb : ∀ (v5 : BitVec 32) (k0_t4 : Fin (k0_t4_loop v5).trips) (v2411 : BitVec 32) (k0_hw51 : k0_chk51 v5 k0_t4 v2411), ∀ a, (k0_off102 v5 k0_t4 v2411) a + S1x128x1.size a ≤ S40x128x1.size a := fun v5 k0_t4 v2411 k0_hw51 => k0_hw51.1
theorem k0_off103_inb : ∀ (v5 : BitVec 32) (k0_t4 : Fin (k0_t4_loop v5).trips) (v2411 : BitVec 32) (k0_hw51 : k0_chk51 v5 k0_t4 v2411), ∀ a, (k0_off103 v5 k0_t4 v2411) a + S1x512x128.size a ≤ S40x512x128.size a := fun v5 k0_t4 v2411 k0_hw51 => k0_hw51.2

def k0_off104 (v5 : BitVec 32) (k0_t4 : Fin (k0_t4_loop v5).trips) (v2460 : BitVec 32) : Fin 3 → Nat :=
  let c1_i32_1097 : BitVec 32 := 1#32
  let c1_i32_1100 : BitVec 32 := 1#32
  let arg11 : BitVec 32 := Scf.iv c1_i32_1097 c1_i32_1100 k0_t4
  let v2462 : BitVec 32 := Scalar.addi v2460 arg11
  let c39_i32_1312 : BitVec 32 := 39#32
  let v2463 : BitVec 32 := Scalar.minsi v2462 c39_i32_1312
  let v2467 : Index := Scalar.indexCast v2463
  let c0_1315 : Index := 0#32
  let c0_1316 : Index := 0#32
  ![v2467.toNat, 0, 0]

def k0_off105 (v5 : BitVec 32) (k0_t4 : Fin (k0_t4_loop v5).trips) (v2460 : BitVec 32) : Fin 3 → Nat :=
  let c1_i32_1097 : BitVec 32 := 1#32
  let c1_i32_1100 : BitVec 32 := 1#32
  let arg11 : BitVec 32 := Scf.iv c1_i32_1097 c1_i32_1100 k0_t4
  let v2462 : BitVec 32 := Scalar.addi v2460 arg11
  let c39_i32_1312 : BitVec 32 := 39#32
  let v2463 : BitVec 32 := Scalar.minsi v2462 c39_i32_1312
  let v2501 : Index := Scalar.indexCast v2463
  let c0_1329 : Index := 0#32
  let c0_1330 : Index := 0#32
  ![v2501.toNat, 0, 0]

def k0_chk52 (v5 : BitVec 32) (k0_t4 : Fin (k0_t4_loop v5).trips) (v2460 : BitVec 32) : Prop :=
  (∀ a, (k0_off104 v5 k0_t4 v2460) a + S1x128x1.size a ≤ S40x128x1.size a) ∧
  (∀ a, (k0_off105 v5 k0_t4 v2460) a + S1x512x128.size a ≤ S40x512x128.size a)
theorem k0_off104_inb : ∀ (v5 : BitVec 32) (k0_t4 : Fin (k0_t4_loop v5).trips) (v2460 : BitVec 32) (k0_hw52 : k0_chk52 v5 k0_t4 v2460), ∀ a, (k0_off104 v5 k0_t4 v2460) a + S1x128x1.size a ≤ S40x128x1.size a := fun v5 k0_t4 v2460 k0_hw52 => k0_hw52.1
theorem k0_off105_inb : ∀ (v5 : BitVec 32) (k0_t4 : Fin (k0_t4_loop v5).trips) (v2460 : BitVec 32) (k0_hw52 : k0_chk52 v5 k0_t4 v2460), ∀ a, (k0_off105 v5 k0_t4 v2460) a + S1x512x128.size a ≤ S40x512x128.size a := fun v5 k0_t4 v2460 k0_hw52 => k0_hw52.2

def k0_off106 (v5 : BitVec 32) (k0_t4 : Fin (k0_t4_loop v5).trips) (v2509 : BitVec 32) : Fin 3 → Nat :=
  let c1_i32_1097 : BitVec 32 := 1#32
  let c1_i32_1100 : BitVec 32 := 1#32
  let arg11 : BitVec 32 := Scf.iv c1_i32_1097 c1_i32_1100 k0_t4
  let v2511 : BitVec 32 := Scalar.addi v2509 arg11
  let c39_i32_1338 : BitVec 32 := 39#32
  let v2512 : BitVec 32 := Scalar.minsi v2511 c39_i32_1338
  let v2516 : Index := Scalar.indexCast v2512
  let c0_1341 : Index := 0#32
  let c0_1342 : Index := 0#32
  ![v2516.toNat, 0, 0]

def k0_off107 (v5 : BitVec 32) (k0_t4 : Fin (k0_t4_loop v5).trips) (v2509 : BitVec 32) : Fin 3 → Nat :=
  let c1_i32_1097 : BitVec 32 := 1#32
  let c1_i32_1100 : BitVec 32 := 1#32
  let arg11 : BitVec 32 := Scf.iv c1_i32_1097 c1_i32_1100 k0_t4
  let v2511 : BitVec 32 := Scalar.addi v2509 arg11
  let c39_i32_1338 : BitVec 32 := 39#32
  let v2512 : BitVec 32 := Scalar.minsi v2511 c39_i32_1338
  let v2550 : Index := Scalar.indexCast v2512
  let c0_1355 : Index := 0#32
  let c0_1356 : Index := 0#32
  ![v2550.toNat, 0, 0]

def k0_chk53 (v5 : BitVec 32) (k0_t4 : Fin (k0_t4_loop v5).trips) (v2509 : BitVec 32) : Prop :=
  (∀ a, (k0_off106 v5 k0_t4 v2509) a + S1x128x1.size a ≤ S40x128x1.size a) ∧
  (∀ a, (k0_off107 v5 k0_t4 v2509) a + S1x512x128.size a ≤ S40x512x128.size a)
theorem k0_off106_inb : ∀ (v5 : BitVec 32) (k0_t4 : Fin (k0_t4_loop v5).trips) (v2509 : BitVec 32) (k0_hw53 : k0_chk53 v5 k0_t4 v2509), ∀ a, (k0_off106 v5 k0_t4 v2509) a + S1x128x1.size a ≤ S40x128x1.size a := fun v5 k0_t4 v2509 k0_hw53 => k0_hw53.1
theorem k0_off107_inb : ∀ (v5 : BitVec 32) (k0_t4 : Fin (k0_t4_loop v5).trips) (v2509 : BitVec 32) (k0_hw53 : k0_chk53 v5 k0_t4 v2509), ∀ a, (k0_off107 v5 k0_t4 v2509) a + S1x512x128.size a ≤ S40x512x128.size a := fun v5 k0_t4 v2509 k0_hw53 => k0_hw53.2

def k0_off108 (v5 : BitVec 32) (k0_t4 : Fin (k0_t4_loop v5).trips) (v2558 : BitVec 32) : Fin 3 → Nat :=
  let c1_i32_1097 : BitVec 32 := 1#32
  let c1_i32_1100 : BitVec 32 := 1#32
  let arg11 : BitVec 32 := Scf.iv c1_i32_1097 c1_i32_1100 k0_t4
  let v2560 : BitVec 32 := Scalar.addi v2558 arg11
  let c39_i32_1364 : BitVec 32 := 39#32
  let v2561 : BitVec 32 := Scalar.minsi v2560 c39_i32_1364
  let v2565 : Index := Scalar.indexCast v2561
  let c0_1367 : Index := 0#32
  let c0_1368 : Index := 0#32
  ![v2565.toNat, 0, 0]

def k0_off109 (v5 : BitVec 32) (k0_t4 : Fin (k0_t4_loop v5).trips) (v2558 : BitVec 32) : Fin 3 → Nat :=
  let c1_i32_1097 : BitVec 32 := 1#32
  let c1_i32_1100 : BitVec 32 := 1#32
  let arg11 : BitVec 32 := Scf.iv c1_i32_1097 c1_i32_1100 k0_t4
  let v2560 : BitVec 32 := Scalar.addi v2558 arg11
  let c39_i32_1364 : BitVec 32 := 39#32
  let v2561 : BitVec 32 := Scalar.minsi v2560 c39_i32_1364
  let v2599 : Index := Scalar.indexCast v2561
  let c0_1381 : Index := 0#32
  let c0_1382 : Index := 0#32
  ![v2599.toNat, 0, 0]

def k0_chk54 (v5 : BitVec 32) (k0_t4 : Fin (k0_t4_loop v5).trips) (v2558 : BitVec 32) : Prop :=
  (∀ a, (k0_off108 v5 k0_t4 v2558) a + S1x128x1.size a ≤ S40x128x1.size a) ∧
  (∀ a, (k0_off109 v5 k0_t4 v2558) a + S1x512x128.size a ≤ S40x512x128.size a)
theorem k0_off108_inb : ∀ (v5 : BitVec 32) (k0_t4 : Fin (k0_t4_loop v5).trips) (v2558 : BitVec 32) (k0_hw54 : k0_chk54 v5 k0_t4 v2558), ∀ a, (k0_off108 v5 k0_t4 v2558) a + S1x128x1.size a ≤ S40x128x1.size a := fun v5 k0_t4 v2558 k0_hw54 => k0_hw54.1
theorem k0_off109_inb : ∀ (v5 : BitVec 32) (k0_t4 : Fin (k0_t4_loop v5).trips) (v2558 : BitVec 32) (k0_hw54 : k0_chk54 v5 k0_t4 v2558), ∀ a, (k0_off109 v5 k0_t4 v2558) a + S1x512x128.size a ≤ S40x512x128.size a := fun v5 k0_t4 v2558 k0_hw54 => k0_hw54.2

def k0_off110 (v5 : BitVec 32) (k0_t4 : Fin (k0_t4_loop v5).trips) (v2607 : BitVec 32) : Fin 3 → Nat :=
  let c1_i32_1097 : BitVec 32 := 1#32
  let c1_i32_1100 : BitVec 32 := 1#32
  let arg11 : BitVec 32 := Scf.iv c1_i32_1097 c1_i32_1100 k0_t4
  let v2609 : BitVec 32 := Scalar.addi v2607 arg11
  let c39_i32_1390 : BitVec 32 := 39#32
  let v2610 : BitVec 32 := Scalar.minsi v2609 c39_i32_1390
  let v2614 : Index := Scalar.indexCast v2610
  let c0_1393 : Index := 0#32
  let c0_1394 : Index := 0#32
  ![v2614.toNat, 0, 0]

def k0_off111 (v5 : BitVec 32) (k0_t4 : Fin (k0_t4_loop v5).trips) (v2607 : BitVec 32) : Fin 3 → Nat :=
  let c1_i32_1097 : BitVec 32 := 1#32
  let c1_i32_1100 : BitVec 32 := 1#32
  let arg11 : BitVec 32 := Scf.iv c1_i32_1097 c1_i32_1100 k0_t4
  let v2609 : BitVec 32 := Scalar.addi v2607 arg11
  let c39_i32_1390 : BitVec 32 := 39#32
  let v2610 : BitVec 32 := Scalar.minsi v2609 c39_i32_1390
  let v2648 : Index := Scalar.indexCast v2610
  let c0_1407 : Index := 0#32
  let c0_1408 : Index := 0#32
  ![v2648.toNat, 0, 0]

def k0_chk55 (v5 : BitVec 32) (k0_t4 : Fin (k0_t4_loop v5).trips) (v2607 : BitVec 32) : Prop :=
  (∀ a, (k0_off110 v5 k0_t4 v2607) a + S1x128x1.size a ≤ S40x128x1.size a) ∧
  (∀ a, (k0_off111 v5 k0_t4 v2607) a + S1x512x128.size a ≤ S40x512x128.size a)
theorem k0_off110_inb : ∀ (v5 : BitVec 32) (k0_t4 : Fin (k0_t4_loop v5).trips) (v2607 : BitVec 32) (k0_hw55 : k0_chk55 v5 k0_t4 v2607), ∀ a, (k0_off110 v5 k0_t4 v2607) a + S1x128x1.size a ≤ S40x128x1.size a := fun v5 k0_t4 v2607 k0_hw55 => k0_hw55.1
theorem k0_off111_inb : ∀ (v5 : BitVec 32) (k0_t4 : Fin (k0_t4_loop v5).trips) (v2607 : BitVec 32) (k0_hw55 : k0_chk55 v5 k0_t4 v2607), ∀ a, (k0_off111 v5 k0_t4 v2607) a + S1x512x128.size a ≤ S40x512x128.size a := fun v5 k0_t4 v2607 k0_hw55 => k0_hw55.2

def k0_off112 (v5 : BitVec 32) (k0_t4 : Fin (k0_t4_loop v5).trips) (v2656 : BitVec 32) : Fin 3 → Nat :=
  let c1_i32_1097 : BitVec 32 := 1#32
  let c1_i32_1100 : BitVec 32 := 1#32
  let arg11 : BitVec 32 := Scf.iv c1_i32_1097 c1_i32_1100 k0_t4
  let v2658 : BitVec 32 := Scalar.addi v2656 arg11
  let c39_i32_1416 : BitVec 32 := 39#32
  let v2659 : BitVec 32 := Scalar.minsi v2658 c39_i32_1416
  let v2663 : Index := Scalar.indexCast v2659
  let c0_1419 : Index := 0#32
  let c0_1420 : Index := 0#32
  ![v2663.toNat, 0, 0]

def k0_off113 (v5 : BitVec 32) (k0_t4 : Fin (k0_t4_loop v5).trips) (v2656 : BitVec 32) : Fin 3 → Nat :=
  let c1_i32_1097 : BitVec 32 := 1#32
  let c1_i32_1100 : BitVec 32 := 1#32
  let arg11 : BitVec 32 := Scf.iv c1_i32_1097 c1_i32_1100 k0_t4
  let v2658 : BitVec 32 := Scalar.addi v2656 arg11
  let c39_i32_1416 : BitVec 32 := 39#32
  let v2659 : BitVec 32 := Scalar.minsi v2658 c39_i32_1416
  let v2697 : Index := Scalar.indexCast v2659
  let c0_1433 : Index := 0#32
  let c0_1434 : Index := 0#32
  ![v2697.toNat, 0, 0]

def k0_chk56 (v5 : BitVec 32) (k0_t4 : Fin (k0_t4_loop v5).trips) (v2656 : BitVec 32) : Prop :=
  (∀ a, (k0_off112 v5 k0_t4 v2656) a + S1x128x1.size a ≤ S40x128x1.size a) ∧
  (∀ a, (k0_off113 v5 k0_t4 v2656) a + S1x512x128.size a ≤ S40x512x128.size a)
theorem k0_off112_inb : ∀ (v5 : BitVec 32) (k0_t4 : Fin (k0_t4_loop v5).trips) (v2656 : BitVec 32) (k0_hw56 : k0_chk56 v5 k0_t4 v2656), ∀ a, (k0_off112 v5 k0_t4 v2656) a + S1x128x1.size a ≤ S40x128x1.size a := fun v5 k0_t4 v2656 k0_hw56 => k0_hw56.1
theorem k0_off113_inb : ∀ (v5 : BitVec 32) (k0_t4 : Fin (k0_t4_loop v5).trips) (v2656 : BitVec 32) (k0_hw56 : k0_chk56 v5 k0_t4 v2656), ∀ a, (k0_off113 v5 k0_t4 v2656) a + S1x512x128.size a ≤ S40x512x128.size a := fun v5 k0_t4 v2656 k0_hw56 => k0_hw56.2

def k0_off114 (v5 : BitVec 32) (k0_t4 : Fin (k0_t4_loop v5).trips) (v2705 : BitVec 32) : Fin 3 → Nat :=
  let c1_i32_1097 : BitVec 32 := 1#32
  let c1_i32_1100 : BitVec 32 := 1#32
  let arg11 : BitVec 32 := Scf.iv c1_i32_1097 c1_i32_1100 k0_t4
  let v2707 : BitVec 32 := Scalar.addi v2705 arg11
  let c39_i32_1442 : BitVec 32 := 39#32
  let v2708 : BitVec 32 := Scalar.minsi v2707 c39_i32_1442
  let v2712 : Index := Scalar.indexCast v2708
  let c0_1445 : Index := 0#32
  let c0_1446 : Index := 0#32
  ![v2712.toNat, 0, 0]

def k0_off115 (v5 : BitVec 32) (k0_t4 : Fin (k0_t4_loop v5).trips) (v2705 : BitVec 32) : Fin 3 → Nat :=
  let c1_i32_1097 : BitVec 32 := 1#32
  let c1_i32_1100 : BitVec 32 := 1#32
  let arg11 : BitVec 32 := Scf.iv c1_i32_1097 c1_i32_1100 k0_t4
  let v2707 : BitVec 32 := Scalar.addi v2705 arg11
  let c39_i32_1442 : BitVec 32 := 39#32
  let v2708 : BitVec 32 := Scalar.minsi v2707 c39_i32_1442
  let v2746 : Index := Scalar.indexCast v2708
  let c0_1459 : Index := 0#32
  let c0_1460 : Index := 0#32
  ![v2746.toNat, 0, 0]

def k0_chk57 (v5 : BitVec 32) (k0_t4 : Fin (k0_t4_loop v5).trips) (v2705 : BitVec 32) : Prop :=
  (∀ a, (k0_off114 v5 k0_t4 v2705) a + S1x128x1.size a ≤ S40x128x1.size a) ∧
  (∀ a, (k0_off115 v5 k0_t4 v2705) a + S1x512x128.size a ≤ S40x512x128.size a)
theorem k0_off114_inb : ∀ (v5 : BitVec 32) (k0_t4 : Fin (k0_t4_loop v5).trips) (v2705 : BitVec 32) (k0_hw57 : k0_chk57 v5 k0_t4 v2705), ∀ a, (k0_off114 v5 k0_t4 v2705) a + S1x128x1.size a ≤ S40x128x1.size a := fun v5 k0_t4 v2705 k0_hw57 => k0_hw57.1
theorem k0_off115_inb : ∀ (v5 : BitVec 32) (k0_t4 : Fin (k0_t4_loop v5).trips) (v2705 : BitVec 32) (k0_hw57 : k0_chk57 v5 k0_t4 v2705), ∀ a, (k0_off115 v5 k0_t4 v2705) a + S1x512x128.size a ≤ S40x512x128.size a := fun v5 k0_t4 v2705 k0_hw57 => k0_hw57.2

def k0_off116 (v5 : BitVec 32) (k0_t4 : Fin (k0_t4_loop v5).trips) (v2754 : BitVec 32) : Fin 3 → Nat :=
  let c1_i32_1097 : BitVec 32 := 1#32
  let c1_i32_1100 : BitVec 32 := 1#32
  let arg11 : BitVec 32 := Scf.iv c1_i32_1097 c1_i32_1100 k0_t4
  let v2756 : BitVec 32 := Scalar.addi v2754 arg11
  let c39_i32_1468 : BitVec 32 := 39#32
  let v2757 : BitVec 32 := Scalar.minsi v2756 c39_i32_1468
  let v2761 : Index := Scalar.indexCast v2757
  let c0_1471 : Index := 0#32
  let c0_1472 : Index := 0#32
  ![v2761.toNat, 0, 0]

def k0_off117 (v5 : BitVec 32) (k0_t4 : Fin (k0_t4_loop v5).trips) (v2754 : BitVec 32) : Fin 3 → Nat :=
  let c1_i32_1097 : BitVec 32 := 1#32
  let c1_i32_1100 : BitVec 32 := 1#32
  let arg11 : BitVec 32 := Scf.iv c1_i32_1097 c1_i32_1100 k0_t4
  let v2756 : BitVec 32 := Scalar.addi v2754 arg11
  let c39_i32_1468 : BitVec 32 := 39#32
  let v2757 : BitVec 32 := Scalar.minsi v2756 c39_i32_1468
  let v2795 : Index := Scalar.indexCast v2757
  let c0_1485 : Index := 0#32
  let c0_1486 : Index := 0#32
  ![v2795.toNat, 0, 0]

def k0_chk58 (v5 : BitVec 32) (k0_t4 : Fin (k0_t4_loop v5).trips) (v2754 : BitVec 32) : Prop :=
  (∀ a, (k0_off116 v5 k0_t4 v2754) a + S1x128x1.size a ≤ S40x128x1.size a) ∧
  (∀ a, (k0_off117 v5 k0_t4 v2754) a + S1x512x128.size a ≤ S40x512x128.size a)
theorem k0_off116_inb : ∀ (v5 : BitVec 32) (k0_t4 : Fin (k0_t4_loop v5).trips) (v2754 : BitVec 32) (k0_hw58 : k0_chk58 v5 k0_t4 v2754), ∀ a, (k0_off116 v5 k0_t4 v2754) a + S1x128x1.size a ≤ S40x128x1.size a := fun v5 k0_t4 v2754 k0_hw58 => k0_hw58.1
theorem k0_off117_inb : ∀ (v5 : BitVec 32) (k0_t4 : Fin (k0_t4_loop v5).trips) (v2754 : BitVec 32) (k0_hw58 : k0_chk58 v5 k0_t4 v2754), ∀ a, (k0_off117 v5 k0_t4 v2754) a + S1x512x128.size a ≤ S40x512x128.size a := fun v5 k0_t4 v2754 k0_hw58 => k0_hw58.2

def k0_off118 (v5 : BitVec 32) (k0_t4 : Fin (k0_t4_loop v5).trips) (v2803 : BitVec 32) : Fin 3 → Nat :=
  let c1_i32_1097 : BitVec 32 := 1#32
  let c1_i32_1100 : BitVec 32 := 1#32
  let arg11 : BitVec 32 := Scf.iv c1_i32_1097 c1_i32_1100 k0_t4
  let v2805 : BitVec 32 := Scalar.addi v2803 arg11
  let c39_i32_1494 : BitVec 32 := 39#32
  let v2806 : BitVec 32 := Scalar.minsi v2805 c39_i32_1494
  let v2810 : Index := Scalar.indexCast v2806
  let c0_1497 : Index := 0#32
  let c0_1498 : Index := 0#32
  ![v2810.toNat, 0, 0]

def k0_off119 (v5 : BitVec 32) (k0_t4 : Fin (k0_t4_loop v5).trips) (v2803 : BitVec 32) : Fin 3 → Nat :=
  let c1_i32_1097 : BitVec 32 := 1#32
  let c1_i32_1100 : BitVec 32 := 1#32
  let arg11 : BitVec 32 := Scf.iv c1_i32_1097 c1_i32_1100 k0_t4
  let v2805 : BitVec 32 := Scalar.addi v2803 arg11
  let c39_i32_1494 : BitVec 32 := 39#32
  let v2806 : BitVec 32 := Scalar.minsi v2805 c39_i32_1494
  let v2844 : Index := Scalar.indexCast v2806
  let c0_1511 : Index := 0#32
  let c0_1512 : Index := 0#32
  ![v2844.toNat, 0, 0]

def k0_chk59 (v5 : BitVec 32) (k0_t4 : Fin (k0_t4_loop v5).trips) (v2803 : BitVec 32) : Prop :=
  (∀ a, (k0_off118 v5 k0_t4 v2803) a + S1x128x1.size a ≤ S40x128x1.size a) ∧
  (∀ a, (k0_off119 v5 k0_t4 v2803) a + S1x512x128.size a ≤ S40x512x128.size a)
theorem k0_off118_inb : ∀ (v5 : BitVec 32) (k0_t4 : Fin (k0_t4_loop v5).trips) (v2803 : BitVec 32) (k0_hw59 : k0_chk59 v5 k0_t4 v2803), ∀ a, (k0_off118 v5 k0_t4 v2803) a + S1x128x1.size a ≤ S40x128x1.size a := fun v5 k0_t4 v2803 k0_hw59 => k0_hw59.1
theorem k0_off119_inb : ∀ (v5 : BitVec 32) (k0_t4 : Fin (k0_t4_loop v5).trips) (v2803 : BitVec 32) (k0_hw59 : k0_chk59 v5 k0_t4 v2803), ∀ a, (k0_off119 v5 k0_t4 v2803) a + S1x512x128.size a ≤ S40x512x128.size a := fun v5 k0_t4 v2803 k0_hw59 => k0_hw59.2

def k0_off120 (v5 : BitVec 32) (k0_t4 : Fin (k0_t4_loop v5).trips) (v2852 : BitVec 32) : Fin 3 → Nat :=
  let c1_i32_1097 : BitVec 32 := 1#32
  let c1_i32_1100 : BitVec 32 := 1#32
  let arg11 : BitVec 32 := Scf.iv c1_i32_1097 c1_i32_1100 k0_t4
  let v2854 : BitVec 32 := Scalar.addi v2852 arg11
  let c39_i32_1520 : BitVec 32 := 39#32
  let v2855 : BitVec 32 := Scalar.minsi v2854 c39_i32_1520
  let v2859 : Index := Scalar.indexCast v2855
  let c0_1523 : Index := 0#32
  let c0_1524 : Index := 0#32
  ![v2859.toNat, 0, 0]

def k0_off121 (v5 : BitVec 32) (k0_t4 : Fin (k0_t4_loop v5).trips) (v2852 : BitVec 32) : Fin 3 → Nat :=
  let c1_i32_1097 : BitVec 32 := 1#32
  let c1_i32_1100 : BitVec 32 := 1#32
  let arg11 : BitVec 32 := Scf.iv c1_i32_1097 c1_i32_1100 k0_t4
  let v2854 : BitVec 32 := Scalar.addi v2852 arg11
  let c39_i32_1520 : BitVec 32 := 39#32
  let v2855 : BitVec 32 := Scalar.minsi v2854 c39_i32_1520
  let v2893 : Index := Scalar.indexCast v2855
  let c0_1537 : Index := 0#32
  let c0_1538 : Index := 0#32
  ![v2893.toNat, 0, 0]

def k0_chk60 (v5 : BitVec 32) (k0_t4 : Fin (k0_t4_loop v5).trips) (v2852 : BitVec 32) : Prop :=
  (∀ a, (k0_off120 v5 k0_t4 v2852) a + S1x128x1.size a ≤ S40x128x1.size a) ∧
  (∀ a, (k0_off121 v5 k0_t4 v2852) a + S1x512x128.size a ≤ S40x512x128.size a)
theorem k0_off120_inb : ∀ (v5 : BitVec 32) (k0_t4 : Fin (k0_t4_loop v5).trips) (v2852 : BitVec 32) (k0_hw60 : k0_chk60 v5 k0_t4 v2852), ∀ a, (k0_off120 v5 k0_t4 v2852) a + S1x128x1.size a ≤ S40x128x1.size a := fun v5 k0_t4 v2852 k0_hw60 => k0_hw60.1
theorem k0_off121_inb : ∀ (v5 : BitVec 32) (k0_t4 : Fin (k0_t4_loop v5).trips) (v2852 : BitVec 32) (k0_hw60 : k0_chk60 v5 k0_t4 v2852), ∀ a, (k0_off121 v5 k0_t4 v2852) a + S1x512x128.size a ≤ S40x512x128.size a := fun v5 k0_t4 v2852 k0_hw60 => k0_hw60.2

def k0_off122 (v5 : BitVec 32) (k0_t4 : Fin (k0_t4_loop v5).trips) (v2901 : BitVec 32) : Fin 3 → Nat :=
  let c1_i32_1097 : BitVec 32 := 1#32
  let c1_i32_1100 : BitVec 32 := 1#32
  let arg11 : BitVec 32 := Scf.iv c1_i32_1097 c1_i32_1100 k0_t4
  let v2903 : BitVec 32 := Scalar.addi v2901 arg11
  let c39_i32_1546 : BitVec 32 := 39#32
  let v2904 : BitVec 32 := Scalar.minsi v2903 c39_i32_1546
  let v2908 : Index := Scalar.indexCast v2904
  let c0_1549 : Index := 0#32
  let c0_1550 : Index := 0#32
  ![v2908.toNat, 0, 0]

def k0_off123 (v5 : BitVec 32) (k0_t4 : Fin (k0_t4_loop v5).trips) (v2901 : BitVec 32) : Fin 3 → Nat :=
  let c1_i32_1097 : BitVec 32 := 1#32
  let c1_i32_1100 : BitVec 32 := 1#32
  let arg11 : BitVec 32 := Scf.iv c1_i32_1097 c1_i32_1100 k0_t4
  let v2903 : BitVec 32 := Scalar.addi v2901 arg11
  let c39_i32_1546 : BitVec 32 := 39#32
  let v2904 : BitVec 32 := Scalar.minsi v2903 c39_i32_1546
  let v2942 : Index := Scalar.indexCast v2904
  let c0_1563 : Index := 0#32
  let c0_1564 : Index := 0#32
  ![v2942.toNat, 0, 0]

def k0_chk61 (v5 : BitVec 32) (k0_t4 : Fin (k0_t4_loop v5).trips) (v2901 : BitVec 32) : Prop :=
  (∀ a, (k0_off122 v5 k0_t4 v2901) a + S1x128x1.size a ≤ S40x128x1.size a) ∧
  (∀ a, (k0_off123 v5 k0_t4 v2901) a + S1x512x128.size a ≤ S40x512x128.size a)
theorem k0_off122_inb : ∀ (v5 : BitVec 32) (k0_t4 : Fin (k0_t4_loop v5).trips) (v2901 : BitVec 32) (k0_hw61 : k0_chk61 v5 k0_t4 v2901), ∀ a, (k0_off122 v5 k0_t4 v2901) a + S1x128x1.size a ≤ S40x128x1.size a := fun v5 k0_t4 v2901 k0_hw61 => k0_hw61.1
theorem k0_off123_inb : ∀ (v5 : BitVec 32) (k0_t4 : Fin (k0_t4_loop v5).trips) (v2901 : BitVec 32) (k0_hw61 : k0_chk61 v5 k0_t4 v2901), ∀ a, (k0_off123 v5 k0_t4 v2901) a + S1x512x128.size a ≤ S40x512x128.size a := fun v5 k0_t4 v2901 k0_hw61 => k0_hw61.2

def k0_off124 (v5 : BitVec 32) (k0_t4 : Fin (k0_t4_loop v5).trips) (v2950 : BitVec 32) : Fin 3 → Nat :=
  let c1_i32_1097 : BitVec 32 := 1#32
  let c1_i32_1100 : BitVec 32 := 1#32
  let arg11 : BitVec 32 := Scf.iv c1_i32_1097 c1_i32_1100 k0_t4
  let v2952 : BitVec 32 := Scalar.addi v2950 arg11
  let c39_i32_1572 : BitVec 32 := 39#32
  let v2953 : BitVec 32 := Scalar.minsi v2952 c39_i32_1572
  let v2957 : Index := Scalar.indexCast v2953
  let c0_1575 : Index := 0#32
  let c0_1576 : Index := 0#32
  ![v2957.toNat, 0, 0]

def k0_off125 (v5 : BitVec 32) (k0_t4 : Fin (k0_t4_loop v5).trips) (v2950 : BitVec 32) : Fin 3 → Nat :=
  let c1_i32_1097 : BitVec 32 := 1#32
  let c1_i32_1100 : BitVec 32 := 1#32
  let arg11 : BitVec 32 := Scf.iv c1_i32_1097 c1_i32_1100 k0_t4
  let v2952 : BitVec 32 := Scalar.addi v2950 arg11
  let c39_i32_1572 : BitVec 32 := 39#32
  let v2953 : BitVec 32 := Scalar.minsi v2952 c39_i32_1572
  let v2991 : Index := Scalar.indexCast v2953
  let c0_1589 : Index := 0#32
  let c0_1590 : Index := 0#32
  ![v2991.toNat, 0, 0]

def k0_chk62 (v5 : BitVec 32) (k0_t4 : Fin (k0_t4_loop v5).trips) (v2950 : BitVec 32) : Prop :=
  (∀ a, (k0_off124 v5 k0_t4 v2950) a + S1x128x1.size a ≤ S40x128x1.size a) ∧
  (∀ a, (k0_off125 v5 k0_t4 v2950) a + S1x512x128.size a ≤ S40x512x128.size a)
theorem k0_off124_inb : ∀ (v5 : BitVec 32) (k0_t4 : Fin (k0_t4_loop v5).trips) (v2950 : BitVec 32) (k0_hw62 : k0_chk62 v5 k0_t4 v2950), ∀ a, (k0_off124 v5 k0_t4 v2950) a + S1x128x1.size a ≤ S40x128x1.size a := fun v5 k0_t4 v2950 k0_hw62 => k0_hw62.1
theorem k0_off125_inb : ∀ (v5 : BitVec 32) (k0_t4 : Fin (k0_t4_loop v5).trips) (v2950 : BitVec 32) (k0_hw62 : k0_chk62 v5 k0_t4 v2950), ∀ a, (k0_off125 v5 k0_t4 v2950) a + S1x512x128.size a ≤ S40x512x128.size a := fun v5 k0_t4 v2950 k0_hw62 => k0_hw62.2

def k0_off126 (v5 : BitVec 32) (k0_t4 : Fin (k0_t4_loop v5).trips) (v2999 : BitVec 32) : Fin 3 → Nat :=
  let c1_i32_1097 : BitVec 32 := 1#32
  let c1_i32_1100 : BitVec 32 := 1#32
  let arg11 : BitVec 32 := Scf.iv c1_i32_1097 c1_i32_1100 k0_t4
  let v3001 : BitVec 32 := Scalar.addi v2999 arg11
  let c39_i32_1598 : BitVec 32 := 39#32
  let v3002 : BitVec 32 := Scalar.minsi v3001 c39_i32_1598
  let v3006 : Index := Scalar.indexCast v3002
  let c0_1601 : Index := 0#32
  let c0_1602 : Index := 0#32
  ![v3006.toNat, 0, 0]

def k0_off127 (v5 : BitVec 32) (k0_t4 : Fin (k0_t4_loop v5).trips) (v2999 : BitVec 32) : Fin 3 → Nat :=
  let c1_i32_1097 : BitVec 32 := 1#32
  let c1_i32_1100 : BitVec 32 := 1#32
  let arg11 : BitVec 32 := Scf.iv c1_i32_1097 c1_i32_1100 k0_t4
  let v3001 : BitVec 32 := Scalar.addi v2999 arg11
  let c39_i32_1598 : BitVec 32 := 39#32
  let v3002 : BitVec 32 := Scalar.minsi v3001 c39_i32_1598
  let v3040 : Index := Scalar.indexCast v3002
  let c0_1615 : Index := 0#32
  let c0_1616 : Index := 0#32
  ![v3040.toNat, 0, 0]

def k0_chk63 (v5 : BitVec 32) (k0_t4 : Fin (k0_t4_loop v5).trips) (v2999 : BitVec 32) : Prop :=
  (∀ a, (k0_off126 v5 k0_t4 v2999) a + S1x128x1.size a ≤ S40x128x1.size a) ∧
  (∀ a, (k0_off127 v5 k0_t4 v2999) a + S1x512x128.size a ≤ S40x512x128.size a)
theorem k0_off126_inb : ∀ (v5 : BitVec 32) (k0_t4 : Fin (k0_t4_loop v5).trips) (v2999 : BitVec 32) (k0_hw63 : k0_chk63 v5 k0_t4 v2999), ∀ a, (k0_off126 v5 k0_t4 v2999) a + S1x128x1.size a ≤ S40x128x1.size a := fun v5 k0_t4 v2999 k0_hw63 => k0_hw63.1
theorem k0_off127_inb : ∀ (v5 : BitVec 32) (k0_t4 : Fin (k0_t4_loop v5).trips) (v2999 : BitVec 32) (k0_hw63 : k0_chk63 v5 k0_t4 v2999), ∀ a, (k0_off127 v5 k0_t4 v2999) a + S1x512x128.size a ≤ S40x512x128.size a := fun v5 k0_t4 v2999 k0_hw63 => k0_hw63.2

def k0_off128 (v5 : BitVec 32) (k0_t4 : Fin (k0_t4_loop v5).trips) (v3048 : BitVec 32) : Fin 3 → Nat :=
  let c1_i32_1097 : BitVec 32 := 1#32
  let c1_i32_1100 : BitVec 32 := 1#32
  let arg11 : BitVec 32 := Scf.iv c1_i32_1097 c1_i32_1100 k0_t4
  let v3050 : BitVec 32 := Scalar.addi v3048 arg11
  let c39_i32_1624 : BitVec 32 := 39#32
  let v3051 : BitVec 32 := Scalar.minsi v3050 c39_i32_1624
  let v3055 : Index := Scalar.indexCast v3051
  let c0_1627 : Index := 0#32
  let c0_1628 : Index := 0#32
  ![v3055.toNat, 0, 0]

def k0_off129 (v5 : BitVec 32) (k0_t4 : Fin (k0_t4_loop v5).trips) (v3048 : BitVec 32) : Fin 3 → Nat :=
  let c1_i32_1097 : BitVec 32 := 1#32
  let c1_i32_1100 : BitVec 32 := 1#32
  let arg11 : BitVec 32 := Scf.iv c1_i32_1097 c1_i32_1100 k0_t4
  let v3050 : BitVec 32 := Scalar.addi v3048 arg11
  let c39_i32_1624 : BitVec 32 := 39#32
  let v3051 : BitVec 32 := Scalar.minsi v3050 c39_i32_1624
  let v3089 : Index := Scalar.indexCast v3051
  let c0_1641 : Index := 0#32
  let c0_1642 : Index := 0#32
  ![v3089.toNat, 0, 0]

def k0_chk64 (v5 : BitVec 32) (k0_t4 : Fin (k0_t4_loop v5).trips) (v3048 : BitVec 32) : Prop :=
  (∀ a, (k0_off128 v5 k0_t4 v3048) a + S1x128x1.size a ≤ S40x128x1.size a) ∧
  (∀ a, (k0_off129 v5 k0_t4 v3048) a + S1x512x128.size a ≤ S40x512x128.size a)
theorem k0_off128_inb : ∀ (v5 : BitVec 32) (k0_t4 : Fin (k0_t4_loop v5).trips) (v3048 : BitVec 32) (k0_hw64 : k0_chk64 v5 k0_t4 v3048), ∀ a, (k0_off128 v5 k0_t4 v3048) a + S1x128x1.size a ≤ S40x128x1.size a := fun v5 k0_t4 v3048 k0_hw64 => k0_hw64.1
theorem k0_off129_inb : ∀ (v5 : BitVec 32) (k0_t4 : Fin (k0_t4_loop v5).trips) (v3048 : BitVec 32) (k0_hw64 : k0_chk64 v5 k0_t4 v3048), ∀ a, (k0_off129 v5 k0_t4 v3048) a + S1x512x128.size a ≤ S40x512x128.size a := fun v5 k0_t4 v3048 k0_hw64 => k0_hw64.2

def k0_off130 (v5 : BitVec 32) (k0_t4 : Fin (k0_t4_loop v5).trips) (v3097 : BitVec 32) : Fin 3 → Nat :=
  let c1_i32_1097 : BitVec 32 := 1#32
  let c1_i32_1100 : BitVec 32 := 1#32
  let arg11 : BitVec 32 := Scf.iv c1_i32_1097 c1_i32_1100 k0_t4
  let v3099 : BitVec 32 := Scalar.addi v3097 arg11
  let c39_i32_1650 : BitVec 32 := 39#32
  let v3100 : BitVec 32 := Scalar.minsi v3099 c39_i32_1650
  let v3104 : Index := Scalar.indexCast v3100
  let c0_1653 : Index := 0#32
  let c0_1654 : Index := 0#32
  ![v3104.toNat, 0, 0]

def k0_off131 (v5 : BitVec 32) (k0_t4 : Fin (k0_t4_loop v5).trips) (v3097 : BitVec 32) : Fin 3 → Nat :=
  let c1_i32_1097 : BitVec 32 := 1#32
  let c1_i32_1100 : BitVec 32 := 1#32
  let arg11 : BitVec 32 := Scf.iv c1_i32_1097 c1_i32_1100 k0_t4
  let v3099 : BitVec 32 := Scalar.addi v3097 arg11
  let c39_i32_1650 : BitVec 32 := 39#32
  let v3100 : BitVec 32 := Scalar.minsi v3099 c39_i32_1650
  let v3138 : Index := Scalar.indexCast v3100
  let c0_1667 : Index := 0#32
  let c0_1668 : Index := 0#32
  ![v3138.toNat, 0, 0]

def k0_chk65 (v5 : BitVec 32) (k0_t4 : Fin (k0_t4_loop v5).trips) (v3097 : BitVec 32) : Prop :=
  (∀ a, (k0_off130 v5 k0_t4 v3097) a + S1x128x1.size a ≤ S40x128x1.size a) ∧
  (∀ a, (k0_off131 v5 k0_t4 v3097) a + S1x512x128.size a ≤ S40x512x128.size a)
theorem k0_off130_inb : ∀ (v5 : BitVec 32) (k0_t4 : Fin (k0_t4_loop v5).trips) (v3097 : BitVec 32) (k0_hw65 : k0_chk65 v5 k0_t4 v3097), ∀ a, (k0_off130 v5 k0_t4 v3097) a + S1x128x1.size a ≤ S40x128x1.size a := fun v5 k0_t4 v3097 k0_hw65 => k0_hw65.1
theorem k0_off131_inb : ∀ (v5 : BitVec 32) (k0_t4 : Fin (k0_t4_loop v5).trips) (v3097 : BitVec 32) (k0_hw65 : k0_chk65 v5 k0_t4 v3097), ∀ a, (k0_off131 v5 k0_t4 v3097) a + S1x512x128.size a ≤ S40x512x128.size a := fun v5 k0_t4 v3097 k0_hw65 => k0_hw65.2

def k0_off132 (v5 : BitVec 32) (k0_t4 : Fin (k0_t4_loop v5).trips) (v3146 : BitVec 32) : Fin 3 → Nat :=
  let c1_i32_1097 : BitVec 32 := 1#32
  let c1_i32_1100 : BitVec 32 := 1#32
  let arg11 : BitVec 32 := Scf.iv c1_i32_1097 c1_i32_1100 k0_t4
  let v3148 : BitVec 32 := Scalar.addi v3146 arg11
  let c39_i32_1676 : BitVec 32 := 39#32
  let v3149 : BitVec 32 := Scalar.minsi v3148 c39_i32_1676
  let v3153 : Index := Scalar.indexCast v3149
  let c0_1679 : Index := 0#32
  let c0_1680 : Index := 0#32
  ![v3153.toNat, 0, 0]

def k0_off133 (v5 : BitVec 32) (k0_t4 : Fin (k0_t4_loop v5).trips) (v3146 : BitVec 32) : Fin 3 → Nat :=
  let c1_i32_1097 : BitVec 32 := 1#32
  let c1_i32_1100 : BitVec 32 := 1#32
  let arg11 : BitVec 32 := Scf.iv c1_i32_1097 c1_i32_1100 k0_t4
  let v3148 : BitVec 32 := Scalar.addi v3146 arg11
  let c39_i32_1676 : BitVec 32 := 39#32
  let v3149 : BitVec 32 := Scalar.minsi v3148 c39_i32_1676
  let v3187 : Index := Scalar.indexCast v3149
  let c0_1693 : Index := 0#32
  let c0_1694 : Index := 0#32
  ![v3187.toNat, 0, 0]

def k0_chk66 (v5 : BitVec 32) (k0_t4 : Fin (k0_t4_loop v5).trips) (v3146 : BitVec 32) : Prop :=
  (∀ a, (k0_off132 v5 k0_t4 v3146) a + S1x128x1.size a ≤ S40x128x1.size a) ∧
  (∀ a, (k0_off133 v5 k0_t4 v3146) a + S1x512x128.size a ≤ S40x512x128.size a)
theorem k0_off132_inb : ∀ (v5 : BitVec 32) (k0_t4 : Fin (k0_t4_loop v5).trips) (v3146 : BitVec 32) (k0_hw66 : k0_chk66 v5 k0_t4 v3146), ∀ a, (k0_off132 v5 k0_t4 v3146) a + S1x128x1.size a ≤ S40x128x1.size a := fun v5 k0_t4 v3146 k0_hw66 => k0_hw66.1
theorem k0_off133_inb : ∀ (v5 : BitVec 32) (k0_t4 : Fin (k0_t4_loop v5).trips) (v3146 : BitVec 32) (k0_hw66 : k0_chk66 v5 k0_t4 v3146), ∀ a, (k0_off133 v5 k0_t4 v3146) a + S1x512x128.size a ≤ S40x512x128.size a := fun v5 k0_t4 v3146 k0_hw66 => k0_hw66.2

def k0_off134 (v5 : BitVec 32) (k0_t4 : Fin (k0_t4_loop v5).trips) (v3195 : BitVec 32) : Fin 3 → Nat :=
  let c1_i32_1097 : BitVec 32 := 1#32
  let c1_i32_1100 : BitVec 32 := 1#32
  let arg11 : BitVec 32 := Scf.iv c1_i32_1097 c1_i32_1100 k0_t4
  let v3197 : BitVec 32 := Scalar.addi v3195 arg11
  let c39_i32_1702 : BitVec 32 := 39#32
  let v3198 : BitVec 32 := Scalar.minsi v3197 c39_i32_1702
  let v3202 : Index := Scalar.indexCast v3198
  let c0_1705 : Index := 0#32
  let c0_1706 : Index := 0#32
  ![v3202.toNat, 0, 0]

def k0_off135 (v5 : BitVec 32) (k0_t4 : Fin (k0_t4_loop v5).trips) (v3195 : BitVec 32) : Fin 3 → Nat :=
  let c1_i32_1097 : BitVec 32 := 1#32
  let c1_i32_1100 : BitVec 32 := 1#32
  let arg11 : BitVec 32 := Scf.iv c1_i32_1097 c1_i32_1100 k0_t4
  let v3197 : BitVec 32 := Scalar.addi v3195 arg11
  let c39_i32_1702 : BitVec 32 := 39#32
  let v3198 : BitVec 32 := Scalar.minsi v3197 c39_i32_1702
  let v3236 : Index := Scalar.indexCast v3198
  let c0_1719 : Index := 0#32
  let c0_1720 : Index := 0#32
  ![v3236.toNat, 0, 0]

def k0_chk67 (v5 : BitVec 32) (k0_t4 : Fin (k0_t4_loop v5).trips) (v3195 : BitVec 32) : Prop :=
  (∀ a, (k0_off134 v5 k0_t4 v3195) a + S1x128x1.size a ≤ S40x128x1.size a) ∧
  (∀ a, (k0_off135 v5 k0_t4 v3195) a + S1x512x128.size a ≤ S40x512x128.size a)
theorem k0_off134_inb : ∀ (v5 : BitVec 32) (k0_t4 : Fin (k0_t4_loop v5).trips) (v3195 : BitVec 32) (k0_hw67 : k0_chk67 v5 k0_t4 v3195), ∀ a, (k0_off134 v5 k0_t4 v3195) a + S1x128x1.size a ≤ S40x128x1.size a := fun v5 k0_t4 v3195 k0_hw67 => k0_hw67.1
theorem k0_off135_inb : ∀ (v5 : BitVec 32) (k0_t4 : Fin (k0_t4_loop v5).trips) (v3195 : BitVec 32) (k0_hw67 : k0_chk67 v5 k0_t4 v3195), ∀ a, (k0_off135 v5 k0_t4 v3195) a + S1x512x128.size a ≤ S40x512x128.size a := fun v5 k0_t4 v3195 k0_hw67 => k0_hw67.2

def k0_off136 (v5 : BitVec 32) (k0_t4 : Fin (k0_t4_loop v5).trips) (v3244 : BitVec 32) : Fin 3 → Nat :=
  let c1_i32_1097 : BitVec 32 := 1#32
  let c1_i32_1100 : BitVec 32 := 1#32
  let arg11 : BitVec 32 := Scf.iv c1_i32_1097 c1_i32_1100 k0_t4
  let v3246 : BitVec 32 := Scalar.addi v3244 arg11
  let c39_i32_1728 : BitVec 32 := 39#32
  let v3247 : BitVec 32 := Scalar.minsi v3246 c39_i32_1728
  let v3251 : Index := Scalar.indexCast v3247
  let c0_1731 : Index := 0#32
  let c0_1732 : Index := 0#32
  ![v3251.toNat, 0, 0]

def k0_off137 (v5 : BitVec 32) (k0_t4 : Fin (k0_t4_loop v5).trips) (v3244 : BitVec 32) : Fin 3 → Nat :=
  let c1_i32_1097 : BitVec 32 := 1#32
  let c1_i32_1100 : BitVec 32 := 1#32
  let arg11 : BitVec 32 := Scf.iv c1_i32_1097 c1_i32_1100 k0_t4
  let v3246 : BitVec 32 := Scalar.addi v3244 arg11
  let c39_i32_1728 : BitVec 32 := 39#32
  let v3247 : BitVec 32 := Scalar.minsi v3246 c39_i32_1728
  let v3285 : Index := Scalar.indexCast v3247
  let c0_1745 : Index := 0#32
  let c0_1746 : Index := 0#32
  ![v3285.toNat, 0, 0]

def k0_chk68 (v5 : BitVec 32) (k0_t4 : Fin (k0_t4_loop v5).trips) (v3244 : BitVec 32) : Prop :=
  (∀ a, (k0_off136 v5 k0_t4 v3244) a + S1x128x1.size a ≤ S40x128x1.size a) ∧
  (∀ a, (k0_off137 v5 k0_t4 v3244) a + S1x512x128.size a ≤ S40x512x128.size a)
theorem k0_off136_inb : ∀ (v5 : BitVec 32) (k0_t4 : Fin (k0_t4_loop v5).trips) (v3244 : BitVec 32) (k0_hw68 : k0_chk68 v5 k0_t4 v3244), ∀ a, (k0_off136 v5 k0_t4 v3244) a + S1x128x1.size a ≤ S40x128x1.size a := fun v5 k0_t4 v3244 k0_hw68 => k0_hw68.1
theorem k0_off137_inb : ∀ (v5 : BitVec 32) (k0_t4 : Fin (k0_t4_loop v5).trips) (v3244 : BitVec 32) (k0_hw68 : k0_chk68 v5 k0_t4 v3244), ∀ a, (k0_off137 v5 k0_t4 v3244) a + S1x512x128.size a ≤ S40x512x128.size a := fun v5 k0_t4 v3244 k0_hw68 => k0_hw68.2

def k0_off138 (v5 : BitVec 32) (k0_t4 : Fin (k0_t4_loop v5).trips) (v3293 : BitVec 32) : Fin 3 → Nat :=
  let c1_i32_1097 : BitVec 32 := 1#32
  let c1_i32_1100 : BitVec 32 := 1#32
  let arg11 : BitVec 32 := Scf.iv c1_i32_1097 c1_i32_1100 k0_t4
  let v3295 : BitVec 32 := Scalar.addi v3293 arg11
  let c39_i32_1754 : BitVec 32 := 39#32
  let v3296 : BitVec 32 := Scalar.minsi v3295 c39_i32_1754
  let v3300 : Index := Scalar.indexCast v3296
  let c0_1757 : Index := 0#32
  let c0_1758 : Index := 0#32
  ![v3300.toNat, 0, 0]

def k0_off139 (v5 : BitVec 32) (k0_t4 : Fin (k0_t4_loop v5).trips) (v3293 : BitVec 32) : Fin 3 → Nat :=
  let c1_i32_1097 : BitVec 32 := 1#32
  let c1_i32_1100 : BitVec 32 := 1#32
  let arg11 : BitVec 32 := Scf.iv c1_i32_1097 c1_i32_1100 k0_t4
  let v3295 : BitVec 32 := Scalar.addi v3293 arg11
  let c39_i32_1754 : BitVec 32 := 39#32
  let v3296 : BitVec 32 := Scalar.minsi v3295 c39_i32_1754
  let v3334 : Index := Scalar.indexCast v3296
  let c0_1771 : Index := 0#32
  let c0_1772 : Index := 0#32
  ![v3334.toNat, 0, 0]

def k0_chk69 (v5 : BitVec 32) (k0_t4 : Fin (k0_t4_loop v5).trips) (v3293 : BitVec 32) : Prop :=
  (∀ a, (k0_off138 v5 k0_t4 v3293) a + S1x128x1.size a ≤ S40x128x1.size a) ∧
  (∀ a, (k0_off139 v5 k0_t4 v3293) a + S1x512x128.size a ≤ S40x512x128.size a)
theorem k0_off138_inb : ∀ (v5 : BitVec 32) (k0_t4 : Fin (k0_t4_loop v5).trips) (v3293 : BitVec 32) (k0_hw69 : k0_chk69 v5 k0_t4 v3293), ∀ a, (k0_off138 v5 k0_t4 v3293) a + S1x128x1.size a ≤ S40x128x1.size a := fun v5 k0_t4 v3293 k0_hw69 => k0_hw69.1
theorem k0_off139_inb : ∀ (v5 : BitVec 32) (k0_t4 : Fin (k0_t4_loop v5).trips) (v3293 : BitVec 32) (k0_hw69 : k0_chk69 v5 k0_t4 v3293), ∀ a, (k0_off139 v5 k0_t4 v3293) a + S1x512x128.size a ≤ S40x512x128.size a := fun v5 k0_t4 v3293 k0_hw69 => k0_hw69.2

def k0_off140 (v5 : BitVec 32) (k0_t4 : Fin (k0_t4_loop v5).trips) (v3342 : BitVec 32) : Fin 3 → Nat :=
  let c1_i32_1097 : BitVec 32 := 1#32
  let c1_i32_1100 : BitVec 32 := 1#32
  let arg11 : BitVec 32 := Scf.iv c1_i32_1097 c1_i32_1100 k0_t4
  let v3344 : BitVec 32 := Scalar.addi v3342 arg11
  let c39_i32_1780 : BitVec 32 := 39#32
  let v3345 : BitVec 32 := Scalar.minsi v3344 c39_i32_1780
  let v3349 : Index := Scalar.indexCast v3345
  let c0_1783 : Index := 0#32
  let c0_1784 : Index := 0#32
  ![v3349.toNat, 0, 0]

def k0_off141 (v5 : BitVec 32) (k0_t4 : Fin (k0_t4_loop v5).trips) (v3342 : BitVec 32) : Fin 3 → Nat :=
  let c1_i32_1097 : BitVec 32 := 1#32
  let c1_i32_1100 : BitVec 32 := 1#32
  let arg11 : BitVec 32 := Scf.iv c1_i32_1097 c1_i32_1100 k0_t4
  let v3344 : BitVec 32 := Scalar.addi v3342 arg11
  let c39_i32_1780 : BitVec 32 := 39#32
  let v3345 : BitVec 32 := Scalar.minsi v3344 c39_i32_1780
  let v3383 : Index := Scalar.indexCast v3345
  let c0_1797 : Index := 0#32
  let c0_1798 : Index := 0#32
  ![v3383.toNat, 0, 0]

def k0_chk70 (v5 : BitVec 32) (k0_t4 : Fin (k0_t4_loop v5).trips) (v3342 : BitVec 32) : Prop :=
  (∀ a, (k0_off140 v5 k0_t4 v3342) a + S1x128x1.size a ≤ S40x128x1.size a) ∧
  (∀ a, (k0_off141 v5 k0_t4 v3342) a + S1x512x128.size a ≤ S40x512x128.size a)
theorem k0_off140_inb : ∀ (v5 : BitVec 32) (k0_t4 : Fin (k0_t4_loop v5).trips) (v3342 : BitVec 32) (k0_hw70 : k0_chk70 v5 k0_t4 v3342), ∀ a, (k0_off140 v5 k0_t4 v3342) a + S1x128x1.size a ≤ S40x128x1.size a := fun v5 k0_t4 v3342 k0_hw70 => k0_hw70.1
theorem k0_off141_inb : ∀ (v5 : BitVec 32) (k0_t4 : Fin (k0_t4_loop v5).trips) (v3342 : BitVec 32) (k0_hw70 : k0_chk70 v5 k0_t4 v3342), ∀ a, (k0_off141 v5 k0_t4 v3342) a + S1x512x128.size a ≤ S40x512x128.size a := fun v5 k0_t4 v3342 k0_hw70 => k0_hw70.2

def k0_off142 (v5 : BitVec 32) (k0_t4 : Fin (k0_t4_loop v5).trips) (v3391 : BitVec 32) : Fin 3 → Nat :=
  let c1_i32_1097 : BitVec 32 := 1#32
  let c1_i32_1100 : BitVec 32 := 1#32
  let arg11 : BitVec 32 := Scf.iv c1_i32_1097 c1_i32_1100 k0_t4
  let v3393 : BitVec 32 := Scalar.addi v3391 arg11
  let c39_i32_1806 : BitVec 32 := 39#32
  let v3394 : BitVec 32 := Scalar.minsi v3393 c39_i32_1806
  let v3398 : Index := Scalar.indexCast v3394
  let c0_1809 : Index := 0#32
  let c0_1810 : Index := 0#32
  ![v3398.toNat, 0, 0]

def k0_off143 (v5 : BitVec 32) (k0_t4 : Fin (k0_t4_loop v5).trips) (v3391 : BitVec 32) : Fin 3 → Nat :=
  let c1_i32_1097 : BitVec 32 := 1#32
  let c1_i32_1100 : BitVec 32 := 1#32
  let arg11 : BitVec 32 := Scf.iv c1_i32_1097 c1_i32_1100 k0_t4
  let v3393 : BitVec 32 := Scalar.addi v3391 arg11
  let c39_i32_1806 : BitVec 32 := 39#32
  let v3394 : BitVec 32 := Scalar.minsi v3393 c39_i32_1806
  let v3432 : Index := Scalar.indexCast v3394
  let c0_1823 : Index := 0#32
  let c0_1824 : Index := 0#32
  ![v3432.toNat, 0, 0]

def k0_chk71 (v5 : BitVec 32) (k0_t4 : Fin (k0_t4_loop v5).trips) (v3391 : BitVec 32) : Prop :=
  (∀ a, (k0_off142 v5 k0_t4 v3391) a + S1x128x1.size a ≤ S40x128x1.size a) ∧
  (∀ a, (k0_off143 v5 k0_t4 v3391) a + S1x512x128.size a ≤ S40x512x128.size a)
theorem k0_off142_inb : ∀ (v5 : BitVec 32) (k0_t4 : Fin (k0_t4_loop v5).trips) (v3391 : BitVec 32) (k0_hw71 : k0_chk71 v5 k0_t4 v3391), ∀ a, (k0_off142 v5 k0_t4 v3391) a + S1x128x1.size a ≤ S40x128x1.size a := fun v5 k0_t4 v3391 k0_hw71 => k0_hw71.1
theorem k0_off143_inb : ∀ (v5 : BitVec 32) (k0_t4 : Fin (k0_t4_loop v5).trips) (v3391 : BitVec 32) (k0_hw71 : k0_chk71 v5 k0_t4 v3391), ∀ a, (k0_off143 v5 k0_t4 v3391) a + S1x512x128.size a ≤ S40x512x128.size a := fun v5 k0_t4 v3391 k0_hw71 => k0_hw71.2

def k0_off144 (v5 : BitVec 32) (k0_t4 : Fin (k0_t4_loop v5).trips) (v3440 : BitVec 32) : Fin 3 → Nat :=
  let c1_i32_1097 : BitVec 32 := 1#32
  let c1_i32_1100 : BitVec 32 := 1#32
  let arg11 : BitVec 32 := Scf.iv c1_i32_1097 c1_i32_1100 k0_t4
  let v3442 : BitVec 32 := Scalar.addi v3440 arg11
  let c39_i32_1832 : BitVec 32 := 39#32
  let v3443 : BitVec 32 := Scalar.minsi v3442 c39_i32_1832
  let v3447 : Index := Scalar.indexCast v3443
  let c0_1835 : Index := 0#32
  let c0_1836 : Index := 0#32
  ![v3447.toNat, 0, 0]

def k0_off145 (v5 : BitVec 32) (k0_t4 : Fin (k0_t4_loop v5).trips) (v3440 : BitVec 32) : Fin 3 → Nat :=
  let c1_i32_1097 : BitVec 32 := 1#32
  let c1_i32_1100 : BitVec 32 := 1#32
  let arg11 : BitVec 32 := Scf.iv c1_i32_1097 c1_i32_1100 k0_t4
  let v3442 : BitVec 32 := Scalar.addi v3440 arg11
  let c39_i32_1832 : BitVec 32 := 39#32
  let v3443 : BitVec 32 := Scalar.minsi v3442 c39_i32_1832
  let v3481 : Index := Scalar.indexCast v3443
  let c0_1849 : Index := 0#32
  let c0_1850 : Index := 0#32
  ![v3481.toNat, 0, 0]

def k0_chk72 (v5 : BitVec 32) (k0_t4 : Fin (k0_t4_loop v5).trips) (v3440 : BitVec 32) : Prop :=
  (∀ a, (k0_off144 v5 k0_t4 v3440) a + S1x128x1.size a ≤ S40x128x1.size a) ∧
  (∀ a, (k0_off145 v5 k0_t4 v3440) a + S1x512x128.size a ≤ S40x512x128.size a)
theorem k0_off144_inb : ∀ (v5 : BitVec 32) (k0_t4 : Fin (k0_t4_loop v5).trips) (v3440 : BitVec 32) (k0_hw72 : k0_chk72 v5 k0_t4 v3440), ∀ a, (k0_off144 v5 k0_t4 v3440) a + S1x128x1.size a ≤ S40x128x1.size a := fun v5 k0_t4 v3440 k0_hw72 => k0_hw72.1
theorem k0_off145_inb : ∀ (v5 : BitVec 32) (k0_t4 : Fin (k0_t4_loop v5).trips) (v3440 : BitVec 32) (k0_hw72 : k0_chk72 v5 k0_t4 v3440), ∀ a, (k0_off145 v5 k0_t4 v3440) a + S1x512x128.size a ≤ S40x512x128.size a := fun v5 k0_t4 v3440 k0_hw72 => k0_hw72.2

def k0_off146 (v5 : BitVec 32) (k0_t4 : Fin (k0_t4_loop v5).trips) (v3489 : BitVec 32) : Fin 3 → Nat :=
  let c1_i32_1097 : BitVec 32 := 1#32
  let c1_i32_1100 : BitVec 32 := 1#32
  let arg11 : BitVec 32 := Scf.iv c1_i32_1097 c1_i32_1100 k0_t4
  let v3491 : BitVec 32 := Scalar.addi v3489 arg11
  let c39_i32_1858 : BitVec 32 := 39#32
  let v3492 : BitVec 32 := Scalar.minsi v3491 c39_i32_1858
  let v3496 : Index := Scalar.indexCast v3492
  let c0_1861 : Index := 0#32
  let c0_1862 : Index := 0#32
  ![v3496.toNat, 0, 0]

def k0_off147 (v5 : BitVec 32) (k0_t4 : Fin (k0_t4_loop v5).trips) (v3489 : BitVec 32) : Fin 3 → Nat :=
  let c1_i32_1097 : BitVec 32 := 1#32
  let c1_i32_1100 : BitVec 32 := 1#32
  let arg11 : BitVec 32 := Scf.iv c1_i32_1097 c1_i32_1100 k0_t4
  let v3491 : BitVec 32 := Scalar.addi v3489 arg11
  let c39_i32_1858 : BitVec 32 := 39#32
  let v3492 : BitVec 32 := Scalar.minsi v3491 c39_i32_1858
  let v3530 : Index := Scalar.indexCast v3492
  let c0_1875 : Index := 0#32
  let c0_1876 : Index := 0#32
  ![v3530.toNat, 0, 0]

def k0_chk73 (v5 : BitVec 32) (k0_t4 : Fin (k0_t4_loop v5).trips) (v3489 : BitVec 32) : Prop :=
  (∀ a, (k0_off146 v5 k0_t4 v3489) a + S1x128x1.size a ≤ S40x128x1.size a) ∧
  (∀ a, (k0_off147 v5 k0_t4 v3489) a + S1x512x128.size a ≤ S40x512x128.size a)
theorem k0_off146_inb : ∀ (v5 : BitVec 32) (k0_t4 : Fin (k0_t4_loop v5).trips) (v3489 : BitVec 32) (k0_hw73 : k0_chk73 v5 k0_t4 v3489), ∀ a, (k0_off146 v5 k0_t4 v3489) a + S1x128x1.size a ≤ S40x128x1.size a := fun v5 k0_t4 v3489 k0_hw73 => k0_hw73.1
theorem k0_off147_inb : ∀ (v5 : BitVec 32) (k0_t4 : Fin (k0_t4_loop v5).trips) (v3489 : BitVec 32) (k0_hw73 : k0_chk73 v5 k0_t4 v3489), ∀ a, (k0_off147 v5 k0_t4 v3489) a + S1x512x128.size a ≤ S40x512x128.size a := fun v5 k0_t4 v3489 k0_hw73 => k0_hw73.2

def k0_off148 (v5 : BitVec 32) (k0_t4 : Fin (k0_t4_loop v5).trips) (v3538 : BitVec 32) : Fin 3 → Nat :=
  let c1_i32_1097 : BitVec 32 := 1#32
  let c1_i32_1100 : BitVec 32 := 1#32
  let arg11 : BitVec 32 := Scf.iv c1_i32_1097 c1_i32_1100 k0_t4
  let v3540 : BitVec 32 := Scalar.addi v3538 arg11
  let c39_i32_1884 : BitVec 32 := 39#32
  let v3541 : BitVec 32 := Scalar.minsi v3540 c39_i32_1884
  let v3545 : Index := Scalar.indexCast v3541
  let c0_1887 : Index := 0#32
  let c0_1888 : Index := 0#32
  ![v3545.toNat, 0, 0]

def k0_off149 (v5 : BitVec 32) (k0_t4 : Fin (k0_t4_loop v5).trips) (v3538 : BitVec 32) : Fin 3 → Nat :=
  let c1_i32_1097 : BitVec 32 := 1#32
  let c1_i32_1100 : BitVec 32 := 1#32
  let arg11 : BitVec 32 := Scf.iv c1_i32_1097 c1_i32_1100 k0_t4
  let v3540 : BitVec 32 := Scalar.addi v3538 arg11
  let c39_i32_1884 : BitVec 32 := 39#32
  let v3541 : BitVec 32 := Scalar.minsi v3540 c39_i32_1884
  let v3579 : Index := Scalar.indexCast v3541
  let c0_1901 : Index := 0#32
  let c0_1902 : Index := 0#32
  ![v3579.toNat, 0, 0]

def k0_chk74 (v5 : BitVec 32) (k0_t4 : Fin (k0_t4_loop v5).trips) (v3538 : BitVec 32) : Prop :=
  (∀ a, (k0_off148 v5 k0_t4 v3538) a + S1x128x1.size a ≤ S40x128x1.size a) ∧
  (∀ a, (k0_off149 v5 k0_t4 v3538) a + S1x512x128.size a ≤ S40x512x128.size a)
theorem k0_off148_inb : ∀ (v5 : BitVec 32) (k0_t4 : Fin (k0_t4_loop v5).trips) (v3538 : BitVec 32) (k0_hw74 : k0_chk74 v5 k0_t4 v3538), ∀ a, (k0_off148 v5 k0_t4 v3538) a + S1x128x1.size a ≤ S40x128x1.size a := fun v5 k0_t4 v3538 k0_hw74 => k0_hw74.1
theorem k0_off149_inb : ∀ (v5 : BitVec 32) (k0_t4 : Fin (k0_t4_loop v5).trips) (v3538 : BitVec 32) (k0_hw74 : k0_chk74 v5 k0_t4 v3538), ∀ a, (k0_off149 v5 k0_t4 v3538) a + S1x512x128.size a ≤ S40x512x128.size a := fun v5 k0_t4 v3538 k0_hw74 => k0_hw74.2

def k0_off150 (v5 : BitVec 32) (k0_t4 : Fin (k0_t4_loop v5).trips) (v3587 : BitVec 32) : Fin 3 → Nat :=
  let c1_i32_1097 : BitVec 32 := 1#32
  let c1_i32_1100 : BitVec 32 := 1#32
  let arg11 : BitVec 32 := Scf.iv c1_i32_1097 c1_i32_1100 k0_t4
  let v3589 : BitVec 32 := Scalar.addi v3587 arg11
  let c39_i32_1910 : BitVec 32 := 39#32
  let v3590 : BitVec 32 := Scalar.minsi v3589 c39_i32_1910
  let v3594 : Index := Scalar.indexCast v3590
  let c0_1913 : Index := 0#32
  let c0_1914 : Index := 0#32
  ![v3594.toNat, 0, 0]

def k0_off151 (v5 : BitVec 32) (k0_t4 : Fin (k0_t4_loop v5).trips) (v3587 : BitVec 32) : Fin 3 → Nat :=
  let c1_i32_1097 : BitVec 32 := 1#32
  let c1_i32_1100 : BitVec 32 := 1#32
  let arg11 : BitVec 32 := Scf.iv c1_i32_1097 c1_i32_1100 k0_t4
  let v3589 : BitVec 32 := Scalar.addi v3587 arg11
  let c39_i32_1910 : BitVec 32 := 39#32
  let v3590 : BitVec 32 := Scalar.minsi v3589 c39_i32_1910
  let v3628 : Index := Scalar.indexCast v3590
  let c0_1927 : Index := 0#32
  let c0_1928 : Index := 0#32
  ![v3628.toNat, 0, 0]

def k0_chk75 (v5 : BitVec 32) (k0_t4 : Fin (k0_t4_loop v5).trips) (v3587 : BitVec 32) : Prop :=
  (∀ a, (k0_off150 v5 k0_t4 v3587) a + S1x128x1.size a ≤ S40x128x1.size a) ∧
  (∀ a, (k0_off151 v5 k0_t4 v3587) a + S1x512x128.size a ≤ S40x512x128.size a)
theorem k0_off150_inb : ∀ (v5 : BitVec 32) (k0_t4 : Fin (k0_t4_loop v5).trips) (v3587 : BitVec 32) (k0_hw75 : k0_chk75 v5 k0_t4 v3587), ∀ a, (k0_off150 v5 k0_t4 v3587) a + S1x128x1.size a ≤ S40x128x1.size a := fun v5 k0_t4 v3587 k0_hw75 => k0_hw75.1
theorem k0_off151_inb : ∀ (v5 : BitVec 32) (k0_t4 : Fin (k0_t4_loop v5).trips) (v3587 : BitVec 32) (k0_hw75 : k0_chk75 v5 k0_t4 v3587), ∀ a, (k0_off151 v5 k0_t4 v3587) a + S1x512x128.size a ≤ S40x512x128.size a := fun v5 k0_t4 v3587 k0_hw75 => k0_hw75.2

def k0_off152 (v5 : BitVec 32) (k0_t4 : Fin (k0_t4_loop v5).trips) (v3636 : BitVec 32) : Fin 3 → Nat :=
  let c1_i32_1097 : BitVec 32 := 1#32
  let c1_i32_1100 : BitVec 32 := 1#32
  let arg11 : BitVec 32 := Scf.iv c1_i32_1097 c1_i32_1100 k0_t4
  let v3638 : BitVec 32 := Scalar.addi v3636 arg11
  let c39_i32_1936 : BitVec 32 := 39#32
  let v3639 : BitVec 32 := Scalar.minsi v3638 c39_i32_1936
  let v3643 : Index := Scalar.indexCast v3639
  let c0_1939 : Index := 0#32
  let c0_1940 : Index := 0#32
  ![v3643.toNat, 0, 0]

def k0_off153 (v5 : BitVec 32) (k0_t4 : Fin (k0_t4_loop v5).trips) (v3636 : BitVec 32) : Fin 3 → Nat :=
  let c1_i32_1097 : BitVec 32 := 1#32
  let c1_i32_1100 : BitVec 32 := 1#32
  let arg11 : BitVec 32 := Scf.iv c1_i32_1097 c1_i32_1100 k0_t4
  let v3638 : BitVec 32 := Scalar.addi v3636 arg11
  let c39_i32_1936 : BitVec 32 := 39#32
  let v3639 : BitVec 32 := Scalar.minsi v3638 c39_i32_1936
  let v3677 : Index := Scalar.indexCast v3639
  let c0_1953 : Index := 0#32
  let c0_1954 : Index := 0#32
  ![v3677.toNat, 0, 0]

def k0_chk76 (v5 : BitVec 32) (k0_t4 : Fin (k0_t4_loop v5).trips) (v3636 : BitVec 32) : Prop :=
  (∀ a, (k0_off152 v5 k0_t4 v3636) a + S1x128x1.size a ≤ S40x128x1.size a) ∧
  (∀ a, (k0_off153 v5 k0_t4 v3636) a + S1x512x128.size a ≤ S40x512x128.size a)
theorem k0_off152_inb : ∀ (v5 : BitVec 32) (k0_t4 : Fin (k0_t4_loop v5).trips) (v3636 : BitVec 32) (k0_hw76 : k0_chk76 v5 k0_t4 v3636), ∀ a, (k0_off152 v5 k0_t4 v3636) a + S1x128x1.size a ≤ S40x128x1.size a := fun v5 k0_t4 v3636 k0_hw76 => k0_hw76.1
theorem k0_off153_inb : ∀ (v5 : BitVec 32) (k0_t4 : Fin (k0_t4_loop v5).trips) (v3636 : BitVec 32) (k0_hw76 : k0_chk76 v5 k0_t4 v3636), ∀ a, (k0_off153 v5 k0_t4 v3636) a + S1x512x128.size a ≤ S40x512x128.size a := fun v5 k0_t4 v3636 k0_hw76 => k0_hw76.2

def k0_off154 (v5 : BitVec 32) (k0_t4 : Fin (k0_t4_loop v5).trips) (v3685 : BitVec 32) : Fin 3 → Nat :=
  let c1_i32_1097 : BitVec 32 := 1#32
  let c1_i32_1100 : BitVec 32 := 1#32
  let arg11 : BitVec 32 := Scf.iv c1_i32_1097 c1_i32_1100 k0_t4
  let v3687 : BitVec 32 := Scalar.addi v3685 arg11
  let c39_i32_1962 : BitVec 32 := 39#32
  let v3688 : BitVec 32 := Scalar.minsi v3687 c39_i32_1962
  let v3692 : Index := Scalar.indexCast v3688
  let c0_1965 : Index := 0#32
  let c0_1966 : Index := 0#32
  ![v3692.toNat, 0, 0]

def k0_off155 (v5 : BitVec 32) (k0_t4 : Fin (k0_t4_loop v5).trips) (v3685 : BitVec 32) : Fin 3 → Nat :=
  let c1_i32_1097 : BitVec 32 := 1#32
  let c1_i32_1100 : BitVec 32 := 1#32
  let arg11 : BitVec 32 := Scf.iv c1_i32_1097 c1_i32_1100 k0_t4
  let v3687 : BitVec 32 := Scalar.addi v3685 arg11
  let c39_i32_1962 : BitVec 32 := 39#32
  let v3688 : BitVec 32 := Scalar.minsi v3687 c39_i32_1962
  let v3726 : Index := Scalar.indexCast v3688
  let c0_1979 : Index := 0#32
  let c0_1980 : Index := 0#32
  ![v3726.toNat, 0, 0]

def k0_chk77 (v5 : BitVec 32) (k0_t4 : Fin (k0_t4_loop v5).trips) (v3685 : BitVec 32) : Prop :=
  (∀ a, (k0_off154 v5 k0_t4 v3685) a + S1x128x1.size a ≤ S40x128x1.size a) ∧
  (∀ a, (k0_off155 v5 k0_t4 v3685) a + S1x512x128.size a ≤ S40x512x128.size a)
theorem k0_off154_inb : ∀ (v5 : BitVec 32) (k0_t4 : Fin (k0_t4_loop v5).trips) (v3685 : BitVec 32) (k0_hw77 : k0_chk77 v5 k0_t4 v3685), ∀ a, (k0_off154 v5 k0_t4 v3685) a + S1x128x1.size a ≤ S40x128x1.size a := fun v5 k0_t4 v3685 k0_hw77 => k0_hw77.1
theorem k0_off155_inb : ∀ (v5 : BitVec 32) (k0_t4 : Fin (k0_t4_loop v5).trips) (v3685 : BitVec 32) (k0_hw77 : k0_chk77 v5 k0_t4 v3685), ∀ a, (k0_off155 v5 k0_t4 v3685) a + S1x512x128.size a ≤ S40x512x128.size a := fun v5 k0_t4 v3685 k0_hw77 => k0_hw77.2

def k0_off156 (v5 : BitVec 32) (k0_t4 : Fin (k0_t4_loop v5).trips) (v3734 : BitVec 32) : Fin 3 → Nat :=
  let c1_i32_1097 : BitVec 32 := 1#32
  let c1_i32_1100 : BitVec 32 := 1#32
  let arg11 : BitVec 32 := Scf.iv c1_i32_1097 c1_i32_1100 k0_t4
  let v3736 : BitVec 32 := Scalar.addi v3734 arg11
  let c39_i32_1988 : BitVec 32 := 39#32
  let v3737 : BitVec 32 := Scalar.minsi v3736 c39_i32_1988
  let v3741 : Index := Scalar.indexCast v3737
  let c0_1991 : Index := 0#32
  let c0_1992 : Index := 0#32
  ![v3741.toNat, 0, 0]

def k0_off157 (v5 : BitVec 32) (k0_t4 : Fin (k0_t4_loop v5).trips) (v3734 : BitVec 32) : Fin 3 → Nat :=
  let c1_i32_1097 : BitVec 32 := 1#32
  let c1_i32_1100 : BitVec 32 := 1#32
  let arg11 : BitVec 32 := Scf.iv c1_i32_1097 c1_i32_1100 k0_t4
  let v3736 : BitVec 32 := Scalar.addi v3734 arg11
  let c39_i32_1988 : BitVec 32 := 39#32
  let v3737 : BitVec 32 := Scalar.minsi v3736 c39_i32_1988
  let v3775 : Index := Scalar.indexCast v3737
  let c0_2005 : Index := 0#32
  let c0_2006 : Index := 0#32
  ![v3775.toNat, 0, 0]

def k0_chk78 (v5 : BitVec 32) (k0_t4 : Fin (k0_t4_loop v5).trips) (v3734 : BitVec 32) : Prop :=
  (∀ a, (k0_off156 v5 k0_t4 v3734) a + S1x128x1.size a ≤ S40x128x1.size a) ∧
  (∀ a, (k0_off157 v5 k0_t4 v3734) a + S1x512x128.size a ≤ S40x512x128.size a)
theorem k0_off156_inb : ∀ (v5 : BitVec 32) (k0_t4 : Fin (k0_t4_loop v5).trips) (v3734 : BitVec 32) (k0_hw78 : k0_chk78 v5 k0_t4 v3734), ∀ a, (k0_off156 v5 k0_t4 v3734) a + S1x128x1.size a ≤ S40x128x1.size a := fun v5 k0_t4 v3734 k0_hw78 => k0_hw78.1
theorem k0_off157_inb : ∀ (v5 : BitVec 32) (k0_t4 : Fin (k0_t4_loop v5).trips) (v3734 : BitVec 32) (k0_hw78 : k0_chk78 v5 k0_t4 v3734), ∀ a, (k0_off157 v5 k0_t4 v3734) a + S1x512x128.size a ≤ S40x512x128.size a := fun v5 k0_t4 v3734 k0_hw78 => k0_hw78.2

def k0_off158 (v5 : BitVec 32) (k0_t4 : Fin (k0_t4_loop v5).trips) (v3783 : BitVec 32) : Fin 3 → Nat :=
  let c1_i32_1097 : BitVec 32 := 1#32
  let c1_i32_1100 : BitVec 32 := 1#32
  let arg11 : BitVec 32 := Scf.iv c1_i32_1097 c1_i32_1100 k0_t4
  let v3785 : BitVec 32 := Scalar.addi v3783 arg11
  let c39_i32_2014 : BitVec 32 := 39#32
  let v3786 : BitVec 32 := Scalar.minsi v3785 c39_i32_2014
  let v3790 : Index := Scalar.indexCast v3786
  let c0_2017 : Index := 0#32
  let c0_2018 : Index := 0#32
  ![v3790.toNat, 0, 0]

def k0_off159 (v5 : BitVec 32) (k0_t4 : Fin (k0_t4_loop v5).trips) (v3783 : BitVec 32) : Fin 3 → Nat :=
  let c1_i32_1097 : BitVec 32 := 1#32
  let c1_i32_1100 : BitVec 32 := 1#32
  let arg11 : BitVec 32 := Scf.iv c1_i32_1097 c1_i32_1100 k0_t4
  let v3785 : BitVec 32 := Scalar.addi v3783 arg11
  let c39_i32_2014 : BitVec 32 := 39#32
  let v3786 : BitVec 32 := Scalar.minsi v3785 c39_i32_2014
  let v3824 : Index := Scalar.indexCast v3786
  let c0_2031 : Index := 0#32
  let c0_2032 : Index := 0#32
  ![v3824.toNat, 0, 0]

def k0_chk79 (v5 : BitVec 32) (k0_t4 : Fin (k0_t4_loop v5).trips) (v3783 : BitVec 32) : Prop :=
  (∀ a, (k0_off158 v5 k0_t4 v3783) a + S1x128x1.size a ≤ S40x128x1.size a) ∧
  (∀ a, (k0_off159 v5 k0_t4 v3783) a + S1x512x128.size a ≤ S40x512x128.size a)
theorem k0_off158_inb : ∀ (v5 : BitVec 32) (k0_t4 : Fin (k0_t4_loop v5).trips) (v3783 : BitVec 32) (k0_hw79 : k0_chk79 v5 k0_t4 v3783), ∀ a, (k0_off158 v5 k0_t4 v3783) a + S1x128x1.size a ≤ S40x128x1.size a := fun v5 k0_t4 v3783 k0_hw79 => k0_hw79.1
theorem k0_off159_inb : ∀ (v5 : BitVec 32) (k0_t4 : Fin (k0_t4_loop v5).trips) (v3783 : BitVec 32) (k0_hw79 : k0_chk79 v5 k0_t4 v3783), ∀ a, (k0_off159 v5 k0_t4 v3783) a + S1x512x128.size a ≤ S40x512x128.size a := fun v5 k0_t4 v3783 k0_hw79 => k0_hw79.2

def k0_off160 (v5 : BitVec 32) (k0_t4 : Fin (k0_t4_loop v5).trips) (v3832 : BitVec 32) : Fin 3 → Nat :=
  let c1_i32_1097 : BitVec 32 := 1#32
  let c1_i32_1100 : BitVec 32 := 1#32
  let arg11 : BitVec 32 := Scf.iv c1_i32_1097 c1_i32_1100 k0_t4
  let v3834 : BitVec 32 := Scalar.addi v3832 arg11
  let c39_i32_2040 : BitVec 32 := 39#32
  let v3835 : BitVec 32 := Scalar.minsi v3834 c39_i32_2040
  let v3839 : Index := Scalar.indexCast v3835
  let c0_2043 : Index := 0#32
  let c0_2044 : Index := 0#32
  ![v3839.toNat, 0, 0]

def k0_off161 (v5 : BitVec 32) (k0_t4 : Fin (k0_t4_loop v5).trips) (v3832 : BitVec 32) : Fin 3 → Nat :=
  let c1_i32_1097 : BitVec 32 := 1#32
  let c1_i32_1100 : BitVec 32 := 1#32
  let arg11 : BitVec 32 := Scf.iv c1_i32_1097 c1_i32_1100 k0_t4
  let v3834 : BitVec 32 := Scalar.addi v3832 arg11
  let c39_i32_2040 : BitVec 32 := 39#32
  let v3835 : BitVec 32 := Scalar.minsi v3834 c39_i32_2040
  let v3873 : Index := Scalar.indexCast v3835
  let c0_2057 : Index := 0#32
  let c0_2058 : Index := 0#32
  ![v3873.toNat, 0, 0]

def k0_chk80 (v5 : BitVec 32) (k0_t4 : Fin (k0_t4_loop v5).trips) (v3832 : BitVec 32) : Prop :=
  (∀ a, (k0_off160 v5 k0_t4 v3832) a + S1x128x1.size a ≤ S40x128x1.size a) ∧
  (∀ a, (k0_off161 v5 k0_t4 v3832) a + S1x512x128.size a ≤ S40x512x128.size a)
theorem k0_off160_inb : ∀ (v5 : BitVec 32) (k0_t4 : Fin (k0_t4_loop v5).trips) (v3832 : BitVec 32) (k0_hw80 : k0_chk80 v5 k0_t4 v3832), ∀ a, (k0_off160 v5 k0_t4 v3832) a + S1x128x1.size a ≤ S40x128x1.size a := fun v5 k0_t4 v3832 k0_hw80 => k0_hw80.1
theorem k0_off161_inb : ∀ (v5 : BitVec 32) (k0_t4 : Fin (k0_t4_loop v5).trips) (v3832 : BitVec 32) (k0_hw80 : k0_chk80 v5 k0_t4 v3832), ∀ a, (k0_off161 v5 k0_t4 v3832) a + S1x512x128.size a ≤ S40x512x128.size a := fun v5 k0_t4 v3832 k0_hw80 => k0_hw80.2

def k0_off162 (v5 : BitVec 32) (k0_t4 : Fin (k0_t4_loop v5).trips) (v3881 : BitVec 32) : Fin 3 → Nat :=
  let c1_i32_1097 : BitVec 32 := 1#32
  let c1_i32_1100 : BitVec 32 := 1#32
  let arg11 : BitVec 32 := Scf.iv c1_i32_1097 c1_i32_1100 k0_t4
  let v3883 : BitVec 32 := Scalar.addi v3881 arg11
  let c39_i32_2066 : BitVec 32 := 39#32
  let v3884 : BitVec 32 := Scalar.minsi v3883 c39_i32_2066
  let v3888 : Index := Scalar.indexCast v3884
  let c0_2069 : Index := 0#32
  let c0_2070 : Index := 0#32
  ![v3888.toNat, 0, 0]

def k0_off163 (v5 : BitVec 32) (k0_t4 : Fin (k0_t4_loop v5).trips) (v3881 : BitVec 32) : Fin 3 → Nat :=
  let c1_i32_1097 : BitVec 32 := 1#32
  let c1_i32_1100 : BitVec 32 := 1#32
  let arg11 : BitVec 32 := Scf.iv c1_i32_1097 c1_i32_1100 k0_t4
  let v3883 : BitVec 32 := Scalar.addi v3881 arg11
  let c39_i32_2066 : BitVec 32 := 39#32
  let v3884 : BitVec 32 := Scalar.minsi v3883 c39_i32_2066
  let v3922 : Index := Scalar.indexCast v3884
  let c0_2083 : Index := 0#32
  let c0_2084 : Index := 0#32
  ![v3922.toNat, 0, 0]

def k0_chk81 (v5 : BitVec 32) (k0_t4 : Fin (k0_t4_loop v5).trips) (v3881 : BitVec 32) : Prop :=
  (∀ a, (k0_off162 v5 k0_t4 v3881) a + S1x128x1.size a ≤ S40x128x1.size a) ∧
  (∀ a, (k0_off163 v5 k0_t4 v3881) a + S1x512x128.size a ≤ S40x512x128.size a)
theorem k0_off162_inb : ∀ (v5 : BitVec 32) (k0_t4 : Fin (k0_t4_loop v5).trips) (v3881 : BitVec 32) (k0_hw81 : k0_chk81 v5 k0_t4 v3881), ∀ a, (k0_off162 v5 k0_t4 v3881) a + S1x128x1.size a ≤ S40x128x1.size a := fun v5 k0_t4 v3881 k0_hw81 => k0_hw81.1
theorem k0_off163_inb : ∀ (v5 : BitVec 32) (k0_t4 : Fin (k0_t4_loop v5).trips) (v3881 : BitVec 32) (k0_hw81 : k0_chk81 v5 k0_t4 v3881), ∀ a, (k0_off163 v5 k0_t4 v3881) a + S1x512x128.size a ≤ S40x512x128.size a := fun v5 k0_t4 v3881 k0_hw81 => k0_hw81.2

def k0_off164 (v5 : BitVec 32) (k0_t4 : Fin (k0_t4_loop v5).trips) (v3930 : BitVec 32) : Fin 3 → Nat :=
  let c1_i32_1097 : BitVec 32 := 1#32
  let c1_i32_1100 : BitVec 32 := 1#32
  let arg11 : BitVec 32 := Scf.iv c1_i32_1097 c1_i32_1100 k0_t4
  let v3932 : BitVec 32 := Scalar.addi v3930 arg11
  let c39_i32_2092 : BitVec 32 := 39#32
  let v3933 : BitVec 32 := Scalar.minsi v3932 c39_i32_2092
  let v3937 : Index := Scalar.indexCast v3933
  let c0_2095 : Index := 0#32
  let c0_2096 : Index := 0#32
  ![v3937.toNat, 0, 0]

def k0_off165 (v5 : BitVec 32) (k0_t4 : Fin (k0_t4_loop v5).trips) (v3930 : BitVec 32) : Fin 3 → Nat :=
  let c1_i32_1097 : BitVec 32 := 1#32
  let c1_i32_1100 : BitVec 32 := 1#32
  let arg11 : BitVec 32 := Scf.iv c1_i32_1097 c1_i32_1100 k0_t4
  let v3932 : BitVec 32 := Scalar.addi v3930 arg11
  let c39_i32_2092 : BitVec 32 := 39#32
  let v3933 : BitVec 32 := Scalar.minsi v3932 c39_i32_2092
  let v3971 : Index := Scalar.indexCast v3933
  let c0_2109 : Index := 0#32
  let c0_2110 : Index := 0#32
  ![v3971.toNat, 0, 0]

def k0_chk82 (v5 : BitVec 32) (k0_t4 : Fin (k0_t4_loop v5).trips) (v3930 : BitVec 32) : Prop :=
  (∀ a, (k0_off164 v5 k0_t4 v3930) a + S1x128x1.size a ≤ S40x128x1.size a) ∧
  (∀ a, (k0_off165 v5 k0_t4 v3930) a + S1x512x128.size a ≤ S40x512x128.size a)
theorem k0_off164_inb : ∀ (v5 : BitVec 32) (k0_t4 : Fin (k0_t4_loop v5).trips) (v3930 : BitVec 32) (k0_hw82 : k0_chk82 v5 k0_t4 v3930), ∀ a, (k0_off164 v5 k0_t4 v3930) a + S1x128x1.size a ≤ S40x128x1.size a := fun v5 k0_t4 v3930 k0_hw82 => k0_hw82.1
theorem k0_off165_inb : ∀ (v5 : BitVec 32) (k0_t4 : Fin (k0_t4_loop v5).trips) (v3930 : BitVec 32) (k0_hw82 : k0_chk82 v5 k0_t4 v3930), ∀ a, (k0_off165 v5 k0_t4 v3930) a + S1x512x128.size a ≤ S40x512x128.size a := fun v5 k0_t4 v3930 k0_hw82 => k0_hw82.2

def k0_off166 (v5 : BitVec 32) (k0_t4 : Fin (k0_t4_loop v5).trips) (v3979 : BitVec 32) : Fin 3 → Nat :=
  let c1_i32_1097 : BitVec 32 := 1#32
  let c1_i32_1100 : BitVec 32 := 1#32
  let arg11 : BitVec 32 := Scf.iv c1_i32_1097 c1_i32_1100 k0_t4
  let v3981 : BitVec 32 := Scalar.addi v3979 arg11
  let c39_i32_2118 : BitVec 32 := 39#32
  let v3982 : BitVec 32 := Scalar.minsi v3981 c39_i32_2118
  let v3986 : Index := Scalar.indexCast v3982
  let c0_2121 : Index := 0#32
  let c0_2122 : Index := 0#32
  ![v3986.toNat, 0, 0]

def k0_off167 (v5 : BitVec 32) (k0_t4 : Fin (k0_t4_loop v5).trips) (v3979 : BitVec 32) : Fin 3 → Nat :=
  let c1_i32_1097 : BitVec 32 := 1#32
  let c1_i32_1100 : BitVec 32 := 1#32
  let arg11 : BitVec 32 := Scf.iv c1_i32_1097 c1_i32_1100 k0_t4
  let v3981 : BitVec 32 := Scalar.addi v3979 arg11
  let c39_i32_2118 : BitVec 32 := 39#32
  let v3982 : BitVec 32 := Scalar.minsi v3981 c39_i32_2118
  let v4020 : Index := Scalar.indexCast v3982
  let c0_2135 : Index := 0#32
  let c0_2136 : Index := 0#32
  ![v4020.toNat, 0, 0]

def k0_chk83 (v5 : BitVec 32) (k0_t4 : Fin (k0_t4_loop v5).trips) (v3979 : BitVec 32) : Prop :=
  (∀ a, (k0_off166 v5 k0_t4 v3979) a + S1x128x1.size a ≤ S40x128x1.size a) ∧
  (∀ a, (k0_off167 v5 k0_t4 v3979) a + S1x512x128.size a ≤ S40x512x128.size a)
theorem k0_off166_inb : ∀ (v5 : BitVec 32) (k0_t4 : Fin (k0_t4_loop v5).trips) (v3979 : BitVec 32) (k0_hw83 : k0_chk83 v5 k0_t4 v3979), ∀ a, (k0_off166 v5 k0_t4 v3979) a + S1x128x1.size a ≤ S40x128x1.size a := fun v5 k0_t4 v3979 k0_hw83 => k0_hw83.1
theorem k0_off167_inb : ∀ (v5 : BitVec 32) (k0_t4 : Fin (k0_t4_loop v5).trips) (v3979 : BitVec 32) (k0_hw83 : k0_chk83 v5 k0_t4 v3979), ∀ a, (k0_off167 v5 k0_t4 v3979) a + S1x512x128.size a ≤ S40x512x128.size a := fun v5 k0_t4 v3979 k0_hw83 => k0_hw83.2

@[reducible] def k0_t5_loop (v5 : BitVec 32) : Scf.Loop 32 :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let v2062 : BitVec 32 := Scalar.addi c1_i32_1097 v2061
  let c1_i32_1101 : BitVec 32 := 1#32
  ⟨v2065, v2062, c1_i32_1101⟩

def k0_chk43 (v5 : BitVec 32) : Prop :=
  ((k0_t4_loop v5).OK) ∧
  ((k0_t5_loop v5).OK)
theorem k0_t4_ok : ∀ (v5 : BitVec 32) (k0_hw43 : k0_chk43 v5), (k0_t4_loop v5).OK := fun v5 k0_hw43 => k0_hw43.1
theorem k0_t5_ok : ∀ (v5 : BitVec 32) (k0_hw43 : k0_chk43 v5), (k0_t5_loop v5).OK := fun v5 k0_hw43 => k0_hw43.2

def k0_off168 (v5 : BitVec 32) (k0_t5 : Fin (k0_t5_loop v5).trips) (v2068 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2070 : BitVec 32 := Scalar.addi v2068 arg11
  let c39_i32_1104 : BitVec 32 := 39#32
  let v2071 : BitVec 32 := Scalar.minsi v2070 c39_i32_1104
  let v2075 : Index := Scalar.indexCast v2071
  let c0_1107 : Index := 0#32
  let c0_1108 : Index := 0#32
  ![v2075.toNat, 0, 0]

def k0_off169 (v5 : BitVec 32) (k0_t5 : Fin (k0_t5_loop v5).trips) (v2068 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2070 : BitVec 32 := Scalar.addi v2068 arg11
  let c39_i32_1104 : BitVec 32 := 39#32
  let v2071 : BitVec 32 := Scalar.minsi v2070 c39_i32_1104
  let v2109 : Index := Scalar.indexCast v2071
  let c0_1121 : Index := 0#32
  let c0_1122 : Index := 0#32
  ![v2109.toNat, 0, 0]

def k0_chk84 (v5 : BitVec 32) (k0_t5 : Fin (k0_t5_loop v5).trips) (v2068 : BitVec 32) : Prop :=
  (∀ a, (k0_off168 v5 k0_t5 v2068) a + S1x128x1.size a ≤ S40x128x1.size a) ∧
  (∀ a, (k0_off169 v5 k0_t5 v2068) a + S1x512x128.size a ≤ S40x512x128.size a)
theorem k0_off168_inb : ∀ (v5 : BitVec 32) (k0_t5 : Fin (k0_t5_loop v5).trips) (v2068 : BitVec 32) (k0_hw84 : k0_chk84 v5 k0_t5 v2068), ∀ a, (k0_off168 v5 k0_t5 v2068) a + S1x128x1.size a ≤ S40x128x1.size a := fun v5 k0_t5 v2068 k0_hw84 => k0_hw84.1
theorem k0_off169_inb : ∀ (v5 : BitVec 32) (k0_t5 : Fin (k0_t5_loop v5).trips) (v2068 : BitVec 32) (k0_hw84 : k0_chk84 v5 k0_t5 v2068), ∀ a, (k0_off169 v5 k0_t5 v2068) a + S1x512x128.size a ≤ S40x512x128.size a := fun v5 k0_t5 v2068 k0_hw84 => k0_hw84.2

def k0_off170 (v5 : BitVec 32) (k0_t5 : Fin (k0_t5_loop v5).trips) (v2117 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2119 : BitVec 32 := Scalar.addi v2117 arg11
  let c39_i32_1130 : BitVec 32 := 39#32
  let v2120 : BitVec 32 := Scalar.minsi v2119 c39_i32_1130
  let v2124 : Index := Scalar.indexCast v2120
  let c0_1133 : Index := 0#32
  let c0_1134 : Index := 0#32
  ![v2124.toNat, 0, 0]

def k0_off171 (v5 : BitVec 32) (k0_t5 : Fin (k0_t5_loop v5).trips) (v2117 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2119 : BitVec 32 := Scalar.addi v2117 arg11
  let c39_i32_1130 : BitVec 32 := 39#32
  let v2120 : BitVec 32 := Scalar.minsi v2119 c39_i32_1130
  let v2158 : Index := Scalar.indexCast v2120
  let c0_1147 : Index := 0#32
  let c0_1148 : Index := 0#32
  ![v2158.toNat, 0, 0]

def k0_chk85 (v5 : BitVec 32) (k0_t5 : Fin (k0_t5_loop v5).trips) (v2117 : BitVec 32) : Prop :=
  (∀ a, (k0_off170 v5 k0_t5 v2117) a + S1x128x1.size a ≤ S40x128x1.size a) ∧
  (∀ a, (k0_off171 v5 k0_t5 v2117) a + S1x512x128.size a ≤ S40x512x128.size a)
theorem k0_off170_inb : ∀ (v5 : BitVec 32) (k0_t5 : Fin (k0_t5_loop v5).trips) (v2117 : BitVec 32) (k0_hw85 : k0_chk85 v5 k0_t5 v2117), ∀ a, (k0_off170 v5 k0_t5 v2117) a + S1x128x1.size a ≤ S40x128x1.size a := fun v5 k0_t5 v2117 k0_hw85 => k0_hw85.1
theorem k0_off171_inb : ∀ (v5 : BitVec 32) (k0_t5 : Fin (k0_t5_loop v5).trips) (v2117 : BitVec 32) (k0_hw85 : k0_chk85 v5 k0_t5 v2117), ∀ a, (k0_off171 v5 k0_t5 v2117) a + S1x512x128.size a ≤ S40x512x128.size a := fun v5 k0_t5 v2117 k0_hw85 => k0_hw85.2

def k0_off172 (v5 : BitVec 32) (k0_t5 : Fin (k0_t5_loop v5).trips) (v2166 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2168 : BitVec 32 := Scalar.addi v2166 arg11
  let c39_i32_1156 : BitVec 32 := 39#32
  let v2169 : BitVec 32 := Scalar.minsi v2168 c39_i32_1156
  let v2173 : Index := Scalar.indexCast v2169
  let c0_1159 : Index := 0#32
  let c0_1160 : Index := 0#32
  ![v2173.toNat, 0, 0]

def k0_off173 (v5 : BitVec 32) (k0_t5 : Fin (k0_t5_loop v5).trips) (v2166 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2168 : BitVec 32 := Scalar.addi v2166 arg11
  let c39_i32_1156 : BitVec 32 := 39#32
  let v2169 : BitVec 32 := Scalar.minsi v2168 c39_i32_1156
  let v2207 : Index := Scalar.indexCast v2169
  let c0_1173 : Index := 0#32
  let c0_1174 : Index := 0#32
  ![v2207.toNat, 0, 0]

def k0_chk86 (v5 : BitVec 32) (k0_t5 : Fin (k0_t5_loop v5).trips) (v2166 : BitVec 32) : Prop :=
  (∀ a, (k0_off172 v5 k0_t5 v2166) a + S1x128x1.size a ≤ S40x128x1.size a) ∧
  (∀ a, (k0_off173 v5 k0_t5 v2166) a + S1x512x128.size a ≤ S40x512x128.size a)
theorem k0_off172_inb : ∀ (v5 : BitVec 32) (k0_t5 : Fin (k0_t5_loop v5).trips) (v2166 : BitVec 32) (k0_hw86 : k0_chk86 v5 k0_t5 v2166), ∀ a, (k0_off172 v5 k0_t5 v2166) a + S1x128x1.size a ≤ S40x128x1.size a := fun v5 k0_t5 v2166 k0_hw86 => k0_hw86.1
theorem k0_off173_inb : ∀ (v5 : BitVec 32) (k0_t5 : Fin (k0_t5_loop v5).trips) (v2166 : BitVec 32) (k0_hw86 : k0_chk86 v5 k0_t5 v2166), ∀ a, (k0_off173 v5 k0_t5 v2166) a + S1x512x128.size a ≤ S40x512x128.size a := fun v5 k0_t5 v2166 k0_hw86 => k0_hw86.2

def k0_off174 (v5 : BitVec 32) (k0_t5 : Fin (k0_t5_loop v5).trips) (v2215 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2217 : BitVec 32 := Scalar.addi v2215 arg11
  let c39_i32_1182 : BitVec 32 := 39#32
  let v2218 : BitVec 32 := Scalar.minsi v2217 c39_i32_1182
  let v2222 : Index := Scalar.indexCast v2218
  let c0_1185 : Index := 0#32
  let c0_1186 : Index := 0#32
  ![v2222.toNat, 0, 0]

def k0_off175 (v5 : BitVec 32) (k0_t5 : Fin (k0_t5_loop v5).trips) (v2215 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2217 : BitVec 32 := Scalar.addi v2215 arg11
  let c39_i32_1182 : BitVec 32 := 39#32
  let v2218 : BitVec 32 := Scalar.minsi v2217 c39_i32_1182
  let v2256 : Index := Scalar.indexCast v2218
  let c0_1199 : Index := 0#32
  let c0_1200 : Index := 0#32
  ![v2256.toNat, 0, 0]

def k0_chk87 (v5 : BitVec 32) (k0_t5 : Fin (k0_t5_loop v5).trips) (v2215 : BitVec 32) : Prop :=
  (∀ a, (k0_off174 v5 k0_t5 v2215) a + S1x128x1.size a ≤ S40x128x1.size a) ∧
  (∀ a, (k0_off175 v5 k0_t5 v2215) a + S1x512x128.size a ≤ S40x512x128.size a)
theorem k0_off174_inb : ∀ (v5 : BitVec 32) (k0_t5 : Fin (k0_t5_loop v5).trips) (v2215 : BitVec 32) (k0_hw87 : k0_chk87 v5 k0_t5 v2215), ∀ a, (k0_off174 v5 k0_t5 v2215) a + S1x128x1.size a ≤ S40x128x1.size a := fun v5 k0_t5 v2215 k0_hw87 => k0_hw87.1
theorem k0_off175_inb : ∀ (v5 : BitVec 32) (k0_t5 : Fin (k0_t5_loop v5).trips) (v2215 : BitVec 32) (k0_hw87 : k0_chk87 v5 k0_t5 v2215), ∀ a, (k0_off175 v5 k0_t5 v2215) a + S1x512x128.size a ≤ S40x512x128.size a := fun v5 k0_t5 v2215 k0_hw87 => k0_hw87.2

def k0_off176 (v5 : BitVec 32) (k0_t5 : Fin (k0_t5_loop v5).trips) (v2264 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2266 : BitVec 32 := Scalar.addi v2264 arg11
  let c39_i32_1208 : BitVec 32 := 39#32
  let v2267 : BitVec 32 := Scalar.minsi v2266 c39_i32_1208
  let v2271 : Index := Scalar.indexCast v2267
  let c0_1211 : Index := 0#32
  let c0_1212 : Index := 0#32
  ![v2271.toNat, 0, 0]

def k0_off177 (v5 : BitVec 32) (k0_t5 : Fin (k0_t5_loop v5).trips) (v2264 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2266 : BitVec 32 := Scalar.addi v2264 arg11
  let c39_i32_1208 : BitVec 32 := 39#32
  let v2267 : BitVec 32 := Scalar.minsi v2266 c39_i32_1208
  let v2305 : Index := Scalar.indexCast v2267
  let c0_1225 : Index := 0#32
  let c0_1226 : Index := 0#32
  ![v2305.toNat, 0, 0]

def k0_chk88 (v5 : BitVec 32) (k0_t5 : Fin (k0_t5_loop v5).trips) (v2264 : BitVec 32) : Prop :=
  (∀ a, (k0_off176 v5 k0_t5 v2264) a + S1x128x1.size a ≤ S40x128x1.size a) ∧
  (∀ a, (k0_off177 v5 k0_t5 v2264) a + S1x512x128.size a ≤ S40x512x128.size a)
theorem k0_off176_inb : ∀ (v5 : BitVec 32) (k0_t5 : Fin (k0_t5_loop v5).trips) (v2264 : BitVec 32) (k0_hw88 : k0_chk88 v5 k0_t5 v2264), ∀ a, (k0_off176 v5 k0_t5 v2264) a + S1x128x1.size a ≤ S40x128x1.size a := fun v5 k0_t5 v2264 k0_hw88 => k0_hw88.1
theorem k0_off177_inb : ∀ (v5 : BitVec 32) (k0_t5 : Fin (k0_t5_loop v5).trips) (v2264 : BitVec 32) (k0_hw88 : k0_chk88 v5 k0_t5 v2264), ∀ a, (k0_off177 v5 k0_t5 v2264) a + S1x512x128.size a ≤ S40x512x128.size a := fun v5 k0_t5 v2264 k0_hw88 => k0_hw88.2

def k0_off178 (v5 : BitVec 32) (k0_t5 : Fin (k0_t5_loop v5).trips) (v2313 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2315 : BitVec 32 := Scalar.addi v2313 arg11
  let c39_i32_1234 : BitVec 32 := 39#32
  let v2316 : BitVec 32 := Scalar.minsi v2315 c39_i32_1234
  let v2320 : Index := Scalar.indexCast v2316
  let c0_1237 : Index := 0#32
  let c0_1238 : Index := 0#32
  ![v2320.toNat, 0, 0]

def k0_off179 (v5 : BitVec 32) (k0_t5 : Fin (k0_t5_loop v5).trips) (v2313 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2315 : BitVec 32 := Scalar.addi v2313 arg11
  let c39_i32_1234 : BitVec 32 := 39#32
  let v2316 : BitVec 32 := Scalar.minsi v2315 c39_i32_1234
  let v2354 : Index := Scalar.indexCast v2316
  let c0_1251 : Index := 0#32
  let c0_1252 : Index := 0#32
  ![v2354.toNat, 0, 0]

def k0_chk89 (v5 : BitVec 32) (k0_t5 : Fin (k0_t5_loop v5).trips) (v2313 : BitVec 32) : Prop :=
  (∀ a, (k0_off178 v5 k0_t5 v2313) a + S1x128x1.size a ≤ S40x128x1.size a) ∧
  (∀ a, (k0_off179 v5 k0_t5 v2313) a + S1x512x128.size a ≤ S40x512x128.size a)
theorem k0_off178_inb : ∀ (v5 : BitVec 32) (k0_t5 : Fin (k0_t5_loop v5).trips) (v2313 : BitVec 32) (k0_hw89 : k0_chk89 v5 k0_t5 v2313), ∀ a, (k0_off178 v5 k0_t5 v2313) a + S1x128x1.size a ≤ S40x128x1.size a := fun v5 k0_t5 v2313 k0_hw89 => k0_hw89.1
theorem k0_off179_inb : ∀ (v5 : BitVec 32) (k0_t5 : Fin (k0_t5_loop v5).trips) (v2313 : BitVec 32) (k0_hw89 : k0_chk89 v5 k0_t5 v2313), ∀ a, (k0_off179 v5 k0_t5 v2313) a + S1x512x128.size a ≤ S40x512x128.size a := fun v5 k0_t5 v2313 k0_hw89 => k0_hw89.2

def k0_off180 (v5 : BitVec 32) (k0_t5 : Fin (k0_t5_loop v5).trips) (v2362 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2364 : BitVec 32 := Scalar.addi v2362 arg11
  let c39_i32_1260 : BitVec 32 := 39#32
  let v2365 : BitVec 32 := Scalar.minsi v2364 c39_i32_1260
  let v2369 : Index := Scalar.indexCast v2365
  let c0_1263 : Index := 0#32
  let c0_1264 : Index := 0#32
  ![v2369.toNat, 0, 0]

def k0_off181 (v5 : BitVec 32) (k0_t5 : Fin (k0_t5_loop v5).trips) (v2362 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2364 : BitVec 32 := Scalar.addi v2362 arg11
  let c39_i32_1260 : BitVec 32 := 39#32
  let v2365 : BitVec 32 := Scalar.minsi v2364 c39_i32_1260
  let v2403 : Index := Scalar.indexCast v2365
  let c0_1277 : Index := 0#32
  let c0_1278 : Index := 0#32
  ![v2403.toNat, 0, 0]

def k0_chk90 (v5 : BitVec 32) (k0_t5 : Fin (k0_t5_loop v5).trips) (v2362 : BitVec 32) : Prop :=
  (∀ a, (k0_off180 v5 k0_t5 v2362) a + S1x128x1.size a ≤ S40x128x1.size a) ∧
  (∀ a, (k0_off181 v5 k0_t5 v2362) a + S1x512x128.size a ≤ S40x512x128.size a)
theorem k0_off180_inb : ∀ (v5 : BitVec 32) (k0_t5 : Fin (k0_t5_loop v5).trips) (v2362 : BitVec 32) (k0_hw90 : k0_chk90 v5 k0_t5 v2362), ∀ a, (k0_off180 v5 k0_t5 v2362) a + S1x128x1.size a ≤ S40x128x1.size a := fun v5 k0_t5 v2362 k0_hw90 => k0_hw90.1
theorem k0_off181_inb : ∀ (v5 : BitVec 32) (k0_t5 : Fin (k0_t5_loop v5).trips) (v2362 : BitVec 32) (k0_hw90 : k0_chk90 v5 k0_t5 v2362), ∀ a, (k0_off181 v5 k0_t5 v2362) a + S1x512x128.size a ≤ S40x512x128.size a := fun v5 k0_t5 v2362 k0_hw90 => k0_hw90.2

def k0_off182 (v5 : BitVec 32) (k0_t5 : Fin (k0_t5_loop v5).trips) (v2411 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2413 : BitVec 32 := Scalar.addi v2411 arg11
  let c39_i32_1286 : BitVec 32 := 39#32
  let v2414 : BitVec 32 := Scalar.minsi v2413 c39_i32_1286
  let v2418 : Index := Scalar.indexCast v2414
  let c0_1289 : Index := 0#32
  let c0_1290 : Index := 0#32
  ![v2418.toNat, 0, 0]

def k0_off183 (v5 : BitVec 32) (k0_t5 : Fin (k0_t5_loop v5).trips) (v2411 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2413 : BitVec 32 := Scalar.addi v2411 arg11
  let c39_i32_1286 : BitVec 32 := 39#32
  let v2414 : BitVec 32 := Scalar.minsi v2413 c39_i32_1286
  let v2452 : Index := Scalar.indexCast v2414
  let c0_1303 : Index := 0#32
  let c0_1304 : Index := 0#32
  ![v2452.toNat, 0, 0]

def k0_chk91 (v5 : BitVec 32) (k0_t5 : Fin (k0_t5_loop v5).trips) (v2411 : BitVec 32) : Prop :=
  (∀ a, (k0_off182 v5 k0_t5 v2411) a + S1x128x1.size a ≤ S40x128x1.size a) ∧
  (∀ a, (k0_off183 v5 k0_t5 v2411) a + S1x512x128.size a ≤ S40x512x128.size a)
theorem k0_off182_inb : ∀ (v5 : BitVec 32) (k0_t5 : Fin (k0_t5_loop v5).trips) (v2411 : BitVec 32) (k0_hw91 : k0_chk91 v5 k0_t5 v2411), ∀ a, (k0_off182 v5 k0_t5 v2411) a + S1x128x1.size a ≤ S40x128x1.size a := fun v5 k0_t5 v2411 k0_hw91 => k0_hw91.1
theorem k0_off183_inb : ∀ (v5 : BitVec 32) (k0_t5 : Fin (k0_t5_loop v5).trips) (v2411 : BitVec 32) (k0_hw91 : k0_chk91 v5 k0_t5 v2411), ∀ a, (k0_off183 v5 k0_t5 v2411) a + S1x512x128.size a ≤ S40x512x128.size a := fun v5 k0_t5 v2411 k0_hw91 => k0_hw91.2

def k0_off184 (v5 : BitVec 32) (k0_t5 : Fin (k0_t5_loop v5).trips) (v2460 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2462 : BitVec 32 := Scalar.addi v2460 arg11
  let c39_i32_1312 : BitVec 32 := 39#32
  let v2463 : BitVec 32 := Scalar.minsi v2462 c39_i32_1312
  let v2467 : Index := Scalar.indexCast v2463
  let c0_1315 : Index := 0#32
  let c0_1316 : Index := 0#32
  ![v2467.toNat, 0, 0]

def k0_off185 (v5 : BitVec 32) (k0_t5 : Fin (k0_t5_loop v5).trips) (v2460 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2462 : BitVec 32 := Scalar.addi v2460 arg11
  let c39_i32_1312 : BitVec 32 := 39#32
  let v2463 : BitVec 32 := Scalar.minsi v2462 c39_i32_1312
  let v2501 : Index := Scalar.indexCast v2463
  let c0_1329 : Index := 0#32
  let c0_1330 : Index := 0#32
  ![v2501.toNat, 0, 0]

def k0_chk92 (v5 : BitVec 32) (k0_t5 : Fin (k0_t5_loop v5).trips) (v2460 : BitVec 32) : Prop :=
  (∀ a, (k0_off184 v5 k0_t5 v2460) a + S1x128x1.size a ≤ S40x128x1.size a) ∧
  (∀ a, (k0_off185 v5 k0_t5 v2460) a + S1x512x128.size a ≤ S40x512x128.size a)
theorem k0_off184_inb : ∀ (v5 : BitVec 32) (k0_t5 : Fin (k0_t5_loop v5).trips) (v2460 : BitVec 32) (k0_hw92 : k0_chk92 v5 k0_t5 v2460), ∀ a, (k0_off184 v5 k0_t5 v2460) a + S1x128x1.size a ≤ S40x128x1.size a := fun v5 k0_t5 v2460 k0_hw92 => k0_hw92.1
theorem k0_off185_inb : ∀ (v5 : BitVec 32) (k0_t5 : Fin (k0_t5_loop v5).trips) (v2460 : BitVec 32) (k0_hw92 : k0_chk92 v5 k0_t5 v2460), ∀ a, (k0_off185 v5 k0_t5 v2460) a + S1x512x128.size a ≤ S40x512x128.size a := fun v5 k0_t5 v2460 k0_hw92 => k0_hw92.2

def k0_off186 (v5 : BitVec 32) (k0_t5 : Fin (k0_t5_loop v5).trips) (v2509 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2511 : BitVec 32 := Scalar.addi v2509 arg11
  let c39_i32_1338 : BitVec 32 := 39#32
  let v2512 : BitVec 32 := Scalar.minsi v2511 c39_i32_1338
  let v2516 : Index := Scalar.indexCast v2512
  let c0_1341 : Index := 0#32
  let c0_1342 : Index := 0#32
  ![v2516.toNat, 0, 0]

def k0_off187 (v5 : BitVec 32) (k0_t5 : Fin (k0_t5_loop v5).trips) (v2509 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2511 : BitVec 32 := Scalar.addi v2509 arg11
  let c39_i32_1338 : BitVec 32 := 39#32
  let v2512 : BitVec 32 := Scalar.minsi v2511 c39_i32_1338
  let v2550 : Index := Scalar.indexCast v2512
  let c0_1355 : Index := 0#32
  let c0_1356 : Index := 0#32
  ![v2550.toNat, 0, 0]

def k0_chk93 (v5 : BitVec 32) (k0_t5 : Fin (k0_t5_loop v5).trips) (v2509 : BitVec 32) : Prop :=
  (∀ a, (k0_off186 v5 k0_t5 v2509) a + S1x128x1.size a ≤ S40x128x1.size a) ∧
  (∀ a, (k0_off187 v5 k0_t5 v2509) a + S1x512x128.size a ≤ S40x512x128.size a)
theorem k0_off186_inb : ∀ (v5 : BitVec 32) (k0_t5 : Fin (k0_t5_loop v5).trips) (v2509 : BitVec 32) (k0_hw93 : k0_chk93 v5 k0_t5 v2509), ∀ a, (k0_off186 v5 k0_t5 v2509) a + S1x128x1.size a ≤ S40x128x1.size a := fun v5 k0_t5 v2509 k0_hw93 => k0_hw93.1
theorem k0_off187_inb : ∀ (v5 : BitVec 32) (k0_t5 : Fin (k0_t5_loop v5).trips) (v2509 : BitVec 32) (k0_hw93 : k0_chk93 v5 k0_t5 v2509), ∀ a, (k0_off187 v5 k0_t5 v2509) a + S1x512x128.size a ≤ S40x512x128.size a := fun v5 k0_t5 v2509 k0_hw93 => k0_hw93.2

def k0_off188 (v5 : BitVec 32) (k0_t5 : Fin (k0_t5_loop v5).trips) (v2558 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2560 : BitVec 32 := Scalar.addi v2558 arg11
  let c39_i32_1364 : BitVec 32 := 39#32
  let v2561 : BitVec 32 := Scalar.minsi v2560 c39_i32_1364
  let v2565 : Index := Scalar.indexCast v2561
  let c0_1367 : Index := 0#32
  let c0_1368 : Index := 0#32
  ![v2565.toNat, 0, 0]

def k0_off189 (v5 : BitVec 32) (k0_t5 : Fin (k0_t5_loop v5).trips) (v2558 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2560 : BitVec 32 := Scalar.addi v2558 arg11
  let c39_i32_1364 : BitVec 32 := 39#32
  let v2561 : BitVec 32 := Scalar.minsi v2560 c39_i32_1364
  let v2599 : Index := Scalar.indexCast v2561
  let c0_1381 : Index := 0#32
  let c0_1382 : Index := 0#32
  ![v2599.toNat, 0, 0]

def k0_chk94 (v5 : BitVec 32) (k0_t5 : Fin (k0_t5_loop v5).trips) (v2558 : BitVec 32) : Prop :=
  (∀ a, (k0_off188 v5 k0_t5 v2558) a + S1x128x1.size a ≤ S40x128x1.size a) ∧
  (∀ a, (k0_off189 v5 k0_t5 v2558) a + S1x512x128.size a ≤ S40x512x128.size a)
theorem k0_off188_inb : ∀ (v5 : BitVec 32) (k0_t5 : Fin (k0_t5_loop v5).trips) (v2558 : BitVec 32) (k0_hw94 : k0_chk94 v5 k0_t5 v2558), ∀ a, (k0_off188 v5 k0_t5 v2558) a + S1x128x1.size a ≤ S40x128x1.size a := fun v5 k0_t5 v2558 k0_hw94 => k0_hw94.1
theorem k0_off189_inb : ∀ (v5 : BitVec 32) (k0_t5 : Fin (k0_t5_loop v5).trips) (v2558 : BitVec 32) (k0_hw94 : k0_chk94 v5 k0_t5 v2558), ∀ a, (k0_off189 v5 k0_t5 v2558) a + S1x512x128.size a ≤ S40x512x128.size a := fun v5 k0_t5 v2558 k0_hw94 => k0_hw94.2

def k0_off190 (v5 : BitVec 32) (k0_t5 : Fin (k0_t5_loop v5).trips) (v2607 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2609 : BitVec 32 := Scalar.addi v2607 arg11
  let c39_i32_1390 : BitVec 32 := 39#32
  let v2610 : BitVec 32 := Scalar.minsi v2609 c39_i32_1390
  let v2614 : Index := Scalar.indexCast v2610
  let c0_1393 : Index := 0#32
  let c0_1394 : Index := 0#32
  ![v2614.toNat, 0, 0]

def k0_off191 (v5 : BitVec 32) (k0_t5 : Fin (k0_t5_loop v5).trips) (v2607 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2609 : BitVec 32 := Scalar.addi v2607 arg11
  let c39_i32_1390 : BitVec 32 := 39#32
  let v2610 : BitVec 32 := Scalar.minsi v2609 c39_i32_1390
  let v2648 : Index := Scalar.indexCast v2610
  let c0_1407 : Index := 0#32
  let c0_1408 : Index := 0#32
  ![v2648.toNat, 0, 0]

def k0_chk95 (v5 : BitVec 32) (k0_t5 : Fin (k0_t5_loop v5).trips) (v2607 : BitVec 32) : Prop :=
  (∀ a, (k0_off190 v5 k0_t5 v2607) a + S1x128x1.size a ≤ S40x128x1.size a) ∧
  (∀ a, (k0_off191 v5 k0_t5 v2607) a + S1x512x128.size a ≤ S40x512x128.size a)
theorem k0_off190_inb : ∀ (v5 : BitVec 32) (k0_t5 : Fin (k0_t5_loop v5).trips) (v2607 : BitVec 32) (k0_hw95 : k0_chk95 v5 k0_t5 v2607), ∀ a, (k0_off190 v5 k0_t5 v2607) a + S1x128x1.size a ≤ S40x128x1.size a := fun v5 k0_t5 v2607 k0_hw95 => k0_hw95.1
theorem k0_off191_inb : ∀ (v5 : BitVec 32) (k0_t5 : Fin (k0_t5_loop v5).trips) (v2607 : BitVec 32) (k0_hw95 : k0_chk95 v5 k0_t5 v2607), ∀ a, (k0_off191 v5 k0_t5 v2607) a + S1x512x128.size a ≤ S40x512x128.size a := fun v5 k0_t5 v2607 k0_hw95 => k0_hw95.2

def k0_off192 (v5 : BitVec 32) (k0_t5 : Fin (k0_t5_loop v5).trips) (v2656 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2658 : BitVec 32 := Scalar.addi v2656 arg11
  let c39_i32_1416 : BitVec 32 := 39#32
  let v2659 : BitVec 32 := Scalar.minsi v2658 c39_i32_1416
  let v2663 : Index := Scalar.indexCast v2659
  let c0_1419 : Index := 0#32
  let c0_1420 : Index := 0#32
  ![v2663.toNat, 0, 0]

def k0_off193 (v5 : BitVec 32) (k0_t5 : Fin (k0_t5_loop v5).trips) (v2656 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2658 : BitVec 32 := Scalar.addi v2656 arg11
  let c39_i32_1416 : BitVec 32 := 39#32
  let v2659 : BitVec 32 := Scalar.minsi v2658 c39_i32_1416
  let v2697 : Index := Scalar.indexCast v2659
  let c0_1433 : Index := 0#32
  let c0_1434 : Index := 0#32
  ![v2697.toNat, 0, 0]

def k0_chk96 (v5 : BitVec 32) (k0_t5 : Fin (k0_t5_loop v5).trips) (v2656 : BitVec 32) : Prop :=
  (∀ a, (k0_off192 v5 k0_t5 v2656) a + S1x128x1.size a ≤ S40x128x1.size a) ∧
  (∀ a, (k0_off193 v5 k0_t5 v2656) a + S1x512x128.size a ≤ S40x512x128.size a)
theorem k0_off192_inb : ∀ (v5 : BitVec 32) (k0_t5 : Fin (k0_t5_loop v5).trips) (v2656 : BitVec 32) (k0_hw96 : k0_chk96 v5 k0_t5 v2656), ∀ a, (k0_off192 v5 k0_t5 v2656) a + S1x128x1.size a ≤ S40x128x1.size a := fun v5 k0_t5 v2656 k0_hw96 => k0_hw96.1
theorem k0_off193_inb : ∀ (v5 : BitVec 32) (k0_t5 : Fin (k0_t5_loop v5).trips) (v2656 : BitVec 32) (k0_hw96 : k0_chk96 v5 k0_t5 v2656), ∀ a, (k0_off193 v5 k0_t5 v2656) a + S1x512x128.size a ≤ S40x512x128.size a := fun v5 k0_t5 v2656 k0_hw96 => k0_hw96.2

def k0_off194 (v5 : BitVec 32) (k0_t5 : Fin (k0_t5_loop v5).trips) (v2705 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2707 : BitVec 32 := Scalar.addi v2705 arg11
  let c39_i32_1442 : BitVec 32 := 39#32
  let v2708 : BitVec 32 := Scalar.minsi v2707 c39_i32_1442
  let v2712 : Index := Scalar.indexCast v2708
  let c0_1445 : Index := 0#32
  let c0_1446 : Index := 0#32
  ![v2712.toNat, 0, 0]

def k0_off195 (v5 : BitVec 32) (k0_t5 : Fin (k0_t5_loop v5).trips) (v2705 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2707 : BitVec 32 := Scalar.addi v2705 arg11
  let c39_i32_1442 : BitVec 32 := 39#32
  let v2708 : BitVec 32 := Scalar.minsi v2707 c39_i32_1442
  let v2746 : Index := Scalar.indexCast v2708
  let c0_1459 : Index := 0#32
  let c0_1460 : Index := 0#32
  ![v2746.toNat, 0, 0]

def k0_chk97 (v5 : BitVec 32) (k0_t5 : Fin (k0_t5_loop v5).trips) (v2705 : BitVec 32) : Prop :=
  (∀ a, (k0_off194 v5 k0_t5 v2705) a + S1x128x1.size a ≤ S40x128x1.size a) ∧
  (∀ a, (k0_off195 v5 k0_t5 v2705) a + S1x512x128.size a ≤ S40x512x128.size a)
theorem k0_off194_inb : ∀ (v5 : BitVec 32) (k0_t5 : Fin (k0_t5_loop v5).trips) (v2705 : BitVec 32) (k0_hw97 : k0_chk97 v5 k0_t5 v2705), ∀ a, (k0_off194 v5 k0_t5 v2705) a + S1x128x1.size a ≤ S40x128x1.size a := fun v5 k0_t5 v2705 k0_hw97 => k0_hw97.1
theorem k0_off195_inb : ∀ (v5 : BitVec 32) (k0_t5 : Fin (k0_t5_loop v5).trips) (v2705 : BitVec 32) (k0_hw97 : k0_chk97 v5 k0_t5 v2705), ∀ a, (k0_off195 v5 k0_t5 v2705) a + S1x512x128.size a ≤ S40x512x128.size a := fun v5 k0_t5 v2705 k0_hw97 => k0_hw97.2

def k0_off196 (v5 : BitVec 32) (k0_t5 : Fin (k0_t5_loop v5).trips) (v2754 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2756 : BitVec 32 := Scalar.addi v2754 arg11
  let c39_i32_1468 : BitVec 32 := 39#32
  let v2757 : BitVec 32 := Scalar.minsi v2756 c39_i32_1468
  let v2761 : Index := Scalar.indexCast v2757
  let c0_1471 : Index := 0#32
  let c0_1472 : Index := 0#32
  ![v2761.toNat, 0, 0]

def k0_off197 (v5 : BitVec 32) (k0_t5 : Fin (k0_t5_loop v5).trips) (v2754 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2756 : BitVec 32 := Scalar.addi v2754 arg11
  let c39_i32_1468 : BitVec 32 := 39#32
  let v2757 : BitVec 32 := Scalar.minsi v2756 c39_i32_1468
  let v2795 : Index := Scalar.indexCast v2757
  let c0_1485 : Index := 0#32
  let c0_1486 : Index := 0#32
  ![v2795.toNat, 0, 0]

def k0_chk98 (v5 : BitVec 32) (k0_t5 : Fin (k0_t5_loop v5).trips) (v2754 : BitVec 32) : Prop :=
  (∀ a, (k0_off196 v5 k0_t5 v2754) a + S1x128x1.size a ≤ S40x128x1.size a) ∧
  (∀ a, (k0_off197 v5 k0_t5 v2754) a + S1x512x128.size a ≤ S40x512x128.size a)
theorem k0_off196_inb : ∀ (v5 : BitVec 32) (k0_t5 : Fin (k0_t5_loop v5).trips) (v2754 : BitVec 32) (k0_hw98 : k0_chk98 v5 k0_t5 v2754), ∀ a, (k0_off196 v5 k0_t5 v2754) a + S1x128x1.size a ≤ S40x128x1.size a := fun v5 k0_t5 v2754 k0_hw98 => k0_hw98.1
theorem k0_off197_inb : ∀ (v5 : BitVec 32) (k0_t5 : Fin (k0_t5_loop v5).trips) (v2754 : BitVec 32) (k0_hw98 : k0_chk98 v5 k0_t5 v2754), ∀ a, (k0_off197 v5 k0_t5 v2754) a + S1x512x128.size a ≤ S40x512x128.size a := fun v5 k0_t5 v2754 k0_hw98 => k0_hw98.2

def k0_off198 (v5 : BitVec 32) (k0_t5 : Fin (k0_t5_loop v5).trips) (v2803 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2805 : BitVec 32 := Scalar.addi v2803 arg11
  let c39_i32_1494 : BitVec 32 := 39#32
  let v2806 : BitVec 32 := Scalar.minsi v2805 c39_i32_1494
  let v2810 : Index := Scalar.indexCast v2806
  let c0_1497 : Index := 0#32
  let c0_1498 : Index := 0#32
  ![v2810.toNat, 0, 0]

def k0_off199 (v5 : BitVec 32) (k0_t5 : Fin (k0_t5_loop v5).trips) (v2803 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2805 : BitVec 32 := Scalar.addi v2803 arg11
  let c39_i32_1494 : BitVec 32 := 39#32
  let v2806 : BitVec 32 := Scalar.minsi v2805 c39_i32_1494
  let v2844 : Index := Scalar.indexCast v2806
  let c0_1511 : Index := 0#32
  let c0_1512 : Index := 0#32
  ![v2844.toNat, 0, 0]

def k0_chk99 (v5 : BitVec 32) (k0_t5 : Fin (k0_t5_loop v5).trips) (v2803 : BitVec 32) : Prop :=
  (∀ a, (k0_off198 v5 k0_t5 v2803) a + S1x128x1.size a ≤ S40x128x1.size a) ∧
  (∀ a, (k0_off199 v5 k0_t5 v2803) a + S1x512x128.size a ≤ S40x512x128.size a)
theorem k0_off198_inb : ∀ (v5 : BitVec 32) (k0_t5 : Fin (k0_t5_loop v5).trips) (v2803 : BitVec 32) (k0_hw99 : k0_chk99 v5 k0_t5 v2803), ∀ a, (k0_off198 v5 k0_t5 v2803) a + S1x128x1.size a ≤ S40x128x1.size a := fun v5 k0_t5 v2803 k0_hw99 => k0_hw99.1
theorem k0_off199_inb : ∀ (v5 : BitVec 32) (k0_t5 : Fin (k0_t5_loop v5).trips) (v2803 : BitVec 32) (k0_hw99 : k0_chk99 v5 k0_t5 v2803), ∀ a, (k0_off199 v5 k0_t5 v2803) a + S1x512x128.size a ≤ S40x512x128.size a := fun v5 k0_t5 v2803 k0_hw99 => k0_hw99.2

def k0_off200 (v5 : BitVec 32) (k0_t5 : Fin (k0_t5_loop v5).trips) (v2852 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2854 : BitVec 32 := Scalar.addi v2852 arg11
  let c39_i32_1520 : BitVec 32 := 39#32
  let v2855 : BitVec 32 := Scalar.minsi v2854 c39_i32_1520
  let v2859 : Index := Scalar.indexCast v2855
  let c0_1523 : Index := 0#32
  let c0_1524 : Index := 0#32
  ![v2859.toNat, 0, 0]

def k0_off201 (v5 : BitVec 32) (k0_t5 : Fin (k0_t5_loop v5).trips) (v2852 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2854 : BitVec 32 := Scalar.addi v2852 arg11
  let c39_i32_1520 : BitVec 32 := 39#32
  let v2855 : BitVec 32 := Scalar.minsi v2854 c39_i32_1520
  let v2893 : Index := Scalar.indexCast v2855
  let c0_1537 : Index := 0#32
  let c0_1538 : Index := 0#32
  ![v2893.toNat, 0, 0]

def k0_chk100 (v5 : BitVec 32) (k0_t5 : Fin (k0_t5_loop v5).trips) (v2852 : BitVec 32) : Prop :=
  (∀ a, (k0_off200 v5 k0_t5 v2852) a + S1x128x1.size a ≤ S40x128x1.size a) ∧
  (∀ a, (k0_off201 v5 k0_t5 v2852) a + S1x512x128.size a ≤ S40x512x128.size a)
theorem k0_off200_inb : ∀ (v5 : BitVec 32) (k0_t5 : Fin (k0_t5_loop v5).trips) (v2852 : BitVec 32) (k0_hw100 : k0_chk100 v5 k0_t5 v2852), ∀ a, (k0_off200 v5 k0_t5 v2852) a + S1x128x1.size a ≤ S40x128x1.size a := fun v5 k0_t5 v2852 k0_hw100 => k0_hw100.1
theorem k0_off201_inb : ∀ (v5 : BitVec 32) (k0_t5 : Fin (k0_t5_loop v5).trips) (v2852 : BitVec 32) (k0_hw100 : k0_chk100 v5 k0_t5 v2852), ∀ a, (k0_off201 v5 k0_t5 v2852) a + S1x512x128.size a ≤ S40x512x128.size a := fun v5 k0_t5 v2852 k0_hw100 => k0_hw100.2

def k0_off202 (v5 : BitVec 32) (k0_t5 : Fin (k0_t5_loop v5).trips) (v2901 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2903 : BitVec 32 := Scalar.addi v2901 arg11
  let c39_i32_1546 : BitVec 32 := 39#32
  let v2904 : BitVec 32 := Scalar.minsi v2903 c39_i32_1546
  let v2908 : Index := Scalar.indexCast v2904
  let c0_1549 : Index := 0#32
  let c0_1550 : Index := 0#32
  ![v2908.toNat, 0, 0]

def k0_off203 (v5 : BitVec 32) (k0_t5 : Fin (k0_t5_loop v5).trips) (v2901 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2903 : BitVec 32 := Scalar.addi v2901 arg11
  let c39_i32_1546 : BitVec 32 := 39#32
  let v2904 : BitVec 32 := Scalar.minsi v2903 c39_i32_1546
  let v2942 : Index := Scalar.indexCast v2904
  let c0_1563 : Index := 0#32
  let c0_1564 : Index := 0#32
  ![v2942.toNat, 0, 0]

def k0_chk101 (v5 : BitVec 32) (k0_t5 : Fin (k0_t5_loop v5).trips) (v2901 : BitVec 32) : Prop :=
  (∀ a, (k0_off202 v5 k0_t5 v2901) a + S1x128x1.size a ≤ S40x128x1.size a) ∧
  (∀ a, (k0_off203 v5 k0_t5 v2901) a + S1x512x128.size a ≤ S40x512x128.size a)
theorem k0_off202_inb : ∀ (v5 : BitVec 32) (k0_t5 : Fin (k0_t5_loop v5).trips) (v2901 : BitVec 32) (k0_hw101 : k0_chk101 v5 k0_t5 v2901), ∀ a, (k0_off202 v5 k0_t5 v2901) a + S1x128x1.size a ≤ S40x128x1.size a := fun v5 k0_t5 v2901 k0_hw101 => k0_hw101.1
theorem k0_off203_inb : ∀ (v5 : BitVec 32) (k0_t5 : Fin (k0_t5_loop v5).trips) (v2901 : BitVec 32) (k0_hw101 : k0_chk101 v5 k0_t5 v2901), ∀ a, (k0_off203 v5 k0_t5 v2901) a + S1x512x128.size a ≤ S40x512x128.size a := fun v5 k0_t5 v2901 k0_hw101 => k0_hw101.2

def k0_off204 (v5 : BitVec 32) (k0_t5 : Fin (k0_t5_loop v5).trips) (v2950 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2952 : BitVec 32 := Scalar.addi v2950 arg11
  let c39_i32_1572 : BitVec 32 := 39#32
  let v2953 : BitVec 32 := Scalar.minsi v2952 c39_i32_1572
  let v2957 : Index := Scalar.indexCast v2953
  let c0_1575 : Index := 0#32
  let c0_1576 : Index := 0#32
  ![v2957.toNat, 0, 0]

def k0_off205 (v5 : BitVec 32) (k0_t5 : Fin (k0_t5_loop v5).trips) (v2950 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v2952 : BitVec 32 := Scalar.addi v2950 arg11
  let c39_i32_1572 : BitVec 32 := 39#32
  let v2953 : BitVec 32 := Scalar.minsi v2952 c39_i32_1572
  let v2991 : Index := Scalar.indexCast v2953
  let c0_1589 : Index := 0#32
  let c0_1590 : Index := 0#32
  ![v2991.toNat, 0, 0]

def k0_chk102 (v5 : BitVec 32) (k0_t5 : Fin (k0_t5_loop v5).trips) (v2950 : BitVec 32) : Prop :=
  (∀ a, (k0_off204 v5 k0_t5 v2950) a + S1x128x1.size a ≤ S40x128x1.size a) ∧
  (∀ a, (k0_off205 v5 k0_t5 v2950) a + S1x512x128.size a ≤ S40x512x128.size a)
theorem k0_off204_inb : ∀ (v5 : BitVec 32) (k0_t5 : Fin (k0_t5_loop v5).trips) (v2950 : BitVec 32) (k0_hw102 : k0_chk102 v5 k0_t5 v2950), ∀ a, (k0_off204 v5 k0_t5 v2950) a + S1x128x1.size a ≤ S40x128x1.size a := fun v5 k0_t5 v2950 k0_hw102 => k0_hw102.1
theorem k0_off205_inb : ∀ (v5 : BitVec 32) (k0_t5 : Fin (k0_t5_loop v5).trips) (v2950 : BitVec 32) (k0_hw102 : k0_chk102 v5 k0_t5 v2950), ∀ a, (k0_off205 v5 k0_t5 v2950) a + S1x512x128.size a ≤ S40x512x128.size a := fun v5 k0_t5 v2950 k0_hw102 => k0_hw102.2

def k0_off206 (v5 : BitVec 32) (k0_t5 : Fin (k0_t5_loop v5).trips) (v2999 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3001 : BitVec 32 := Scalar.addi v2999 arg11
  let c39_i32_1598 : BitVec 32 := 39#32
  let v3002 : BitVec 32 := Scalar.minsi v3001 c39_i32_1598
  let v3006 : Index := Scalar.indexCast v3002
  let c0_1601 : Index := 0#32
  let c0_1602 : Index := 0#32
  ![v3006.toNat, 0, 0]

def k0_off207 (v5 : BitVec 32) (k0_t5 : Fin (k0_t5_loop v5).trips) (v2999 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3001 : BitVec 32 := Scalar.addi v2999 arg11
  let c39_i32_1598 : BitVec 32 := 39#32
  let v3002 : BitVec 32 := Scalar.minsi v3001 c39_i32_1598
  let v3040 : Index := Scalar.indexCast v3002
  let c0_1615 : Index := 0#32
  let c0_1616 : Index := 0#32
  ![v3040.toNat, 0, 0]

def k0_chk103 (v5 : BitVec 32) (k0_t5 : Fin (k0_t5_loop v5).trips) (v2999 : BitVec 32) : Prop :=
  (∀ a, (k0_off206 v5 k0_t5 v2999) a + S1x128x1.size a ≤ S40x128x1.size a) ∧
  (∀ a, (k0_off207 v5 k0_t5 v2999) a + S1x512x128.size a ≤ S40x512x128.size a)
theorem k0_off206_inb : ∀ (v5 : BitVec 32) (k0_t5 : Fin (k0_t5_loop v5).trips) (v2999 : BitVec 32) (k0_hw103 : k0_chk103 v5 k0_t5 v2999), ∀ a, (k0_off206 v5 k0_t5 v2999) a + S1x128x1.size a ≤ S40x128x1.size a := fun v5 k0_t5 v2999 k0_hw103 => k0_hw103.1
theorem k0_off207_inb : ∀ (v5 : BitVec 32) (k0_t5 : Fin (k0_t5_loop v5).trips) (v2999 : BitVec 32) (k0_hw103 : k0_chk103 v5 k0_t5 v2999), ∀ a, (k0_off207 v5 k0_t5 v2999) a + S1x512x128.size a ≤ S40x512x128.size a := fun v5 k0_t5 v2999 k0_hw103 => k0_hw103.2

def k0_off208 (v5 : BitVec 32) (k0_t5 : Fin (k0_t5_loop v5).trips) (v3048 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3050 : BitVec 32 := Scalar.addi v3048 arg11
  let c39_i32_1624 : BitVec 32 := 39#32
  let v3051 : BitVec 32 := Scalar.minsi v3050 c39_i32_1624
  let v3055 : Index := Scalar.indexCast v3051
  let c0_1627 : Index := 0#32
  let c0_1628 : Index := 0#32
  ![v3055.toNat, 0, 0]

def k0_off209 (v5 : BitVec 32) (k0_t5 : Fin (k0_t5_loop v5).trips) (v3048 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3050 : BitVec 32 := Scalar.addi v3048 arg11
  let c39_i32_1624 : BitVec 32 := 39#32
  let v3051 : BitVec 32 := Scalar.minsi v3050 c39_i32_1624
  let v3089 : Index := Scalar.indexCast v3051
  let c0_1641 : Index := 0#32
  let c0_1642 : Index := 0#32
  ![v3089.toNat, 0, 0]

def k0_chk104 (v5 : BitVec 32) (k0_t5 : Fin (k0_t5_loop v5).trips) (v3048 : BitVec 32) : Prop :=
  (∀ a, (k0_off208 v5 k0_t5 v3048) a + S1x128x1.size a ≤ S40x128x1.size a) ∧
  (∀ a, (k0_off209 v5 k0_t5 v3048) a + S1x512x128.size a ≤ S40x512x128.size a)
theorem k0_off208_inb : ∀ (v5 : BitVec 32) (k0_t5 : Fin (k0_t5_loop v5).trips) (v3048 : BitVec 32) (k0_hw104 : k0_chk104 v5 k0_t5 v3048), ∀ a, (k0_off208 v5 k0_t5 v3048) a + S1x128x1.size a ≤ S40x128x1.size a := fun v5 k0_t5 v3048 k0_hw104 => k0_hw104.1
theorem k0_off209_inb : ∀ (v5 : BitVec 32) (k0_t5 : Fin (k0_t5_loop v5).trips) (v3048 : BitVec 32) (k0_hw104 : k0_chk104 v5 k0_t5 v3048), ∀ a, (k0_off209 v5 k0_t5 v3048) a + S1x512x128.size a ≤ S40x512x128.size a := fun v5 k0_t5 v3048 k0_hw104 => k0_hw104.2

def k0_off210 (v5 : BitVec 32) (k0_t5 : Fin (k0_t5_loop v5).trips) (v3097 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3099 : BitVec 32 := Scalar.addi v3097 arg11
  let c39_i32_1650 : BitVec 32 := 39#32
  let v3100 : BitVec 32 := Scalar.minsi v3099 c39_i32_1650
  let v3104 : Index := Scalar.indexCast v3100
  let c0_1653 : Index := 0#32
  let c0_1654 : Index := 0#32
  ![v3104.toNat, 0, 0]

def k0_off211 (v5 : BitVec 32) (k0_t5 : Fin (k0_t5_loop v5).trips) (v3097 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3099 : BitVec 32 := Scalar.addi v3097 arg11
  let c39_i32_1650 : BitVec 32 := 39#32
  let v3100 : BitVec 32 := Scalar.minsi v3099 c39_i32_1650
  let v3138 : Index := Scalar.indexCast v3100
  let c0_1667 : Index := 0#32
  let c0_1668 : Index := 0#32
  ![v3138.toNat, 0, 0]

def k0_chk105 (v5 : BitVec 32) (k0_t5 : Fin (k0_t5_loop v5).trips) (v3097 : BitVec 32) : Prop :=
  (∀ a, (k0_off210 v5 k0_t5 v3097) a + S1x128x1.size a ≤ S40x128x1.size a) ∧
  (∀ a, (k0_off211 v5 k0_t5 v3097) a + S1x512x128.size a ≤ S40x512x128.size a)
theorem k0_off210_inb : ∀ (v5 : BitVec 32) (k0_t5 : Fin (k0_t5_loop v5).trips) (v3097 : BitVec 32) (k0_hw105 : k0_chk105 v5 k0_t5 v3097), ∀ a, (k0_off210 v5 k0_t5 v3097) a + S1x128x1.size a ≤ S40x128x1.size a := fun v5 k0_t5 v3097 k0_hw105 => k0_hw105.1
theorem k0_off211_inb : ∀ (v5 : BitVec 32) (k0_t5 : Fin (k0_t5_loop v5).trips) (v3097 : BitVec 32) (k0_hw105 : k0_chk105 v5 k0_t5 v3097), ∀ a, (k0_off211 v5 k0_t5 v3097) a + S1x512x128.size a ≤ S40x512x128.size a := fun v5 k0_t5 v3097 k0_hw105 => k0_hw105.2

def k0_off212 (v5 : BitVec 32) (k0_t5 : Fin (k0_t5_loop v5).trips) (v3146 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3148 : BitVec 32 := Scalar.addi v3146 arg11
  let c39_i32_1676 : BitVec 32 := 39#32
  let v3149 : BitVec 32 := Scalar.minsi v3148 c39_i32_1676
  let v3153 : Index := Scalar.indexCast v3149
  let c0_1679 : Index := 0#32
  let c0_1680 : Index := 0#32
  ![v3153.toNat, 0, 0]

def k0_off213 (v5 : BitVec 32) (k0_t5 : Fin (k0_t5_loop v5).trips) (v3146 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3148 : BitVec 32 := Scalar.addi v3146 arg11
  let c39_i32_1676 : BitVec 32 := 39#32
  let v3149 : BitVec 32 := Scalar.minsi v3148 c39_i32_1676
  let v3187 : Index := Scalar.indexCast v3149
  let c0_1693 : Index := 0#32
  let c0_1694 : Index := 0#32
  ![v3187.toNat, 0, 0]

def k0_chk106 (v5 : BitVec 32) (k0_t5 : Fin (k0_t5_loop v5).trips) (v3146 : BitVec 32) : Prop :=
  (∀ a, (k0_off212 v5 k0_t5 v3146) a + S1x128x1.size a ≤ S40x128x1.size a) ∧
  (∀ a, (k0_off213 v5 k0_t5 v3146) a + S1x512x128.size a ≤ S40x512x128.size a)
theorem k0_off212_inb : ∀ (v5 : BitVec 32) (k0_t5 : Fin (k0_t5_loop v5).trips) (v3146 : BitVec 32) (k0_hw106 : k0_chk106 v5 k0_t5 v3146), ∀ a, (k0_off212 v5 k0_t5 v3146) a + S1x128x1.size a ≤ S40x128x1.size a := fun v5 k0_t5 v3146 k0_hw106 => k0_hw106.1
theorem k0_off213_inb : ∀ (v5 : BitVec 32) (k0_t5 : Fin (k0_t5_loop v5).trips) (v3146 : BitVec 32) (k0_hw106 : k0_chk106 v5 k0_t5 v3146), ∀ a, (k0_off213 v5 k0_t5 v3146) a + S1x512x128.size a ≤ S40x512x128.size a := fun v5 k0_t5 v3146 k0_hw106 => k0_hw106.2

def k0_off214 (v5 : BitVec 32) (k0_t5 : Fin (k0_t5_loop v5).trips) (v3195 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3197 : BitVec 32 := Scalar.addi v3195 arg11
  let c39_i32_1702 : BitVec 32 := 39#32
  let v3198 : BitVec 32 := Scalar.minsi v3197 c39_i32_1702
  let v3202 : Index := Scalar.indexCast v3198
  let c0_1705 : Index := 0#32
  let c0_1706 : Index := 0#32
  ![v3202.toNat, 0, 0]

def k0_off215 (v5 : BitVec 32) (k0_t5 : Fin (k0_t5_loop v5).trips) (v3195 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3197 : BitVec 32 := Scalar.addi v3195 arg11
  let c39_i32_1702 : BitVec 32 := 39#32
  let v3198 : BitVec 32 := Scalar.minsi v3197 c39_i32_1702
  let v3236 : Index := Scalar.indexCast v3198
  let c0_1719 : Index := 0#32
  let c0_1720 : Index := 0#32
  ![v3236.toNat, 0, 0]

def k0_chk107 (v5 : BitVec 32) (k0_t5 : Fin (k0_t5_loop v5).trips) (v3195 : BitVec 32) : Prop :=
  (∀ a, (k0_off214 v5 k0_t5 v3195) a + S1x128x1.size a ≤ S40x128x1.size a) ∧
  (∀ a, (k0_off215 v5 k0_t5 v3195) a + S1x512x128.size a ≤ S40x512x128.size a)
theorem k0_off214_inb : ∀ (v5 : BitVec 32) (k0_t5 : Fin (k0_t5_loop v5).trips) (v3195 : BitVec 32) (k0_hw107 : k0_chk107 v5 k0_t5 v3195), ∀ a, (k0_off214 v5 k0_t5 v3195) a + S1x128x1.size a ≤ S40x128x1.size a := fun v5 k0_t5 v3195 k0_hw107 => k0_hw107.1
theorem k0_off215_inb : ∀ (v5 : BitVec 32) (k0_t5 : Fin (k0_t5_loop v5).trips) (v3195 : BitVec 32) (k0_hw107 : k0_chk107 v5 k0_t5 v3195), ∀ a, (k0_off215 v5 k0_t5 v3195) a + S1x512x128.size a ≤ S40x512x128.size a := fun v5 k0_t5 v3195 k0_hw107 => k0_hw107.2

def k0_off216 (v5 : BitVec 32) (k0_t5 : Fin (k0_t5_loop v5).trips) (v3244 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3246 : BitVec 32 := Scalar.addi v3244 arg11
  let c39_i32_1728 : BitVec 32 := 39#32
  let v3247 : BitVec 32 := Scalar.minsi v3246 c39_i32_1728
  let v3251 : Index := Scalar.indexCast v3247
  let c0_1731 : Index := 0#32
  let c0_1732 : Index := 0#32
  ![v3251.toNat, 0, 0]

def k0_off217 (v5 : BitVec 32) (k0_t5 : Fin (k0_t5_loop v5).trips) (v3244 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3246 : BitVec 32 := Scalar.addi v3244 arg11
  let c39_i32_1728 : BitVec 32 := 39#32
  let v3247 : BitVec 32 := Scalar.minsi v3246 c39_i32_1728
  let v3285 : Index := Scalar.indexCast v3247
  let c0_1745 : Index := 0#32
  let c0_1746 : Index := 0#32
  ![v3285.toNat, 0, 0]

def k0_chk108 (v5 : BitVec 32) (k0_t5 : Fin (k0_t5_loop v5).trips) (v3244 : BitVec 32) : Prop :=
  (∀ a, (k0_off216 v5 k0_t5 v3244) a + S1x128x1.size a ≤ S40x128x1.size a) ∧
  (∀ a, (k0_off217 v5 k0_t5 v3244) a + S1x512x128.size a ≤ S40x512x128.size a)
theorem k0_off216_inb : ∀ (v5 : BitVec 32) (k0_t5 : Fin (k0_t5_loop v5).trips) (v3244 : BitVec 32) (k0_hw108 : k0_chk108 v5 k0_t5 v3244), ∀ a, (k0_off216 v5 k0_t5 v3244) a + S1x128x1.size a ≤ S40x128x1.size a := fun v5 k0_t5 v3244 k0_hw108 => k0_hw108.1
theorem k0_off217_inb : ∀ (v5 : BitVec 32) (k0_t5 : Fin (k0_t5_loop v5).trips) (v3244 : BitVec 32) (k0_hw108 : k0_chk108 v5 k0_t5 v3244), ∀ a, (k0_off217 v5 k0_t5 v3244) a + S1x512x128.size a ≤ S40x512x128.size a := fun v5 k0_t5 v3244 k0_hw108 => k0_hw108.2

def k0_off218 (v5 : BitVec 32) (k0_t5 : Fin (k0_t5_loop v5).trips) (v3293 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3295 : BitVec 32 := Scalar.addi v3293 arg11
  let c39_i32_1754 : BitVec 32 := 39#32
  let v3296 : BitVec 32 := Scalar.minsi v3295 c39_i32_1754
  let v3300 : Index := Scalar.indexCast v3296
  let c0_1757 : Index := 0#32
  let c0_1758 : Index := 0#32
  ![v3300.toNat, 0, 0]

def k0_off219 (v5 : BitVec 32) (k0_t5 : Fin (k0_t5_loop v5).trips) (v3293 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3295 : BitVec 32 := Scalar.addi v3293 arg11
  let c39_i32_1754 : BitVec 32 := 39#32
  let v3296 : BitVec 32 := Scalar.minsi v3295 c39_i32_1754
  let v3334 : Index := Scalar.indexCast v3296
  let c0_1771 : Index := 0#32
  let c0_1772 : Index := 0#32
  ![v3334.toNat, 0, 0]

def k0_chk109 (v5 : BitVec 32) (k0_t5 : Fin (k0_t5_loop v5).trips) (v3293 : BitVec 32) : Prop :=
  (∀ a, (k0_off218 v5 k0_t5 v3293) a + S1x128x1.size a ≤ S40x128x1.size a) ∧
  (∀ a, (k0_off219 v5 k0_t5 v3293) a + S1x512x128.size a ≤ S40x512x128.size a)
theorem k0_off218_inb : ∀ (v5 : BitVec 32) (k0_t5 : Fin (k0_t5_loop v5).trips) (v3293 : BitVec 32) (k0_hw109 : k0_chk109 v5 k0_t5 v3293), ∀ a, (k0_off218 v5 k0_t5 v3293) a + S1x128x1.size a ≤ S40x128x1.size a := fun v5 k0_t5 v3293 k0_hw109 => k0_hw109.1
theorem k0_off219_inb : ∀ (v5 : BitVec 32) (k0_t5 : Fin (k0_t5_loop v5).trips) (v3293 : BitVec 32) (k0_hw109 : k0_chk109 v5 k0_t5 v3293), ∀ a, (k0_off219 v5 k0_t5 v3293) a + S1x512x128.size a ≤ S40x512x128.size a := fun v5 k0_t5 v3293 k0_hw109 => k0_hw109.2

def k0_off220 (v5 : BitVec 32) (k0_t5 : Fin (k0_t5_loop v5).trips) (v3342 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3344 : BitVec 32 := Scalar.addi v3342 arg11
  let c39_i32_1780 : BitVec 32 := 39#32
  let v3345 : BitVec 32 := Scalar.minsi v3344 c39_i32_1780
  let v3349 : Index := Scalar.indexCast v3345
  let c0_1783 : Index := 0#32
  let c0_1784 : Index := 0#32
  ![v3349.toNat, 0, 0]

def k0_off221 (v5 : BitVec 32) (k0_t5 : Fin (k0_t5_loop v5).trips) (v3342 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3344 : BitVec 32 := Scalar.addi v3342 arg11
  let c39_i32_1780 : BitVec 32 := 39#32
  let v3345 : BitVec 32 := Scalar.minsi v3344 c39_i32_1780
  let v3383 : Index := Scalar.indexCast v3345
  let c0_1797 : Index := 0#32
  let c0_1798 : Index := 0#32
  ![v3383.toNat, 0, 0]

def k0_chk110 (v5 : BitVec 32) (k0_t5 : Fin (k0_t5_loop v5).trips) (v3342 : BitVec 32) : Prop :=
  (∀ a, (k0_off220 v5 k0_t5 v3342) a + S1x128x1.size a ≤ S40x128x1.size a) ∧
  (∀ a, (k0_off221 v5 k0_t5 v3342) a + S1x512x128.size a ≤ S40x512x128.size a)
theorem k0_off220_inb : ∀ (v5 : BitVec 32) (k0_t5 : Fin (k0_t5_loop v5).trips) (v3342 : BitVec 32) (k0_hw110 : k0_chk110 v5 k0_t5 v3342), ∀ a, (k0_off220 v5 k0_t5 v3342) a + S1x128x1.size a ≤ S40x128x1.size a := fun v5 k0_t5 v3342 k0_hw110 => k0_hw110.1
theorem k0_off221_inb : ∀ (v5 : BitVec 32) (k0_t5 : Fin (k0_t5_loop v5).trips) (v3342 : BitVec 32) (k0_hw110 : k0_chk110 v5 k0_t5 v3342), ∀ a, (k0_off221 v5 k0_t5 v3342) a + S1x512x128.size a ≤ S40x512x128.size a := fun v5 k0_t5 v3342 k0_hw110 => k0_hw110.2

def k0_off222 (v5 : BitVec 32) (k0_t5 : Fin (k0_t5_loop v5).trips) (v3391 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3393 : BitVec 32 := Scalar.addi v3391 arg11
  let c39_i32_1806 : BitVec 32 := 39#32
  let v3394 : BitVec 32 := Scalar.minsi v3393 c39_i32_1806
  let v3398 : Index := Scalar.indexCast v3394
  let c0_1809 : Index := 0#32
  let c0_1810 : Index := 0#32
  ![v3398.toNat, 0, 0]

def k0_off223 (v5 : BitVec 32) (k0_t5 : Fin (k0_t5_loop v5).trips) (v3391 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3393 : BitVec 32 := Scalar.addi v3391 arg11
  let c39_i32_1806 : BitVec 32 := 39#32
  let v3394 : BitVec 32 := Scalar.minsi v3393 c39_i32_1806
  let v3432 : Index := Scalar.indexCast v3394
  let c0_1823 : Index := 0#32
  let c0_1824 : Index := 0#32
  ![v3432.toNat, 0, 0]

def k0_chk111 (v5 : BitVec 32) (k0_t5 : Fin (k0_t5_loop v5).trips) (v3391 : BitVec 32) : Prop :=
  (∀ a, (k0_off222 v5 k0_t5 v3391) a + S1x128x1.size a ≤ S40x128x1.size a) ∧
  (∀ a, (k0_off223 v5 k0_t5 v3391) a + S1x512x128.size a ≤ S40x512x128.size a)
theorem k0_off222_inb : ∀ (v5 : BitVec 32) (k0_t5 : Fin (k0_t5_loop v5).trips) (v3391 : BitVec 32) (k0_hw111 : k0_chk111 v5 k0_t5 v3391), ∀ a, (k0_off222 v5 k0_t5 v3391) a + S1x128x1.size a ≤ S40x128x1.size a := fun v5 k0_t5 v3391 k0_hw111 => k0_hw111.1
theorem k0_off223_inb : ∀ (v5 : BitVec 32) (k0_t5 : Fin (k0_t5_loop v5).trips) (v3391 : BitVec 32) (k0_hw111 : k0_chk111 v5 k0_t5 v3391), ∀ a, (k0_off223 v5 k0_t5 v3391) a + S1x512x128.size a ≤ S40x512x128.size a := fun v5 k0_t5 v3391 k0_hw111 => k0_hw111.2

def k0_off224 (v5 : BitVec 32) (k0_t5 : Fin (k0_t5_loop v5).trips) (v3440 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3442 : BitVec 32 := Scalar.addi v3440 arg11
  let c39_i32_1832 : BitVec 32 := 39#32
  let v3443 : BitVec 32 := Scalar.minsi v3442 c39_i32_1832
  let v3447 : Index := Scalar.indexCast v3443
  let c0_1835 : Index := 0#32
  let c0_1836 : Index := 0#32
  ![v3447.toNat, 0, 0]

def k0_off225 (v5 : BitVec 32) (k0_t5 : Fin (k0_t5_loop v5).trips) (v3440 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3442 : BitVec 32 := Scalar.addi v3440 arg11
  let c39_i32_1832 : BitVec 32 := 39#32
  let v3443 : BitVec 32 := Scalar.minsi v3442 c39_i32_1832
  let v3481 : Index := Scalar.indexCast v3443
  let c0_1849 : Index := 0#32
  let c0_1850 : Index := 0#32
  ![v3481.toNat, 0, 0]

def k0_chk112 (v5 : BitVec 32) (k0_t5 : Fin (k0_t5_loop v5).trips) (v3440 : BitVec 32) : Prop :=
  (∀ a, (k0_off224 v5 k0_t5 v3440) a + S1x128x1.size a ≤ S40x128x1.size a) ∧
  (∀ a, (k0_off225 v5 k0_t5 v3440) a + S1x512x128.size a ≤ S40x512x128.size a)
theorem k0_off224_inb : ∀ (v5 : BitVec 32) (k0_t5 : Fin (k0_t5_loop v5).trips) (v3440 : BitVec 32) (k0_hw112 : k0_chk112 v5 k0_t5 v3440), ∀ a, (k0_off224 v5 k0_t5 v3440) a + S1x128x1.size a ≤ S40x128x1.size a := fun v5 k0_t5 v3440 k0_hw112 => k0_hw112.1
theorem k0_off225_inb : ∀ (v5 : BitVec 32) (k0_t5 : Fin (k0_t5_loop v5).trips) (v3440 : BitVec 32) (k0_hw112 : k0_chk112 v5 k0_t5 v3440), ∀ a, (k0_off225 v5 k0_t5 v3440) a + S1x512x128.size a ≤ S40x512x128.size a := fun v5 k0_t5 v3440 k0_hw112 => k0_hw112.2

def k0_off226 (v5 : BitVec 32) (k0_t5 : Fin (k0_t5_loop v5).trips) (v3489 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3491 : BitVec 32 := Scalar.addi v3489 arg11
  let c39_i32_1858 : BitVec 32 := 39#32
  let v3492 : BitVec 32 := Scalar.minsi v3491 c39_i32_1858
  let v3496 : Index := Scalar.indexCast v3492
  let c0_1861 : Index := 0#32
  let c0_1862 : Index := 0#32
  ![v3496.toNat, 0, 0]

def k0_off227 (v5 : BitVec 32) (k0_t5 : Fin (k0_t5_loop v5).trips) (v3489 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3491 : BitVec 32 := Scalar.addi v3489 arg11
  let c39_i32_1858 : BitVec 32 := 39#32
  let v3492 : BitVec 32 := Scalar.minsi v3491 c39_i32_1858
  let v3530 : Index := Scalar.indexCast v3492
  let c0_1875 : Index := 0#32
  let c0_1876 : Index := 0#32
  ![v3530.toNat, 0, 0]

def k0_chk113 (v5 : BitVec 32) (k0_t5 : Fin (k0_t5_loop v5).trips) (v3489 : BitVec 32) : Prop :=
  (∀ a, (k0_off226 v5 k0_t5 v3489) a + S1x128x1.size a ≤ S40x128x1.size a) ∧
  (∀ a, (k0_off227 v5 k0_t5 v3489) a + S1x512x128.size a ≤ S40x512x128.size a)
theorem k0_off226_inb : ∀ (v5 : BitVec 32) (k0_t5 : Fin (k0_t5_loop v5).trips) (v3489 : BitVec 32) (k0_hw113 : k0_chk113 v5 k0_t5 v3489), ∀ a, (k0_off226 v5 k0_t5 v3489) a + S1x128x1.size a ≤ S40x128x1.size a := fun v5 k0_t5 v3489 k0_hw113 => k0_hw113.1
theorem k0_off227_inb : ∀ (v5 : BitVec 32) (k0_t5 : Fin (k0_t5_loop v5).trips) (v3489 : BitVec 32) (k0_hw113 : k0_chk113 v5 k0_t5 v3489), ∀ a, (k0_off227 v5 k0_t5 v3489) a + S1x512x128.size a ≤ S40x512x128.size a := fun v5 k0_t5 v3489 k0_hw113 => k0_hw113.2

def k0_off228 (v5 : BitVec 32) (k0_t5 : Fin (k0_t5_loop v5).trips) (v3538 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3540 : BitVec 32 := Scalar.addi v3538 arg11
  let c39_i32_1884 : BitVec 32 := 39#32
  let v3541 : BitVec 32 := Scalar.minsi v3540 c39_i32_1884
  let v3545 : Index := Scalar.indexCast v3541
  let c0_1887 : Index := 0#32
  let c0_1888 : Index := 0#32
  ![v3545.toNat, 0, 0]

def k0_off229 (v5 : BitVec 32) (k0_t5 : Fin (k0_t5_loop v5).trips) (v3538 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3540 : BitVec 32 := Scalar.addi v3538 arg11
  let c39_i32_1884 : BitVec 32 := 39#32
  let v3541 : BitVec 32 := Scalar.minsi v3540 c39_i32_1884
  let v3579 : Index := Scalar.indexCast v3541
  let c0_1901 : Index := 0#32
  let c0_1902 : Index := 0#32
  ![v3579.toNat, 0, 0]

def k0_chk114 (v5 : BitVec 32) (k0_t5 : Fin (k0_t5_loop v5).trips) (v3538 : BitVec 32) : Prop :=
  (∀ a, (k0_off228 v5 k0_t5 v3538) a + S1x128x1.size a ≤ S40x128x1.size a) ∧
  (∀ a, (k0_off229 v5 k0_t5 v3538) a + S1x512x128.size a ≤ S40x512x128.size a)
theorem k0_off228_inb : ∀ (v5 : BitVec 32) (k0_t5 : Fin (k0_t5_loop v5).trips) (v3538 : BitVec 32) (k0_hw114 : k0_chk114 v5 k0_t5 v3538), ∀ a, (k0_off228 v5 k0_t5 v3538) a + S1x128x1.size a ≤ S40x128x1.size a := fun v5 k0_t5 v3538 k0_hw114 => k0_hw114.1
theorem k0_off229_inb : ∀ (v5 : BitVec 32) (k0_t5 : Fin (k0_t5_loop v5).trips) (v3538 : BitVec 32) (k0_hw114 : k0_chk114 v5 k0_t5 v3538), ∀ a, (k0_off229 v5 k0_t5 v3538) a + S1x512x128.size a ≤ S40x512x128.size a := fun v5 k0_t5 v3538 k0_hw114 => k0_hw114.2

def k0_off230 (v5 : BitVec 32) (k0_t5 : Fin (k0_t5_loop v5).trips) (v3587 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3589 : BitVec 32 := Scalar.addi v3587 arg11
  let c39_i32_1910 : BitVec 32 := 39#32
  let v3590 : BitVec 32 := Scalar.minsi v3589 c39_i32_1910
  let v3594 : Index := Scalar.indexCast v3590
  let c0_1913 : Index := 0#32
  let c0_1914 : Index := 0#32
  ![v3594.toNat, 0, 0]

def k0_off231 (v5 : BitVec 32) (k0_t5 : Fin (k0_t5_loop v5).trips) (v3587 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3589 : BitVec 32 := Scalar.addi v3587 arg11
  let c39_i32_1910 : BitVec 32 := 39#32
  let v3590 : BitVec 32 := Scalar.minsi v3589 c39_i32_1910
  let v3628 : Index := Scalar.indexCast v3590
  let c0_1927 : Index := 0#32
  let c0_1928 : Index := 0#32
  ![v3628.toNat, 0, 0]

def k0_chk115 (v5 : BitVec 32) (k0_t5 : Fin (k0_t5_loop v5).trips) (v3587 : BitVec 32) : Prop :=
  (∀ a, (k0_off230 v5 k0_t5 v3587) a + S1x128x1.size a ≤ S40x128x1.size a) ∧
  (∀ a, (k0_off231 v5 k0_t5 v3587) a + S1x512x128.size a ≤ S40x512x128.size a)
theorem k0_off230_inb : ∀ (v5 : BitVec 32) (k0_t5 : Fin (k0_t5_loop v5).trips) (v3587 : BitVec 32) (k0_hw115 : k0_chk115 v5 k0_t5 v3587), ∀ a, (k0_off230 v5 k0_t5 v3587) a + S1x128x1.size a ≤ S40x128x1.size a := fun v5 k0_t5 v3587 k0_hw115 => k0_hw115.1
theorem k0_off231_inb : ∀ (v5 : BitVec 32) (k0_t5 : Fin (k0_t5_loop v5).trips) (v3587 : BitVec 32) (k0_hw115 : k0_chk115 v5 k0_t5 v3587), ∀ a, (k0_off231 v5 k0_t5 v3587) a + S1x512x128.size a ≤ S40x512x128.size a := fun v5 k0_t5 v3587 k0_hw115 => k0_hw115.2

def k0_off232 (v5 : BitVec 32) (k0_t5 : Fin (k0_t5_loop v5).trips) (v3636 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3638 : BitVec 32 := Scalar.addi v3636 arg11
  let c39_i32_1936 : BitVec 32 := 39#32
  let v3639 : BitVec 32 := Scalar.minsi v3638 c39_i32_1936
  let v3643 : Index := Scalar.indexCast v3639
  let c0_1939 : Index := 0#32
  let c0_1940 : Index := 0#32
  ![v3643.toNat, 0, 0]

def k0_off233 (v5 : BitVec 32) (k0_t5 : Fin (k0_t5_loop v5).trips) (v3636 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3638 : BitVec 32 := Scalar.addi v3636 arg11
  let c39_i32_1936 : BitVec 32 := 39#32
  let v3639 : BitVec 32 := Scalar.minsi v3638 c39_i32_1936
  let v3677 : Index := Scalar.indexCast v3639
  let c0_1953 : Index := 0#32
  let c0_1954 : Index := 0#32
  ![v3677.toNat, 0, 0]

def k0_chk116 (v5 : BitVec 32) (k0_t5 : Fin (k0_t5_loop v5).trips) (v3636 : BitVec 32) : Prop :=
  (∀ a, (k0_off232 v5 k0_t5 v3636) a + S1x128x1.size a ≤ S40x128x1.size a) ∧
  (∀ a, (k0_off233 v5 k0_t5 v3636) a + S1x512x128.size a ≤ S40x512x128.size a)
theorem k0_off232_inb : ∀ (v5 : BitVec 32) (k0_t5 : Fin (k0_t5_loop v5).trips) (v3636 : BitVec 32) (k0_hw116 : k0_chk116 v5 k0_t5 v3636), ∀ a, (k0_off232 v5 k0_t5 v3636) a + S1x128x1.size a ≤ S40x128x1.size a := fun v5 k0_t5 v3636 k0_hw116 => k0_hw116.1
theorem k0_off233_inb : ∀ (v5 : BitVec 32) (k0_t5 : Fin (k0_t5_loop v5).trips) (v3636 : BitVec 32) (k0_hw116 : k0_chk116 v5 k0_t5 v3636), ∀ a, (k0_off233 v5 k0_t5 v3636) a + S1x512x128.size a ≤ S40x512x128.size a := fun v5 k0_t5 v3636 k0_hw116 => k0_hw116.2

def k0_off234 (v5 : BitVec 32) (k0_t5 : Fin (k0_t5_loop v5).trips) (v3685 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3687 : BitVec 32 := Scalar.addi v3685 arg11
  let c39_i32_1962 : BitVec 32 := 39#32
  let v3688 : BitVec 32 := Scalar.minsi v3687 c39_i32_1962
  let v3692 : Index := Scalar.indexCast v3688
  let c0_1965 : Index := 0#32
  let c0_1966 : Index := 0#32
  ![v3692.toNat, 0, 0]

def k0_off235 (v5 : BitVec 32) (k0_t5 : Fin (k0_t5_loop v5).trips) (v3685 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3687 : BitVec 32 := Scalar.addi v3685 arg11
  let c39_i32_1962 : BitVec 32 := 39#32
  let v3688 : BitVec 32 := Scalar.minsi v3687 c39_i32_1962
  let v3726 : Index := Scalar.indexCast v3688
  let c0_1979 : Index := 0#32
  let c0_1980 : Index := 0#32
  ![v3726.toNat, 0, 0]

def k0_chk117 (v5 : BitVec 32) (k0_t5 : Fin (k0_t5_loop v5).trips) (v3685 : BitVec 32) : Prop :=
  (∀ a, (k0_off234 v5 k0_t5 v3685) a + S1x128x1.size a ≤ S40x128x1.size a) ∧
  (∀ a, (k0_off235 v5 k0_t5 v3685) a + S1x512x128.size a ≤ S40x512x128.size a)
theorem k0_off234_inb : ∀ (v5 : BitVec 32) (k0_t5 : Fin (k0_t5_loop v5).trips) (v3685 : BitVec 32) (k0_hw117 : k0_chk117 v5 k0_t5 v3685), ∀ a, (k0_off234 v5 k0_t5 v3685) a + S1x128x1.size a ≤ S40x128x1.size a := fun v5 k0_t5 v3685 k0_hw117 => k0_hw117.1
theorem k0_off235_inb : ∀ (v5 : BitVec 32) (k0_t5 : Fin (k0_t5_loop v5).trips) (v3685 : BitVec 32) (k0_hw117 : k0_chk117 v5 k0_t5 v3685), ∀ a, (k0_off235 v5 k0_t5 v3685) a + S1x512x128.size a ≤ S40x512x128.size a := fun v5 k0_t5 v3685 k0_hw117 => k0_hw117.2

def k0_off236 (v5 : BitVec 32) (k0_t5 : Fin (k0_t5_loop v5).trips) (v3734 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3736 : BitVec 32 := Scalar.addi v3734 arg11
  let c39_i32_1988 : BitVec 32 := 39#32
  let v3737 : BitVec 32 := Scalar.minsi v3736 c39_i32_1988
  let v3741 : Index := Scalar.indexCast v3737
  let c0_1991 : Index := 0#32
  let c0_1992 : Index := 0#32
  ![v3741.toNat, 0, 0]

def k0_off237 (v5 : BitVec 32) (k0_t5 : Fin (k0_t5_loop v5).trips) (v3734 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3736 : BitVec 32 := Scalar.addi v3734 arg11
  let c39_i32_1988 : BitVec 32 := 39#32
  let v3737 : BitVec 32 := Scalar.minsi v3736 c39_i32_1988
  let v3775 : Index := Scalar.indexCast v3737
  let c0_2005 : Index := 0#32
  let c0_2006 : Index := 0#32
  ![v3775.toNat, 0, 0]

def k0_chk118 (v5 : BitVec 32) (k0_t5 : Fin (k0_t5_loop v5).trips) (v3734 : BitVec 32) : Prop :=
  (∀ a, (k0_off236 v5 k0_t5 v3734) a + S1x128x1.size a ≤ S40x128x1.size a) ∧
  (∀ a, (k0_off237 v5 k0_t5 v3734) a + S1x512x128.size a ≤ S40x512x128.size a)
theorem k0_off236_inb : ∀ (v5 : BitVec 32) (k0_t5 : Fin (k0_t5_loop v5).trips) (v3734 : BitVec 32) (k0_hw118 : k0_chk118 v5 k0_t5 v3734), ∀ a, (k0_off236 v5 k0_t5 v3734) a + S1x128x1.size a ≤ S40x128x1.size a := fun v5 k0_t5 v3734 k0_hw118 => k0_hw118.1
theorem k0_off237_inb : ∀ (v5 : BitVec 32) (k0_t5 : Fin (k0_t5_loop v5).trips) (v3734 : BitVec 32) (k0_hw118 : k0_chk118 v5 k0_t5 v3734), ∀ a, (k0_off237 v5 k0_t5 v3734) a + S1x512x128.size a ≤ S40x512x128.size a := fun v5 k0_t5 v3734 k0_hw118 => k0_hw118.2

def k0_off238 (v5 : BitVec 32) (k0_t5 : Fin (k0_t5_loop v5).trips) (v3783 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3785 : BitVec 32 := Scalar.addi v3783 arg11
  let c39_i32_2014 : BitVec 32 := 39#32
  let v3786 : BitVec 32 := Scalar.minsi v3785 c39_i32_2014
  let v3790 : Index := Scalar.indexCast v3786
  let c0_2017 : Index := 0#32
  let c0_2018 : Index := 0#32
  ![v3790.toNat, 0, 0]

def k0_off239 (v5 : BitVec 32) (k0_t5 : Fin (k0_t5_loop v5).trips) (v3783 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3785 : BitVec 32 := Scalar.addi v3783 arg11
  let c39_i32_2014 : BitVec 32 := 39#32
  let v3786 : BitVec 32 := Scalar.minsi v3785 c39_i32_2014
  let v3824 : Index := Scalar.indexCast v3786
  let c0_2031 : Index := 0#32
  let c0_2032 : Index := 0#32
  ![v3824.toNat, 0, 0]

def k0_chk119 (v5 : BitVec 32) (k0_t5 : Fin (k0_t5_loop v5).trips) (v3783 : BitVec 32) : Prop :=
  (∀ a, (k0_off238 v5 k0_t5 v3783) a + S1x128x1.size a ≤ S40x128x1.size a) ∧
  (∀ a, (k0_off239 v5 k0_t5 v3783) a + S1x512x128.size a ≤ S40x512x128.size a)
theorem k0_off238_inb : ∀ (v5 : BitVec 32) (k0_t5 : Fin (k0_t5_loop v5).trips) (v3783 : BitVec 32) (k0_hw119 : k0_chk119 v5 k0_t5 v3783), ∀ a, (k0_off238 v5 k0_t5 v3783) a + S1x128x1.size a ≤ S40x128x1.size a := fun v5 k0_t5 v3783 k0_hw119 => k0_hw119.1
theorem k0_off239_inb : ∀ (v5 : BitVec 32) (k0_t5 : Fin (k0_t5_loop v5).trips) (v3783 : BitVec 32) (k0_hw119 : k0_chk119 v5 k0_t5 v3783), ∀ a, (k0_off239 v5 k0_t5 v3783) a + S1x512x128.size a ≤ S40x512x128.size a := fun v5 k0_t5 v3783 k0_hw119 => k0_hw119.2

def k0_off240 (v5 : BitVec 32) (k0_t5 : Fin (k0_t5_loop v5).trips) (v3832 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3834 : BitVec 32 := Scalar.addi v3832 arg11
  let c39_i32_2040 : BitVec 32 := 39#32
  let v3835 : BitVec 32 := Scalar.minsi v3834 c39_i32_2040
  let v3839 : Index := Scalar.indexCast v3835
  let c0_2043 : Index := 0#32
  let c0_2044 : Index := 0#32
  ![v3839.toNat, 0, 0]

def k0_off241 (v5 : BitVec 32) (k0_t5 : Fin (k0_t5_loop v5).trips) (v3832 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3834 : BitVec 32 := Scalar.addi v3832 arg11
  let c39_i32_2040 : BitVec 32 := 39#32
  let v3835 : BitVec 32 := Scalar.minsi v3834 c39_i32_2040
  let v3873 : Index := Scalar.indexCast v3835
  let c0_2057 : Index := 0#32
  let c0_2058 : Index := 0#32
  ![v3873.toNat, 0, 0]

def k0_chk120 (v5 : BitVec 32) (k0_t5 : Fin (k0_t5_loop v5).trips) (v3832 : BitVec 32) : Prop :=
  (∀ a, (k0_off240 v5 k0_t5 v3832) a + S1x128x1.size a ≤ S40x128x1.size a) ∧
  (∀ a, (k0_off241 v5 k0_t5 v3832) a + S1x512x128.size a ≤ S40x512x128.size a)
theorem k0_off240_inb : ∀ (v5 : BitVec 32) (k0_t5 : Fin (k0_t5_loop v5).trips) (v3832 : BitVec 32) (k0_hw120 : k0_chk120 v5 k0_t5 v3832), ∀ a, (k0_off240 v5 k0_t5 v3832) a + S1x128x1.size a ≤ S40x128x1.size a := fun v5 k0_t5 v3832 k0_hw120 => k0_hw120.1
theorem k0_off241_inb : ∀ (v5 : BitVec 32) (k0_t5 : Fin (k0_t5_loop v5).trips) (v3832 : BitVec 32) (k0_hw120 : k0_chk120 v5 k0_t5 v3832), ∀ a, (k0_off241 v5 k0_t5 v3832) a + S1x512x128.size a ≤ S40x512x128.size a := fun v5 k0_t5 v3832 k0_hw120 => k0_hw120.2

def k0_off242 (v5 : BitVec 32) (k0_t5 : Fin (k0_t5_loop v5).trips) (v3881 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3883 : BitVec 32 := Scalar.addi v3881 arg11
  let c39_i32_2066 : BitVec 32 := 39#32
  let v3884 : BitVec 32 := Scalar.minsi v3883 c39_i32_2066
  let v3888 : Index := Scalar.indexCast v3884
  let c0_2069 : Index := 0#32
  let c0_2070 : Index := 0#32
  ![v3888.toNat, 0, 0]

def k0_off243 (v5 : BitVec 32) (k0_t5 : Fin (k0_t5_loop v5).trips) (v3881 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3883 : BitVec 32 := Scalar.addi v3881 arg11
  let c39_i32_2066 : BitVec 32 := 39#32
  let v3884 : BitVec 32 := Scalar.minsi v3883 c39_i32_2066
  let v3922 : Index := Scalar.indexCast v3884
  let c0_2083 : Index := 0#32
  let c0_2084 : Index := 0#32
  ![v3922.toNat, 0, 0]

def k0_chk121 (v5 : BitVec 32) (k0_t5 : Fin (k0_t5_loop v5).trips) (v3881 : BitVec 32) : Prop :=
  (∀ a, (k0_off242 v5 k0_t5 v3881) a + S1x128x1.size a ≤ S40x128x1.size a) ∧
  (∀ a, (k0_off243 v5 k0_t5 v3881) a + S1x512x128.size a ≤ S40x512x128.size a)
theorem k0_off242_inb : ∀ (v5 : BitVec 32) (k0_t5 : Fin (k0_t5_loop v5).trips) (v3881 : BitVec 32) (k0_hw121 : k0_chk121 v5 k0_t5 v3881), ∀ a, (k0_off242 v5 k0_t5 v3881) a + S1x128x1.size a ≤ S40x128x1.size a := fun v5 k0_t5 v3881 k0_hw121 => k0_hw121.1
theorem k0_off243_inb : ∀ (v5 : BitVec 32) (k0_t5 : Fin (k0_t5_loop v5).trips) (v3881 : BitVec 32) (k0_hw121 : k0_chk121 v5 k0_t5 v3881), ∀ a, (k0_off243 v5 k0_t5 v3881) a + S1x512x128.size a ≤ S40x512x128.size a := fun v5 k0_t5 v3881 k0_hw121 => k0_hw121.2

def k0_off244 (v5 : BitVec 32) (k0_t5 : Fin (k0_t5_loop v5).trips) (v3930 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3932 : BitVec 32 := Scalar.addi v3930 arg11
  let c39_i32_2092 : BitVec 32 := 39#32
  let v3933 : BitVec 32 := Scalar.minsi v3932 c39_i32_2092
  let v3937 : Index := Scalar.indexCast v3933
  let c0_2095 : Index := 0#32
  let c0_2096 : Index := 0#32
  ![v3937.toNat, 0, 0]

def k0_off245 (v5 : BitVec 32) (k0_t5 : Fin (k0_t5_loop v5).trips) (v3930 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3932 : BitVec 32 := Scalar.addi v3930 arg11
  let c39_i32_2092 : BitVec 32 := 39#32
  let v3933 : BitVec 32 := Scalar.minsi v3932 c39_i32_2092
  let v3971 : Index := Scalar.indexCast v3933
  let c0_2109 : Index := 0#32
  let c0_2110 : Index := 0#32
  ![v3971.toNat, 0, 0]

def k0_chk122 (v5 : BitVec 32) (k0_t5 : Fin (k0_t5_loop v5).trips) (v3930 : BitVec 32) : Prop :=
  (∀ a, (k0_off244 v5 k0_t5 v3930) a + S1x128x1.size a ≤ S40x128x1.size a) ∧
  (∀ a, (k0_off245 v5 k0_t5 v3930) a + S1x512x128.size a ≤ S40x512x128.size a)
theorem k0_off244_inb : ∀ (v5 : BitVec 32) (k0_t5 : Fin (k0_t5_loop v5).trips) (v3930 : BitVec 32) (k0_hw122 : k0_chk122 v5 k0_t5 v3930), ∀ a, (k0_off244 v5 k0_t5 v3930) a + S1x128x1.size a ≤ S40x128x1.size a := fun v5 k0_t5 v3930 k0_hw122 => k0_hw122.1
theorem k0_off245_inb : ∀ (v5 : BitVec 32) (k0_t5 : Fin (k0_t5_loop v5).trips) (v3930 : BitVec 32) (k0_hw122 : k0_chk122 v5 k0_t5 v3930), ∀ a, (k0_off245 v5 k0_t5 v3930) a + S1x512x128.size a ≤ S40x512x128.size a := fun v5 k0_t5 v3930 k0_hw122 => k0_hw122.2

def k0_off246 (v5 : BitVec 32) (k0_t5 : Fin (k0_t5_loop v5).trips) (v3979 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3981 : BitVec 32 := Scalar.addi v3979 arg11
  let c39_i32_2118 : BitVec 32 := 39#32
  let v3982 : BitVec 32 := Scalar.minsi v3981 c39_i32_2118
  let v3986 : Index := Scalar.indexCast v3982
  let c0_2121 : Index := 0#32
  let c0_2122 : Index := 0#32
  ![v3986.toNat, 0, 0]

def k0_off247 (v5 : BitVec 32) (k0_t5 : Fin (k0_t5_loop v5).trips) (v3979 : BitVec 32) : Fin 3 → Nat :=
  let c1_i32_1097 : BitVec 32 := 1#32
  let v2061 : BitVec 32 := Scalar.subi v5 c1_i32_1097
  let c1_i32_1099 : BitVec 32 := 1#32
  let v2063 : BitVec 32 := Scalar.divsi v2061 c1_i32_1099
  let v2064 : BitVec 32 := Scalar.muli v2063 c1_i32_1099
  let v2065 : BitVec 32 := Scalar.addi c1_i32_1097 v2064
  let c1_i32_1101 : BitVec 32 := 1#32
  let arg11 : BitVec 32 := Scf.iv v2065 c1_i32_1101 k0_t5
  let v3981 : BitVec 32 := Scalar.addi v3979 arg11
  let c39_i32_2118 : BitVec 32 := 39#32
  let v3982 : BitVec 32 := Scalar.minsi v3981 c39_i32_2118
  let v4020 : Index := Scalar.indexCast v3982
  let c0_2135 : Index := 0#32
  let c0_2136 : Index := 0#32
  ![v4020.toNat, 0, 0]

def k0_chk123 (v5 : BitVec 32) (k0_t5 : Fin (k0_t5_loop v5).trips) (v3979 : BitVec 32) : Prop :=
  (∀ a, (k0_off246 v5 k0_t5 v3979) a + S1x128x1.size a ≤ S40x128x1.size a) ∧
  (∀ a, (k0_off247 v5 k0_t5 v3979) a + S1x512x128.size a ≤ S40x512x128.size a)
theorem k0_off246_inb : ∀ (v5 : BitVec 32) (k0_t5 : Fin (k0_t5_loop v5).trips) (v3979 : BitVec 32) (k0_hw123 : k0_chk123 v5 k0_t5 v3979), ∀ a, (k0_off246 v5 k0_t5 v3979) a + S1x128x1.size a ≤ S40x128x1.size a := fun v5 k0_t5 v3979 k0_hw123 => k0_hw123.1
theorem k0_off247_inb : ∀ (v5 : BitVec 32) (k0_t5 : Fin (k0_t5_loop v5).trips) (v3979 : BitVec 32) (k0_hw123 : k0_chk123 v5 k0_t5 v3979), ∀ a, (k0_off247 v5 k0_t5 v3979) a + S1x512x128.size a ≤ S40x512x128.size a := fun v5 k0_t5 v3979 k0_hw123 => k0_hw123.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S4x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x5000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8192x5000 : Shape := ⟨2, ![8192, 5000]⟩
abbrev S5001 : Shape := ⟨1, ![5001]⟩
abbrev S5001x1 : Shape := ⟨2, ![5001, 1]⟩
abbrev S1x5001 : Shape := ⟨2, ![1, 5001]⟩
abbrev S5001x5001 : Shape := ⟨2, ![5001, 5001]⟩
abbrev S_ : Shape := ⟨0, ![]⟩
abbrev S1 : Shape := ⟨1, ![1]⟩
abbrev S8192 : Shape := ⟨1, ![8192]⟩
abbrev S8192x1 : Shape := ⟨2, ![8192, 1]⟩
abbrev S8192x5001 : Shape := ⟨2, ![8192, 5001]⟩
abbrev S5000 : Shape := ⟨1, ![5000]⟩

abbrev nBuf : Space → Nat
  | .hbm => 123
  | .vmem => 0
  | .smem => 0
  | _ => 0

abbrev bufTy : (tb : Table) → Fin (tcTables nBuf tb) → BufTy
  | .hbm, ⟨0, _⟩ => ⟨S8192x5000, .f32⟩
  | .hbm, ⟨1, _⟩ => ⟨S5001, .f32⟩
  | .hbm, ⟨2, _⟩ => ⟨S5001, .f32⟩
  | .hbm, ⟨3, _⟩ => ⟨S5001x1, .f32⟩
  | .hbm, ⟨4, _⟩ => ⟨S1x5001, .f32⟩
  | .hbm, ⟨5, _⟩ => ⟨S5001x5001, .f32⟩
  | .hbm, ⟨6, _⟩ => ⟨S5001x5001, .f32⟩
  | .hbm, ⟨7, _⟩ => ⟨S5001x5001, .i1⟩
  | .hbm, ⟨8, _⟩ => ⟨S5001x5001, .i32⟩
  | .hbm, ⟨9, _⟩ => ⟨S_, .i32⟩
  | .hbm, ⟨10, _⟩ => ⟨S5001, .i32⟩
  | .hbm, ⟨11, _⟩ => ⟨S_, .i32⟩
  | .hbm, ⟨12, _⟩ => ⟨S5001, .i32⟩
  | .hbm, ⟨13, _⟩ => ⟨S5001, .i32⟩
  | .hbm, ⟨14, _⟩ => ⟨S1, .f32⟩
  | .hbm, ⟨15, _⟩ => ⟨S_, .f32⟩
  | .hbm, ⟨16, _⟩ => ⟨S5001, .f32⟩
  | .hbm, ⟨17, _⟩ => ⟨S5001, .i1⟩
  | .hbm, ⟨18, _⟩ => ⟨S_, .i32⟩
  | .hbm, ⟨19, _⟩ => ⟨S_, .i32⟩
  | .hbm, ⟨20, _⟩ => ⟨S5001, .i32⟩
  | .hbm, ⟨21, _⟩ => ⟨S5001, .i32⟩
  | .hbm, ⟨22, _⟩ => ⟨S1, .f32⟩
  | .hbm, ⟨23, _⟩ => ⟨S_, .f32⟩
  | .hbm, ⟨24, _⟩ => ⟨S5001, .f32⟩
  | .hbm, ⟨25, _⟩ => ⟨S5001, .i1⟩
  | .hbm, ⟨26, _⟩ => ⟨S_, .i32⟩
  | .hbm, ⟨27, _⟩ => ⟨S_, .i32⟩
  | .hbm, ⟨28, _⟩ => ⟨S5001, .i32⟩
  | .hbm, ⟨29, _⟩ => ⟨S5001, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S5001, .i32⟩
  | .hbm, ⟨34, _⟩ => ⟨S5001, .i32⟩
  | .hbm, ⟨35, _⟩ => ⟨S_, .i32⟩
  | .hbm, ⟨36, _⟩ => ⟨S5001, .i32⟩
  | .hbm, ⟨37, _⟩ => ⟨S5001, .i32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1, .f32⟩
  | .hbm, ⟨44, _⟩ => ⟨S8192x5000, .f32⟩
  | .hbm, ⟨45, _⟩ => ⟨S8192x5000, .f32⟩
  | .hbm, ⟨46, _⟩ => ⟨S8192x5000, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x5000, .f32⟩
  | .hbm, ⟨51, _⟩ => ⟨S8192x5000, .f32⟩
  | .hbm, ⟨52, _⟩ => ⟨S_, .f32⟩
  | .hbm, ⟨53, _⟩ => ⟨S_, .f32⟩
  | .hbm, ⟨54, _⟩ => ⟨S8192x5000, .f32⟩
  | .hbm, ⟨55, _⟩ => ⟨S8192x5000, .f32⟩
  | .hbm, ⟨56, _⟩ => ⟨S5001x1, .i32⟩
  | .hbm, ⟨57, _⟩ => ⟨S8192x5001, .f32⟩
  | .hbm, ⟨58, _⟩ => ⟨S5000, .f32⟩
  | .hbm, ⟨59, _⟩ => ⟨S5000, .f32⟩
  | .hbm, ⟨60, _⟩ => ⟨S5000, .f32⟩
  | .hbm, ⟨61, _⟩ => ⟨S5001x1, .i32⟩
  | .hbm, ⟨62, _⟩ => ⟨S5001, .f32⟩
  | .hbm, ⟨63, _⟩ => ⟨S5001x1, .i32⟩
  | .hbm, ⟨64, _⟩ => ⟨S5001, .f32⟩
  | .hbm, ⟨65, _⟩ => ⟨S5001, .f32⟩
  | .hbm, ⟨66, _⟩ => ⟨S5001, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S5001, .f32⟩
  | .hbm, ⟨71, _⟩ => ⟨S5001, .f32⟩
  | .hbm, ⟨72, _⟩ => ⟨S_, .f32⟩
  | .hbm, ⟨73, _⟩ => ⟨S5001, .f32⟩
  | .hbm, ⟨74, _⟩ => ⟨S5001, .f32⟩
  | .hbm, ⟨75, _⟩ => ⟨S5001x1, .i32⟩
  | .hbm, ⟨76, _⟩ => ⟨S8192x5001, .f32⟩
  | .hbm, ⟨77, _⟩ => ⟨S1x5001, .f32⟩
  | .hbm, ⟨78, _⟩ => ⟨S8192x5001, .f32⟩
  | .hbm, ⟨79, _⟩ => ⟨S8192x5001, .f32⟩
  | .hbm, ⟨80, _⟩ => ⟨S8192x5001, .f32⟩
  | .hbm, ⟨81, _⟩ => ⟨S1, .f32⟩
  | .hbm, ⟨82, _⟩ => ⟨S_, .f32⟩
  | .hbm, ⟨83, _⟩ => ⟨S5001, .f32⟩
  | .hbm, ⟨84, _⟩ => ⟨S5001, .i1⟩
  | .hbm, ⟨85, _⟩ => ⟨S_, .f32⟩
  | .hbm, ⟨86, _⟩ => ⟨S_, .f32⟩
  | .hbm, ⟨87, _⟩ => ⟨S8192x5001, .i1⟩
  | .hbm, ⟨88, _⟩ => ⟨S8192x5001, .f32⟩
  | .hbm, ⟨89, _⟩ => ⟨S8192x5001, .f32⟩
  | .hbm, ⟨90, _⟩ => ⟨S1, .f32⟩
  | .hbm, ⟨91, _⟩ => ⟨S_, .f32⟩
  | .hbm, ⟨92, _⟩ => ⟨S5001, .f32⟩
  | .hbm, ⟨93, _⟩ => ⟨S5001, .i1⟩
  | .hbm, ⟨94, _⟩ => ⟨S_, .f32⟩
  | .hbm, ⟨95, _⟩ => ⟨S_, .f32⟩
  | .hbm, ⟨96, _⟩ => ⟨S8192x5001, .i1⟩
  | .hbm, ⟨97, _⟩ => ⟨S8192x5001, .f32⟩
  | .hbm, ⟨98, _⟩ => ⟨S8192x5001, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S8192x5001, .f32⟩
  | .hbm, ⟨103, _⟩ => ⟨S8192x5001, .f32⟩
  | .hbm, ⟨104, _⟩ => ⟨S_, .f32⟩
  | .hbm, ⟨105, _⟩ => ⟨S8192x5001, .f32⟩
  | .hbm, ⟨106, _⟩ => ⟨S8192x5001, .f32⟩
  | .hbm, ⟨107, _⟩ => ⟨S_, .i32⟩
  | .hbm, ⟨108, _⟩ => ⟨S1, .i32⟩
  | .hbm, ⟨109, _⟩ => ⟨S_, .f32⟩
  | .hbm, ⟨110, _⟩ => ⟨S8192, .f32⟩
  | .hbm, ⟨111, _⟩ => ⟨S8192x5001, .f32⟩
  | .hbm, ⟨112, _⟩ => ⟨S_, .i32⟩
  | .hbm, ⟨113, _⟩ => ⟨S1, .i32⟩
  | .hbm, ⟨114, _⟩ => ⟨S_, .f32⟩
  | .hbm, ⟨115, _⟩ => ⟨S8192, .f32⟩
  | .hbm, ⟨116, _⟩ => ⟨S8192x5001, .f32⟩
  | .hbm, ⟨117, _⟩ => ⟨S8192x5000, .f32⟩
  | .hbm, ⟨118, _⟩ => ⟨S8192x5000, .f32⟩
  | .hbm, ⟨119, _⟩ => ⟨S8192x5000, .f32⟩
  | .hbm, ⟨120, _⟩ => ⟨S_, .f32⟩
  | .hbm, ⟨121, _⟩ => ⟨S8192x5000, .f32⟩
  | .hbm, ⟨122, _⟩ => ⟨S8192x5000, .f32⟩
  | _, _ => ⟨S8192x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call1_v0 : Ref sig .tc := ⟨.hbm, 27, rfl⟩
abbrev main_call1_v1 : Ref sig .tc := ⟨.hbm, 28, rfl⟩
abbrev main_v18 : Ref sig .tc := ⟨.hbm, 29, rfl⟩
abbrev main_c_3 : Ref sig .tc := ⟨.hbm, 30, rfl⟩
abbrev main_c_4 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call3_call0_cst : Ref sig .tc := ⟨.hbm, 52, rfl⟩
abbrev main_call3_call0_v0 : Ref sig .tc := ⟨.hbm, 53, rfl⟩
abbrev main_v31 : Ref sig .tc := ⟨.hbm, 54, rfl⟩
abbrev main_v32 : Ref sig .tc := ⟨.hbm, 55, rfl⟩
abbrev main_call4_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call5_v0 : Ref sig .tc := ⟨.hbm, 61, rfl⟩
abbrev main_v37 : Ref sig .tc := ⟨.hbm, 62, rfl⟩
abbrev main_call6_v0 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_cst_8 : Ref sig .tc := ⟨.hbm, 68, rfl⟩
abbrev main_call7_v0 : Ref sig .tc := ⟨.hbm, 69, rfl⟩
abbrev main_call7_v1 : Ref sig .tc := ⟨.hbm, 70, rfl⟩
abbrev main_call7_v2 : Ref sig .tc := ⟨.hbm, 71, rfl⟩
abbrev main_call7_v3 : Ref sig .tc := ⟨.hbm, 72, rfl⟩
abbrev main_call7_v4 : Ref sig .tc := ⟨.hbm, 73, rfl⟩
abbrev main_v41 : Ref sig .tc := ⟨.hbm, 74, rfl⟩
abbrev main_call8_v0 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_9 : Ref sig .tc := ⟨.hbm, 85, rfl⟩
abbrev main_call9_v0 : Ref sig .tc := ⟨.hbm, 86, rfl⟩
abbrev main_call9_v1 : Ref sig .tc := ⟨.hbm, 87, rfl⟩
abbrev main_call9_v2 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_10 : Ref sig .tc := ⟨.hbm, 94, rfl⟩
abbrev main_call10_v0 : Ref sig .tc := ⟨.hbm, 95, rfl⟩
abbrev main_call10_v1 : Ref sig .tc := ⟨.hbm, 96, rfl⟩
abbrev main_call10_v2 : Ref sig .tc := ⟨.hbm, 97, rfl⟩
abbrev main_v56 : Ref sig .tc := ⟨.hbm, 98, rfl⟩
abbrev main_cst_11 : Ref sig .tc := ⟨.hbm, 99, rfl⟩
abbrev main_cst_12 : Ref sig .tc := ⟨.hbm, 100, rfl⟩
abbrev main_call11_v0 : Ref sig .tc := ⟨.hbm, 101, rfl⟩
abbrev main_call11_v1 : Ref sig .tc := ⟨.hbm, 102, rfl⟩
abbrev main_call11_v2 : Ref sig .tc := ⟨.hbm, 103, rfl⟩
abbrev main_call11_v3 : Ref sig .tc := ⟨.hbm, 104, rfl⟩
abbrev main_call11_v4 : Ref sig .tc := ⟨.hbm, 105, rfl⟩
abbrev main_v57 : Ref sig .tc := ⟨.hbm, 106, rfl⟩
abbrev main_c_13 : Ref sig .tc := ⟨.hbm, 107, rfl⟩
abbrev main_v58 : Ref sig .tc := ⟨.hbm, 108, rfl⟩
abbrev main_cst_14 : Ref sig .tc := ⟨.hbm, 109, rfl⟩
abbrev main_v59 : Ref sig .tc := ⟨.hbm, 110, rfl⟩
abbrev main_v60 : Ref sig .tc := ⟨.hbm, 111, rfl⟩
abbrev main_c_15 : Ref sig .tc := ⟨.hbm, 112, rfl⟩
abbrev main_v61 : Ref sig .tc := ⟨.hbm, 113, rfl⟩
abbrev main_cst_16 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_17 : Ref sig .tc := ⟨.hbm, 120, rfl⟩
abbrev main_v67 : Ref sig .tc := ⟨.hbm, 121, rfl⟩
abbrev main_v68 : Ref sig .tc := ⟨.hbm, 122, rfl⟩

abbrev nD : Nat := 1
abbrev τ : Topo := Topo.v7x

variable {F : FTy → Type} [FloatOps F]
-- ==== Proof.KI.Mirror.lean ====
/- The kernel's body written once more, with its eighty copies of one unit of work and its forty copies of
   one chunk's store each written once, over the number of the copy; and the equation that the printed body
   is this one. -/
module

public import proofs.«01_k».proof.Proof.Gen.KernelIdeal
public import Idealize.ShloMosaic.Lib.Pipeline.Regions

@[expose] public section

noncomputable section

namespace Cert.KernelIdeal.Rebin

open Idealize.ShloMosaic Idealize.SL.Sem Cert.KernelIdeal.Gen

variable {F : FTy → Type} [FloatOps F]

/-- The type of the body's programs. -/
abbrev PK (F : FTy → Type) [FloatOps F] (α : Type) : Type 1 := Prog (TpuEff nD τ sig (Elt F) (Λ₀ F) .tc) α

/-! ## Offsets and side conditions -/

/-- The chunk a unit reads: the first chunk's number plus the step, held to the last chunk. -/
def srcWord (d v : BitVec 32) : BitVec 32 := Scalar.minsi (Scalar.addi v d) 39#32

/-- Where a unit's chunk starts in an array of forty chunks. -/
def unitOff (d v : BitVec 32) : Fin 3 → Nat := ![(Scalar.indexCast (srcWord d v)).toNat, 0, 0]

/-- What the body assumes once it has read the first chunk's number. -/
def UnitChk (d v : BitVec 32) : Prop :=
  (∀ a, (unitOff d v) a + S1x128x1.size a ≤ S40x128x1.size a) ∧
  (∀ a, (unitOff d v) a + S1x512x128.size a ≤ S40x512x128.size a)

instance UnitChk.dec (d v : BitVec 32) : Decidable (UnitChk d v) :=
  decidable_of_iff' _ (Iff.of_eq (UnitChk.eq_1 d v))

theorem inbS40 (t : Fin 40) : ∀ a, (![t.val] : Fin 1 → Nat) a + S1.size a ≤ S40.size a := by
  revert t; decide +kernel

theorem inbTo (t : Fin 40) : ∀ a, (![t.val, 0, 0] : Fin 3 → Nat) a + S1x1x128.size a ≤ S40x1x128.size a := by
  revert t; decide +kernel

theorem inbProbs (t : Fin 40) : ∀ a, (![t.val, 0, 0] : Fin 3 → Nat) a + S1x512x128.size a ≤ S40x512x128.size a := by
  revert t; decide +kernel

theorem packedProbs (t : Fin 40) :
    (Rect.unit (s := S40x512x128) ![t.val, 0, 0] S1x512x128.size (inbProbs t)).PackedRows (EltTy.packing .bf16) := by
  revert t; decide +kernel

theorem inbOut (t : Fin 39) : ∀ a, (![0, 128 * t.val] : Fin 2 → Nat) a + S512x128.size a ≤ S512x5000.size a := by
  revert t; decide +kernel

theorem slicesSoft (t : Fin 39) : S512x5000.Slices ![0, 128 * t.val] S512x128 := by
  revert t; decide +kernel

/-! ## The values -/

/-- The softmax of a block of rows. -/
def soft (v6 : Vec F S512x5000 .f32) : FVec F S512x5000 .f32 :=
  have v7 : FVec F S512 .f32 := multiReduction .maximumf [1] S512 v6 0xFF800000#32 reduces_S512x5000_S512 (.inl rfl) rfl
  have v8 : FVec F S512x1 .f32 := shapeCast S512x1 v7 shapeCasts_S512_S512x1
  have v9 : FVec F S512x5000 .f32 := broadcastTo S512x5000 v8 broadcasts_S512x1_S512x5000
  have v10 : FVec F S512x5000 .f32 := subf v6 v9
  have v11 : FVec F S512x5000 .f32 := exp v10
  have v12 : FVec F S512 .f32 := multiReduction .add [1] S512 v11 0x00000000#32 reduces_S512x5000_S512 (.inl rfl) rfl
  have v13 : FVec F S512x1 .f32 := shapeCast S512x1 v12 shapeCasts_S512_S512x1
  have v14 : FVec F S512x1 .f32 := broadcast S512x1 (Scalar.ofBits .f32 0x3F800000#32)
  have v15 : FVec F S512x1 .f32 := divf v14 v13
  have v16 : FVec F S512x5000 .f32 := broadcastTo S512x5000 v15 broadcasts_S512x1_S512x5000
  mulf v11 v16

/-- One chunk of the softmax, as it is stored. -/
def chunkVal (p : FVec F S512x5000 .f32) (t : Fin 39) : FVec F S1x512x128 .bf16 :=
  shapeCast S1x512x128 (truncf .bf16 (extractStridedSlice S512x128 ![0, 128 * t.val] p (slicesSoft t)) bitsLt_bf16_f32)
    shapeCasts_S512x128_S1x512x128

/-- The last chunk, eight columns followed by zeros. -/
def chunkLast (p : FVec F S512x5000 .f32) : FVec F S1x512x128 .bf16 :=
  have v213 : FVec F S512x8 .f32 := extractStridedSlice S512x8 ![0, 4992] p slices_S512x5000_o0_4992_S512x8
  have v214 : FVec F S512x120 .f32 := broadcast S512x120 (Scalar.ofBits .f32 0x00000000#32)
  have v215 : FVec F S512x128 .f32 := concatenate S512x128 1 [⟨S512x8, v213⟩, ⟨S512x120, v214⟩] concatenates_S512x8_S512x120_S512x128_d1
  have v216 : FVec F S512x128 .bf16 := truncf .bf16 v215 bitsLt_bf16_f32
  shapeCast S1x512x128 v216 shapeCasts_S512x128_S1x512x128

/-- One over, or zero past the last chunk: the factor a unit multiplies the widths' inverses by. -/
def validVal (d v v' : BitVec 32) : F .f32 :=
  Scalar.select (Scalar.cmpi .sle (Scalar.addi v d) v') (Scalar.ofBits .f32 0x3F800000#32) (Scalar.ofBits .f32 0x00000000#32)

/-- How much of each source bin lies left of each of the given points, clamped to `[0, 1]`. -/
def edgeVal (ys : Vec F S1x1x128 .f32) (fl rwc : FVec F S128x1 .f32) : FVec F S128x128 .f32 :=
  minimumf (broadcast S128x128 (Scalar.ofBits .f32 0x3F800000#32))
    (maximumf (broadcast S128x128 (Scalar.ofBits .f32 0x00000000#32))
      (mulf (subf (broadcastTo S128x128 (shapeCast S1x128 ys shapeCasts_S1x1x128_S1x128) broadcasts_S1x128_S128x128)
          (broadcastTo S128x128 fl broadcasts_S128x1_S128x128))
        (broadcastTo S128x128 rwc broadcasts_S128x1_S128x128)))

/-- The inverse widths of a unit's source bins, times the factor. -/
def rwcVal (d v v' : BitVec 32) (rw : Vec F S1x128x1 .f32) : FVec F S128x1 .f32 :=
  mulf (shapeCast S128x1 (shapeCast S1x128x1 rw shapeCasts_S1x128x1_S1x128x1) shapeCasts_S1x128x1_S128x1)
    (broadcast S128x1 (validVal d v v'))

/-- The left ends of a unit's source bins. -/
def flVal (fl : Vec F S1x128x1 .f32) : FVec F S128x1 .f32 :=
  shapeCast S128x1 (shapeCast S1x128x1 fl shapeCasts_S1x128x1_S1x128x1) shapeCasts_S1x128x1_S128x1

/-- A unit's result: the chunk of the softmax times the shares of its bins in the target bins. -/
def resVal (d v v' : BitVec 32) (fl rw : Vec F S1x128x1 .f32) (to0 to1 : Vec F S1x1x128 .f32)
    (p : Vec F S1x512x128 .bf16) : FVec F S512x128 .f32 :=
  matmul dot_S512x128_S128x128_S512x128_1_0_0_1_n_n none (shapeCast S512x128 p shapeCasts_S1x512x128_S512x128)
    (truncf .bf16 (subf (edgeVal to1 (flVal fl) (rwcVal d v v' rw)) (edgeVal to0 (flVal fl) (rwcVal d v v' rw))) bitsLt_bf16_f32)
    (constant S512x128 .f32 0x00000000#32)

/-! ## The programs -/

section Progs

variable (arg1 : Memref sig .tc .vmem S512x5000 .f32) (harg1 : arg1.IsWhole) (arg2 : Memref sig .tc .vmem S40x128x1 .f32) (harg2 : arg2.IsWhole) (arg3 : Memref sig .tc .vmem S40x128x1 .f32) (harg3 : arg3.IsWhole) (arg4 : Memref sig .tc .vmem S40x1x128 .f32) (harg4 : arg4.IsWhole) (arg5 : Memref sig .tc .vmem S40x1x128 .f32) (harg5 : arg5.IsWhole) (arg6 : Memref sig .tc .smem S4x40 .f32) (harg6 : arg6.IsWhole) (arg7 : Memref sig .tc .vmem S512x5000 .f32) (harg7 : arg7.IsWhole) (arg8 : Memref sig .tc .vmem S40x512x128 .bf16) (harg8 : arg8.IsWhole) (arg9 : Memref sig .tc .smem S40 .i32) (harg9 : arg9.IsWhole) (arg10 : Memref sig .tc .smem S40 .i32) (harg10 : arg10.IsWhole)

/-- A unit of work: everything it reads, and its result. -/
def unitProg (t : Fin 40) (d : BitVec 32) : PK F (FVec F S512x128 .f32) := do
  let v : Elt F .i32 ← smemLoad arg9 (Rect.unit (s := S40) ![t.val] S1.size (inbS40 t)) numel1_S1 rfl
  have hw : UnitChk d v := (← Prog.lift (TpuEff.assume (UnitChk d v) (UnitChk.dec d v))).down
  let v' : Elt F .i32 ← smemLoad arg10 (Rect.unit (s := S40) ![t.val] S1.size (inbS40 t)) numel1_S1 rfl
  let fl : Vec F S1x128x1 .f32 ← Prog.lift (.load arg2 (Rect.unit (s := S40x128x1) (unitOff d v) S1x128x1.size hw.1).toLoadRect (View.loadsAt_vmem h_S1x128x1))
  let rw : Vec F S1x128x1 .f32 ← Prog.lift (.load arg3 (Rect.unit (s := S40x128x1) (unitOff d v) S1x128x1.size hw.1).toLoadRect (View.loadsAt_vmem h_S1x128x1))
  let to0 : Vec F S1x1x128 .f32 ← Prog.lift (.load arg4 (Rect.unit (s := S40x1x128) ![t.val, 0, 0] S1x1x128.size (inbTo t)).toLoadRect (View.loadsAt_vmem h_S1x1x128))
  let to1 : Vec F S1x1x128 .f32 ← Prog.lift (.load arg5 (Rect.unit (s := S40x1x128) ![t.val, 0, 0] S1x1x128.size (inbTo t)).toLoadRect (View.loadsAt_vmem h_S1x1x128))
  let p : Vec F S1x512x128 .bf16 ← Prog.lift (.load arg8 (Rect.unit (s := S40x512x128) (unitOff d v) S1x512x128.size hw.2).toLoadRect (View.loadsAt_vmem h_S1x512x128))
  pure (resVal d v v' fl rw to0 to1 p)

/-- The first pass of one chunk of target bins: the unit's result is stored. -/
def firstProg (t : Fin 39) : PK F PUnit := do
  let res ← unitProg arg2 arg3 arg4 arg5 arg8 arg9 arg10 (t.castSucc) 0#32
  let _ : Vec F S512x128 .f32 ← Prog.lift (.load arg7 (Rect.unit (s := S512x5000) ![0, 128 * t.val] S512x128.size (inbOut t)).toLoadRect (View.loadsAt_vmem h_S512x128))
  Prog.lift (.store arg7 (Rect.unit (s := S512x5000) ![0, 128 * t.val] S512x128.size (inbOut t)) res Finset.univ (View.stores_vmem_bits_univ h_S512x128 rfl) (.inl rfl))

/-- The first pass of the last chunk, eight columns wide. -/
def firstLast : PK F PUnit := do
  let res ← unitProg arg2 arg3 arg4 arg5 arg8 arg9 arg10 (Fin.last 39) 0#32
  let _ : Vec F S512x8 .f32 ← Prog.lift (.load arg7 (Rect.unit (s := S512x5000) ![0, 4992] S512x8.size inb_S512x5000_S512x8_0_4992).toLoadRect (View.loadsAt_vmem h_S512x8))
  Prog.lift (.store arg7 (Rect.unit (s := S512x5000) ![0, 4992] S512x8.size inb_S512x5000_S512x8_0_4992) (extractStridedSlice S512x8 ![0, 0] res slices_S512x128_o0_0_S512x8) Finset.univ (View.stores_vmem_bits_univ h_S512x8 rfl) (.inl rfl))

/-- A later pass of one chunk: the unit's result is added. -/
def addProg (d : BitVec 32) (t : Fin 39) : PK F PUnit := do
  let res ← unitProg arg2 arg3 arg4 arg5 arg8 arg9 arg10 (t.castSucc) d
  let old : Vec F S512x128 .f32 ← Prog.lift (.load arg7 (Rect.unit (s := S512x5000) ![0, 128 * t.val] S512x128.size (inbOut t)).toLoadRect (View.loadsAt_vmem h_S512x128))
  let _ : Vec F S512x128 .f32 ← Prog.lift (.load arg7 (Rect.unit (s := S512x5000) ![0, 128 * t.val] S512x128.size (inbOut t)).toLoadRect (View.loadsAt_vmem h_S512x128))
  Prog.lift (.store arg7 (Rect.unit (s := S512x5000) ![0, 128 * t.val] S512x128.size (inbOut t)) (addf (shapeCast S512x128 old shapeCasts_S512x128_S512x128) res) Finset.univ (View.stores_vmem_bits_univ h_S512x128 rfl) (.inl rfl))

/-- A later pass of the last chunk. -/
def addLast (d : BitVec 32) : PK F PUnit := do
  let res ← unitProg arg2 arg3 arg4 arg5 arg8 arg9 arg10 (Fin.last 39) d
  let old : Vec F S512x8 .f32 ← Prog.lift (.load arg7 (Rect.unit (s := S512x5000) ![0, 4992] S512x8.size inb_S512x5000_S512x8_0_4992).toLoadRect (View.loadsAt_vmem h_S512x8))
  let _ : Vec F S512x8 .f32 ← Prog.lift (.load arg7 (Rect.unit (s := S512x5000) ![0, 4992] S512x8.size inb_S512x5000_S512x8_0_4992).toLoadRect (View.loadsAt_vmem h_S512x8))
  Prog.lift (.store arg7 (Rect.unit (s := S512x5000) ![0, 4992] S512x8.size inb_S512x5000_S512x8_0_4992) (addf (shapeCast S512x8 old shapeCasts_S512x8_S512x8) (extractStridedSlice S512x8 ![0, 0] res slices_S512x128_o0_0_S512x8)) Finset.univ (View.stores_vmem_bits_univ h_S512x8 rfl) (.inl rfl))

/-- The store of one chunk of the softmax. -/
def chunkProg (p : FVec F S512x5000 .f32) (t : Fin 39) : PK F PUnit := do
  let _ : Vec F S1x512x128 .bf16 ← Prog.lift (.load arg8 (Rect.unit (s := S40x512x128) ![t.val, 0, 0] S1x512x128.size (inbProbs t.castSucc)).toLoadRect (View.loadsAt_vmem h_S1x512x128))
  Prog.lift (.store arg8 (Rect.unit (s := S40x512x128) ![t.val, 0, 0] S1x512x128.size (inbProbs t.castSucc)) (chunkVal p t) Finset.univ (View.stores_vmem h_S1x512x128 (harg8.storeExact_slice rfl _ (packedProbs t.castSucc)) (fun _ => rfl)) (.inl rfl))

/-- The store of the last chunk of the softmax. -/
def chunkLastProg (p : FVec F S512x5000 .f32) : PK F PUnit := do
  let _ : Vec F S1x512x128 .bf16 ← Prog.lift (.load arg8 (Rect.unit (s := S40x512x128) ![39, 0, 0] S1x512x128.size (inbProbs (Fin.last 39))).toLoadRect (View.loadsAt_vmem h_S1x512x128))
  Prog.lift (.store arg8 (Rect.unit (s := S40x512x128) ![39, 0, 0] S1x512x128.size (inbProbs (Fin.last 39))) (chunkLast p) Finset.univ (View.stores_vmem h_S1x512x128 (harg8.storeExact_slice rfl _ (packedProbs (Fin.last 39))) (fun _ => rfl)) (.inl rfl))

end Progs

/-- A family of programs run in order, from the `t`-th on. -/
def runFrom {m : ℕ} (f : Fin m → PK F PUnit) : (n t : ℕ) → t + n = m → PK F PUnit
  | 0, _, _ => pure ⟨⟩
  | n + 1, t, h => f ⟨t, h ▸ Nat.lt_add_of_pos_right (Nat.succ_pos n)⟩ >>= fun _ => runFrom f n (t + 1) ((Nat.succ_add_eq_add_succ t n).trans h)

section Whole

variable (i : grid0.Coords) (arg1 : Memref sig .tc .vmem S512x5000 .f32) (harg1 : arg1.IsWhole) (arg2 : Memref sig .tc .vmem S40x128x1 .f32) (harg2 : arg2.IsWhole) (arg3 : Memref sig .tc .vmem S40x128x1 .f32) (harg3 : arg3.IsWhole) (arg4 : Memref sig .tc .vmem S40x1x128 .f32) (harg4 : arg4.IsWhole) (arg5 : Memref sig .tc .vmem S40x1x128 .f32) (harg5 : arg5.IsWhole) (arg6 : Memref sig .tc .smem S4x40 .f32) (harg6 : arg6.IsWhole) (arg7 : Memref sig .tc .vmem S512x5000 .f32) (harg7 : arg7.IsWhole) (arg8 : Memref sig .tc .vmem S40x512x128 .bf16) (harg8 : arg8.IsWhole) (arg9 : Memref sig .tc .smem S40 .i32) (harg9 : arg9.IsWhole) (arg10 : Memref sig .tc .smem S40 .i32) (harg10 : arg10.IsWhole)

/-- One trip of the loop over the later passes. -/
def passProg (d : BitVec 32) : PK F (BitVec 32) := do
  runFrom (addProg arg2 arg3 arg4 arg5 arg7 arg8 arg9 arg10 d) 39 0 rfl
  addLast arg2 arg3 arg4 arg5 arg7 arg8 arg9 arg10 d
  pure 0#32

/-- One trip of the loop that finds each target chunk's first source chunk. -/
def loTrip (k : Fin k0_t1_loop.trips) (a12 : BitVec 32) : PK F (BitVec 32) := do
  let v2068 : BitVec 32 ← Prog.lift (.call (1 : (Λ₀ F).Label) ⟨i, k, arg6, harg6, a12⟩)
  let _ : Elt F .i32 ← smemLoad arg9 (Rect.unit (s := S40) (k0_off3 k) S1.size (k0_off3_inb k)) numel1_S1 rfl
  Prog.lift (.store arg9 (Rect.unit (s := S40) (k0_off3 k) S1.size (k0_off3_inb k)) (fun _ => v2068) Finset.univ (View.stores_smem_one rfl numel1_S1) (.inl rfl))
  pure v2068

/-- One trip of the loop that finds each target chunk's last source chunk. -/
def hiTrip (k : Fin k0_t2_loop.trips) (a12 : BitVec 32) : PK F (BitVec 32) := do
  let v2068 : BitVec 32 ← Prog.lift (.call (2 : (Λ₀ F).Label) ⟨i, k, arg6, harg6, a12⟩)
  let _ : Elt F .i32 ← smemLoad arg10 (Rect.unit (s := S40) (k0_off6 k) S1.size (k0_off6_inb k)) numel1_S1 rfl
  Prog.lift (.store arg10 (Rect.unit (s := S40) (k0_off6 k) S1.size (k0_off6_inb k)) (fun _ => Scalar.subi v2068 1#32) Finset.univ (View.stores_smem_one rfl numel1_S1) (.inl rfl))
  pure v2068

/-- One trip of the loop that finds the number of passes. -/
def maxTrip (k : Fin k0_t3_loop.trips) (a12 : BitVec 32) : PK F (BitVec 32) := do
  let v2069 : Elt F .i32 ← smemLoad arg10 (Rect.unit (s := S40) (k0_off7 k) S1.size (k0_off7_inb k)) numel1_S1 rfl
  let v2071 : Elt F .i32 ← smemLoad arg9 (Rect.unit (s := S40) (k0_off7 k) S1.size (k0_off7_inb k)) numel1_S1 rfl
  pure (Scalar.maxsi a12 (Scalar.addi (Scalar.subi v2069 v2071) 1#32))

/-- The first pass over all the target chunks. -/
def firstPass : PK F PUnit := do
  runFrom (firstProg arg2 arg3 arg4 arg5 arg7 arg8 arg9 arg10) 39 0 rfl
  firstLast arg2 arg3 arg4 arg5 arg7 arg8 arg9 arg10

/-- The stores of all the chunks of the softmax. -/
def chunks (p : FVec F S512x5000 .f32) : PK F PUnit := do
  runFrom (chunkProg arg8 harg8 p) 39 0 rfl
  chunkLastProg arg8 harg8 p

/-- The word the remainder loop of the later passes starts at. -/
def restWord (v5 : BitVec 32) : BitVec 32 :=
  Scalar.addi 1#32 (Scalar.muli (Scalar.divsi (Scalar.subi v5 1#32) 1#32) 1#32)

/-- The whole body. -/
def bodyProg : PK F PUnit := do
  let _ ← Scf.Loop.for k0_t1_loop k0_t1_ok 0#32 (loTrip i arg6 harg6 arg9)
  let _ ← Scf.Loop.for k0_t2_loop k0_t2_ok 0#32 (hiTrip i arg6 harg6 arg10)
  let v5 : BitVec 32 ← Scf.Loop.for k0_t3_loop k0_t3_ok 0#32 (maxTrip arg9 arg10)
  have hw : k0_chk43 v5 := (← Prog.lift (TpuEff.assume (k0_chk43 v5) (k0_chk43.dec v5))).down
  let v6 : Vec F S512x5000 .f32 ← Prog.lift (.load arg1 (Rect.unit (s := S512x5000) ![0, 0] S512x5000.size inb_S512x5000_S512x5000_0_0).toLoadRect (View.loadsAt_vmem h_S512x5000))
  chunks arg8 harg8 (soft v6)
  firstPass arg2 arg3 arg4 arg5 arg7 arg8 arg9 arg10
  let r : BitVec 32 ← Scf.Loop.for (k0_t4_loop v5) (k0_t4_ok v5 hw) 0#32
    (fun k _ => passProg arg2 arg3 arg4 arg5 arg7 arg8 arg9 arg10 (Scf.iv 1#32 1#32 k))
  let _ : BitVec 32 ← Scf.Loop.for (k0_t5_loop v5) (k0_t5_ok v5 hw) r
    (fun k _ => passProg arg2 arg3 arg4 arg5 arg7 arg8 arg9 arg10 (Scf.iv (restWord v5) 1#32 k))
  pure ⟨⟩

omit [FloatOps F] in
/-- Two binds around a program of three steps and a rest: the rest takes them. -/
theorem assoc_three {E : Type → Type} {α β γ δ ε ζ : Type} (L1 : Prog E α) (L2 : α → Prog E β)
    (L3 : α → β → Prog E γ) (R : γ → Prog E δ) (K1 : δ → Prog E ε) (K2 : ε → Prog E ζ) :
    (((L1 >>= fun a => L2 a >>= fun b => L3 a b >>= R) >>= K1) >>= K2) =
      L1 >>= fun a => L2 a >>= fun b => L3 a b >>= fun c => (R c >>= K1) >>= K2 := by
  simp only [bind_assoc]

set_option maxRecDepth 65536 in
/-- The printed body is this one. -/
theorem body_eq : cc0__rebin_kernel (F := F) i arg1 harg1 arg2 harg2 arg3 harg3 arg4 harg4 arg5 harg5 arg6 harg6 arg7 harg7 arg8 harg8 arg9 harg9 arg10 harg10 = bodyProg i arg1 arg2 arg3 arg4 arg5 arg6 harg6 arg7 arg8 harg8 arg9 arg10 := by
  unfold cc0__rebin_kernel k0_part161 k0_part105
  refine (assoc_three _ _ _ _ _ _).trans ?_
  chain_rfl

end Whole

end Cert.KernelIdeal.Rebin

end
-- ==== Proof.KI.Common.lean ====
/- What the proof of the body rests on: the resources the proof is over, the rules for one load and one store
   of a memref held at known contents, and the rule for a family of programs run in order. -/
module

public import proofs.«01_k».proof.Proof.KI.Mirror
public import Idealize.ShloMosaic.Lib.Pipeline.Sound
public import Idealize.ShloMosaic.Lib.Pipeline.Frame

@[expose] public section

noncomputable section

namespace Cert.KernelIdeal.Rebin

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra of the pipeline's staging cells. -/
abbrev UR (nD : Nat) (τ : Topo) : Type := URounds (GSem nD τ sig) Unit

/-- The resources a proof about this program is over. -/
abbrev MM (F : FTy → Type) : Type := MT nD τ sig Unit (Elt F) ℕ (UR nD τ) ℕ

/-- The variants of the program's labels: naturals. -/
abbrev 𝒱₀ : Variants := Variants.nat

/-! ## Contents written in part -/

/-- Contents after a write of `w` at a rectangle. -/
def put {s : Shape} {α : Type} (r : Rect s) (w : r.shape.Idx → α) (X : s.Idx → α) : s.Idx → α := by
  classical exact fun y => if h : ∃ x, r.emb x = y then w h.choose else X y

theorem put_emb {s : Shape} {α : Type} (r : Rect s) (w : r.shape.Idx → α) (X : s.Idx → α) (x : r.shape.Idx) :
    put r w X (r.emb x) = w x := by
  have h : ∃ x', r.emb x' = r.emb x := ⟨x, rfl⟩
  unfold put
  rw [dif_pos h]
  exact congrArg w (r.emb.injective h.choose_spec)

theorem put_other {s : Shape} {α : Type} (r : Rect s) (w : r.shape.Idx → α) (X : s.Idx → α) {y : s.Idx}
    (h : ¬ ∃ x, r.emb x = y) : put r w X y = X y := by
  unfold put
  rw [dif_neg h]

/-- Contents that are `A` below `n` along an axis and `B` from there on. -/
def mix {s : Shape} {α : Type} (a : Fin s.rank) (n : ℕ) (A B : s.Idx → α) : s.Idx → α :=
  fun y => if (y a).val < n then A y else B y

theorem mix_zero {s : Shape} {α : Type} (a : Fin s.rank) (A B : s.Idx → α) : mix a 0 A B = B :=
  funext fun y => if_neg (Nat.not_lt_zero _)

theorem mix_full {s : Shape} {α : Type} (a : Fin s.rank) (n : ℕ) (h : s.size a ≤ n) (A B : s.Idx → α) :
    mix a n A B = A :=
  funext fun y => if_pos (Nat.lt_of_lt_of_le (y a).isLt h)

/-- Writing the next stretch along the axis moves the seam past it. -/
theorem put_mix {s : Shape} {α : Type} (a : Fin s.rank) (n k : ℕ) (A B : s.Idx → α)
    (off size : Fin s.rank → ℕ) (inb : ∀ b, off b + size b ≤ s.size b)
    (w : (Rect.unit (s := s) off size inb).shape.Idx → α)
    (hoff : off a = n) (hsize : size a = k) (hrest : ∀ b, b ≠ a → off b = 0 ∧ size b = s.size b)
    (hw : ∀ x, w x = A ((Rect.unit off size inb).emb x)) :
    put (Rect.unit off size inb) w (mix a n A B) = mix a (n + k) A B := by
  funext y
  by_cases h : ∃ x, (Rect.unit off size inb).emb x = y
  · obtain ⟨x, rfl⟩ := h
    rw [put_emb, hw]
    refine (if_pos ?_).symm
    rw [Rect.emb_apply]
    simp only [Rect.off_unit, Rect.stride_unit, Nat.one_mul]
    have := (x a).isLt
    simp only [Rect.size_unit] at this
    omega
  · rw [put_other _ _ _ h]
    have hy : ¬ (n ≤ (y a).val ∧ (y a).val < n + k) := fun hin => h (by
      have : y ∈ (Rect.unit off size inb).set := Rect.mem_set_unit.mpr fun b => by
        by_cases hb : b = a
        · subst hb; omega
        · have := hrest b hb; have := (y b).isLt; omega
      exact LoadRect.exists_idx_of_mem _ this)
    unfold mix
    by_cases h1 : (y a).val < n
    · rw [if_pos h1, if_pos (by omega)]
    · rw [if_neg h1, if_neg (by omega)]

/-! ## One load, one store -/

section Rules

variable (c : Thread nD τ) (bd : Option ℕ) (E : Set ℕ) {α : Type} {Q : α → sProp (MM F)}
  {s : Shape} {e : EltTy}

/-- A memref held whole at the full share, at given contents. -/
abbrev own (c : Thread nD τ) {sp : Space} {s : Shape} {e : EltTy} (m : Memref sig c.2.kind sp s e) (X : s.Idx → Elt F e) : sProp (MM F) :=
  owns c m fullShare X

theorem load_own {cs : CoreSpace} {m : Memref sig c.2.kind cs s e} {r : LoadRect s} {hl : m.view.LoadsAt r}
    {k : (r.shape.Idx → Elt F e) → Prog (TpuEff nD τ sig (Elt F) (Λ₀ F) c.2) α} {X : s.Idx → Elt F e} :
    (own c m X : sProp (MM F)) ⊢ iprop((own c m X -∗ wp frame (wpE (defs₀ (F := F)) 𝒱₀ c bd) E (k fun x => X (r.idx x)) Q)
      -∗ wp frame (wpE (defs₀ (F := F)) 𝒱₀ c bd) E (.op (.load m r hl) k) Q) := by
  unfold own owns
  iintro ⟨%f, %hf, H⟩ HK
  iapply (wp_load 𝒱₀ c bd E (m := m) (r := r) (hl := hl) (S := m.view.set) (View.setOn_subset_set _ _)) $$ H
  iintro H
  rw [show m.view.readAt (Elt F) r f = fun x => X (r.idx x) from by subst hf; rfl]
  iapply HK
  iexists f
  isplitr
  · ipureintro; exact hf
  · iexact H

theorem store_own {cs : CoreSpace} {m : Memref sig c.2.kind cs s e} {r : Rect s} {w : r.shape.Idx → Elt F e}
    {hx : (m.access r).Stores Finset.univ} {hm : Finset.univ = Finset.univ ∨ ∀ a, r.stride a = 1}
    {k : PUnit → Prog (TpuEff nD τ sig (Elt F) (Λ₀ F) c.2) α} {X : s.Idx → Elt F e} :
    (own c m X : sProp (MM F)) ⊢ iprop((own c m (put r w X) -∗ wp frame (wpE (defs₀ (F := F)) 𝒱₀ c bd) E (k ⟨⟩) Q)
      -∗ wp frame (wpE (defs₀ (F := F)) 𝒱₀ c bd) E (.op (.store m r w Finset.univ hx hm) k) Q) := by
  unfold own owns
  iintro ⟨%f, %hf, H⟩ HK
  iapply (wp_store 𝒱₀ c bd E (m := m) (r := r) (w := w) (Mk := Finset.univ) (hx := hx) (hm := hm) (S := m.view.set)
    (by rw [View.setOn_univ]; exact View.set_slice_subset _ _)) $$ H
  iintro H
  iapply HK
  iexists _
  isplitr
  swap
  · iexact H
  ipureintro
  funext y
  by_cases h : ∃ x, r.emb x = y
  · obtain ⟨x, rfl⟩ := h
    rw [put_emb]
    exact View.read_slice_write_emb r f w (Finset.mem_univ x)
  · rw [put_other _ _ _ h, ← hf]
    refine View.read_slice_write_of_not_mem r f w Finset.univ fun hm => h ?_
    obtain ⟨x, -, hx⟩ := Finset.mem_map.mp hm
    exact ⟨x, hx⟩

end Rules

/-- The rule for a family of programs run in order: each takes the state before it to the state after it. -/
theorem runFrom_wp (c : Dev nD) (bd : Option ℕ) (E : Set ℕ) {m : ℕ} (f : Fin m → PK F PUnit) (I : ℕ → sProp (MM F))
    (hstep : ∀ (t : Fin m), I t.val ⊢ wp frame (wpE (defs₀ (F := F)) 𝒱₀ (c : Thread nD τ) bd) E (f t) (fun _ => I (t.val + 1))) :
    ∀ (n t : ℕ) (h : t + n = m), I t ⊢ wp frame (wpE (defs₀ (F := F)) 𝒱₀ (c : Thread nD τ) bd) E (runFrom f n t h) (fun _ => I m) := by
  intro n
  induction n with
  | zero =>
    intro t h
    have ht : t = m := h
    subst ht
    rw [runFrom, Prog.pure_eq_ret, wp_ret]
    iintro H; imodintro; iexact H
  | succ n ih =>
    intro t h
    rw [runFrom, wp_bind]
    exact (hstep ⟨t, h ▸ Nat.lt_add_of_pos_right (Nat.succ_pos n)⟩).trans (wp_mono _ _ _ fun _ => ih (t + 1) _)

end Cert.KernelIdeal.Rebin

end
-- ==== Proof.KI.Scan.lean ====
/- What the two scans over the chunks compute, as functions of the words they read: each takes up where the one
   before it stopped and goes on while its test holds. Nothing here runs a program. -/
module

public import proofs.«01_k».proof.Proof.KI.Mirror
public import Idealize.ShloMosaic.Lib.ValueIdxCore

@[expose] public section

noncomputable section

namespace Cert.KernelIdeal.Rebin

open Idealize.ShloMosaic Cert.KernelIdeal.Gen Idealize.ShloMosaic.ValueIdx

variable {F : FTy → Type} [FloatOps F]

/-! ## Scans -/

/-- The first number from `k` on at which the test fails, among the next `n`; `k + n` if there is none. -/
def scan (test : ℕ → Prop) [DecidablePred test] : ℕ → ℕ → ℕ
  | 0, k => k
  | n + 1, k => if test k then scan test n (k + 1) else k

theorem scan_ge (test : ℕ → Prop) [DecidablePred test] : ∀ n k, k ≤ scan test n k := by
  intro n
  induction n with
  | zero => intro k; exact le_rfl
  | succ n ih => intro k; rw [scan]; split
                 · exact (Nat.le_succ k).trans (ih _)
                 · exact le_rfl

theorem scan_le (test : ℕ → Prop) [DecidablePred test] : ∀ n k, scan test n k ≤ k + n := by
  intro n
  induction n with
  | zero => intro k; exact le_rfl
  | succ n ih => intro k; rw [scan]; split
                 · exact (ih _).trans (by omega)
                 · omega

/-- The test holds at every number a scan passes. -/
theorem scan_passed (test : ℕ → Prop) [DecidablePred test] : ∀ n k j, k ≤ j → j < scan test n k → test j := by
  intro n
  induction n with
  | zero => intro k j h1 h2; rw [scan] at h2; omega
  | succ n ih =>
    intro k j h1 h2
    rw [scan] at h2
    split at h2
    · next h =>
      rcases Nat.eq_or_lt_of_le h1 with rfl | h1
      · exact h
      · exact ih (k + 1) j h1 h2
    · omega

/-- The test fails where a scan stops short. -/
theorem scan_stop (test : ℕ → Prop) [DecidablePred test] : ∀ n k, scan test n k < k + n → ¬ test (scan test n k) := by
  intro n
  induction n with
  | zero => intro k h; rw [scan] at h; omega
  | succ n ih =>
    intro k h
    rw [scan] at h ⊢
    split
    · next ht => rw [if_pos ht] at h; exact ih (k + 1) (by omega)
    · next ht => exact ht

/-- Where the scans have come to after `n` of them, each over at most the chunks that are left. -/
def carry (test : ℕ → ℕ → Prop) [∀ t, DecidablePred (test t)] : ℕ → ℕ
  | 0 => 0
  | n + 1 => scan (test n) (40 - carry test n) (carry test n)

theorem carry_le (test : ℕ → ℕ → Prop) [∀ t, DecidablePred (test t)] : ∀ n, carry test n ≤ 40
  | 0 => Nat.zero_le _
  | n + 1 => by
    have h := scan_le (test n) (40 - carry test n) (carry test n)
    have := carry_le test n
    rw [carry]; omega

theorem carry_mono (test : ℕ → ℕ → Prop) [∀ t, DecidablePred (test t)] (n : ℕ) : carry test n ≤ carry test (n + 1) :=
  scan_ge (test n) _ _

/-! ## The two scans of the body -/

/-- The table of the chunks' end points, a chunk past the last read as the last. -/
def tab (X : S4x40.Idx → F .f32) (r : Fin 4) (k : ℕ) : F .f32 :=
  X (ix2 r ⟨min k 39, Nat.lt_of_le_of_lt (Nat.min_le_right k 39) (by decide)⟩)

/-- The first scan goes on while a source chunk ends at or before the target chunk's start. -/
abbrev loTest (X : S4x40.Idx → F .f32) (t k : ℕ) : Prop := k < 40 ∧ Scalar.cmpf .ole (tab X 3 k) (tab X 0 t) = 1#1

/-- The second goes on while a source chunk starts before the target chunk's end. -/
abbrev hiTest (X : S4x40.Idx → F .f32) (t k : ℕ) : Prop := k < 40 ∧ Scalar.cmpf .olt (tab X 2 k) (tab X 1 t) = 1#1

/-- The first source chunk of target chunk `t`, and the one past its last. -/
def loN (X : S4x40.Idx → F .f32) (t : ℕ) : ℕ := carry (loTest X) (t + 1)
def hiN (X : S4x40.Idx → F .f32) (t : ℕ) : ℕ := carry (hiTest X) (t + 1)

theorem loN_le (X : S4x40.Idx → F .f32) (t : ℕ) : loN X t ≤ 40 := carry_le _ _
theorem hiN_le (X : S4x40.Idx → F .f32) (t : ℕ) : hiN X t ≤ 40 := carry_le _ _

/-- The words stored for them. -/
def loW (X : S4x40.Idx → F .f32) (t : ℕ) : BitVec 32 := BitVec.ofNat 32 (loN X t)
def hiW (X : S4x40.Idx → F .f32) (t : ℕ) : BitVec 32 := Scalar.subi (BitVec.ofNat 32 (hiN X t)) 1#32

/-- The most source chunks a target chunk among the first `n` has. -/
def mostN (X : S4x40.Idx → F .f32) : ℕ → ℕ
  | 0 => 0
  | n + 1 => max (mostN X n) (hiN X n - loN X n)

theorem mostN_le (X : S4x40.Idx → F .f32) : ∀ n, mostN X n ≤ 40
  | 0 => Nat.zero_le _
  | n + 1 => max_le (mostN_le X n) ((Nat.sub_le _ _).trans (hiN_le X n))

theorem le_mostN (X : S4x40.Idx → F .f32) {t : ℕ} : ∀ n, t < n → hiN X t - loN X t ≤ mostN X n
  | 0, h => absurd h (Nat.not_lt_zero _)
  | n + 1, h => by
    rcases Nat.lt_succ_iff_lt_or_eq.mp h with h | rfl
    · exact (le_mostN X n h).trans (le_max_left _ _)
    · exact le_max_right _ _

/-- The number of passes. -/
def passes (X : S4x40.Idx → F .f32) : ℕ := mostN X 40

/-! ## Words -/

theorem most_word : ∀ m < 41, ∀ h < 41, ∀ l < 41,
    Scalar.maxsi (BitVec.ofNat 32 m) (Scalar.addi (Scalar.subi (Scalar.subi (BitVec.ofNat 32 h) 1#32) (BitVec.ofNat 32 l)) 1#32)
      = BitVec.ofNat 32 (max m (h - l)) := by decide +kernel

theorem mostN_word (X : S4x40.Idx → F .f32) (n : ℕ) :
    Scalar.maxsi (BitVec.ofNat 32 (mostN X n)) (Scalar.addi (Scalar.subi (hiW X n) (loW X n)) 1#32)
      = BitVec.ofNat 32 (mostN X (n + 1)) :=
  most_word _ (Nat.lt_succ_of_le (mostN_le X n)) _ (Nat.lt_succ_of_le (hiN_le X n)) _ (Nat.lt_succ_of_le (loN_le X n))

theorem chk1_word : ∀ k < 41, k0_chk1 (BitVec.ofNat 32 k) := by unfold k0_chk1; decide +kernel
theorem chk2_word : ∀ k < 41, k0_chk2 (BitVec.ofNat 32 k) := by unfold k0_chk2; decide +kernel
theorem off1_word : ∀ k < 41, k0_off1 (BitVec.ofNat 32 k) = ![3, min k 39] := by decide +kernel
theorem off4_word : ∀ k < 41, k0_off4 (BitVec.ofNat 32 k) = ![2, min k 39] := by decide +kernel
theorem off2_word : ∀ t, k0_off2 t = ![0, t.val] := by decide +kernel
theorem off5_word : ∀ t, k0_off5 t = ![1, t.val] := by decide +kernel
theorem off3_word : ∀ t, k0_off3 t = ![t.val] := by decide +kernel
theorem off6_word : ∀ t, k0_off6 t = ![t.val] := by decide +kernel
theorem off7_word : ∀ t, k0_off7 t = ![t.val] := by decide +kernel
theorem trips1 : k0_t1_loop.trips = 40 := by decide +kernel
theorem trips2 : k0_t2_loop.trips = 40 := by decide +kernel
theorem trips3 : k0_t3_loop.trips = 40 := by decide +kernel
theorem succ_word (k : ℕ) : Scalar.addi (BitVec.ofNat 32 k) 1#32 = BitVec.ofNat 32 (k + 1) := by
  simp only [Scalar.addi, IntOp.addi]; rw [← BitVec.ofNat_add]

theorem slt_word : ∀ k < 41, Scalar.cmpi .slt (BitVec.ofNat 32 k) 40#32 = BitVec.ofBool (decide (k < 40)) := by decide +kernel

theorem chk43_word : ∀ n < 41, k0_chk43 (BitVec.ofNat 32 n) := by unfold k0_chk43; decide +kernel
theorem trips4 : ∀ n < 41, (k0_t4_loop (BitVec.ofNat 32 n)).trips = n - 1 := by decide +kernel
theorem trips5 : ∀ n < 41, (k0_t5_loop (BitVec.ofNat 32 n)).trips = 0 := by decide +kernel
theorem pass_word : ∀ k < 40, Scf.iv 1#32 1#32 k = BitVec.ofNat 32 (k + 1) := by decide +kernel

/-- The chunk a unit reads in pass `d`, of a target chunk whose first is `v`. -/
theorem unitOff_word : ∀ d < 41, ∀ v < 41, unitOff (BitVec.ofNat 32 d) (BitVec.ofNat 32 v) = ![min (v + d) 39, 0, 0] := by
  decide +kernel

theorem unitChk_word : ∀ d < 41, ∀ v < 41, UnitChk (BitVec.ofNat 32 d) (BitVec.ofNat 32 v) := by
  intro d hd v hv
  unfold UnitChk
  rw [unitOff_word d hd v hv]
  have : min (v + d) 39 ≤ 39 := Nat.min_le_right _ _
  constructor
  · intro a
    match a with
    | ⟨0, _⟩ => show min (v + d) 39 + 1 ≤ 40; omega
    | ⟨1, _⟩ => exact le_rfl
    | ⟨2, _⟩ => exact le_rfl
  · intro a
    match a with
    | ⟨0, _⟩ => show min (v + d) 39 + 1 ≤ 40; omega
    | ⟨1, _⟩ => exact le_rfl
    | ⟨2, _⟩ => exact le_rfl

/-- Whether a unit's chunk is one of its target chunk's. -/
theorem valid_word : ∀ d < 41, ∀ v < 41, ∀ h < 41,
    (Scalar.cmpi .sle (Scalar.addi (BitVec.ofNat 32 v) (BitVec.ofNat 32 d)) (Scalar.subi (BitVec.ofNat 32 h) 1#32) = 1#1 ↔ v + d < h) := by
  decide +kernel

end Cert.KernelIdeal.Rebin

end
-- ==== Proof.KI.While.lean ====
/- The two loops that scan for a target chunk's source chunks: each meets a specification that holds the table it
   reads and returns where the scan stops. -/
module

public import proofs.«01_k».proof.Proof.KI.Common
public import proofs.«01_k».proof.Proof.KI.Scan

@[expose] public section

noncomputable section

namespace Cert.KernelIdeal.Rebin

open Idealize.ShloMosaic Idealize.ShloMosaic.TcCoe Cert.KernelIdeal.Gen Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What a scan's label promises: the table back, and the word returned. -/
def scanSpec (c : Dev nD) (m : Memref sig .tc .smem S4x40 .f32) (X : S4x40.Idx → F .f32) (r : BitVec 32) : sWPT (MM F) (BitVec 32) := do
  sWPT.consume (own (c : Thread nD τ) m X)
  sWPT.produce (own (c : Thread nD τ) m X)
  pure r

theorem scanSpec_apply (c : Dev nD) (m : Memref sig .tc .smem S4x40 .f32) (X : S4x40.Idx → F .f32) (r : BitVec 32) (K : BitVec 32 → sProp (MM F)) :
    scanSpec c m X r K = iprop(own (c : Thread nD τ) m X ∗ (own (c : Thread nD τ) m X -∗ K r)) := rfl

/-- A word of the table, at the offsets a load names. -/
theorem tab_load (X : S4x40.Idx → F .f32) (r : Fin 4) (k : ℕ) (off : Fin 2 → ℕ) (inb : ∀ a, off a + (![1, 1] : Fin 2 → ℕ) a ≤ S4x40.size a)
    (hoff : off = ![r.val, min k 39]) (x : S1x1.Idx) :
    X ((Rect.unit (s := S4x40) off ![1, 1] inb).idx x) = tab X r k := by
  subst hoff
  unfold tab
  congr 1
  funext a
  match a with
  | ⟨0, _⟩ => exact Fin.ext (by rw [LoadRect.idx_apply]; have := (x 0).isLt; simp at this ⊢; omega)
  | ⟨1, _⟩ => exact Fin.ext (by rw [LoadRect.idx_apply]; have := (x 1).isLt; simp at this ⊢; omega)

theorem and_word (p : Prop) [Decidable p] (b : BitVec 1) : Scalar.andi (BitVec.ofBool (decide p)) b = 1#1 ↔ p ∧ b = 1#1 := by
  by_cases h : p
  · simp only [h, decide_true, true_and]; revert b; decide
  · simp only [h, decide_false, false_and, iff_false]; revert b; decide

section

variable (c : Dev nD) (i : grid0.Coords) (arg6 : Memref sig .tc .smem S4x40 .f32) (harg6 : arg6.IsWhole) (X : S4x40.Idx → F .f32) (E : Set ℕ)

theorem lo_spec (t : Fin k0_t1_loop.trips) : ∀ n k, k + n = 40 → ∀ K,
    scanSpec c arg6 X (BitVec.ofNat 32 (scan (loTest X t.val) n k)) K
      ⊢ wp frame (wpE (defs₀ (F := F)) 𝒱₀ (c : Thread nD τ) (some n)) E (defs₀ (F := F) .tc 1 ⟨i, t, arg6, harg6, BitVec.ofNat 32 k⟩) K := by
  have ht : t.val < 40 := Nat.lt_of_lt_of_eq t.isLt trips1
  intro n
  induction n with
  | zero =>
    intro k hk K
    obtain rfl : k = 40 := hk
    rw [scanSpec_apply]
    show _ ⊢ wp frame (wpE (defs₀ (F := F)) 𝒱₀ (c : Thread nD τ) (some 0)) E (cc0_while1 i t arg6 harg6 (BitVec.ofNat 32 40)) K
    unfold cc0_while1
    simp only [smemLoad, smemLoadElt, Prog.lift, Prog.bind_op, Prog.bind_ret, Prog.pure_eq_ret]
    iintro ⟨H, Hk⟩
    iapply (wp_assume 𝒱₀ (c : Thread nD τ) (some 0) E (chk1_word 40 (by decide)))
    iapply (load_own (c : Thread nD τ) (some 0) E) $$ H; iintro H
    iapply (load_own (c : Thread nD τ) (some 0) E) $$ H; iintro H
    rw [slt_word 40 (by decide), if_neg (by rw [and_word]; exact fun h => absurd h.1 (by decide)), wp_ret, scan]
    imodintro
    iapply Hk
    iexact H
  | succ n ih =>
    intro k hk K
    have hk40 : k < 41 := by omega
    rw [scanSpec_apply]
    show _ ⊢ wp frame (wpE (defs₀ (F := F)) 𝒱₀ (c : Thread nD τ) (some (n + 1))) E (cc0_while1 i t arg6 harg6 (BitVec.ofNat 32 k)) K
    unfold cc0_while1
    simp only [smemLoad, smemLoadElt, Prog.lift, Prog.bind_op, Prog.bind_ret, Prog.pure_eq_ret]
    iintro ⟨H, Hk⟩
    iapply (wp_assume 𝒱₀ (c : Thread nD τ) (some (n + 1)) E (chk1_word k hk40))
    iapply (load_own (c : Thread nD τ) (some (n + 1)) E) $$ H; iintro H
    iapply (load_own (c : Thread nD τ) (some (n + 1)) E) $$ H; iintro H
    beta_reduce
    rw [tab_load X 3 k _ _ (off1_word k hk40), tab_load X 0 t.val _ _ ((off2_word t).trans (by rw [Nat.min_eq_left (by omega : t.val ≤ 39)]; rfl)),
      slt_word k hk40, scan, succ_word]
    by_cases h : loTest X t.val k
    · rw [if_pos ((and_word _ _).mpr h), if_pos h]
      iapply (wp_call_spec 𝒱₀ (c : Thread nD τ) (some (n + 1)) E (scanSpec c arg6 X (BitVec.ofNat 32 (scan (loTest X t.val) n (k + 1)))) n
        (fun u hu => by cases hu; exact Nat.lt_succ_self n) (ih (k + 1) (by omega)))
      rw [scanSpec_apply]
      isplitl [H]
      · iexact H
      iintro H
      rw [wp_ret]
      imodintro
      iapply Hk
      iexact H
    · rw [if_neg (fun h' => h ((and_word _ _).mp h')), if_neg h, wp_ret]
      imodintro
      iapply Hk
      iexact H

theorem hi_spec (t : Fin k0_t2_loop.trips) : ∀ n k, k + n = 40 → ∀ K,
    scanSpec c arg6 X (BitVec.ofNat 32 (scan (hiTest X t.val) n k)) K
      ⊢ wp frame (wpE (defs₀ (F := F)) 𝒱₀ (c : Thread nD τ) (some n)) E (defs₀ (F := F) .tc 2 ⟨i, t, arg6, harg6, BitVec.ofNat 32 k⟩) K := by
  have ht : t.val < 40 := Nat.lt_of_lt_of_eq t.isLt trips2
  intro n
  induction n with
  | zero =>
    intro k hk K
    obtain rfl : k = 40 := hk
    rw [scanSpec_apply]
    show _ ⊢ wp frame (wpE (defs₀ (F := F)) 𝒱₀ (c : Thread nD τ) (some 0)) E (cc0_while2 i t arg6 harg6 (BitVec.ofNat 32 40)) K
    unfold cc0_while2
    simp only [smemLoad, smemLoadElt, Prog.lift, Prog.bind_op, Prog.bind_ret, Prog.pure_eq_ret]
    iintro ⟨H, Hk⟩
    iapply (wp_assume 𝒱₀ (c : Thread nD τ) (some 0) E (chk2_word 40 (by decide)))
    iapply (load_own (c : Thread nD τ) (some 0) E) $$ H; iintro H
    iapply (load_own (c : Thread nD τ) (some 0) E) $$ H; iintro H
    rw [slt_word 40 (by decide), if_neg (by rw [and_word]; exact fun h => absurd h.1 (by decide)), wp_ret, scan]
    imodintro
    iapply Hk
    iexact H
  | succ n ih =>
    intro k hk K
    have hk40 : k < 41 := by omega
    rw [scanSpec_apply]
    show _ ⊢ wp frame (wpE (defs₀ (F := F)) 𝒱₀ (c : Thread nD τ) (some (n + 1))) E (cc0_while2 i t arg6 harg6 (BitVec.ofNat 32 k)) K
    unfold cc0_while2
    simp only [smemLoad, smemLoadElt, Prog.lift, Prog.bind_op, Prog.bind_ret, Prog.pure_eq_ret]
    iintro ⟨H, Hk⟩
    iapply (wp_assume 𝒱₀ (c : Thread nD τ) (some (n + 1)) E (chk2_word k hk40))
    iapply (load_own (c : Thread nD τ) (some (n + 1)) E) $$ H; iintro H
    iapply (load_own (c : Thread nD τ) (some (n + 1)) E) $$ H; iintro H
    beta_reduce
    rw [tab_load X 2 k _ _ (off4_word k hk40), tab_load X 1 t.val _ _ ((off5_word t).trans (by rw [Nat.min_eq_left (by omega : t.val ≤ 39)]; rfl)),
      slt_word k hk40, scan, succ_word]
    by_cases h : hiTest X t.val k
    · rw [if_pos ((and_word _ _).mpr h), if_pos h]
      iapply (wp_call_spec 𝒱₀ (c : Thread nD τ) (some (n + 1)) E (scanSpec c arg6 X (BitVec.ofNat 32 (scan (hiTest X t.val) n (k + 1)))) n
        (fun u hu => by cases hu; exact Nat.lt_succ_self n) (ih (k + 1) (by omega)))
      rw [scanSpec_apply]
      isplitl [H]
      · iexact H
      iintro H
      rw [wp_ret]
      imodintro
      iapply Hk
      iexact H
    · rw [if_neg (fun h' => h ((and_word _ _).mp h')), if_neg h, wp_ret]
      imodintro
      iapply Hk
      iexact H

end

end Cert.KernelIdeal.Rebin

end
-- ==== Proof.KI.Unit.lean ====
/- What the body computes, as functions of the arrays it reads; and the rules for its parts: one unit of work, one
   chunk's store, one pass. -/
module

public import proofs.«01_k».proof.Proof.KI.While

@[expose] public section

noncomputable section

namespace Cert.KernelIdeal.Rebin

open Idealize.ShloMosaic Idealize.ShloMosaic.TcCoe Cert.KernelIdeal.Gen Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The results -/

/-- The arrays a block's work reads besides the logits: the bins' left ends, their widths' inverses, the target
    bins' two ends, and the table of the chunks' ends. -/
structure Ins (F : FTy → Type) where
  fl : S40x128x1.Idx → F .f32
  rw : S40x128x1.Idx → F .f32
  to0 : S40x1x128.Idx → F .f32
  to1 : S40x1x128.Idx → F .f32
  tab : S4x40.Idx → F .f32

/-- The stored softmax, chunk by chunk. -/
def probs (p : FVec F S512x5000 .f32) : S40x512x128.Idx → F .bf16 := fun y =>
  if h : (y 0).val < 39 then chunkVal p ⟨(y 0).val, h⟩ (ix3 (0 : Fin 1) (y 1) (y 2))
  else chunkLast p (ix3 (0 : Fin 1) (y 1) (y 2))

/-- The source chunk that target chunk `t` reads in pass `d`. -/
def src (I : Ins F) (t : Fin 40) (d : ℕ) : Fin 40 :=
  ⟨min (loN I.tab t.val + d) 39, Nat.lt_of_le_of_lt (Nat.min_le_right _ 39) (by decide)⟩

/-- What target chunk `t` gets in pass `d`. -/
def unitU (I : Ins F) (P : S40x512x128.Idx → F .bf16) (t : Fin 40) (d : ℕ) : FVec F S512x128 .f32 :=
  resVal (BitVec.ofNat 32 d) (loW I.tab t.val) (hiW I.tab t.val)
    (fun x => I.fl (ix3 (src I t d) (x 1) (x 2))) (fun x => I.rw (ix3 (src I t d) (x 1) (x 2)))
    (fun x => I.to0 (ix3 t (x 1) (x 2))) (fun x => I.to1 (ix3 t (x 1) (x 2)))
    (fun x => P (ix3 (src I t d) (x 1) (x 2)))

/-- What target chunk `t` has got after pass `n`. -/
def acc (I : Ins F) (P : S40x512x128.Idx → F .bf16) (t : Fin 40) : ℕ → FVec F S512x128 .f32
  | 0 => unitU I P t 0
  | n + 1 => addf (acc I P t n) (unitU I P t (n + 1))

/-- The block of the result after pass `n`. -/
def outA (I : Ins F) (P : S40x512x128.Idx → F .bf16) (n : ℕ) : S512x5000.Idx → F .f32 := fun y =>
  acc I P ⟨(y 1).val / 128, by have h : (y 1).val < 5000 := (y 1).isLt; omega⟩ n
    (ix2 (y 0) ⟨(y 1).val % 128, Nat.mod_lt _ (by decide)⟩)

theorem outA_at (I : Ins F) (P : S40x512x128.Idx → F .bf16) (n : ℕ) (t : Fin 40) (x : S512x128.Idx) (y : S512x5000.Idx)
    (h0 : (y 0).val = (x 0).val) (h1 : (y 1).val = 128 * t.val + (x 1).val) : outA I P n y = acc I P t n x := by
  have hx : (x 1).val < 128 := (x 1).isLt
  have ht : (⟨(y 1).val / 128, by have h : (y 1).val < 5000 := (y 1).isLt; omega⟩ : Fin 40) = t :=
    Fin.ext (show (y 1).val / 128 = t.val by omega)
  have hy : (ix2 (y 0) ⟨(y 1).val % 128, Nat.mod_lt _ (by decide)⟩ : S512x128.Idx) = x := by
    funext a
    match a with
    | ⟨0, _⟩ => exact Fin.ext h0
    | ⟨1, _⟩ => exact Fin.ext (show (y 1).val % 128 = (x 1).val by omega)
  unfold outA
  rw [ht, hy]

/-! ## Loads and stores of a chunk -/

/-- A load of one chunk of an array of chunks. -/
theorem chunk_load {α : Type} {a b k : ℕ} (X : (⟨3, ![a, b, k]⟩ : Shape).Idx → α) (n : Fin a) (off : Fin 3 → ℕ)
    (inb : ∀ i, off i + (![1, b, k] : Fin 3 → ℕ) i ≤ (⟨3, ![a, b, k]⟩ : Shape).size i) (hoff : off = ![n.val, 0, 0]) :
    (fun x => X ((Rect.unit (s := ⟨3, ![a, b, k]⟩) off ![1, b, k] inb).idx x)) = fun x => X (ix3 n (x 1) (x 2)) := by
  subst hoff
  funext x
  congr 1
  funext i
  match i with
  | ⟨0, _⟩ => exact Fin.ext (by rw [LoadRect.idx_apply]; have := (x 0).isLt; simp at this ⊢; omega)
  | ⟨1, _⟩ => exact Fin.ext (by rw [LoadRect.idx_apply]; simp)
  | ⟨2, _⟩ => exact Fin.ext (by rw [LoadRect.idx_apply]; simp)

/-- A word of an array of forty. -/
theorem word_load {α : Type} (g : ℕ → α) (t : ℕ) (off : Fin 1 → ℕ)
    (inb : ∀ i, off i + (![1] : Fin 1 → ℕ) i ≤ S40.size i) (hoff : off = ![t]) (x : S1.Idx) :
    g (((Rect.unit (s := S40) off ![1] inb).idx x) 0).val = g t := by
  subst hoff
  congr 1
  rw [LoadRect.idx_apply]; have := (x 0).isLt; simp at this ⊢; omega

section Progs

variable (c : Dev nD) (E : Set ℕ) (i : grid0.Coords) (arg1 : Memref sig .tc .vmem S512x5000 .f32) (arg2 : Memref sig .tc .vmem S40x128x1 .f32) (arg3 : Memref sig .tc .vmem S40x128x1 .f32)
  (arg4 : Memref sig .tc .vmem S40x1x128 .f32) (arg5 : Memref sig .tc .vmem S40x1x128 .f32) (arg6 : Memref sig .tc .smem S4x40 .f32) (harg6 : arg6.IsWhole)
  (arg7 : Memref sig .tc .vmem S512x5000 .f32) (arg8 : Memref sig .tc .vmem S40x512x128 .bf16) (harg8 : arg8.IsWhole)
  (arg9 : Memref sig .tc .smem S40 .i32) (arg10 : Memref sig .tc .smem S40 .i32)

/-- What a unit of work reads, held at its contents. -/
def held (I : Ins F) (P : S40x512x128.Idx → F .bf16) : sProp (MM F) :=
  iprop(own (c : Thread nD τ) arg2 I.fl ∗ own (c : Thread nD τ) arg3 I.rw ∗ own (c : Thread nD τ) arg4 I.to0 ∗ own (c : Thread nD τ) arg5 I.to1
    ∗ own (c : Thread nD τ) arg8 P ∗ own (c : Thread nD τ) arg9 (fun y => loW I.tab (y 0).val) ∗ own (c : Thread nD τ) arg10 (fun y => hiW I.tab (y 0).val))

theorem unit_wp (I : Ins F) (P : S40x512x128.Idx → F .bf16) (t : Fin 40) (d : ℕ) (hd : d < 41) {α : Type}
    (k : FVec F S512x128 .f32 → PK F α) (Q : α → sProp (MM F)) :
    held c arg2 arg3 arg4 arg5 arg8 arg9 arg10 I P
      ⊢ iprop((held c arg2 arg3 arg4 arg5 arg8 arg9 arg10 I P -∗ wp frame (wpE (defs₀ (F := F)) 𝒱₀ (c : Thread nD τ) none) E (k (unitU I P t d)) Q)
        -∗ wp frame (wpE (defs₀ (F := F)) 𝒱₀ (c : Thread nD τ) none) E (unitProg arg2 arg3 arg4 arg5 arg8 arg9 arg10 t (BitVec.ofNat 32 d) >>= k) Q) := by
  unfold unitProg
  simp only [smemLoad, smemLoadElt, Prog.lift, Prog.bind_op, Prog.bind_ret, Prog.pure_eq_ret]
  unfold held
  iintro ⟨H2, H3, H4, H5, H8, H9, H10⟩ Hk
  iapply (load_own (c : Thread nD τ) none E) $$ H9; iintro H9
  beta_reduce
  rw [word_load (loW I.tab) t.val _ _ rfl]
  iapply (wp_assume 𝒱₀ (c : Thread nD τ) none E (unitChk_word d hd _ (Nat.lt_succ_of_le (loN_le I.tab t.val))))
  iapply (load_own (c : Thread nD τ) none E) $$ H10; iintro H10
  iapply (load_own (c : Thread nD τ) none E) $$ H2; iintro H2
  iapply (load_own (c : Thread nD τ) none E) $$ H3; iintro H3
  iapply (load_own (c : Thread nD τ) none E) $$ H4; iintro H4
  iapply (load_own (c : Thread nD τ) none E) $$ H5; iintro H5
  iapply (load_own (c : Thread nD τ) none E) $$ H8; iintro H8
  beta_reduce
  rw [word_load (hiW I.tab) t.val _ _ rfl]
  have hoff : unitOff (BitVec.ofNat 32 d) (loW I.tab t.val) = ![(src I t d).val, 0, 0] :=
    unitOff_word d hd _ (Nat.lt_succ_of_le (loN_le I.tab t.val))
  rw [chunk_load I.fl (src I t d) _ _ hoff, chunk_load I.rw (src I t d) _ _ hoff, chunk_load P (src I t d) _ _ hoff,
    chunk_load I.to0 t _ _ rfl, chunk_load I.to1 t _ _ rfl]
  iapply Hk
  isplitl [H2]; · iexact H2
  isplitl [H3]; · iexact H3
  isplitl [H4]; · iexact H4
  isplitl [H5]; · iexact H5
  isplitl [H8]; · iexact H8
  isplitl [H9]; · iexact H9
  iexact H10

end Progs

end Cert.KernelIdeal.Rebin

end
-- ==== Proof.KI.Body.lean ====
/- The body's triple: from the arrays' blocks held at their contents, the whole body leaves the block of the result
   after its last pass, and everything it reads as it was. -/
module

public import proofs.«01_k».proof.Proof.KI.Unit
public import Idealize.ShloMosaic.Lib.Pipeline.Value

@[expose] public section

noncomputable section

namespace Cert.KernelIdeal.Rebin

open Idealize.ShloMosaic Idealize.ShloMosaic.TcCoe Cert.KernelIdeal.Gen Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

section Progs

variable (c : Dev nD) (E : Set ℕ) (i : grid0.Coords) (arg1 : Memref sig .tc .vmem S512x5000 .f32) (arg2 : Memref sig .tc .vmem S40x128x1 .f32) (arg3 : Memref sig .tc .vmem S40x128x1 .f32)
  (arg4 : Memref sig .tc .vmem S40x1x128 .f32) (arg5 : Memref sig .tc .vmem S40x1x128 .f32) (arg6 : Memref sig .tc .smem S4x40 .f32) (harg6 : arg6.IsWhole)
  (arg7 : Memref sig .tc .vmem S512x5000 .f32) (arg8 : Memref sig .tc .vmem S40x512x128 .bf16) (harg8 : arg8.IsWhole)
  (arg9 : Memref sig .tc .smem S40 .i32) (arg10 : Memref sig .tc .smem S40 .i32)

/-! ## The passes -/

/-- The state within a pass: the target chunks before `n` columns have what they get, the others what they had. -/
def passInv (I : Ins F) (P : S40x512x128.Idx → F .bf16) (A B : S512x5000.Idx → F .f32) (n : ℕ) : sProp (MM F) :=
  iprop(held c arg2 arg3 arg4 arg5 arg8 arg9 arg10 I P ∗ own (c : Thread nD τ) arg7 (mix (s := S512x5000) 1 n A B))

theorem out_emb (t : ℕ) (k : ℕ) (inb : ∀ a, (![0, 128 * t] : Fin 2 → ℕ) a + (![512, k] : Fin 2 → ℕ) a ≤ S512x5000.size a)
    (x : (⟨2, ![512, k]⟩ : Shape).Idx) :
    (((Rect.unit (s := S512x5000) ![0, 128 * t] ![512, k] inb).emb x) 0).val = (x 0).val
      ∧ (((Rect.unit (s := S512x5000) ![0, 128 * t] ![512, k] inb).emb x) 1).val = 128 * t + (x 1).val := by
  constructor <;> rw [Rect.emb_apply] <;> simp

theorem out_rest (n k : ℕ) : ∀ b : Fin S512x5000.rank, b ≠ 1 → (![0, n] : Fin 2 → ℕ) b = 0 ∧ (![512, k] : Fin 2 → ℕ) b = S512x5000.size b := by
  intro b hb
  match b, hb with
  | ⟨0, _⟩, _ => exact ⟨rfl, rfl⟩
  | ⟨1, _⟩, hb => exact absurd rfl hb

/-- A unit's last eight columns' place in its chunk. -/
theorem slice8 (v : FVec F S512x128 .f32) (x : S512x8.Idx) :
    extractStridedSlice S512x8 ![0, 0] v slices_S512x128_o0_0_S512x8 x = v (ix2 (x 0) ⟨(x 1).val, Nat.lt_of_lt_of_le (x 1).isLt (by decide)⟩) :=
  extractStridedSlice_apply _ _ _ _ _ fun a => by
    match a with
    | ⟨0, _⟩ => simp
    | ⟨1, _⟩ => simp

/-! What each store of a target chunk makes of the block. -/

theorem first_put (I : Ins F) (P : S40x512x128.Idx → F .bf16) (B : S512x5000.Idx → F .f32) (t : Fin 39) :
    put (Rect.unit (s := S512x5000) ![0, 128 * t.val] ![512, 128] (inbOut t)) (unitU I P t.castSucc 0) (mix (s := S512x5000) 1 (128 * t.val) (outA I P 0) B)
      = mix (s := S512x5000) 1 (128 * (t.val + 1)) (outA I P 0) B :=
  put_mix (s := S512x5000) 1 (128 * t.val) 128 _ _ _ _ _ _ rfl rfl (out_rest _ _) fun x =>
    (outA_at I P 0 t.castSucc x _ (out_emb t.val 128 (inbOut t) x).1 (out_emb t.val 128 (inbOut t) x).2).symm

theorem first_put_last (I : Ins F) (P : S40x512x128.Idx → F .bf16) (B : S512x5000.Idx → F .f32) :
    put (Rect.unit (s := S512x5000) ![0, 4992] ![512, 8] inb_S512x5000_S512x8_0_4992)
        (extractStridedSlice S512x8 ![0, 0] (unitU I P (Fin.last 39) 0) slices_S512x128_o0_0_S512x8) (mix (s := S512x5000) 1 (128 * 39) (outA I P 0) B)
      = mix (s := S512x5000) 1 (128 * 39 + 8) (outA I P 0) B :=
  put_mix (s := S512x5000) 1 (128 * 39) 8 _ _ _ _ _ _ rfl rfl (out_rest _ _) fun x =>
    (slice8 _ x).trans (outA_at I P 0 (Fin.last 39) _ _ (out_emb 39 8 inb_S512x5000_S512x8_0_4992 x).1 (out_emb 39 8 inb_S512x5000_S512x8_0_4992 x).2).symm

theorem add_put (I : Ins F) (P : S40x512x128.Idx → F .bf16) (n : ℕ) (t : Fin 39) :
    put (Rect.unit (s := S512x5000) ![0, 128 * t.val] ![512, 128] (inbOut t))
        (addf (shapeCast S512x128 (fun x => mix (s := S512x5000) 1 (128 * t.val) (outA I P (n + 1)) (outA I P n)
          ((Rect.unit (s := S512x5000) ![0, 128 * t.val] ![512, 128] (inbOut t)).idx x)) shapeCasts_S512x128_S512x128)
          (unitU I P t.castSucc (n + 1)))
        (mix (s := S512x5000) 1 (128 * t.val) (outA I P (n + 1)) (outA I P n))
      = mix (s := S512x5000) 1 (128 * (t.val + 1)) (outA I P (n + 1)) (outA I P n) :=
  put_mix (s := S512x5000) 1 (128 * t.val) 128 _ _ _ _ _ _ rfl rfl (out_rest _ _) fun x => by
    have h0 := (out_emb t.val 128 (inbOut t) x).1
    have h1 := (out_emb t.val 128 (inbOut t) x).2
    refine Eq.trans ?_ (outA_at I P (n + 1) t.castSucc x _ h0 h1).symm
    show FloatOps.addf _ _ = FloatOps.addf _ _
    refine congrArg₂ _ ((congrFun (shapeCast_self (s := S512x128) _ _) x).trans ((if_neg ?_).trans (outA_at I P n t.castSucc x _ h0 h1))) rfl
    exact not_lt.mpr (h1.symm ▸ Nat.le_add_right _ _)

theorem add_put_last (I : Ins F) (P : S40x512x128.Idx → F .bf16) (n : ℕ) :
    put (Rect.unit (s := S512x5000) ![0, 4992] ![512, 8] inb_S512x5000_S512x8_0_4992)
        (addf (shapeCast S512x8 (fun x => mix (s := S512x5000) 1 (128 * 39) (outA I P (n + 1)) (outA I P n)
          ((Rect.unit (s := S512x5000) ![0, 4992] ![512, 8] inb_S512x5000_S512x8_0_4992).idx x)) shapeCasts_S512x8_S512x8)
          (extractStridedSlice S512x8 ![0, 0] (unitU I P (Fin.last 39) (n + 1)) slices_S512x128_o0_0_S512x8))
        (mix (s := S512x5000) 1 (128 * 39) (outA I P (n + 1)) (outA I P n))
      = mix (s := S512x5000) 1 (128 * 39 + 8) (outA I P (n + 1)) (outA I P n) :=
  put_mix (s := S512x5000) 1 (128 * 39) 8 _ _ _ _ _ _ rfl rfl (out_rest _ _) fun x => by
    have h0 := (out_emb 39 8 inb_S512x5000_S512x8_0_4992 x).1
    have h1 := (out_emb 39 8 inb_S512x5000_S512x8_0_4992 x).2
    refine Eq.trans ?_ (outA_at I P (n + 1) (Fin.last 39) (ix2 (x 0) ⟨(x 1).val, Nat.lt_of_lt_of_le (x 1).isLt (by decide)⟩) _ h0 h1).symm
    show FloatOps.addf _ _ = FloatOps.addf _ _
    refine congrArg₂ _ ((congrFun (shapeCast_self (s := S512x8) _ _) x).trans ((if_neg ?_).trans (outA_at I P n (Fin.last 39) (ix2 (x 0) ⟨(x 1).val, Nat.lt_of_lt_of_le (x 1).isLt (by decide)⟩) _ h0 h1))) (slice8 _ x)
    exact not_lt.mpr (h1.symm ▸ Nat.le_add_right _ _)

theorem first_step (I : Ins F) (P : S40x512x128.Idx → F .bf16) (B : S512x5000.Idx → F .f32) (t : Fin 39) :
    passInv c arg2 arg3 arg4 arg5 arg7 arg8 arg9 arg10 I P (outA I P 0) B (128 * t.val)
      ⊢ wp frame (wpE (defs₀ (F := F)) 𝒱₀ (c : Thread nD τ) none) E (firstProg arg2 arg3 arg4 arg5 arg7 arg8 arg9 arg10 t)
          (fun _ => passInv c arg2 arg3 arg4 arg5 arg7 arg8 arg9 arg10 I P (outA I P 0) B (128 * (t.val + 1))) := by
  unfold passInv firstProg
  iintro ⟨H, H7⟩
  iapply (unit_wp c E arg2 arg3 arg4 arg5 arg8 arg9 arg10 I P t.castSucc 0 (by decide)) $$ H
  iintro H
  simp only [Prog.lift, Prog.bind_op, Prog.bind_ret, Prog.pure_eq_ret]
  iapply (load_own (c : Thread nD τ) none E) $$ H7; iintro H7
  iapply (store_own (c : Thread nD τ) none E) $$ H7; iintro H7
  rw [wp_ret]; imodintro
  isplitl [H]; · iexact H
  rw [first_put]
  iexact H7

theorem first_last (I : Ins F) (P : S40x512x128.Idx → F .bf16) (B : S512x5000.Idx → F .f32) :
    passInv c arg2 arg3 arg4 arg5 arg7 arg8 arg9 arg10 I P (outA I P 0) B (128 * 39)
      ⊢ wp frame (wpE (defs₀ (F := F)) 𝒱₀ (c : Thread nD τ) none) E (firstLast arg2 arg3 arg4 arg5 arg7 arg8 arg9 arg10)
          (fun _ => passInv c arg2 arg3 arg4 arg5 arg7 arg8 arg9 arg10 I P (outA I P 0) B (128 * 39 + 8)) := by
  unfold passInv firstLast
  iintro ⟨H, H7⟩
  iapply (unit_wp c E arg2 arg3 arg4 arg5 arg8 arg9 arg10 I P (Fin.last 39) 0 (by decide)) $$ H
  iintro H
  simp only [Prog.lift, Prog.bind_op, Prog.bind_ret, Prog.pure_eq_ret]
  iapply (load_own (c : Thread nD τ) none E) $$ H7; iintro H7
  iapply (store_own (c : Thread nD τ) none E) $$ H7; iintro H7
  rw [wp_ret]; imodintro
  isplitl [H]; · iexact H
  rw [first_put_last]
  iexact H7

theorem add_step (I : Ins F) (P : S40x512x128.Idx → F .bf16) (n : ℕ) (hn : n + 1 < 41) (t : Fin 39) :
    passInv c arg2 arg3 arg4 arg5 arg7 arg8 arg9 arg10 I P (outA I P (n + 1)) (outA I P n) (128 * t.val)
      ⊢ wp frame (wpE (defs₀ (F := F)) 𝒱₀ (c : Thread nD τ) none) E (addProg arg2 arg3 arg4 arg5 arg7 arg8 arg9 arg10 (BitVec.ofNat 32 (n + 1)) t)
          (fun _ => passInv c arg2 arg3 arg4 arg5 arg7 arg8 arg9 arg10 I P (outA I P (n + 1)) (outA I P n) (128 * (t.val + 1))) := by
  unfold passInv addProg
  iintro ⟨H, H7⟩
  iapply (unit_wp c E arg2 arg3 arg4 arg5 arg8 arg9 arg10 I P t.castSucc (n + 1) hn) $$ H
  iintro H
  simp only [Prog.lift, Prog.bind_op, Prog.bind_ret, Prog.pure_eq_ret]
  iapply (load_own (c : Thread nD τ) none E) $$ H7; iintro H7
  iapply (load_own (c : Thread nD τ) none E) $$ H7; iintro H7
  iapply (store_own (c : Thread nD τ) none E) $$ H7; iintro H7
  rw [wp_ret]; imodintro
  isplitl [H]; · iexact H
  rw [add_put]
  iexact H7

theorem add_last (I : Ins F) (P : S40x512x128.Idx → F .bf16) (n : ℕ) (hn : n + 1 < 41) :
    passInv c arg2 arg3 arg4 arg5 arg7 arg8 arg9 arg10 I P (outA I P (n + 1)) (outA I P n) (128 * 39)
      ⊢ wp frame (wpE (defs₀ (F := F)) 𝒱₀ (c : Thread nD τ) none) E (addLast arg2 arg3 arg4 arg5 arg7 arg8 arg9 arg10 (BitVec.ofNat 32 (n + 1)))
          (fun _ => passInv c arg2 arg3 arg4 arg5 arg7 arg8 arg9 arg10 I P (outA I P (n + 1)) (outA I P n) (128 * 39 + 8)) := by
  unfold passInv addLast
  iintro ⟨H, H7⟩
  iapply (unit_wp c E arg2 arg3 arg4 arg5 arg8 arg9 arg10 I P (Fin.last 39) (n + 1) hn) $$ H
  iintro H
  simp only [Prog.lift, Prog.bind_op, Prog.bind_ret, Prog.pure_eq_ret]
  iapply (load_own (c : Thread nD τ) none E) $$ H7; iintro H7
  iapply (load_own (c : Thread nD τ) none E) $$ H7; iintro H7
  iapply (store_own (c : Thread nD τ) none E) $$ H7; iintro H7
  rw [wp_ret]; imodintro
  isplitl [H]; · iexact H
  rw [add_put_last]
  iexact H7

set_option maxRecDepth 20000 in
/-- The first pass. -/
theorem first_wp (I : Ins F) (P : S40x512x128.Idx → F .bf16) (B : S512x5000.Idx → F .f32) :
    iprop(held c arg2 arg3 arg4 arg5 arg8 arg9 arg10 I P ∗ own (c : Thread nD τ) arg7 B)
      ⊢ wp frame (wpE (defs₀ (F := F)) 𝒱₀ (c : Thread nD τ) none) E (firstPass arg2 arg3 arg4 arg5 arg7 arg8 arg9 arg10)
          (fun _ => iprop(held c arg2 arg3 arg4 arg5 arg8 arg9 arg10 I P ∗ own (c : Thread nD τ) arg7 (outA I P 0))) := by
  unfold firstPass
  rw [wp_bind]
  have h0 := runFrom_wp c none E (firstProg arg2 arg3 arg4 arg5 arg7 arg8 arg9 arg10)
    (fun t => passInv c arg2 arg3 arg4 arg5 arg7 arg8 arg9 arg10 I P (outA I P 0) B (128 * t))
    (first_step c E arg2 arg3 arg4 arg5 arg7 arg8 arg9 arg10 I P B) 39 0 rfl
  have h1 := first_last c E arg2 arg3 arg4 arg5 arg7 arg8 arg9 arg10 I P B
  have e0 : passInv c arg2 arg3 arg4 arg5 arg7 arg8 arg9 arg10 I P (outA I P 0) B (128 * 0)
      = iprop(held c arg2 arg3 arg4 arg5 arg8 arg9 arg10 I P ∗ own (c : Thread nD τ) arg7 B) := by
    unfold passInv; rw [Nat.mul_zero, mix_zero]
  have e1 : passInv c arg2 arg3 arg4 arg5 arg7 arg8 arg9 arg10 I P (outA I P 0) B (128 * 39 + 8)
      = iprop(held c arg2 arg3 arg4 arg5 arg8 arg9 arg10 I P ∗ own (c : Thread nD τ) arg7 (outA I P 0)) := by
    unfold passInv; rw [mix_full _ _ (show (5000 : ℕ) ≤ 128 * 39 + 8 by norm_num)]
  rw [e1] at h1
  rw [← e0]
  beta_reduce at h0
  refine h0.trans ?_
  refine wp_mono _ _ _ fun _ => ?_
  exact h1

set_option maxRecDepth 20000 in
/-- A later pass. -/
theorem pass_wp (I : Ins F) (P : S40x512x128.Idx → F .bf16) (n : ℕ) (hn : n + 1 < 41) :
    iprop(held c arg2 arg3 arg4 arg5 arg8 arg9 arg10 I P ∗ own (c : Thread nD τ) arg7 (outA I P n))
      ⊢ wp frame (wpE (defs₀ (F := F)) 𝒱₀ (c : Thread nD τ) none) E (passProg arg2 arg3 arg4 arg5 arg7 arg8 arg9 arg10 (BitVec.ofNat 32 (n + 1)))
          (fun _ => iprop(held c arg2 arg3 arg4 arg5 arg8 arg9 arg10 I P ∗ own (c : Thread nD τ) arg7 (outA I P (n + 1)))) := by
  unfold passProg
  rw [wp_bind]
  have h0 := runFrom_wp c none E (addProg arg2 arg3 arg4 arg5 arg7 arg8 arg9 arg10 (BitVec.ofNat 32 (n + 1)))
    (fun t => passInv c arg2 arg3 arg4 arg5 arg7 arg8 arg9 arg10 I P (outA I P (n + 1)) (outA I P n) (128 * t))
    (add_step c E arg2 arg3 arg4 arg5 arg7 arg8 arg9 arg10 I P n hn) 39 0 rfl
  have h1 := add_last c E arg2 arg3 arg4 arg5 arg7 arg8 arg9 arg10 I P n hn
  have e0 : passInv c arg2 arg3 arg4 arg5 arg7 arg8 arg9 arg10 I P (outA I P (n + 1)) (outA I P n) (128 * 0)
      = iprop(held c arg2 arg3 arg4 arg5 arg8 arg9 arg10 I P ∗ own (c : Thread nD τ) arg7 (outA I P n)) := by
    unfold passInv; rw [Nat.mul_zero, mix_zero]
  have e1 : passInv c arg2 arg3 arg4 arg5 arg7 arg8 arg9 arg10 I P (outA I P (n + 1)) (outA I P n) (128 * 39 + 8)
      = iprop(held c arg2 arg3 arg4 arg5 arg8 arg9 arg10 I P ∗ own (c : Thread nD τ) arg7 (outA I P (n + 1))) := by
    unfold passInv; rw [mix_full _ _ (show (5000 : ℕ) ≤ 128 * 39 + 8 by norm_num)]
  rw [e1] at h1
  rw [← e0]
  beta_reduce at h0
  refine h0.trans ?_
  refine wp_mono _ _ _ fun _ => ?_
  rw [wp_bind]
  refine h1.trans ?_
  refine wp_mono _ _ _ fun _ => ?_
  rw [Prog.pure_eq_ret, wp_ret]
  iintro H; imodintro; iexact H

/-! ## The chunks of the softmax -/

theorem probs_at (p : FVec F S512x5000 .f32) (t : Fin 40) (off : Fin 3 → ℕ) (hoff : off = ![t.val, 0, 0])
    (inb : ∀ a, off a + (![1, 512, 128] : Fin 3 → ℕ) a ≤ S40x512x128.size a) (x : S1x512x128.Idx) :
    probs p ((Rect.unit (s := S40x512x128) off ![1, 512, 128] inb).emb x)
      = if h : t.val < 39 then chunkVal p ⟨t.val, h⟩ x else chunkLast p x := by
  have hx : (ix3 (0 : Fin 1) (x 1) (x 2) : S1x512x128.Idx) = x := by
    funext a
    match a with
    | ⟨0, _⟩ => exact Subsingleton.elim (α := Fin 1) _ _
    | ⟨1, _⟩ => rfl
    | ⟨2, _⟩ => rfl
  have h := congrFun (chunk_load (a := 40) (b := 512) (k := 128) (probs p) t off inb hoff) x
  refine h.trans ?_
  show (if h : t.val < 39 then chunkVal p ⟨t.val, h⟩ (ix3 (0 : Fin 1) (x 1) (x 2)) else chunkLast p (ix3 (0 : Fin 1) (x 1) (x 2))) = _
  rw [hx]

theorem probs_rest (n : ℕ) : ∀ b : Fin S40x512x128.rank, b ≠ 0 → (![n, 0, 0] : Fin 3 → ℕ) b = 0 ∧ (![1, 512, 128] : Fin 3 → ℕ) b = S40x512x128.size b := by
  intro b hb
  match b, hb with
  | ⟨0, _⟩, hb => exact absurd rfl hb
  | ⟨1, _⟩, _ => exact ⟨rfl, rfl⟩
  | ⟨2, _⟩, _ => exact ⟨rfl, rfl⟩

theorem chunk_put (p : FVec F S512x5000 .f32) (B : S40x512x128.Idx → F .bf16) (t : Fin 39) :
    put (Rect.unit (s := S40x512x128) ![t.val, 0, 0] ![1, 512, 128] (inbProbs t.castSucc)) (chunkVal p t) (mix (s := S40x512x128) 0 t.val (probs p) B)
      = mix (s := S40x512x128) 0 (t.val + 1) (probs p) B :=
  put_mix (s := S40x512x128) 0 t.val 1 _ _ _ _ _ _ rfl rfl (probs_rest _) fun x =>
    ((probs_at p t.castSucc _ rfl (inbProbs t.castSucc) x).trans (dif_pos t.isLt)).symm

theorem chunk_put_last (p : FVec F S512x5000 .f32) (B : S40x512x128.Idx → F .bf16) :
    put (Rect.unit (s := S40x512x128) ![39, 0, 0] ![1, 512, 128] (inbProbs (Fin.last 39))) (chunkLast p) (mix (s := S40x512x128) 0 39 (probs p) B)
      = probs p :=
  (put_mix (s := S40x512x128) 0 39 1 _ _ _ _ _ _ rfl rfl (probs_rest _) fun x =>
    ((probs_at p (Fin.last 39) _ rfl (inbProbs (Fin.last 39)) x).trans (dif_neg (by decide))).symm).trans
    (mix_full _ _ (show (40 : ℕ) ≤ 39 + 1 from le_rfl) _ _)

theorem chunk_step (p : FVec F S512x5000 .f32) (B : S40x512x128.Idx → F .bf16) (t : Fin 39) :
    own (c : Thread nD τ) arg8 (mix (s := S40x512x128) 0 t.val (probs p) B)
      ⊢ wp frame (wpE (defs₀ (F := F)) 𝒱₀ (c : Thread nD τ) none) E (chunkProg arg8 harg8 p t)
          (fun _ => own (c : Thread nD τ) arg8 (mix (s := S40x512x128) 0 (t.val + 1) (probs p) B)) := by
  unfold chunkProg
  simp only [Prog.lift, Prog.bind_op, Prog.bind_ret, Prog.pure_eq_ret]
  iintro H
  iapply (load_own (c : Thread nD τ) none E) $$ H; iintro H
  iapply (store_own (c : Thread nD τ) none E) $$ H; iintro H
  rw [wp_ret]; imodintro
  rw [chunk_put]
  iexact H

theorem chunk_last (p : FVec F S512x5000 .f32) (B : S40x512x128.Idx → F .bf16) :
    own (c : Thread nD τ) arg8 (mix (s := S40x512x128) 0 39 (probs p) B)
      ⊢ wp frame (wpE (defs₀ (F := F)) 𝒱₀ (c : Thread nD τ) none) E (chunkLastProg arg8 harg8 p)
          (fun _ => own (c : Thread nD τ) arg8 (probs p)) := by
  unfold chunkLastProg
  simp only [Prog.lift, Prog.bind_op, Prog.bind_ret, Prog.pure_eq_ret]
  iintro H
  iapply (load_own (c : Thread nD τ) none E) $$ H; iintro H
  iapply (store_own (c : Thread nD τ) none E) $$ H; iintro H
  rw [wp_ret]; imodintro
  rw [chunk_put_last]
  iexact H

theorem chunks_wp (p : FVec F S512x5000 .f32) (B : S40x512x128.Idx → F .bf16) :
    own (c : Thread nD τ) arg8 B
      ⊢ wp frame (wpE (defs₀ (F := F)) 𝒱₀ (c : Thread nD τ) none) E (chunks arg8 harg8 p)
          (fun _ => own (c : Thread nD τ) arg8 (probs p)) := by
  unfold chunks
  rw [wp_bind]
  have h0 := runFrom_wp c none E (chunkProg arg8 harg8 p)
    (fun t => own (c : Thread nD τ) arg8 (mix (s := S40x512x128) 0 t (probs p) B))
    (chunk_step c E arg8 harg8 p B) 39 0 rfl
  rw [mix_zero] at h0
  exact h0.trans (wp_mono _ _ _ fun _ => chunk_last c E arg8 harg8 p B)

end Progs

end Cert.KernelIdeal.Rebin

end
-- ==== Proof.KI.Whole.lean ====
/- The whole body: its three loops over the table, the stores of the softmax, the first pass and the later ones. -/
module

public import proofs.«01_k».proof.Proof.KI.Body
public import Idealize.ShloMosaic.Lib.Scf

@[expose] public section

noncomputable section

namespace Cert.KernelIdeal.Rebin

open Idealize.ShloMosaic Idealize.ShloMosaic.TcCoe Cert.KernelIdeal.Gen Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The words of the first and the last source chunks, as arrays. -/
def loA (T : S4x40.Idx → F .f32) : S40.Idx → BitVec 32 := fun y => loW T (y 0).val
def hiA (T : S4x40.Idx → F .f32) : S40.Idx → BitVec 32 := fun y => hiW T (y 0).val

section Progs

variable (c : Dev nD) (E : Set ℕ) (i : grid0.Coords) (arg1 : Memref sig .tc .vmem S512x5000 .f32) (arg2 : Memref sig .tc .vmem S40x128x1 .f32) (arg3 : Memref sig .tc .vmem S40x128x1 .f32)
  (arg4 : Memref sig .tc .vmem S40x1x128 .f32) (arg5 : Memref sig .tc .vmem S40x1x128 .f32) (arg6 : Memref sig .tc .smem S4x40 .f32) (harg6 : arg6.IsWhole)
  (arg7 : Memref sig .tc .vmem S512x5000 .f32) (arg8 : Memref sig .tc .vmem S40x512x128 .bf16) (harg8 : arg8.IsWhole)
  (arg9 : Memref sig .tc .smem S40 .i32) (arg10 : Memref sig .tc .smem S40 .i32)

theorem word_rest (n : ℕ) : ∀ b : Fin S40.rank, b ≠ 0 → (![n] : Fin 1 → ℕ) b = 0 ∧ (![1] : Fin 1 → ℕ) b = S40.size b := by
  intro b hb
  match b, hb with
  | ⟨0, _⟩, hb => exact absurd rfl hb

/-- Storing the next word of an array of forty. -/
theorem word_put (g : ℕ → BitVec 32) (B : S40.Idx → BitVec 32) (t : ℕ) (off : Fin 1 → ℕ) (inb : ∀ a, off a + (![1] : Fin 1 → ℕ) a ≤ S40.size a)
    (hoff : off = ![t]) :
    put (Rect.unit (s := S40) off ![1] inb) (fun _ => g t) (mix (s := S40) 0 t (fun y => g (y 0).val) B)
      = mix (s := S40) 0 (t + 1) (fun y => g (y 0).val) B := by
  subst hoff
  exact put_mix (s := S40) 0 t 1 _ _ _ _ _ _ rfl rfl (word_rest _) fun x =>
    (word_load g t _ inb rfl x).symm

/-- The state of the first loop before its `n`-th trip. -/
def loInv (T : S4x40.Idx → F .f32) (B : S40.Idx → BitVec 32) (n : ℕ) (a : BitVec 32) : sProp (MM F) :=
  iprop(⌜a = BitVec.ofNat 32 (carry (loTest T) n)⌝ ∗ own (c : Thread nD τ) arg6 T ∗ own (c : Thread nD τ) arg9 (mix (s := S40) 0 n (loA T) B))

theorem lo_step (T : S4x40.Idx → F .f32) (B : S40.Idx → BitVec 32) (k : Fin k0_t1_loop.trips) (a : BitVec 32) :
    loInv c arg6 arg9 T B k.val a
      ⊢ wp frame (wpE (defs₀ (F := F)) 𝒱₀ (c : Thread nD τ) none) E (loTrip i arg6 harg6 arg9 k a) (loInv c arg6 arg9 T B (k.val + 1)) := by
  unfold loInv loTrip
  simp only [smemLoad, smemLoadElt, Prog.lift, Prog.bind_op, Prog.bind_ret, Prog.pure_eq_ret]
  iintro ⟨%ha, H6, H9⟩
  subst ha
  have hs := lo_spec c i arg6 harg6 T E k (40 - carry (loTest T) k.val) (carry (loTest T) k.val)
    (by have := carry_le (loTest T) k.val; omega)
  iapply (wp_call_spec 𝒱₀ (c : Thread nD τ) none E
    (scanSpec c arg6 T (BitVec.ofNat 32 (scan (loTest T k.val) (40 - carry (loTest T) k.val) (carry (loTest T) k.val))))
    (40 - carry (loTest T) k.val) (fun u hu => nomatch hu) hs)
  rw [scanSpec_apply]
  isplitl [H6]; · iexact H6
  iintro H6
  iapply (load_own (c : Thread nD τ) none E) $$ H9; iintro H9
  iapply (store_own (c : Thread nD τ) none E) $$ H9; iintro H9
  rw [wp_ret]; imodintro
  isplitr
  · ipureintro; rfl
  isplitl [H6]; · iexact H6
  have e : put (Rect.unit (s := S40) (k0_off3 k) ![1] (k0_off3_inb k)) (fun _ => loW T k.val) (mix (s := S40) 0 k.val (loA T) B)
      = mix (s := S40) 0 (k.val + 1) (loA T) B := word_put (loW T) B k.val _ _ (off3_word k)
  rw [← e]
  iexact H9

/-- The state of the second loop before its `n`-th trip. -/
def hiInv (T : S4x40.Idx → F .f32) (B : S40.Idx → BitVec 32) (n : ℕ) (a : BitVec 32) : sProp (MM F) :=
  iprop(⌜a = BitVec.ofNat 32 (carry (hiTest T) n)⌝ ∗ own (c : Thread nD τ) arg6 T ∗ own (c : Thread nD τ) arg10 (mix (s := S40) 0 n (hiA T) B))

theorem hi_step (T : S4x40.Idx → F .f32) (B : S40.Idx → BitVec 32) (k : Fin k0_t2_loop.trips) (a : BitVec 32) :
    hiInv c arg6 arg10 T B k.val a
      ⊢ wp frame (wpE (defs₀ (F := F)) 𝒱₀ (c : Thread nD τ) none) E (hiTrip i arg6 harg6 arg10 k a) (hiInv c arg6 arg10 T B (k.val + 1)) := by
  unfold hiInv hiTrip
  simp only [smemLoad, smemLoadElt, Prog.lift, Prog.bind_op, Prog.bind_ret, Prog.pure_eq_ret]
  iintro ⟨%ha, H6, H10⟩
  subst ha
  have hs := hi_spec c i arg6 harg6 T E k (40 - carry (hiTest T) k.val) (carry (hiTest T) k.val)
    (by have := carry_le (hiTest T) k.val; omega)
  iapply (wp_call_spec 𝒱₀ (c : Thread nD τ) none E
    (scanSpec c arg6 T (BitVec.ofNat 32 (scan (hiTest T k.val) (40 - carry (hiTest T) k.val) (carry (hiTest T) k.val))))
    (40 - carry (hiTest T) k.val) (fun u hu => nomatch hu) hs)
  rw [scanSpec_apply]
  isplitl [H6]; · iexact H6
  iintro H6
  iapply (load_own (c : Thread nD τ) none E) $$ H10; iintro H10
  iapply (store_own (c : Thread nD τ) none E) $$ H10; iintro H10
  rw [wp_ret]; imodintro
  isplitr
  · ipureintro; rfl
  isplitl [H6]; · iexact H6
  have e : put (Rect.unit (s := S40) (k0_off6 k) ![1] (k0_off6_inb k)) (fun _ => hiW T k.val) (mix (s := S40) 0 k.val (hiA T) B)
      = mix (s := S40) 0 (k.val + 1) (hiA T) B := word_put (hiW T) B k.val _ _ (off6_word k)
  rw [← e]
  iexact H10

/-- The state of the third loop before its `n`-th trip. -/
def maxInv (T : S4x40.Idx → F .f32) (n : ℕ) (a : BitVec 32) : sProp (MM F) :=
  iprop(⌜a = BitVec.ofNat 32 (mostN T n)⌝ ∗ own (c : Thread nD τ) arg9 (loA T) ∗ own (c : Thread nD τ) arg10 (hiA T))

theorem max_step (T : S4x40.Idx → F .f32) (k : Fin k0_t3_loop.trips) (a : BitVec 32) :
    maxInv c arg9 arg10 T k.val a
      ⊢ wp frame (wpE (defs₀ (F := F)) 𝒱₀ (c : Thread nD τ) none) E (maxTrip arg9 arg10 k a) (maxInv c arg9 arg10 T (k.val + 1)) := by
  unfold maxInv maxTrip
  simp only [smemLoad, smemLoadElt, Prog.lift, Prog.bind_op, Prog.bind_ret, Prog.pure_eq_ret]
  iintro ⟨%ha, H9, H10⟩
  subst ha
  iapply (load_own (c : Thread nD τ) none E) $$ H10; iintro H10
  iapply (load_own (c : Thread nD τ) none E) $$ H9; iintro H9
  rw [wp_ret]; imodintro
  isplitr
  · ipureintro
    unfold loA hiA
    beta_reduce
    rw [word_load (loW T) k.val _ _ (off7_word k), word_load (hiW T) k.val _ _ (off7_word k), mostN_word]
  isplitl [H9]; · iexact H9
  iexact H10

/-! ## The whole body -/

/-- The table is read as a whole block. -/
theorem full_load (X : S512x5000.Idx → F .f32) :
    (fun x => X ((Rect.unit (s := S512x5000) ![0, 0] S512x5000.size inb_S512x5000_S512x5000_0_0).idx x)) = X := by
  funext x
  congr 1
  funext a
  match a with
  | ⟨0, _⟩ => exact Fin.ext (by rw [LoadRect.idx_apply]; simp)
  | ⟨1, _⟩ => exact Fin.ext (by rw [LoadRect.idx_apply]; simp)

/-- What the body leaves in the result's block. -/
def outBlk (X : S512x5000.Idx → F .f32) (I : Ins F) : S512x5000.Idx → F .f32 :=
  outA I (probs (soft X)) (passes I.tab - 1)

/-- Everything the body holds, its result's block at `O` and its scratch at anything. -/
def allHeld (X : S512x5000.Idx → F .f32) (I : Ins F) (O : S512x5000.Idx → F .f32) (P : S40x512x128.Idx → F .bf16) (L H : S40.Idx → BitVec 32) : sProp (MM F) :=
  iprop(own (c : Thread nD τ) arg1 X ∗ own (c : Thread nD τ) arg2 I.fl ∗ own (c : Thread nD τ) arg3 I.rw ∗ own (c : Thread nD τ) arg4 I.to0
    ∗ own (c : Thread nD τ) arg5 I.to1 ∗ own (c : Thread nD τ) arg6 I.tab ∗ own (c : Thread nD τ) arg7 O
    ∗ own (c : Thread nD τ) arg8 P ∗ own (c : Thread nD τ) arg9 L ∗ own (c : Thread nD τ) arg10 H)

theorem body_wp (X : S512x5000.Idx → F .f32) (I : Ins F) (O : S512x5000.Idx → F .f32) (P : S40x512x128.Idx → F .bf16) (L H : S40.Idx → BitVec 32)
    (K : PUnit → sProp (MM F)) :
    iprop(allHeld c arg1 arg2 arg3 arg4 arg5 arg6 arg7 arg8 arg9 arg10 X I O P L H
        ∗ (allHeld c arg1 arg2 arg3 arg4 arg5 arg6 arg7 arg8 arg9 arg10 X I (outBlk X I) (probs (soft X)) (loA I.tab) (hiA I.tab) -∗ K ⟨⟩))
      ⊢ wp frame (wpE (defs₀ (F := F)) 𝒱₀ (c : Thread nD τ) none) E (bodyProg i arg1 arg2 arg3 arg4 arg5 arg6 harg6 arg7 arg8 harg8 arg9 arg10) K := by
  unfold allHeld bodyProg
  iintro ⟨⟨H1, H2, H3, H4, H5, H6, H7, H8, H9, H10⟩, HK⟩
  -- the first loop
  iapply (Scf.wp_for_bind frame (wpE (defs₀ (F := F)) 𝒱₀ (c : Thread nD τ) none) E _ _ _ _ _ _ (loInv c arg6 arg9 I.tab L)
    (lo_step c E i arg6 harg6 arg9 I.tab L)) $$ [H6 H9]
  · unfold loInv
    rw [mix_zero]
    isplitr
    · ipureintro; rfl
    isplitl [H6]; · iexact H6
    iexact H9
  iintro %a1 Hinv
  unfold loInv
  icases Hinv with ⟨-, H6, H9⟩
  rw [mix_full (s := S40) 0 _ (le_of_eq trips1.symm)]
  -- the second loop
  iapply (Scf.wp_for_bind frame (wpE (defs₀ (F := F)) 𝒱₀ (c : Thread nD τ) none) E _ _ _ _ _ _ (hiInv c arg6 arg10 I.tab H)
    (hi_step c E i arg6 harg6 arg10 I.tab H)) $$ [H6 H10]
  · unfold hiInv
    rw [mix_zero]
    isplitr
    · ipureintro; rfl
    isplitl [H6]; · iexact H6
    iexact H10
  iintro %a2 Hinv
  unfold hiInv
  icases Hinv with ⟨-, H6, H10⟩
  rw [mix_full (s := S40) 0 _ (le_of_eq trips2.symm)]
  -- the third loop
  iapply (Scf.wp_for_bind frame (wpE (defs₀ (F := F)) 𝒱₀ (c : Thread nD τ) none) E _ _ _ _ _ _ (maxInv c arg9 arg10 I.tab)
    (max_step c E arg9 arg10 I.tab)) $$ [H9 H10]
  · unfold maxInv
    isplitr
    · ipureintro; rfl
    isplitl [H9]; · iexact H9
    iexact H10
  iintro %a3 Hinv
  unfold maxInv
  icases Hinv with ⟨%ha3, H9, H10⟩
  have hv : a3 = BitVec.ofNat 32 (passes I.tab) := by rw [ha3, show Scf.trips _ _ _ = 40 from trips3]; rfl
  subst hv
  have hp : passes I.tab < 41 := Nat.lt_succ_of_le (mostN_le I.tab 40)
  simp only [Prog.lift, Prog.bind_op, Prog.bind_ret, Prog.pure_eq_ret]
  iapply (wp_assume 𝒱₀ (c : Thread nD τ) none E (chk43_word _ hp))
  -- the block of logits, and the chunks of its softmax
  iapply (load_own (c : Thread nD τ) none E) $$ H1; iintro H1
  rw [full_load X, wp_bind]
  iapply (wp_wand_r)
  isplitl [H8]
  · iapply (chunks_wp c E arg8 harg8 (soft X) P); iexact H8
  iintro %_ H8
  -- the first pass
  rw [wp_bind]
  iapply (wp_wand_r)
  isplitl [H2 H3 H4 H5 H7 H8 H9 H10]
  · iapply (first_wp c E arg2 arg3 arg4 arg5 arg7 arg8 arg9 arg10 I (probs (soft X)) O)
    unfold held
    isplitr [H7]
    · isplitl [H2]; · iexact H2
      isplitl [H3]; · iexact H3
      isplitl [H4]; · iexact H4
      isplitl [H5]; · iexact H5
      isplitl [H8]; · iexact H8
      isplitl [H9]; · iexact H9
      iexact H10
    · iexact H7
  iintro %_ H
  -- the later passes
  iapply (Scf.wp_for_bind frame (wpE (defs₀ (F := F)) 𝒱₀ (c : Thread nD τ) none) E _ _ _ _ _ _
    (fun n _ => iprop(held c arg2 arg3 arg4 arg5 arg8 arg9 arg10 I (probs (soft X)) ∗ own (c : Thread nD τ) arg7 (outA I (probs (soft X)) n)))
    (fun k a => by
      have hk : k.val < passes I.tab - 1 := Nat.lt_of_lt_of_eq k.isLt (trips4 _ hp)
      rw [pass_word k.val (by omega)]
      exact pass_wp c E arg2 arg3 arg4 arg5 arg7 arg8 arg9 arg10 I (probs (soft X)) k.val (by omega))) $$ H
  iintro %a4 H
  rw [show Scf.trips _ _ _ = passes I.tab - 1 from trips4 _ hp]
  iapply (Scf.wp_for_bind frame (wpE (defs₀ (F := F)) 𝒱₀ (c : Thread nD τ) none) E _ _ _ _ _ _
    (fun n _ => iprop(held c arg2 arg3 arg4 arg5 arg8 arg9 arg10 I (probs (soft X)) ∗ own (c : Thread nD τ) arg7 (outA I (probs (soft X)) (passes I.tab - 1))))
    (fun k a => absurd (Nat.lt_of_lt_of_eq k.isLt (trips5 _ hp)) (Nat.not_lt_zero _))) $$ H
  iintro %a5 H
  rw [wp_ret]; imodintro
  unfold held
  icases H with ⟨⟨H2, H3, H4, H5, H8, H9, H10⟩, H7⟩
  iapply HK
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Progs

end Cert.KernelIdeal.Rebin

end
-- ==== Proof.KI.Run.lean ====
/- The pipeline around the body: what each grid point finds and leaves, and the run of the whole program. -/
module

public import proofs.«01_k».proof.Proof.KI.Whole
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

noncomputable section

namespace Cert.KernelIdeal.Rebin

open Idealize.ShloMosaic Idealize.ShloMosaic.TcCoe Cert.KernelIdeal.Gen Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]
variable (m : (ℓ : Loc nD τ sig) → Buf (Elt F) ℓ) (ρ : Dev nD → PrngReg)

/-- The buffers when the pipeline starts: after the host operations before it. -/
def V (c : Dev nD) (b : Ref sig .tc) : Buf (Elt F) ((c : Thread nD τ).loc b) :=
  StableHlo.after hostOps0 (fun b => m (c, b)) b

/-- The block of a window's array at a grid point, as the pipeline's entry finds it. -/
abbrev iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the body reads besides the logits, at a point. -/
def insAt (c : Dev nD) (t : Fin (cfg0 (F := F)).N) : Ins F where
  fl := iblk m c (1 : Fin 7) t
  rw := iblk m c (2 : Fin 7) t
  to0 := iblk m c (3 : Fin 7) t
  to1 := iblk m c (4 : Fin 7) t
  tab := iblk m c (5 : Fin 7) t

/-- The block of logits at a point. -/
def logitsAt (c : Dev nD) (t : Fin (cfg0 (F := F)).N) : S512x5000.Idx → F .f32 := iblk m c (0 : Fin 7) t

/-- What the body leaves in the result's staging buffer at a point. -/
def outsAt (c : Dev nD) (t : Fin (cfg0 (F := F)).N) : S512x5000.Idx → F .f32 := outBlk (logitsAt m c t) (insAt m c t)

/-- The pipeline's data: the arrays as its entry finds them, each input's buffer left at its block, the result's at
    what the body computes. -/
def dats (_ : Fin 1) (c : Dev nD) : Dat τ (Elt F) Unit ℕ (UR nD τ) ℕ (cfg0 (F := F)) c where
  A w := V m c (Pipeline.arrRef spec0 w)
  after w t := match w with
    | ⟨0, _⟩ => iblk m c (0 : Fin 7) t
    | ⟨1, _⟩ => iblk m c (1 : Fin 7) t
    | ⟨2, _⟩ => iblk m c (2 : Fin 7) t
    | ⟨3, _⟩ => iblk m c (3 : Fin 7) t
    | ⟨4, _⟩ => iblk m c (4 : Fin 7) t
    | ⟨5, _⟩ => iblk m c (5 : Fin 7) t
    | ⟨6, _⟩ => outsAt m c t
  Φ _ := Pipeline.ΦA spec0 c
  q _ := fullShare
  owed _ := 0

theorem before_in (c : Dev nD) (w : Fin (cfg0 (F := F)).W) (hw : ((cfg0 (F := F)).win w).isOut = false)
    (hclip : ∀ t t' : Fin (cfg0 (F := F)).N, ((cfg0 (F := F)).win w).index t = ((cfg0 (F := F)).win w).index t' →
      ((cfg0 (F := F)).win w).clip ((cfg0 (F := F)).grid.coords t) = ((cfg0 (F := F)).win w).clip ((cfg0 (F := F)).grid.coords t'))
    (hkeep : ∀ t, ((cfg0 (F := F)).win w).cut ((cfg0 (F := F)).grid.coords t) ((dats m 0 c).after w t) = (dats m 0 c).blockOf w t)
    (t : Fin (cfg0 (F := F)).N) (d) : (dats m 0 c).before w t d = (dats m 0 c).fetched w t d :=
  (dats m 0 c).before_in_eq_fetched w hw (fun _ => rfl) hclip hkeep t d

theorem before0_0 (c : Dev nD) (t : Fin (cfg0 (F := F)).N) (d) : (dats m 0 c).before (0 : Fin 7) t d = logitsAt m c t :=
  before_in m c (0 : Fin 7) rfl (fun _ _ _ => rfl) (fun _ => rfl) t d
theorem before0_1 (c : Dev nD) (t : Fin (cfg0 (F := F)).N) (d) : (dats m 0 c).before (1 : Fin 7) t d = (insAt m c t).fl :=
  before_in m c (1 : Fin 7) rfl (fun _ _ _ => rfl) (fun _ => rfl) t d
theorem before0_2 (c : Dev nD) (t : Fin (cfg0 (F := F)).N) (d) : (dats m 0 c).before (2 : Fin 7) t d = (insAt m c t).rw :=
  before_in m c (2 : Fin 7) rfl (fun _ _ _ => rfl) (fun _ => rfl) t d
theorem before0_3 (c : Dev nD) (t : Fin (cfg0 (F := F)).N) (d) : (dats m 0 c).before (3 : Fin 7) t d = (insAt m c t).to0 :=
  before_in m c (3 : Fin 7) rfl (fun _ _ _ => rfl) (fun _ => rfl) t d
theorem before0_4 (c : Dev nD) (t : Fin (cfg0 (F := F)).N) (d) : (dats m 0 c).before (4 : Fin 7) t d = (insAt m c t).to1 :=
  before_in m c (4 : Fin 7) rfl (fun _ _ _ => rfl) (fun _ => rfl) t d
theorem before0_5 (c : Dev nD) (t : Fin (cfg0 (F := F)).N) (d) : (dats m 0 c).before (5 : Fin 7) t d = (insAt m c t).tab :=
  before_in m c (5 : Fin 7) rfl (fun _ _ _ => rfl) (fun _ => rfl) t d

theorem after0_0 (c : Dev nD) (t : Fin (cfg0 (F := F)).N) : (dats m 0 c).after (0 : Fin 7) t = logitsAt m c t := by dsimp only [dats]; rfl
theorem after0_1 (c : Dev nD) (t : Fin (cfg0 (F := F)).N) : (dats m 0 c).after (1 : Fin 7) t = (insAt m c t).fl := by dsimp only [dats, insAt]
theorem after0_2 (c : Dev nD) (t : Fin (cfg0 (F := F)).N) : (dats m 0 c).after (2 : Fin 7) t = (insAt m c t).rw := by dsimp only [dats, insAt]
theorem after0_3 (c : Dev nD) (t : Fin (cfg0 (F := F)).N) : (dats m 0 c).after (3 : Fin 7) t = (insAt m c t).to0 := by dsimp only [dats, insAt]
theorem after0_4 (c : Dev nD) (t : Fin (cfg0 (F := F)).N) : (dats m 0 c).after (4 : Fin 7) t = (insAt m c t).to1 := by dsimp only [dats, insAt]
theorem after0_5 (c : Dev nD) (t : Fin (cfg0 (F := F)).N) : (dats m 0 c).after (5 : Fin 7) t = (insAt m c t).tab := by dsimp only [dats, insAt]
theorem after0_6 (c : Dev nD) (t : Fin (cfg0 (F := F)).N) : (dats m 0 c).after (6 : Fin 7) t = outBlk (logitsAt m c t) (insAt m c t) := by dsimp only [dats]; rfl

/-! ## The body at a point -/

/-- The kernel's body, on the memrefs it is called with. -/
theorem kernel_wp (c : Dev nD) (E : Set ℕ) (i : grid0.Coords) (arg1 : Memref sig .tc .vmem S512x5000 .f32) (harg1 : arg1.IsWhole)
    (arg2 : Memref sig .tc .vmem S40x128x1 .f32) (harg2 : arg2.IsWhole) (arg3 : Memref sig .tc .vmem S40x128x1 .f32) (harg3 : arg3.IsWhole)
    (arg4 : Memref sig .tc .vmem S40x1x128 .f32) (harg4 : arg4.IsWhole) (arg5 : Memref sig .tc .vmem S40x1x128 .f32) (harg5 : arg5.IsWhole)
    (arg6 : Memref sig .tc .smem S4x40 .f32) (harg6 : arg6.IsWhole) (arg7 : Memref sig .tc .vmem S512x5000 .f32) (harg7 : arg7.IsWhole)
    (arg8 : Memref sig .tc .vmem S40x512x128 .bf16) (harg8 : arg8.IsWhole) (arg9 : Memref sig .tc .smem S40 .i32) (harg9 : arg9.IsWhole)
    (arg10 : Memref sig .tc .smem S40 .i32) (harg10 : arg10.IsWhole)
    (X : S512x5000.Idx → F .f32) (I : Ins F) (O : S512x5000.Idx → F .f32) (P : S40x512x128.Idx → F .bf16) (L H : S40.Idx → BitVec 32)
    (K : PUnit → sProp (MM F)) :
    iprop(allHeld c arg1 arg2 arg3 arg4 arg5 arg6 arg7 arg8 arg9 arg10 X I O P L H
        ∗ (allHeld c arg1 arg2 arg3 arg4 arg5 arg6 arg7 arg8 arg9 arg10 X I (outBlk X I) (probs (soft X)) (loA I.tab) (hiA I.tab) -∗ K ⟨⟩))
      ⊢ wp frame (wpE (defs₀ (F := F)) 𝒱₀ (c : Thread nD τ) none) E
          (cc0__rebin_kernel i arg1 harg1 arg2 harg2 arg3 harg3 arg4 harg4 arg5 harg5 arg6 harg6 arg7 harg7 arg8 harg8 arg9 harg9 arg10 harg10) K := by
  rw [body_eq]
  exact body_wp c E i arg1 arg2 arg3 arg4 arg5 arg6 harg6 arg7 arg8 harg8 arg9 arg10 X I O P L H K

set_option maxHeartbeats 2000000 in
/-- The body at a grid point: from the point's blocks and any scratch, to the result's block computed. -/
theorem sound_body (c : Dev nD) (t : Fin (cfg0 (F := F)).N) :
    iprop(Pipeline.ΦA spec0 c ∗ (dats m 0 c).owesAt () t.castSucc
        ∗ (∃ d, owns (c : Thread nD τ) (st0_0 (F := F) t) fullShare ((dats m 0 c).before (0 : Fin 7) t d))
        ∗ (∃ d, owns (c : Thread nD τ) (st0_1 (F := F) t) fullShare ((dats m 0 c).before (1 : Fin 7) t d))
        ∗ (∃ d, owns (c : Thread nD τ) (st0_2 (F := F) t) fullShare ((dats m 0 c).before (2 : Fin 7) t d))
        ∗ (∃ d, owns (c : Thread nD τ) (st0_3 (F := F) t) fullShare ((dats m 0 c).before (3 : Fin 7) t d))
        ∗ (∃ d, owns (c : Thread nD τ) (st0_4 (F := F) t) fullShare ((dats m 0 c).before (4 : Fin 7) t d))
        ∗ (∃ d, owns (c : Thread nD τ) (st0_5 (F := F) t) fullShare ((dats m 0 c).before (5 : Fin 7) t d))
        ∗ (∃ d, owns (c : Thread nD τ) (st0_6 (F := F) t) fullShare ((dats m 0 c).before (6 : Fin 7) t d)))
      ⊢ wp frame (wpE (defs₀ (F := F)) 𝒱₀ (c : Thread nD τ) none) Set.univ (bodyAt0 t) fun _ =>
        iprop(Pipeline.ΦA spec0 c ∗ (dats m 0 c).owesAt () t.castSucc
          ∗ owns (c : Thread nD τ) (st0_0 (F := F) t) fullShare ((dats m 0 c).after (0 : Fin 7) t)
          ∗ owns (c : Thread nD τ) (st0_1 (F := F) t) fullShare ((dats m 0 c).after (1 : Fin 7) t)
          ∗ owns (c : Thread nD τ) (st0_2 (F := F) t) fullShare ((dats m 0 c).after (2 : Fin 7) t)
          ∗ owns (c : Thread nD τ) (st0_3 (F := F) t) fullShare ((dats m 0 c).after (3 : Fin 7) t)
          ∗ owns (c : Thread nD τ) (st0_4 (F := F) t) fullShare ((dats m 0 c).after (4 : Fin 7) t)
          ∗ owns (c : Thread nD τ) (st0_5 (F := F) t) fullShare ((dats m 0 c).after (5 : Fin 7) t)
          ∗ owns (c : Thread nD τ) (st0_6 (F := F) t) fullShare ((dats m 0 c).after (6 : Fin 7) t)) := by
  unfold Pipeline.ΦA
  rw [scopedRest0_eq]
  simp only [← owns_whole]
  simp only [before0_0, before0_1, before0_2, before0_3, before0_4, before0_5, after0_0, after0_1, after0_2, after0_3, after0_4, after0_5, after0_6]
  iintro ⟨⟨⟨⟨%f8, H8⟩, ⟨%f9, H9⟩, %f10, H10⟩, Hg⟩, Ho, ⟨%d0, H1⟩, ⟨%d1, H2⟩, ⟨%d2, H3⟩, ⟨%d3, H4⟩, ⟨%d4, H5⟩, ⟨%d5, H6⟩, %d6, H7⟩
  iapply (kernel_wp c Set.univ _ _ _ _ _ _ _ _ _ _ _ _ _ _ _ _ _ _ _ _ _ (logitsAt m c t) (insAt m c t))
  unfold allHeld own
  isplitr [Hg Ho]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨H1, H2, H3, H4, H5, H6, H7, H8, H9, H10⟩
  isplitl [H8 H9 H10 Hg]
  · isplitr [Hg]
    · isplitl [H8]
      · iexists _; iexact H8
      isplitl [H9]
      · iexists _; iexact H9
      iexists _; iexact H10
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligationLoose (dats m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
/-- From any memory with zero counters the program ends, every array of the pipeline at what the data say, every other
    array as the host operations left it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := body_obligation m) (hshare := fun c => (dats m 0 c).share_full fun _ => rfl)
    (howed := fun _ _ => rfl) (V := V m)
    (hmain := Pipeline.hmain_prefix cfgs 0 defs₀ 𝒱₀ m main hostOps0 hostOps0_sub (by repeat' constructor) main_chain)
    (hA := fun _ _ => rfl) (hΦ := fun _ _ => rfl)

end Cert.KernelIdeal.Rebin

end
-- ==== Proof.KI.Frame.lean ====
/- The frame: the program ends, its arguments as they were, every counter at zero. -/
module

public import proofs.«01_k».proof.Proof.KI.Run
public import Idealize.ShloMosaic.Lib.StableHlo.RunRead

@[expose] public section

noncomputable section

namespace Cert.KernelIdeal.Rebin

open Idealize.ShloMosaic Idealize.ShloMosaic.TcCoe Cert.KernelIdeal.Gen
open Idealize.SL Idealize.SL.Sem

variable {F : FTy → Type} [FloatOps F]
variable (m : (ℓ : Loc nD τ sig) → Buf (Elt F) ℓ) (ρ : Dev nD → PrngReg)

/-- The host operations leave the arguments alone. -/
theorem V_arg0 (c : Dev nD) : V m c main_arg0 = m ((c : Thread nD τ).loc main_arg0) := by
  unfold V
  after_reads_simp
theorem V_arg1 (c : Dev nD) : V m c main_arg1 = m ((c : Thread nD τ).loc main_arg1) := by
  unfold V
  after_reads_simp
theorem V_arg2 (c : Dev nD) : V m c main_arg2 = m ((c : Thread nD τ).loc main_arg2) := by
  unfold V
  after_reads_simp

/-- The borders' arrays are no window's. -/
theorem arr_ne1 : ∀ w : Fin 7, (spec0 w).arr.view.ref ≠ main_arg1 := by decide
theorem arr_ne2 : ∀ w : Fin 7, (spec0 w).arr.view.ref ≠ main_arg2 := by decide

/-- What the frame says of the arguments, from the run's conclusion. -/
theorem args_kept (r : PUnit × MemSt nD τ sig (Elt F)) (h : Pipeline.FramePost cfgs (dats m) 0 (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine ⟨?_, ?_, ?_⟩
  · exact (((h c).1 (0 : Fin 7)).trans ((dats m 0 c).arrAt_in (0 : Fin 7) rfl _)).trans (V_arg0 m c)
  · exact ((h c).2 main_arg1 (Pipeline.mem_restRefs_of _ rfl arr_ne1)).trans (V_arg1 m c)
  · exact ((h c).2 main_arg2 (Pipeline.mem_restRefs_of _ rfl arr_ne2)).trans (V_arg2 m c)

/-- The program ends with the result's array at what the data say, the arguments kept and the counters at zero. -/
theorem run_kept : θ_run defs (onTc (τ := τ) (main (F := F))) ⟨m, fun _ => 0, ρ⟩ (fun r =>
    (∀ c : Dev nD, r.2.mem ((c : Thread nD τ).loc main_v0) = (dats m 0 c).arrAt (6 : Fin 7) (cfg0 (F := F)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run _ _ _).mono (fun r h => ⟨fun c => ⟨(h.1 c).1 (6 : Fin 7), args_kept m r h.1 c⟩, h.2⟩) (run_main m ρ)

end Cert.KernelIdeal.Rebin

end
-- ==== Proof.Val.Host.lean ====
/- The arrays the kernel's host code builds, as functions of the borders. -/
module

public import proofs.«01_k».proof.Proof.KI.Frame
public import Idealize.ShloMosaic.Lib.StableHlo.RunRead

@[expose] public section

noncomputable section

namespace Cert.Rebin

open Idealize.ShloMosaic Idealize.ShloMosaic.TcCoe Cert.KernelIdeal Cert.KernelIdeal.Gen Cert.KernelIdeal.Rebin

variable {F : FTy → Type} [FloatOps F]

/-! ## The arrays, as functions of the source borders `A` and the target borders `B` -/

/-- A hundred and twenty copies of a literal. -/
def fill (w : BitVec 32) : S120.Idx → F .f32 := broadcastInDim S120 ![] bcast_S_S120 (constant S_ .f32 w)

/-- A vector of five thousand, filled up to a multiple of a chunk. -/
def filled (x : S5000.Idx → F .f32) (w : BitVec 32) : S5120.Idx → F .f32 :=
  concatenate S5120 0 [⟨S5000, x⟩, ⟨S120, fill w⟩] concatenates_S5000_S120_S5120_d0

/-- The borders, filled up to one more than a multiple of a chunk. -/
def filled1 (x : S5001.Idx → F .f32) (w : BitVec 32) : S5121.Idx → F .f32 :=
  concatenate S5121 0 [⟨S5001, x⟩, ⟨S120, fill w⟩] concatenates_S5001_S120_S5121_d0

/-- Every border but the last, and every border but the first. -/
def front (x : S5001.Idx → F .f32) : S5000.Idx → F .f32 := extractStridedSlice S5000 ![0] x slices_S5001_S5000_0
def back (x : S5001.Idx → F .f32) : S5000.Idx → F .f32 := extractStridedSlice S5000 ![1] x slices_S5001_S5000_1

/-- One over each bin's width. -/
def rates (A : S5001.Idx → F .f32) : S5000.Idx → F .f32 :=
  Host.divf (broadcastInDim S5000 ![] bcast_S_S5000 (constant S_ .f32 0x3F800000#32)) (subf (back A) (front A))

/-- A vector with its entry at a place set to a literal. -/
def put (x : S5120.Idx → F .f32) (k w : BitVec 32) : S5120.Idx → F .f32 :=
  Host.scatter scatter_S5120_S1_S__n_0_0_0 (fun _ b => b) x (broadcastInDim S1 ![] bcast_S_S1 (constantI S_ 32 k)) (constant S_ .f32 w)
def put1 (x : S5121.Idx → F .f32) (k w : BitVec 32) : S5121.Idx → F .f32 :=
  Host.scatter scatter_S5121_S1_S__n_0_0_0 (fun _ b => b) x (broadcastInDim S1 ![] bcast_S_S1 (constantI S_ 32 k)) (constant S_ .f32 w)

/-- A vector laid out in chunks, upright and lying. -/
def upright (x : S5120.Idx → F .f32) : S40x128x1.Idx → F .f32 :=
  broadcastInDim S40x128x1 ![0, 1] bcast_S40x128_S40x128x1_0_1 (shapeCast S40x128 x shapeCasts_S5120_S40x128)
def lying (x : S5120.Idx → F .f32) : S40x1x128.Idx → F .f32 :=
  broadcastInDim S40x1x128 ![0, 2] bcast_S40x128_S40x1x128_0_2 (shapeCast S40x128 x shapeCasts_S5120_S40x128)

/-- The chunks' first entries, and the entries just past the chunks, as one row. -/
def starts (x : S5121.Idx → F .f32) : S1x40.Idx → F .f32 :=
  broadcastInDim S1x40 ![1] bcast_S40_S1x40_1 (Host.slice S40 ![0] ![128] x slicesBy_S5121_S40_0s128)
def stops (x : S5121.Idx → F .f32) : S1x40.Idx → F .f32 :=
  broadcastInDim S1x40 ![1] bcast_S40_S1x40_1 (Host.slice S40 ![128] ![128] x slicesBy_S5121_S40_128s128)

/-- The table of the chunks' ends. -/
def table (A B : S5001.Idx → F .f32) : S4x40.Idx → F .f32 :=
  concatenate S4x40 0 [⟨S1x40, starts (put1 (filled1 B 0x7249F2CA#32) 0#32 0xF149F2CA#32)⟩, ⟨S1x40, stops (put1 (filled1 B 0x7249F2CA#32) 0#32 0xF149F2CA#32)⟩,
    ⟨S1x40, starts (filled1 A 0x7149F2CA#32)⟩, ⟨S1x40, stops (filled1 A 0x7149F2CA#32)⟩] concatenates_S1x40_S1x40_S1x40_S1x40_S4x40_d0

/-! ## What the buffers hold -/

variable (m : (ℓ : Loc nD τ sig) → Buf (Elt F) ℓ)

/-- The three arguments. -/
def logits (c : Dev nD) : S8192x5000.Idx → F .f32 := m ((c : Thread nD τ).loc main_arg0)
def frm (c : Dev nD) : S5001.Idx → F .f32 := m ((c : Thread nD τ).loc main_arg1)
def tgt (c : Dev nD) : S5001.Idx → F .f32 := m ((c : Thread nD τ).loc main_arg2)

set_option maxRecDepth 100000 in
set_option maxHeartbeats 4000000 in
theorem V_21 (c : Dev nD) : V m c main_call0_v21 = upright (filled (front (frm m c)) 0x7149F2CA#32) := by
  unfold V
  after_reads_simp
  rfl

set_option maxRecDepth 100000 in
set_option maxHeartbeats 4000000 in
theorem V_23 (c : Dev nD) : V m c main_call0_v23 = upright (filled (rates (frm m c)) 0x00000000#32) := by
  unfold V
  after_reads_simp
  rfl

set_option maxRecDepth 100000 in
set_option maxHeartbeats 4000000 in
theorem V_25 (c : Dev nD) : V m c main_call0_v25 = lying (put (filled (front (tgt m c)) 0x7249F2CA#32) 0#32 0xF149F2CA#32) := by
  unfold V
  after_reads_simp
  rfl

set_option maxRecDepth 100000 in
set_option maxHeartbeats 4000000 in
theorem V_27 (c : Dev nD) : V m c main_call0_v27 = lying (put (filled (back (tgt m c)) 0x7249F2CA#32) 4999#32 0x7149F2CA#32) := by
  unfold V
  after_reads_simp
  rfl

set_option maxRecDepth 100000 in
set_option maxHeartbeats 4000000 in
theorem V_42 (c : Dev nD) : V m c main_call0_v42 = table (frm m c) (tgt m c) := by
  unfold V
  after_reads_simp
  rfl

end Cert.Rebin

end
-- ==== Proof.Val.Share.lean ====
/- The share of a source bin lying left of a point, over the extended reals: the clamp both programs apply, and where
   it is nought, one, or in between. -/
module

public import Idealize.ShloMosaic.PureOps.Ideal
public import Mathlib.Data.EReal.Operations
public import Mathlib.Data.EReal.Inv

@[expose] public section

noncomputable section

namespace Cert.Rebin

/-- The part of a bin lying left of `y`: the bin starts at `f` and `r` is one over its width. -/
def share (y f r : EReal) : EReal := min 1 (max 0 ((y - f) * r))

theorem share_nonneg (y f r : EReal) : 0 ≤ share y f r := le_min zero_le_one (le_max_left _ _)

theorem share_le_one (y f r : EReal) : share y f r ≤ 1 := min_le_left _ _

/-- A bin whose factor is zero counts for nothing. -/
theorem share_rate_zero (y f : EReal) : share y f 0 = 0 := by
  unfold share
  rw [mul_zero, max_self, min_eq_right zero_le_one]

/-- A bin starting at or after the point lies right of it. -/
theorem share_eq_zero {y f r : EReal} (hf : f ≠ ⊥) (hf' : f ≠ ⊤) (hr : 0 ≤ r) (h : y ≤ f) : share y f r = 0 := by
  unfold share
  have h0 : y - f ≤ 0 := by
    rw [EReal.sub_le_iff_le_add (Or.inl hf) (Or.inl hf'), zero_add]
    exact h
  have h1 : (y - f) * r ≤ 0 := by
    have := mul_le_mul_of_nonneg_right h0 hr
    rwa [zero_mul] at this
  rw [max_eq_left h1, min_eq_right zero_le_one]

/-- The share grows with the point. -/
theorem share_mono {y z f r : EReal} (hr : 0 ≤ r) (h : y ≤ z) : share y f r ≤ share z f r := by
  unfold share
  exact min_le_min le_rfl (max_le_max le_rfl (mul_le_mul_of_nonneg_right (EReal.sub_le_sub h le_rfl) hr))

/-- A bin ending at or before the point lies left of it. -/
theorem share_eq_one {y : EReal} {a b : ℝ} (hab : a < b) (h : (b : EReal) ≤ y) : share y a ((b : EReal) - a)⁻¹ = 1 := by
  refine le_antisymm (share_le_one _ _ _) ?_
  have hd : b - a ≠ 0 := sub_ne_zero.2 hab.ne'
  have e : share (b : EReal) a ((b : EReal) - a)⁻¹ = 1 := by
    unfold share
    rw [← EReal.coe_sub, ← EReal.coe_inv, ← EReal.coe_mul, mul_inv_cancel₀ hd, EReal.coe_one, max_eq_right zero_le_one, min_self]
  rw [← e]
  refine share_mono ?_ h
  rw [← EReal.coe_sub, ← EReal.coe_inv]
  exact EReal.coe_nonneg.2 (inv_nonneg.2 (sub_nonneg.2 hab.le))

/-- The factor of a bin is not negative. -/
theorem rate_nonneg {a b : ℝ} (hab : a < b) : (0 : EReal) ≤ ((b : EReal) - a)⁻¹ := by
  rw [← EReal.coe_sub, ← EReal.coe_inv]
  exact EReal.coe_nonneg.2 (inv_nonneg.2 (sub_nonneg.2 hab.le))

/-- A share is a real number. -/
theorem share_coe (y f r : EReal) : ((share y f r).toReal : EReal) = share y f r :=
  EReal.coe_toReal (ne_top_of_le_ne_top (EReal.coe_ne_top 1) (share_le_one _ _ _))
    (ne_bot_of_le_ne_bot EReal.zero_ne_bot (share_nonneg _ _ _))

/-- One over a width, as the ideal division gives it. -/
theorem one_div_width {a b : ℝ} (hab : a < b) :
    Idealize.ShloMosaic.Ideal.div 1 ((b : EReal) - a) = ((b : EReal) - a)⁻¹ := by
  unfold Idealize.ShloMosaic.Ideal.div
  rw [if_neg, one_mul]
  rw [← EReal.coe_sub, ← EReal.coe_zero, EReal.coe_eq_coe_iff]
  exact sub_ne_zero.2 hab.ne'

/-- A quotient by a width is a product with the factor. -/
theorem div_width {a b : ℝ} (hab : a < b) (x : EReal) :
    Idealize.ShloMosaic.Ideal.div x ((b : EReal) - a) = x * ((b : EReal) - a)⁻¹ := by
  unfold Idealize.ShloMosaic.Ideal.div
  rw [if_neg]
  rw [← EReal.coe_sub, ← EReal.coe_zero, EReal.coe_eq_coe_iff]
  exact sub_ne_zero.2 hab.ne'

end Cert.Rebin

end
-- ==== Proof.Val.Bins.lean ====
/- The mathematics both programs share: the distribution function of a bar distribution, where a bin lies wholly left
   or wholly right of a target bin, and the mass of a target bin. -/
module

public import proofs.«01_k».proof.Proof.Val.Share
public import Mathlib.Algebra.BigOperators.Fin
public import Mathlib.Algebra.Order.BigOperators.Group.Finset
public import Mathlib.Tactic.Linarith

@[expose] public section

noncomputable section

namespace Cert.Rebin

open scoped BigOperators

/-- The outermost value a border may have, and the value that stands for "past every border". -/
def big : EReal := Idealize.ShloMosaic.Ideal.ofBits .f32 0x7149F2CA#32
def big2 : EReal := Idealize.ShloMosaic.Ideal.ofBits .f32 0x7249F2CA#32

/-- Strictly increasing source borders, none beyond `big`, and target borders that do not decrease. -/
structure Borders (b : ℕ → ℝ) (T : ℕ → EReal) : Prop where
  step : ∀ k < 5000, b k < b (k + 1)
  low : ∀ k ≤ 5000, -big ≤ b k
  high : ∀ k ≤ 5000, (b k : EReal) ≤ big
  tstep : ∀ j < 5000, T j ≤ T (j + 1)

/-- The share of bin `k` left of `y`. -/
def sh (b : ℕ → ℝ) (k : ℕ) (y : EReal) : EReal := share y (b k) ((b (k + 1) : EReal) - b k)⁻¹

/-- A target bin's two ends; the outermost ones reach past every source border. -/
def lower (T : ℕ → EReal) (j : ℕ) : EReal := if j = 0 then -big else T j
def upper (T : ℕ → EReal) (j : ℕ) : EReal := if j = 4999 then big else T (j + 1)

section

variable {b : ℕ → ℝ} {T : ℕ → EReal} (H : Borders b T)
include H

theorem Borders.mono {i j : ℕ} (h : i ≤ j) (hj : j ≤ 5000) : b i ≤ b j := by
  induction j, h using Nat.le_induction with
  | base => exact le_rfl
  | succ j h ih => exact (ih (by omega)).trans (H.step j (by omega)).le

theorem Borders.strict {i j : ℕ} (h : i < j) (hj : j ≤ 5000) : b i < b j :=
  (H.step i (by omega)).trans_le (H.mono h hj)

theorem Borders.tmono {i j : ℕ} (h : i ≤ j) (hj : j ≤ 5000) : T i ≤ T j := by
  induction j, h using Nat.le_induction with
  | base => exact le_rfl
  | succ j h ih => exact (ih (by omega)).trans (H.tstep j (by omega))

theorem Borders.sh_one {k : ℕ} (hk : k < 5000) {y : EReal} (h : (b (k + 1) : EReal) ≤ y) : sh b k y = 1 :=
  share_eq_one (H.step k hk) h

theorem Borders.sh_zero {k : ℕ} (hk : k < 5000) {y : EReal} (h : y ≤ b k) : sh b k y = 0 :=
  share_eq_zero (EReal.coe_ne_bot _) (EReal.coe_ne_top _) (rate_nonneg (H.step k hk)) h

theorem Borders.sh_mono {k : ℕ} (hk : k < 5000) {y z : EReal} (h : y ≤ z) : sh b k y ≤ sh b k z :=
  share_mono (rate_nonneg (H.step k hk)) h

theorem Borders.sh_big {k : ℕ} (hk : k < 5000) : sh b k big = 1 := H.sh_one hk (H.high _ (by omega))

theorem Borders.sh_neg_big {k : ℕ} (hk : k < 5000) : sh b k (-big) = 0 := H.sh_zero hk (H.low _ (by omega))

/-- The share left of a target bin's lower end is at most the share left of its upper end. -/
theorem Borders.sh_le {k j : ℕ} (hk : k < 5000) (hj : j < 5000) : sh b k (lower T j) ≤ sh b k (upper T j) := by
  unfold lower upper
  split
  · rw [H.sh_neg_big hk]; exact share_nonneg _ _ _
  split
  · rw [H.sh_big hk]; exact share_le_one _ _ _
  · exact H.sh_mono hk (H.tstep j hj)

/-- Source bins of a chunk that ends at or before an earlier target chunk's start lie left of the target bin. -/
theorem Borders.left_of {k j c t : ℕ} (hk : k < 5000) (hj : j < 5000) (hc : k < 128 * (c + 1)) (ht : 128 * t ≤ j)
    (h : (if 128 * (c + 1) ≤ 5000 then (b (128 * (c + 1)) : EReal) else big) ≤ if t = 0 then -big else T (128 * t)) :
    sh b k (lower T j) = 1 ∧ sh b k (upper T j) = 1 := by
  have h1 : (b (k + 1) : EReal) ≤ if 128 * (c + 1) ≤ 5000 then (b (128 * (c + 1)) : EReal) else big := by
    split
    · exact EReal.coe_le_coe_iff.2 (H.mono (by omega) (by assumption))
    · exact H.high _ (by omega)
  have h2 := h1.trans h
  by_cases t0 : t = 0
  · rw [if_pos t0] at h2
    have h3 : (b (k + 1) : EReal) ≤ b k := h2.trans (H.low k (by omega))
    exact absurd (EReal.coe_le_coe_iff.1 h3) (not_le.2 (H.step k hk))
  · rw [if_neg t0] at h2
    have hl : lower T j = T j := if_neg (by omega)
    have h4 : (b (k + 1) : EReal) ≤ lower T j := by rw [hl]; exact h2.trans (H.tmono ht (by omega))
    refine ⟨H.sh_one hk h4, le_antisymm (share_le_one _ _ _) ?_⟩
    rw [← H.sh_one hk h4]
    exact H.sh_le hk hj

/-- Source bins of a chunk that starts at or after the target chunk's end lie right of the target bin. -/
theorem Borders.right_of {k j c t : ℕ} (hk : k < 5000) (hj : j < 5000) (hc : 128 * c ≤ k) (ht : j < 128 * (t + 1))
    (h39 : t < 39) (h : T (128 * (t + 1)) ≤ b (128 * c)) :
    sh b k (lower T j) = 0 ∧ sh b k (upper T j) = 0 := by
  have h1 : (b (128 * c) : EReal) ≤ b k := EReal.coe_le_coe_iff.2 (H.mono hc (by omega))
  have hu : upper T j = T (j + 1) := if_neg (by omega)
  have h2 : upper T j ≤ b k := by rw [hu]; exact (H.tmono (by omega) (by omega)).trans (h.trans h1)
  refine ⟨le_antisymm ?_ (share_nonneg _ _ _), H.sh_zero hk h2⟩
  rw [← H.sh_zero hk h2]
  exact H.sh_le hk hj

end

/-- Finite sums of real numbers, among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The distribution function: the masses of the bins, each times its share left of `y`. -/
def cdf (b : ℕ → ℝ) (q : ℕ → ℝ) (y : EReal) : EReal := ∑ k : Fin 5000, (q k.val : EReal) * sh b k.val y

/-- The same, as a real number. -/
def cdfR (b : ℕ → ℝ) (q : ℕ → ℝ) (y : EReal) : ℝ := ∑ k : Fin 5000, q k.val * (sh b k.val y).toReal

theorem cdf_coe (b q : ℕ → ℝ) (y : EReal) : cdf b q y = (cdfR b q y : EReal) := by
  unfold cdf cdfR
  rw [← coe_sum]
  refine Finset.sum_congr rfl fun k _ => ?_
  rw [EReal.coe_mul]
  exact congrArg _ (share_coe _ _ _).symm

/-- Masses: not negative, and one together. -/
structure Masses (q : ℕ → ℝ) : Prop where
  nonneg : ∀ k < 5000, 0 ≤ q k
  total : ∑ k : Fin 5000, q k.val = 1

theorem share_toReal_nonneg (y f r : EReal) : 0 ≤ (share y f r).toReal := EReal.toReal_nonneg (share_nonneg _ _ _)

theorem share_toReal_le_one (y f r : EReal) : (share y f r).toReal ≤ 1 := by
  have h := share_le_one y f r
  rw [← share_coe, ← EReal.coe_one] at h
  exact EReal.coe_le_coe_iff.1 h

theorem cdf_nonneg (b : ℕ → ℝ) {q : ℕ → ℝ} (Q : Masses q) (y : EReal) : 0 ≤ cdf b q y := by
  rw [cdf_coe]
  exact EReal.coe_nonneg.2 (Finset.sum_nonneg fun k _ => mul_nonneg (Q.nonneg _ k.isLt) (share_toReal_nonneg _ _ _))

theorem cdf_le_one (b : ℕ → ℝ) {q : ℕ → ℝ} (Q : Masses q) (y : EReal) : cdf b q y ≤ 1 := by
  rw [cdf_coe, ← EReal.coe_one, EReal.coe_le_coe_iff, ← Q.total]
  exact Finset.sum_le_sum fun k _ => mul_le_of_le_one_right (Q.nonneg _ k.isLt) (share_toReal_le_one _ _ _)

/-- The mass of target bin `j`: what both programs compute. -/
def mass (b : ℕ → ℝ) (T : ℕ → EReal) (q : ℕ → ℝ) (j : ℕ) : EReal :=
  ∑ k : Fin 5000, (q k.val : EReal) * (sh b k.val (upper T j) - sh b k.val (lower T j))

theorem mass_eq {b : ℕ → ℝ} {T : ℕ → EReal} (H : Borders b T) {q : ℕ → ℝ} (Q : Masses q) {j : ℕ} (hj : j < 5000) :
    max (cdf b q (upper T j) - cdf b q (lower T j)) 0 = mass b T q j := by
  have e : mass b T q j = ((∑ k : Fin 5000, q k.val * ((sh b k.val (upper T j)).toReal - (sh b k.val (lower T j)).toReal) : ℝ) : EReal) := by
    unfold mass
    rw [← coe_sum]
    refine Finset.sum_congr rfl fun k _ => ?_
    rw [EReal.coe_mul, EReal.coe_sub]
    exact congrArg _ (congrArg₂ _ (share_coe _ _ _).symm (share_coe _ _ _).symm)
  rw [e, cdf_coe, cdf_coe, ← EReal.coe_sub, ← EReal.coe_zero]
  have d : cdfR b q (upper T j) - cdfR b q (lower T j)
      = ∑ k : Fin 5000, q k.val * ((sh b k.val (upper T j)).toReal - (sh b k.val (lower T j)).toReal) := by
    unfold cdfR
    rw [← Finset.sum_sub_distrib]
    exact Finset.sum_congr rfl fun k _ => (mul_sub _ _ _).symm
  rw [d]
  refine max_eq_left (EReal.coe_le_coe_iff.2 (Finset.sum_nonneg fun k _ => mul_nonneg (Q.nonneg _ k.isLt) (sub_nonneg.2 ?_)))
  have h := H.sh_le k.isLt hj
  unfold sh at h ⊢
  rw [← share_coe, ← share_coe (upper T j)] at h
  exact EReal.coe_le_coe_iff.1 h

/-- Left of every border there is no mass. -/
theorem cdf_left {b : ℕ → ℝ} {T : ℕ → EReal} (H : Borders b T) (q : ℕ → ℝ) {y : EReal} (h : y ≤ b 0) : cdf b q y = 0 :=
  Finset.sum_eq_zero fun k _ => by
    rw [H.sh_zero k.isLt (h.trans (EReal.coe_le_coe_iff.2 (H.mono (Nat.zero_le _) k.isLt.le))), mul_zero]

/-- Left of a point past every border lies all the mass. -/
theorem cdf_right {b : ℕ → ℝ} {T : ℕ → EReal} (H : Borders b T) {q : ℕ → ℝ} (Q : Masses q) {y : EReal} (h : (b 5000 : EReal) ≤ y) :
    cdf b q y = 1 := by
  have e : cdf b q y = ∑ k : Fin 5000, (q k.val : EReal) := Finset.sum_congr rfl fun k _ => by
    rw [H.sh_one k.isLt ((EReal.coe_le_coe_iff.2 (H.mono (by have := k.isLt; omega) le_rfl)).trans h), mul_one]
  rw [e, coe_sum, Q.total, EReal.coe_one]

/-- A sum whose terms past `n` are zero. -/
theorem sum_cut (f : ℕ → EReal) (n N : ℕ) (hn : n < N) (h : ∀ i, n + 1 ≤ i → i < N → f i = 0) :
    ∑ k ∈ Finset.range N, f k = ∑ k ∈ Finset.range n, f k + f n := by
  obtain ⟨m, rfl⟩ := Nat.exists_eq_add_of_le (Nat.succ_le_of_lt hn)
  rw [Finset.sum_range_add, Finset.sum_eq_zero (s := Finset.range m), add_zero, Nat.succ_eq_add_one, Finset.sum_range_succ]
  intro i hi
  rw [Finset.mem_range] at hi
  exact h _ (by omega) (by omega)

/-- Within bin `n` the distribution function is the mass of the bins before it plus the share of that bin. -/
theorem cdf_within {b : ℕ → ℝ} {T : ℕ → EReal} (H : Borders b T) (q : ℕ → ℝ) {y : EReal} {n : ℕ} (hn : n < 5000)
    (hl : (b n : EReal) ≤ y) (hu : y ≤ b (n + 1)) :
    cdf b q y = (((∑ k ∈ Finset.range (n + 1), q k) - q n : ℝ) : EReal) + (q n : EReal) * sh b n y := by
  have e : cdf b q y = ∑ k ∈ Finset.range 5000, (q k : EReal) * sh b k y :=
    Fin.sum_univ_eq_sum_range (fun k => (q k : EReal) * sh b k y) 5000
  have hz : ∀ i, n + 1 ≤ i → i < 5000 → (q i : EReal) * sh b i y = 0 := fun i h h' => by
    rw [H.sh_zero h' (hu.trans (EReal.coe_le_coe_iff.2 (H.mono h h'.le))), mul_zero]
  refine e.trans ((sum_cut _ n 5000 hn hz).trans (congrArg (· + (q n : EReal) * sh b n y) ?_))
  rw [Finset.sum_range_succ (fun k => q k) n, add_sub_cancel_right, ← coe_sum]
  refine Finset.sum_congr rfl fun k hk => ?_
  rw [Finset.mem_range] at hk
  rw [H.sh_one (by omega) ((EReal.coe_le_coe_iff.2 (H.mono hk (by omega))).trans hl), mul_one]

end Cert.Rebin

end
-- ==== Proof.Val.HostAt.lean ====
/- The arrays of the kernel's host code over the extended reals, read at an index. -/
module

public import proofs.«01_k».proof.Proof.Val.Host
public import proofs.«01_k».proof.Proof.Val.Bins
public import proofs.«01_k».proof.Proof.KI.Scan
public import Idealize.ShloMosaic.Lib.Pipeline.Value
public import Idealize.ShloMosaic.Lib.IdealHost
public import Idealize.ShloMosaic.Lib.Routing.OpsOne
public import Idealize.ShloMosaic.Lib.Pointwise.ShapeOpsCore
public import Mathlib.Tactic.NormNum

@[expose] public section

noncomputable section

namespace Cert.Rebin

open Idealize.ShloMosaic hiding ix0 ix1 ix2 ix3
open Cert.KernelIdeal Cert.KernelIdeal.Gen Cert.KernelIdeal.Rebin Idealize.ShloMosaic.ValueIdx

/-! ## The literals -/

theorem big_val : big = ((13234890 * 2 ^ 76 : ℝ) : EReal) := by
  unfold big
  simp [Ideal.ofBits, Ideal.ieee, -EReal.coe_mul]

theorem big2_val : big2 = ((13234890 * 2 ^ 78 : ℝ) : EReal) := by
  unfold big2
  simp [Ideal.ofBits, Ideal.ieee, -EReal.coe_mul]

theorem neg_big_lit : Ideal.ofBits .f32 0xF149F2CA#32 = -big := by
  rw [big_val, ← EReal.coe_neg]
  simp [Ideal.ofBits, Ideal.ieee, -EReal.coe_mul]

theorem big_lt_big2 : big < big2 := by
  rw [big_val, big2_val, EReal.coe_lt_coe_iff]
  norm_num

/-! ## Reading the pieces -/

theorem fill_at (w : BitVec 32) (i : S120.Idx) : fill (F := Ideal) w i = Ideal.ofBits .f32 w := rfl

theorem front_at (A : S5001.Idx → EReal) (k : Fin 5000) : front (F := Ideal) A (ix1 k) = A (ix1 ⟨k.val, Nat.lt_succ_of_lt k.isLt⟩) :=
  extractStridedSlice_apply _ _ _ _ _ fun a => by match a with | ⟨0, _⟩ => exact (Nat.zero_add _).symm

theorem back_at (A : S5001.Idx → EReal) (k : Fin 5000) : back (F := Ideal) A (ix1 k) = A (ix1 ⟨k.val + 1, Nat.succ_lt_succ k.isLt⟩) :=
  extractStridedSlice_apply _ _ _ _ _ fun a => by match a with | ⟨0, _⟩ => exact Nat.add_comm _ _

theorem rates_at (A : S5001.Idx → EReal) (k : Fin 5000) : rates (F := Ideal) A (ix1 k)
    = Ideal.div 1 (A (ix1 ⟨k.val + 1, Nat.succ_lt_succ k.isLt⟩) - A (ix1 ⟨k.val, Nat.lt_succ_of_lt k.isLt⟩)) := by
  unfold rates
  rw [hostDivf_apply, subf_apply, back_at, front_at]
  exact congrArg (Ideal.div · _) Ideal.ofBits_one_f32

theorem filled_at (x : S5000.Idx → EReal) (w : BitVec 32) (k : Fin 5120) :
    filled (F := Ideal) x w (ix1 k) = if h : k.val < 5000 then x (ix1 ⟨k.val, h⟩) else Ideal.ofBits .f32 w := by
  unfold filled
  by_cases h : k.val < 5000
  · rw [dif_pos h]
    exact concatenate_pair_apply_left (t := S5120) (s₁ := S5000) (s₂ := S120) 0 _ _ _ (ix1 k) rfl _ fun b => by match b with | ⟨0, _⟩ => rfl
  · rw [dif_neg h]
    have hk := k.isLt
    exact concatenate_pair_apply_right (t := S5120) (s₁ := S5000) (s₂ := S120) 0 _ _ _ (ix1 k) rfl rfl (ix1 ⟨k.val - 5000, by omega⟩)
      (fun b hb => by match b with | ⟨0, _⟩ => exact absurd rfl hb) (show k.val - 5000 + 5000 = k.val by omega)

theorem filled1_at (x : S5001.Idx → EReal) (w : BitVec 32) (k : Fin 5121) :
    filled1 (F := Ideal) x w (ix1 k) = if h : k.val < 5001 then x (ix1 ⟨k.val, h⟩) else Ideal.ofBits .f32 w := by
  unfold filled1
  by_cases h : k.val < 5001
  · rw [dif_pos h]
    exact concatenate_pair_apply_left (t := S5121) (s₁ := S5001) (s₂ := S120) 0 _ _ _ (ix1 k) rfl _ fun b => by match b with | ⟨0, _⟩ => rfl
  · rw [dif_neg h]
    have hk := k.isLt
    exact concatenate_pair_apply_right (t := S5121) (s₁ := S5001) (s₂ := S120) 0 _ _ _ (ix1 k) rfl rfl (ix1 ⟨k.val - 5001, by omega⟩)
      (fun b hb => by match b with | ⟨0, _⟩ => exact absurd rfl hb) (show k.val - 5001 + 5001 = k.val by omega)

/-- Setting one entry of a vector. -/
theorem set_entry {α : Type} {N : ℕ} (d : ScatterDims (Routing.shape1 N) (Routing.shape1 1) Routing.shape0) (hiw : d.insertedWindowDims = [0])
    (hsd : d.scatterDimsToOperandDims = [0]) (x : (Routing.shape1 N).Idx → α) (idx : IVec (Routing.shape1 1) 32)
    (u : Routing.shape0.Idx → α) (k : Fin N) (hidx : (idx (ix1 0)).toInt = (k.val : Int)) (e : Fin N) :
    Host.scatter d (fun _ b => b) x idx u (ix1 e) = if e = k then u ix0 else x (ix1 e) := by
  split
  · rename_i h
    exact Routing.scatter_set_hit d x idx u _ _ (fun j _ => congrArg u (eq_ix0 j)) ix0 ((Routing.lands_one d hiw hsd idx k hidx e).2 h)
  · rename_i h
    exact Routing.scatter_set_miss d x idx u _ fun j hj => h ((Routing.lands_one d hiw hsd idx k hidx e).1 (by rw [← eq_ix0 j]; exact hj))

theorem put_at (x : S5120.Idx → EReal) (k w : BitVec 32) (n : Fin 5120) (hk : k.toInt = (n.val : Int)) (e : Fin 5120) :
    put (F := Ideal) x k w (ix1 e) = if e = n then Ideal.ofBits .f32 w else x (ix1 e) :=
  set_entry scatter_S5120_S1_S__n_0_0_0 rfl rfl x _ _ n hk e

theorem put1_at (x : S5121.Idx → EReal) (k w : BitVec 32) (n : Fin 5121) (hk : k.toInt = (n.val : Int)) (e : Fin 5121) :
    put1 (F := Ideal) x k w (ix1 e) = if e = n then Ideal.ofBits .f32 w else x (ix1 e) :=
  set_entry scatter_S5121_S1_S__n_0_0_0 rfl rfl x _ _ n hk e

/-- The place of an entry of a chunk. -/
def place (c : Fin 40) (i : Fin 128) : Fin 5120 := ⟨128 * c.val + i.val, by have := c.isLt; have := i.isLt; omega⟩

theorem chunks_at (x : S5120.Idx → EReal) (c : Fin 40) (i : Fin 128) :
    shapeCast S40x128 x shapeCasts_S5120_S40x128 (ix2 c i) = x (ix1 (place c i)) := by
  refine shapeCast_apply _ _ _ _ ?_
  rw [Shape.rowMajor_val_one, Shape.rowMajor_val_two]
  show 128 * c.val + i.val = c.val * 128 + i.val
  omega

theorem upright_at (x : S5120.Idx → EReal) (c : Fin 40) (i : Fin 128) : upright (F := Ideal) x (ix3 c i 0) = x (ix1 (place c i)) :=
  (broadcastInDim_apply _ _ _ _ (ix2 c i) fun a => by match a with | ⟨0, _⟩ => rfl | ⟨1, _⟩ => rfl).trans (chunks_at x c i)

theorem lying_at (x : S5120.Idx → EReal) (c : Fin 40) (i : Fin 128) : lying (F := Ideal) x (ix3 c 0 i) = x (ix1 (place c i)) :=
  (broadcastInDim_apply _ _ _ _ (ix2 c i) fun a => by match a with | ⟨0, _⟩ => rfl | ⟨1, _⟩ => rfl).trans (chunks_at x c i)

theorem slice_starts (x : S5121.Idx → EReal) (c : Fin 40) : Host.slice S40 ![0] ![128] x slicesBy_S5121_S40_0s128 (ix1 c)
    = x (ix1 ⟨128 * c.val, by have := c.isLt; omega⟩) := by
  rw [Host.slice_apply]
  congr 1
  funext a
  match a with
  | ⟨0, _⟩ => exact Fin.ext (Nat.zero_add _)

theorem slice_stops (x : S5121.Idx → EReal) (c : Fin 40) : Host.slice S40 ![128] ![128] x slicesBy_S5121_S40_128s128 (ix1 c)
    = x (ix1 ⟨128 * (c.val + 1), by have := c.isLt; omega⟩) := by
  rw [Host.slice_apply]
  congr 1
  funext a
  match a with
  | ⟨0, _⟩ => exact Fin.ext (show 128 + 128 * c.val = 128 * (c.val + 1) by omega)

theorem starts_at (x : S5121.Idx → EReal) (c : Fin 40) : starts (F := Ideal) x (ix2 0 c) = x (ix1 ⟨128 * c.val, by have := c.isLt; omega⟩) :=
  (broadcastInDim_apply _ _ _ _ (ix1 c) fun a => by match a with | ⟨0, _⟩ => rfl).trans (slice_starts x c)

theorem stops_at (x : S5121.Idx → EReal) (c : Fin 40) : stops (F := Ideal) x (ix2 0 c) = x (ix1 ⟨128 * (c.val + 1), by have := c.isLt; omega⟩) :=
  (broadcastInDim_apply _ _ _ _ (ix1 c) fun a => by match a with | ⟨0, _⟩ => rfl).trans (slice_stops x c)

/-! ## The table's rows -/

section Rows

variable (A B : S5001.Idx → EReal) (c : Fin 40)

theorem row0 : table (F := Ideal) A B (ix2 0 c) = starts (F := Ideal) (put1 (filled1 B 0x7249F2CA#32) 0#32 0xF149F2CA#32) (ix2 0 c) :=
  concatenate_apply_piece (t := S4x40) 0 _ _ (ix2 0 c) 0 (by show 0 < 4; decide) S1x40 _ rfl rfl 0 rfl (ix2 0 c)
    (fun b hb => by match b with | ⟨0, _⟩ => exact absurd rfl hb | ⟨1, _⟩ => rfl) rfl

theorem row1 : table (F := Ideal) A B (ix2 1 c) = stops (F := Ideal) (put1 (filled1 B 0x7249F2CA#32) 0#32 0xF149F2CA#32) (ix2 0 c) :=
  concatenate_apply_piece (t := S4x40) 0 _ _ (ix2 1 c) 1 (by show 1 < 4; decide) S1x40 _ rfl rfl 1 rfl (ix2 0 c)
    (fun b hb => by match b with | ⟨0, _⟩ => exact absurd rfl hb | ⟨1, _⟩ => rfl) rfl

theorem row2 : table (F := Ideal) A B (ix2 2 c) = starts (F := Ideal) (filled1 A 0x7149F2CA#32) (ix2 0 c) :=
  concatenate_apply_piece (t := S4x40) 0 _ _ (ix2 2 c) 2 (by show 2 < 4; decide) S1x40 _ rfl rfl 2 rfl (ix2 0 c)
    (fun b hb => by match b with | ⟨0, _⟩ => exact absurd rfl hb | ⟨1, _⟩ => rfl) rfl

theorem row3 : table (F := Ideal) A B (ix2 3 c) = stops (F := Ideal) (filled1 A 0x7149F2CA#32) (ix2 0 c) :=
  concatenate_apply_piece (t := S4x40) 0 _ _ (ix2 3 c) 3 (by show 3 < 4; decide) S1x40 _ rfl rfl 3 rfl (ix2 0 c)
    (fun b hb => by match b with | ⟨0, _⟩ => exact absurd rfl hb | ⟨1, _⟩ => rfl) rfl

end Rows

/-! ## Everything in terms of borders given as functions of a number -/

section Named

variable (A B : S5001.Idx → EReal) (b : ℕ → ℝ) (T : ℕ → EReal)
  (hA : ∀ k : Fin 5001, A (ix1 k) = (b k.val : EReal)) (hB : ∀ k : Fin 5001, B (ix1 k) = T k.val)
  (H : ∀ k < 5000, b k < b (k + 1))
include hA in
theorem fl_at (c : Fin 40) (i : Fin 128) (h : 128 * c.val + i.val < 5000) :
    upright (F := Ideal) (filled (front A) 0x7149F2CA#32) (ix3 c i 0) = (b (128 * c.val + i.val) : EReal) := by
  rw [upright_at, filled_at, dif_pos (show (place c i).val < 5000 from h), front_at, hA]
  rfl

include hA H in
theorem rw_at (c : Fin 40) (i : Fin 128) (h : 128 * c.val + i.val < 5000) :
    upright (F := Ideal) (filled (rates A) 0x00000000#32) (ix3 c i 0)
      = ((b (128 * c.val + i.val + 1) : EReal) - b (128 * c.val + i.val))⁻¹ := by
  rw [upright_at, filled_at, dif_pos (show (place c i).val < 5000 from h), rates_at, hA, hA]
  exact one_div_width (H _ h)

include hB in
theorem to0_at (c : Fin 40) (i : Fin 128) (h : 128 * c.val + i.val < 5000) :
    lying (F := Ideal) (put (filled (front B) 0x7249F2CA#32) 0#32 0xF149F2CA#32) (ix3 c 0 i) = lower T (128 * c.val + i.val) := by
  rw [lying_at, put_at _ _ _ 0 rfl, filled_at, dif_pos (show (place c i).val < 5000 from h), front_at, hB, neg_big_lit]
  unfold lower
  exact if_congr (Fin.ext_iff.trans Iff.rfl) rfl rfl

include hB in
theorem to1_at (c : Fin 40) (i : Fin 128) (h : 128 * c.val + i.val < 5000) :
    lying (F := Ideal) (put (filled (back B) 0x7249F2CA#32) 4999#32 0x7149F2CA#32) (ix3 c 0 i) = upper T (128 * c.val + i.val) := by
  rw [lying_at, put_at _ _ _ ⟨4999, by decide⟩ rfl, filled_at, dif_pos (show (place c i).val < 5000 from h), back_at, hB]
  unfold upper
  exact if_congr (Fin.ext_iff.trans Iff.rfl) rfl rfl

include hB in
theorem tab0_at (t : ℕ) (h : t < 40) : tab (F := Ideal) (table A B) 0 t = if t = 0 then -big else T (128 * t) := by
  have e : tab (F := Ideal) (table A B) 0 t = table A B (ix2 0 ⟨t, h⟩) := by
    unfold tab
    congr 2
    exact Fin.ext (Nat.min_eq_left (by omega))
  rw [e, row0, starts_at, put1_at _ _ _ 0 rfl, filled1_at, dif_pos (show 128 * t < 5001 by omega), hB, neg_big_lit]
  refine if_congr (Fin.ext_iff.trans ?_) rfl rfl
  show 128 * t = 0 ↔ t = 0
  omega

include hB in
theorem tab1_at (t : ℕ) (h : t < 40) : tab (F := Ideal) (table A B) 1 t = if t < 39 then T (128 * (t + 1)) else big2 := by
  have e : tab (F := Ideal) (table A B) 1 t = table A B (ix2 1 ⟨t, h⟩) := by
    unfold tab
    congr 2
    exact Fin.ext (Nat.min_eq_left (by omega))
  rw [e, row1, stops_at, put1_at _ _ _ 0 rfl, if_neg (fun h => absurd (Fin.ext_iff.1 h) (Nat.succ_ne_zero _)), filled1_at]
  by_cases h39 : t < 39
  · rw [dif_pos (show 128 * (t + 1) < 5001 by omega), hB, if_pos h39]
  · rw [dif_neg (show ¬ 128 * (t + 1) < 5001 by omega), if_neg h39]
    rfl

include hA in
theorem tab2_at (t : ℕ) (h : t < 40) : tab (F := Ideal) (table A B) 2 t = (b (128 * t) : EReal) := by
  have e : tab (F := Ideal) (table A B) 2 t = table A B (ix2 2 ⟨t, h⟩) := by
    unfold tab
    congr 2
    exact Fin.ext (Nat.min_eq_left (by omega))
  rw [e, row2, starts_at, filled1_at, dif_pos (show 128 * t < 5001 by omega), hA]

include hA in
theorem tab3_at (t : ℕ) (h : t < 40) : tab (F := Ideal) (table A B) 3 t = if 128 * (t + 1) ≤ 5000 then (b (128 * (t + 1)) : EReal) else big := by
  have e : tab (F := Ideal) (table A B) 3 t = table A B (ix2 3 ⟨t, h⟩) := by
    unfold tab
    congr 2
    exact Fin.ext (Nat.min_eq_left (by omega))
  rw [e, row3, stops_at, filled1_at]
  by_cases h5 : 128 * (t + 1) ≤ 5000
  · rw [dif_pos (show 128 * (t + 1) < 5001 by omega), hA, if_pos h5]
  · rw [dif_neg (show ¬ 128 * (t + 1) < 5001 by omega), if_neg h5]
    rfl

end Named

end Cert.Rebin

end
-- ==== Proof.Val.Cover.lean ====
/- Sums over chunks: the passes over the chunks from the first to the last count every chunk between them once, and a
   sum over the chunks' entries is a sum over the bins. -/
module

public import Mathlib.Data.EReal.Operations
public import Mathlib.Algebra.BigOperators.Fin
public import Mathlib.Algebra.BigOperators.Intervals
public import Mathlib.Tactic.Linarith

@[expose] public section

noncomputable section

namespace Cert.Rebin

open scoped BigOperators

/-- The passes `0 … n` over the chunks from `lo`, those at or past `hi` left out, meet every chunk that counts once. -/
theorem passes_sum (S : ℕ → EReal) (lo hi n : ℕ) (hhi : hi ≤ 40) (hn : hi - lo ≤ n + 1)
    (hlo : ∀ c < lo, c < 40 → S c = 0) (hup : ∀ c, hi ≤ c → c < 40 → S c = 0) :
    ∑ d ∈ Finset.range (n + 1), (if lo + d < hi then S (lo + d) else 0) = ∑ c ∈ Finset.range 40, S c := by
  rw [← Finset.sum_filter]
  refine Finset.sum_bij_ne_zero (fun d _ _ => lo + d) ?_ ?_ ?_ ?_
  · intro d hd _
    simp only [Finset.mem_filter, Finset.mem_range] at hd ⊢
    omega
  · intro d _ _ e _ _ h
    exact Nat.add_left_cancel h
  · intro c hc h0
    simp only [Finset.mem_range] at hc
    have h1 : lo ≤ c := by
      by_contra h
      exact h0 (hlo c (by omega) hc)
    have h2 : c < hi := by
      by_contra h
      exact h0 (hup c (by omega) hc)
    refine ⟨c - lo, ?_, ?_, ?_⟩
    · simp only [Finset.mem_filter, Finset.mem_range]; omega
    · rwa [Nat.add_sub_cancel' h1]
    · exact Nat.add_sub_cancel' h1
  · intro d _ _
    rfl

/-- A sum over forty chunks of 128 whose entries past 5000 are zero is the sum over the 5000 bins. -/
theorem chunks_sum (f : ℕ → EReal) (h0 : ∀ k, 5000 ≤ k → f k = 0) :
    ∑ c ∈ Finset.range 40, ∑ i : Fin 128, f (128 * c + i.val) = ∑ k : Fin 5000, f k.val := by
  have e : ∀ n, ∑ c ∈ Finset.range n, ∑ i : Fin 128, f (128 * c + i.val) = ∑ k ∈ Finset.range (128 * n), f k := by
    intro n
    induction n with
    | zero => simp
    | succ n ih =>
      rw [Finset.sum_range_succ, ih, Nat.mul_succ, Finset.sum_range_add, Fin.sum_univ_eq_sum_range (fun i => f (128 * n + i))]
  rw [e, Fin.sum_univ_eq_sum_range f 5000, show 128 * 40 = 5000 + 120 from rfl, Finset.sum_range_add,
    Finset.sum_eq_zero (fun i _ => h0 (5000 + i) (Nat.le_add_right _ _)), add_zero]

end Cert.Rebin

end
-- ==== Proof.Val.Block.lean ====
/- A block of the kernel's result over the extended reals, read at an index: a sum over all source bins. -/
module

public import proofs.«01_k».proof.Proof.KI.Whole
public import proofs.«01_k».proof.Proof.Val.Cover
public import proofs.«01_k».proof.Proof.Val.Share
public import Idealize.ShloMosaic.Lib.MatmulPlain
public import Idealize.ShloMosaic.Lib.Pipeline.Value
public import Idealize.ShloMosaic.Lib.IdealHost

@[expose] public section

noncomputable section

namespace Cert.Rebin

open Idealize.ShloMosaic Cert.KernelIdeal Cert.KernelIdeal.Gen Cert.KernelIdeal.Rebin Idealize.ShloMosaic.ValueIdx
open scoped BigOperators

theorem lit_zero : Ideal.ofBits .f32 0x00000000#32 = 0 := Ideal.ofBits_zero_f32
theorem lit_one : Ideal.ofBits .f32 0x3F800000#32 = 1 := Ideal.ofBits_one_f32

theorem edgeVal_apply (ys : Vec Ideal S1x1x128 .f32) (fl rwc : FVec Ideal S128x1 .f32) (i j : Fin 128) :
    edgeVal ys fl rwc (ix2 i j) = share (ys (ix3 0 0 j)) (fl (ix2 i 0)) (rwc (ix2 i 0)) := by
  have e1 : broadcastTo S128x128 (shapeCast S1x128 ys shapeCasts_S1x1x128_S1x128) broadcasts_S1x128_S128x128 (ix2 i j) = ys (ix3 0 0 j) := by
    refine (broadcastTo_apply _ _ _ (ix2 0 j) fun a => by match a with | ⟨0, _⟩ => rfl | ⟨1, _⟩ => rfl).trans ?_
    refine shapeCast_apply _ _ _ _ ?_
    rw [Shape.rowMajor_val_three, Shape.rowMajor_val_two]
    rfl
  have e2 : ∀ x : FVec Ideal S128x1 .f32, broadcastTo S128x128 x broadcasts_S128x1_S128x128 (ix2 i j) = x (ix2 i 0) := fun x =>
    broadcastTo_apply _ _ _ _ fun a => by match a with | ⟨0, _⟩ => rfl | ⟨1, _⟩ => rfl
  unfold edgeVal
  rw [minimumf_apply, maximumf_apply, mulf_apply, subf_apply, e1, e2, e2]
  show min (Ideal.ofBits .f32 0x3F800000#32) (max (Ideal.ofBits .f32 0x00000000#32) _) = _
  rw [lit_zero, lit_one]
  rfl

theorem cast3_apply {α : Type} (x : S1x128x1.Idx → α) (i : Fin 128) :
    shapeCast S128x1 (shapeCast S1x128x1 x shapeCasts_S1x128x1_S1x128x1) shapeCasts_S1x128x1_S128x1 (ix2 i 0) = x (ix3 0 i 0) := by
  refine (shapeCast_apply _ _ _ (ix3 0 i 0) ?_).trans (shapeCast_apply _ _ _ _ rfl)
  rw [Shape.rowMajor_val_three, Shape.rowMajor_val_two]
  show (0 * 128 + i.val) * 1 + 0 = i.val * 1 + 0
  omega

theorem resVal_apply (d v v' : BitVec 32) (fl rw : Vec Ideal S1x128x1 .f32) (to0 to1 : Vec Ideal S1x1x128 .f32)
    (p : Vec Ideal S1x512x128 .bf16) (r : Fin 512) (j : Fin 128) :
    resVal d v v' fl rw to0 to1 p (ix2 r j) = ∑ i : Fin 128, p (ix3 0 r i) *
      (share (to1 (ix3 0 0 j)) (fl (ix3 0 i 0)) (rw (ix3 0 i 0) * validVal (F := Ideal) d v v')
        - share (to0 (ix3 0 0 j)) (fl (ix3 0 i 0)) (rw (ix3 0 i 0) * validVal (F := Ideal) d v v')) := by
  unfold resVal
  refine (Ideal.matmul_plain_apply (M := 512) (K := 128) (N := 128) none _ _ _ r j).trans ?_
  rw [constant_apply]
  show Ideal.ofBits .f32 0x00000000#32 + _ = _
  rw [lit_zero, zero_add]
  refine Finset.sum_congr rfl fun i _ => congrArg₂ _ ?_ ?_
  · refine shapeCast_apply _ _ _ _ ?_
    rw [Shape.rowMajor_val_three, Shape.rowMajor_val_two]
    show (0 * 512 + r.val) * 128 + i.val = r.val * 128 + i.val
    omega
  · rw [truncf_apply, subf_apply, edgeVal_apply, edgeVal_apply]
    unfold flVal rwcVal
    rw [mulf_apply, cast3_apply, cast3_apply]
    rfl

/-- A chunk's part of a result's element. -/
def part (I : Ins Ideal) (P : S40x512x128.Idx → EReal) (t : Fin 40) (r : Fin 512) (j : Fin 128) (c : Fin 40) : EReal :=
  ∑ i : Fin 128, P (ix3 c r i) *
    (share (I.to1 (ix3 t 0 j)) (I.fl (ix3 c i 0)) (I.rw (ix3 c i 0)) - share (I.to0 (ix3 t 0 j)) (I.fl (ix3 c i 0)) (I.rw (ix3 c i 0)))

/-- A number below forty, as a chunk's number. -/
def chunk (n : ℕ) : Fin 40 := ⟨min n 39, Nat.lt_of_le_of_lt (Nat.min_le_right _ 39) (by decide)⟩

theorem unitU_apply (I : Ins Ideal) (P : S40x512x128.Idx → EReal) (t : Fin 40) (d : ℕ) (hd : d < 41) (r : Fin 512) (j : Fin 128) :
    unitU I P t d (ix2 r j)
      = if loN I.tab t.val + d < hiN I.tab t.val then part I P t r j (chunk (loN I.tab t.val + d)) else 0 := by
  unfold unitU
  rw [resVal_apply]
  have hv := valid_word d hd (loN I.tab t.val) (Nat.lt_succ_of_le (loN_le I.tab t.val)) (hiN I.tab t.val) (Nat.lt_succ_of_le (hiN_le I.tab t.val))
  by_cases h : loN I.tab t.val + d < hiN I.tab t.val
  · rw [if_pos h]
    have e : validVal (F := Ideal) (BitVec.ofNat 32 d) (loW I.tab t.val) (hiW I.tab t.val) = 1 := by
      unfold validVal loW hiW
      rw [hv.2 h]
      exact lit_one
    rw [e]
    refine Finset.sum_congr rfl fun i _ => ?_
    rw [mul_one]
    rfl
  · rw [if_neg h]
    have e : validVal (F := Ideal) (BitVec.ofNat 32 d) (loW I.tab t.val) (hiW I.tab t.val) = 0 := by
      unfold validVal loW hiW
      rw [eq_zero_of_ne_one fun h' => h (hv.1 h')]
      exact lit_zero
    rw [e]
    refine Finset.sum_eq_zero fun i _ => ?_
    rw [mul_zero, share_rate_zero, share_rate_zero, sub_zero, mul_zero]

theorem acc_apply (I : Ins Ideal) (P : S40x512x128.Idx → EReal) (t : Fin 40) (r : Fin 512) (j : Fin 128) :
    ∀ n, n < 41 → acc I P t n (ix2 r j) = ∑ d ∈ Finset.range (n + 1),
      (if loN I.tab t.val + d < hiN I.tab t.val then part I P t r j (chunk (loN I.tab t.val + d)) else 0)
  | 0, h => by rw [Finset.sum_range_one]; exact unitU_apply I P t 0 h r j
  | n + 1, h => by
      rw [Finset.sum_range_succ, ← acc_apply I P t r j n (by omega), ← unitU_apply I P t (n + 1) h r j]
      rfl

/-- With the chunks the table's scan passes over contributing nothing, a result's element sums over every chunk. -/
theorem acc_all (I : Ins Ideal) (P : S40x512x128.Idx → EReal) (t : Fin 40) (r : Fin 512) (j : Fin 128)
    (hlo : ∀ c, c < loN I.tab t.val → c < 40 → part I P t r j (chunk c) = 0)
    (hup : ∀ c, hiN I.tab t.val ≤ c → c < 40 → part I P t r j (chunk c) = 0) :
    acc I P t (passes I.tab - 1) (ix2 r j) = ∑ c ∈ Finset.range 40, part I P t r j (chunk c) := by
  have hm : passes I.tab ≤ 40 := mostN_le I.tab 40
  have hp : hiN I.tab t.val - loN I.tab t.val ≤ passes I.tab := le_mostN I.tab 40 t.isLt
  rw [acc_apply I P t r j _ (by omega)]
  exact passes_sum (fun c => part I P t r j (chunk c)) _ _ _ (hiN_le I.tab t.val) (by omega) hlo hup

/-- The stored softmax at a chunk: the softmax at the chunk's columns, zero past the last. -/
theorem probs_apply (p : FVec Ideal S512x5000 .f32) (c : Fin 40) (r : Fin 512) (i : Fin 128) :
    probs p (ix3 c r i) = if h : 128 * c.val + i.val < 5000 then p (ix2 r ⟨128 * c.val + i.val, h⟩) else 0 := by
  have hi := i.isLt
  have hc := c.isLt
  unfold probs
  by_cases h : c.val < 39
  · rw [dif_pos (show ((ix3 c r i : S40x512x128.Idx) 0).val < 39 from h), dif_pos (show 128 * c.val + i.val < 5000 by omega)]
    unfold chunkVal
    refine (shapeCast_apply _ _ _ (ix2 r i) ?_).trans ?_
    · rw [Shape.rowMajor_val_three, Shape.rowMajor_val_two]
      show r.val * 128 + i.val = (0 * 512 + r.val) * 128 + i.val
      omega
    rw [truncf_apply]
    exact extractStridedSlice_apply _ _ _ _ _ fun a => by
      match a with
      | ⟨0, _⟩ => exact (Nat.zero_add _).symm
      | ⟨1, _⟩ => rfl
  · rw [dif_neg (show ¬ ((ix3 c r i : S40x512x128.Idx) 0).val < 39 from h)]
    have hc' : c.val = 39 := by omega
    unfold chunkLast
    refine (shapeCast_apply _ _ _ (ix2 r i) ?_).trans ?_
    · rw [Shape.rowMajor_val_three, Shape.rowMajor_val_two]
      show r.val * 128 + i.val = (0 * 512 + r.val) * 128 + i.val
      omega
    rw [truncf_apply]
    by_cases h8 : i.val < 8
    · rw [dif_pos (show 128 * c.val + i.val < 5000 by omega)]
      refine (concatenate_pair_apply_left (t := S512x128) (s₁ := S512x8) (s₂ := S512x120) 1 _ _ _ (ix2 r i) rfl (ix2 r ⟨i.val, h8⟩) fun b => by
        match b with | ⟨0, _⟩ => rfl | ⟨1, _⟩ => rfl).trans ?_
      exact extractStridedSlice_apply _ _ _ _ _ fun a => by
        match a with
        | ⟨0, _⟩ => exact (Nat.zero_add _).symm
        | ⟨1, _⟩ => show 128 * c.val + i.val = 4992 + i.val; omega
    · rw [dif_neg (show ¬ 128 * c.val + i.val < 5000 by omega)]
      refine (concatenate_pair_apply_right (t := S512x128) (s₁ := S512x8) (s₂ := S512x120) 1 _ _ _ (ix2 r i) rfl rfl (ix2 r ⟨i.val - 8, by omega⟩) (fun b hb => by
        match b with
        | ⟨0, _⟩ => rfl
        | ⟨1, _⟩ => exact absurd rfl hb) (show i.val - 8 + 8 = i.val by omega)).trans ?_
      exact lit_zero

end Cert.Rebin

end
-- ==== Proof.Val.Kernel.lean ====
/- A block of the kernel's result: each element is the mass its target bin gets from the row's softmax. -/
module

public import proofs.«01_k».proof.Proof.Val.HostAt
public import proofs.«01_k».proof.Proof.Val.Block
public import Idealize.ShloMosaic.Lib.Pointwise.Select

@[expose] public section

noncomputable section

namespace Cert.Rebin

open Idealize.ShloMosaic hiding ix0 ix1 ix2 ix3
open Cert.KernelIdeal Cert.KernelIdeal.Gen Cert.KernelIdeal.Rebin Idealize.ShloMosaic.ValueIdx
open scoped BigOperators

/-- A number a chain of scans has passed passed one of their tests. -/
theorem carry_passed (test : ℕ → ℕ → Prop) [∀ t, DecidablePred (test t)] (j : ℕ) :
    ∀ n, j < carry test n → ∃ t < n, test t j
  | 0, h => absurd h (Nat.not_lt_zero _)
  | n + 1, h => by
    by_cases h' : j < carry test n
    · obtain ⟨t, ht, e⟩ := carry_passed test j n h'
      exact ⟨t, Nat.lt_succ_of_lt ht, e⟩
    · exact ⟨n, Nat.lt_succ_self n, scan_passed (test n) _ _ j (Nat.le_of_not_lt h') h⟩

/-- The last of a chain of scans fails its test where it stops short. -/
theorem carry_stop (test : ℕ → ℕ → Prop) [∀ t, DecidablePred (test t)] (n : ℕ) (h : carry test (n + 1) < 40) :
    ¬ test n (carry test (n + 1)) :=
  scan_stop (test n) _ _ (by
    have := carry_le test n
    have h' : scan (test n) (40 - carry test n) (carry test n) < 40 := h
    omega)

section

variable (A B : S5001.Idx → EReal) (b : ℕ → ℝ) (T : ℕ → EReal)
  (hA : ∀ k : Fin 5001, A (ix1 k) = (b k.val : EReal)) (hB : ∀ k : Fin 5001, B (ix1 k) = T k.val)
  (H : Borders b T)

/-- What the body reads besides the logits, for given borders. -/
def insOf : Ins Ideal where
  fl := upright (filled (front A) 0x7149F2CA#32)
  rw := upright (filled (rates A) 0x00000000#32)
  to0 := lying (put (filled (front B) 0x7249F2CA#32) 0#32 0xF149F2CA#32)
  to1 := lying (put (filled (back B) 0x7249F2CA#32) 4999#32 0x7149F2CA#32)
  tab := table A B

/-- The part of a target bin's mass that comes from source bin `k`. -/
def bit (b : ℕ → ℝ) (T : ℕ → EReal) (q : ℕ → ℝ) (j k : ℕ) : EReal :=
  if k < 5000 then (q k : EReal) * (sh b k (upper T j) - sh b k (lower T j)) else 0

include hA hB H in
/-- A chunk's part is the sum of its bins' parts. -/
theorem part_bits (X : S512x5000.Idx → EReal) (r : Fin 512) (q : ℕ → ℝ)
    (hq : ∀ k : Fin 5000, soft (F := Ideal) X (ix2 r k) = (q k.val : EReal)) (t : Fin 40) (j' : Fin 128) (j : ℕ)
    (hj : 128 * t.val + j'.val = j) (h5 : j < 5000) (c : ℕ) (hc : c < 40) :
    part (insOf A B) (probs (soft (F := Ideal) X)) t r j' (chunk c) = ∑ i : Fin 128, bit b T q j (128 * c + i.val) := by
  have ec : (chunk c).val = c := Nat.min_eq_left (by omega)
  subst hj
  unfold part
  refine Finset.sum_congr rfl fun i _ => ?_
  unfold bit
  rw [probs_apply]
  by_cases h : 128 * (chunk c).val + i.val < 5000
  · rw [dif_pos h, hq]
    have e1 : (insOf A B).to1 (ix3 t 0 j') = upper T (128 * t.val + j'.val) := to1_at B T hB t j' h5
    have e0 : (insOf A B).to0 (ix3 t 0 j') = lower T (128 * t.val + j'.val) := to0_at B T hB t j' h5
    have ef : (insOf A B).fl (ix3 (chunk c) i 0) = (b (128 * (chunk c).val + i.val) : EReal) := fl_at A b hA _ i h
    have er : (insOf A B).rw (ix3 (chunk c) i 0) = ((b (128 * (chunk c).val + i.val + 1) : EReal) - b (128 * (chunk c).val + i.val))⁻¹ :=
      rw_at A b hA H.step _ i h
    rw [e1, e0, ef, er, if_pos (show 128 * c + i.val < 5000 by omega)]
    conv_rhs => rw [← ec]
    rfl
  · rw [dif_neg h, if_neg (by omega), zero_mul]

include H in
theorem bits_left (q : ℕ → ℝ) {j c t : ℕ} (hj : j < 5000) (ht : 128 * t ≤ j)
    (h : (if 128 * (c + 1) ≤ 5000 then (b (128 * (c + 1)) : EReal) else big) ≤ if t = 0 then -big else T (128 * t)) (i : Fin 128) :
    bit b T q j (128 * c + i.val) = 0 := by
  unfold bit
  split
  · rename_i hk
    obtain ⟨e, e'⟩ := H.left_of hk hj (by have := i.isLt; omega) ht h
    rw [e, e', ← EReal.coe_one, ← EReal.coe_sub, sub_self, EReal.coe_zero, mul_zero]
  · rfl

include H in
theorem bits_right (q : ℕ → ℝ) {j c c' t : ℕ} (hj : j < 5000) (hc : c' ≤ c) (ht : j < 128 * (t + 1)) (h39 : t < 39)
    (h : T (128 * (t + 1)) ≤ b (128 * c')) (i : Fin 128) : bit b T q j (128 * c + i.val) = 0 := by
  unfold bit
  split
  · rename_i hk
    obtain ⟨e, e'⟩ := H.right_of hk hj (c := c') (by omega) ht h39 h
    rw [e, e', sub_zero, mul_zero]
  · rfl

include hA hB H in
/-- An element of the block. -/
theorem outBlk_mass (X : S512x5000.Idx → EReal) (r : Fin 512) (q : ℕ → ℝ)
    (hq : ∀ k : Fin 5000, soft (F := Ideal) X (ix2 r k) = (q k.val : EReal)) (j : Fin 5000) :
    outBlk (F := Ideal) X (insOf A B) (ix2 r j) = mass b T q j.val := by
  have hj := j.isLt
  obtain ⟨t, ht⟩ : ∃ t : Fin 40, t.val = j.val / 128 := ⟨⟨j.val / 128, by omega⟩, rfl⟩
  obtain ⟨j', hj'⟩ : ∃ j' : Fin 128, j'.val = j.val % 128 := ⟨⟨j.val % 128, Nat.mod_lt _ (by decide)⟩, rfl⟩
  have ej : 128 * t.val + j'.val = j.val := by omega
  have hj128 := j'.isLt
  have ht40 := t.isLt
  have hb := part_bits A B b T hA hB H X r q hq t j' j.val ej hj
  unfold outBlk
  refine (outA_at (insOf A B) _ _ t (ix2 r j') (ix2 r j) rfl ej.symm).trans ?_
  rw [acc_all (insOf A B) _ t r j' ?_ ?_]
  · rw [Finset.sum_congr rfl fun c hc => hb c (Finset.mem_range.1 hc), chunks_sum (bit b T q j.val) fun k hk => if_neg (by omega)]
    exact Finset.sum_congr rfl fun k _ => if_pos k.isLt
  · intro c hc hc40
    rw [hb c hc40]
    obtain ⟨t', ht', -, e⟩ := carry_passed _ c _ hc
    have e' : tab (F := Ideal) (table A B) 3 c ≤ tab (F := Ideal) (table A B) 0 t' := (Ideal.cmp_ole_eq_one _ _).1 e
    rw [tab3_at A B b hA c hc40, tab0_at A B T hB t' (by omega)] at e'
    exact Finset.sum_eq_zero fun i _ => bits_left b T H q hj (by omega) e' i
  · intro c hc hc40
    rw [hb c hc40]
    have hlt : hiN (table (F := Ideal) A B) t.val < 40 := Nat.lt_of_le_of_lt hc hc40
    have e := carry_stop _ _ hlt
    have e' : ¬ tab (F := Ideal) (table A B) 2 (hiN (table (F := Ideal) A B) t.val) < tab (F := Ideal) (table A B) 1 t.val :=
      fun h => e ⟨hlt, (Ideal.cmp_olt_eq_one _ _).2 h⟩
    rw [tab2_at A B b hA _ hlt, tab1_at A B T hB _ ht40, not_lt] at e'
    by_cases h39 : t.val < 39
    · rw [if_pos h39] at e'
      exact Finset.sum_eq_zero fun i _ => bits_right b T H q hj hc (by omega) h39 e' i
    · rw [if_neg h39] at e'
      exact absurd (big_lt_big2.trans_le (e'.trans (H.high _ (by omega)))) (lt_irrefl _)

end

end Cert.Rebin

end
-- ==== Proof.Val.RefParts.lean ====
/- The reference's result as a function of its arguments, written part by part. -/
module

public import proofs.«01_k».proof.Proof.Gen.ReferenceIdeal.Run

@[expose] public section

noncomputable section

namespace Cert.Rebin.Ref

open Idealize.ShloMosaic Idealize.ShloMosaic.TcCoe Cert.ReferenceIdeal Cert.ReferenceIdeal.Gen

variable {F : FTy → Type} [FloatOps F]

/-- A literal at every place. -/
def every (s : Shape) (h : S_.BroadcastsInDim s ![]) (w : BitVec 32) : FVec F s .f32 := broadcastInDim s ![] h (constant S_ .f32 w)
def everyI (s : Shape) (h : S_.BroadcastsInDim s ![]) (w : BitVec 32) : IVec s 32 := broadcastInDim s ![] h (constantI S_ 32 w)

/-- A row's number, at every place of the row. -/
def along (x : FVec F S8192 .f32) : FVec F S8192x5000 .f32 :=
  broadcastInDim S8192x5000 ![0, 1] bcast_S8192x1_S8192x5000_0_1 (broadcastInDim S8192x1 ![0] bcast_S8192_S8192x1_0 x)

/-- The exponentials of the logits less their row's largest. -/
def exps (X : FVec F S8192x5000 .f32) : FVec F S8192x5000 .f32 :=
  Host.exp (subf X (along (maximumf (every S8192 bcast_S_S8192 0xFF800000#32)
    (Host.reduce FloatOps.maximumf X (constant S_ .f32 0xFF800000#32) reducesTo_S8192x5000_S8192_d1 h_S_))))

/-- The softmax. -/
def softR (X : FVec F S8192x5000 .f32) : FVec F S8192x5000 .f32 :=
  Host.divf (exps X) (along (Host.reduceAdd (exps X) (constant S_ .f32 0x00000000#32) reducesTo_S8192x5000_S8192_d1 h_S_))

/-- The running sums of its rows. -/
def sums (P : FVec F S8192x5000 .f32) : FVec F S8192x5000 .f32 :=
  Host.reduceWindowAdd ![1, 5000] ![1, 1] ![0, 4999] ![0, 0] P (broadcastInDim S_ ![] bcast_S_S_ (constant S_ .f32 0x00000000#32))
    reduceWindows_S8192x5000_S8192x5000_w1s1p0_0_w5000s1p4999_0 h_S_

/-- One border, at every place. -/
def first (A : FVec F S5001 .f32) : FVec F S5001 .f32 :=
  broadcastInDim S5001 ![] bcast_S_S5001 (shapeCast S_ (extractStridedSlice S1 ![0] A slices_S5001_S1_0) shapeCasts_S1_S_)
def last (A : FVec F S5001 .f32) : FVec F S5001 .f32 :=
  broadcastInDim S5001 ![] bcast_S_S5001 (shapeCast S_ (extractStridedSlice S1 ![5000] A slices_S5001_S1_5000) shapeCasts_S1_S_)

/-- How many source borders lie left of each target border. -/
def counts (A B : FVec F S5001 .f32) : IVec S5001 32 :=
  Host.reduce IntOp.addi (extui 32 (cmpf .olt (broadcastInDim S5001x5001 ![0, 1] bcast_S5001x1_S5001x5001_0_1 (broadcastInDim S5001x1 ![0] bcast_S5001_S5001x1_0 A))
    (broadcastInDim S5001x5001 ![0, 1] bcast_S1x5001_S5001x5001_0_1 (broadcastInDim S1x5001 ![1] bcast_S5001_S1x5001_1 B))) natLt_1_32)
    (constantI S_ 32 0#32) reducesTo_S5001x5001_S5001_d0 h_S_

/-- The source bin each target border falls in. -/
def bins (A B : FVec F S5001 .f32) : IVec S5001 32 :=
  minsi (everyI S5001 bcast_S_S5001 4999#32) (maxsi (everyI S5001 bcast_S_S5001 0#32)
    (select (cmpf .oeq B (last A)) (everyI S5001 bcast_S_S5001 4999#32)
      (select (cmpf .oeq B (first A)) (everyI S5001 bcast_S_S5001 0#32)
        (subi (counts A B) (everyI S5001 bcast_S_S5001 1#32)))))

def binsCol (A B : FVec F S5001 .f32) : IVec S5001x1 32 := broadcastInDim S5001x1 ![0] bcast_S5001_S5001x1_0 (bins A B)

/-- The share of that bin left of the border. -/
def fracs (A B : FVec F S5001 .f32) : FVec F S5001 .f32 :=
  minimumf (every S5001 bcast_S_S5001 0x3F800000#32) (maximumf (every S5001 bcast_S_S5001 0x00000000#32)
    (Host.divf (subf B (Host.gather gather_S5001_S5001x1_S5001_n_0_n_n_0_1_1 A (binsCol A B)))
      (Host.gather gather_S5000_S5001x1_S5001_n_0_n_n_0_1_1
        (subf (extractStridedSlice S5000 ![1] A slices_S5001_S5000_1) (extractStridedSlice S5000 ![0] A slices_S5001_S5000_0)) (binsCol A B))))

/-- The columns of an array that the bins name. -/
def columns (P : FVec F S8192x5000 .f32) (A B : FVec F S5001 .f32) : FVec F S8192x5001 .f32 :=
  Host.gather gather_S8192x5000_S5001x1_S8192x5001_0_1_n_n_1_1_81921 P (binsCol A B)

/-- The distribution function at the target borders that fall in a bin. -/
def inner (P : FVec F S8192x5000 .f32) (A B : FVec F S5001 .f32) : FVec F S8192x5001 .f32 :=
  addf (columns (subf (sums P) P) A B) (mulf (columns P A B)
    (broadcastInDim S8192x5001 ![0, 1] bcast_S1x5001_S8192x5001_0_1 (broadcastInDim S1x5001 ![1] bcast_S5001_S1x5001_1 (fracs A B))))

/-- The distribution function at every target border. -/
def heights (P : FVec F S8192x5000 .f32) (A B : FVec F S5001 .f32) : FVec F S8192x5001 .f32 :=
  select (broadcastInDim S8192x5001 ![1] bcast_S5001_S8192x5001_1 (cmpf .oge B (last A))) (every S8192x5001 bcast_S_S8192x5001 0x3F800000#32)
    (select (broadcastInDim S8192x5001 ![1] bcast_S5001_S8192x5001_1 (cmpf .ole B (first A))) (every S8192x5001 bcast_S_S8192x5001 0x00000000#32)
      (inner P A B))

/-- Held to between zero and one, and its two ends set. -/
def ends (Q : FVec F S8192x5001 .f32) : FVec F S8192x5001 .f32 :=
  Host.scatter scatter_S8192x5001_S1_S8192_0_1_1_0 (fun _ b => b)
    (Host.scatter scatter_S8192x5001_S1_S8192_0_1_1_0 (fun _ b => b)
      (minimumf (every S8192x5001 bcast_S_S8192x5001 0x3F800000#32) (maximumf (every S8192x5001 bcast_S_S8192x5001 0x00000000#32) Q))
      (everyI S1 bcast_S_S1 0#32) (every S8192 bcast_S_S8192 0x00000000#32))
    (everyI S1 bcast_S_S1 5000#32) (every S8192 bcast_S_S8192 0x3F800000#32)

/-- The steps of an array's rows, none negative. -/
def steps (Q : FVec F S8192x5001 .f32) : FVec F S8192x5000 .f32 :=
  maximumf (subf (extractStridedSlice S8192x5000 ![0, 1] Q slices_S8192x5001_S8192x5000_0_1)
    (extractStridedSlice S8192x5000 ![0, 0] Q slices_S8192x5001_S8192x5000_0_0)) (every S8192x5000 bcast_S_S8192x5000 0x00000000#32)

set_option maxRecDepth 100000 in
set_option maxHeartbeats 2000000 in
theorem result_eq (m : (ℓ : Loc nD τ sig) → Buf (Elt F) ℓ) (c : Dev nD) :
    Value.res_main_v68 m c = steps (ends (heights (softR (m ((c.tc : Thread nD τ).loc main_arg0))) (m ((c.tc : Thread nD τ).loc main_arg1)) (m ((c.tc : Thread nD τ).loc main_arg2)))) := by
  unfold Value.res_main_v68
  rfl

end Cert.Rebin.Ref

end
-- ==== Proof.Val.Softmax.lean ====
/- The softmax of a row whose largest logit is real: the kernel's and the reference's are the same real numbers, none negative, and
   they add up to one. -/
module

public import proofs.«01_k».proof.Proof.Val.Bins
public import proofs.«01_k».proof.Proof.Val.Block
public import proofs.«01_k».proof.Proof.Val.RefParts
public import Idealize.ShloMosaic.Lib.Pointwise.Reduce
public import Idealize.ShloMosaic.Lib.KernelVsHost

@[expose] public section

noncomputable section

namespace Cert.Rebin

open Idealize.ShloMosaic hiding ix0 ix1 ix2 ix3
open Cert.KernelIdeal.Rebin Idealize.ShloMosaic.ValueIdx
open scoped BigOperators

/-! ## The row -/

/-- The largest of a row's logits. -/
def top (x : ℕ → EReal) : ℝ := (Finset.univ.sup fun k : Fin 5000 => x k.val).toReal

/-- The largest of a row's logits is a real number: none is infinite upwards, and one is real. -/
def Topped (x : ℕ → EReal) : Prop := (Finset.univ.sup fun k : Fin 5000 => x k.val) = (top x : EReal)

/-- The weight of a logit: the exponential of its distance from the largest, zero where the logit is minus infinity. -/
def weight (x : ℕ → EReal) (k : ℕ) : ℝ := (Ideal.exp (x k - (top x : EReal))).toReal

/-- The softmax of a row. -/
def share1 (x : ℕ → EReal) (k : ℕ) : ℝ := weight x k / ∑ i : Fin 5000, weight x i.val

/-- The exponential of what lies below a real number is real and not negative. -/
theorem exp_real {y : EReal} (h : y ≠ ⊤) : Ideal.exp y = ((Ideal.exp y).toReal : EReal) ∧ 0 ≤ (Ideal.exp y).toReal := by
  induction y using EReal.rec with
  | bot => simp
  | coe r => simpa using (Real.exp_pos r).le
  | top => exact absurd rfl h

theorem below_top {x : ℕ → EReal} (h : Topped x) (k : Fin 5000) : x k.val - (top x : EReal) ≠ ⊤ := by
  have e : x k.val ≤ (top x : EReal) := h ▸ Finset.le_sup (f := fun k : Fin 5000 => x k.val) (Finset.mem_univ k)
  generalize x k.val = y at e ⊢
  induction y using EReal.rec with
  | bot => simp
  | coe r => rw [← EReal.coe_sub]; exact EReal.coe_ne_top _
  | top => exact absurd e (not_le.2 (EReal.coe_lt_top _))

theorem exp_row {x : ℕ → EReal} (h : Topped x) (k : Fin 5000) : Ideal.exp (x k.val - (top x : EReal)) = (weight x k.val : EReal) :=
  (exp_real (below_top h k)).1

theorem weight_nonneg {x : ℕ → EReal} (h : Topped x) (k : Fin 5000) : 0 ≤ weight x k.val := (exp_real (below_top h k)).2

theorem weight_pos {x : ℕ → EReal} (h : Topped x) : 0 < ∑ i : Fin 5000, weight x i.val := by
  obtain ⟨i, -, e⟩ := Finset.exists_mem_eq_sup Finset.univ ⟨(0 : Fin 5000), Finset.mem_univ _⟩ fun k : Fin 5000 => x k.val
  refine Finset.sum_pos' (fun k _ => weight_nonneg h k) ⟨i, Finset.mem_univ _, ?_⟩
  have e' : x i.val = (top x : EReal) := e.symm.trans h
  unfold weight
  rw [e', ← EReal.coe_sub, Ideal.exp_coe, EReal.toReal_coe]
  exact Real.exp_pos _

theorem share1_masses {x : ℕ → EReal} (h : Topped x) : Masses (share1 x) where
  nonneg k hk := div_nonneg (weight_nonneg h ⟨k, hk⟩) (weight_pos h).le
  total := by
    unfold share1
    rw [← Finset.sum_div]
    exact div_self (weight_pos h).ne'

theorem div_row {x : ℕ → EReal} (h : Topped x) (k : ℕ) :
    Ideal.div (weight x k : EReal) ((∑ i : Fin 5000, weight x i.val : ℝ) : EReal) = (share1 x k : EReal) := by
  unfold Ideal.div share1
  rw [if_neg (by exact_mod_cast (weight_pos h).ne'), ← EReal.coe_inv, ← EReal.coe_mul, div_eq_mul_inv]

theorem lit_bot : Ideal.ofBits .f32 0xFF800000#32 = ⊥ := by
  simp [Ideal.ofBits, Ideal.ieee]

/-! ## The reductions -/

theorem max_apply {n : ℕ} (h : (⟨2, ![n, 5000]⟩ : Shape).Reduces [1] ⟨1, ![n]⟩) (v : FVec Ideal ⟨2, ![n, 5000]⟩ .f32)
    (hφ : FKind.Formats .f32) (hacc : (0xFF800000#32 : BitVec 32) = FKind.maximumf.neutral .f32 hφ) (r : Fin n) :
    multiReduction (F := Ideal) .maximumf [1] ⟨1, ![n]⟩ v 0xFF800000#32 h hφ hacc (ix1 r) = Finset.univ.sup fun k : Fin 5000 => v (ix2 r k) := by
  refine (Ideal.multiReduction_maximumf_single v _ h hφ hacc (ix1 r)).trans ?_
  have e : ∀ k : Fin 5000, h.lift (ix1 r) k = ix2 r k := fun k => by
    funext a
    match a with
    | ⟨0, _⟩ => rfl
    | ⟨1, _⟩ => rfl
  show (Finset.univ : Finset (Fin 5000)).fold max (Ideal.ofBits .f32 0xFF800000#32) (v ∘ h.lift (ix1 r)) = _
  rw [lit_bot, show v ∘ h.lift (ix1 r) = fun k : Fin 5000 => v (ix2 r k) from funext fun k => congrArg v (e k)]
  rfl

theorem add_apply {n : ℕ} (h : (⟨2, ![n, 5000]⟩ : Shape).Reduces [1] ⟨1, ![n]⟩) (v : FVec Ideal ⟨2, ![n, 5000]⟩ .f32)
    (hφ : FKind.Formats .f32) (hacc : (0x00000000#32 : BitVec 32) = FKind.add.neutral .f32 hφ) (r : Fin n) :
    multiReduction (F := Ideal) .add [1] ⟨1, ![n]⟩ v 0x00000000#32 h hφ hacc (ix1 r) = ∑ k : Fin 5000, v (ix2 r k) :=
  Ideal.reduceAdd_r2_a1 h v (ix1 r)

/-! ## The kernel's softmax -/

theorem soft_apply (X : FVec Ideal Cert.KernelIdeal.S512x5000 .f32) (r : Fin 512) (x : ℕ → EReal) (hT : Topped x) (hx : ∀ k : Fin 5000, X (ix2 r k) = x k.val)
    (k : Fin 5000) : soft (F := Ideal) X (ix2 r k) = (share1 x k.val : EReal) := by
  have col : ∀ (v : FVec Ideal Cert.KernelIdeal.S512x1 .f32) (k : Fin 5000),
      broadcastTo Cert.KernelIdeal.S512x5000 v Cert.KernelIdeal.Gen.broadcasts_S512x1_S512x5000 (ix2 r k) = v (ix2 r 0) := fun v k =>
    broadcastTo_apply _ _ _ _ fun a => by match a with | ⟨0, _⟩ => rfl | ⟨1, _⟩ => rfl
  have up : ∀ (v : FVec Ideal Cert.KernelIdeal.S512 .f32),
      shapeCast Cert.KernelIdeal.S512x1 v Cert.KernelIdeal.Gen.shapeCasts_S512_S512x1 (ix2 r 0) = v (ix1 r) := fun v => by
    refine shapeCast_apply _ _ _ _ ?_
    rw [Shape.rowMajor_val_one, Shape.rowMajor_val_two]
    show r.val = r.val * 1 + 0
    omega
  have hM : multiReduction (F := Ideal) .maximumf [1] Cert.KernelIdeal.S512 X 0xFF800000#32 Cert.KernelIdeal.Gen.reduces_S512x5000_S512 (.inl rfl) rfl (ix1 r) = (top x : EReal) := by
    refine (max_apply (n := 512) _ X _ _ r).trans ?_
    rw [← hT]
    exact congrArg _ (funext fun k => hx k)
  unfold soft
  generalize hm : multiReduction (F := Ideal) .maximumf [1] Cert.KernelIdeal.S512 X 0xFF800000#32 Cert.KernelIdeal.Gen.reduces_S512x5000_S512 (.inl rfl) rfl = M at hM ⊢
  have he : ∀ k : Fin 5000, exp (F := Ideal) (subf X (broadcastTo Cert.KernelIdeal.S512x5000 (shapeCast Cert.KernelIdeal.S512x1 M Cert.KernelIdeal.Gen.shapeCasts_S512_S512x1) Cert.KernelIdeal.Gen.broadcasts_S512x1_S512x5000)) (ix2 r k)
      = (weight x k.val : EReal) := fun k => by
    refine Eq.trans ?_ (exp_row hT k)
    show Ideal.exp (X (ix2 r k) - _) = _
    rw [col, up, hM, hx]
  generalize exp (F := Ideal) (subf X (broadcastTo Cert.KernelIdeal.S512x5000 (shapeCast Cert.KernelIdeal.S512x1 M Cert.KernelIdeal.Gen.shapeCasts_S512_S512x1) Cert.KernelIdeal.Gen.broadcasts_S512x1_S512x5000)) = E at he ⊢
  have hs : multiReduction (F := Ideal) .add [1] Cert.KernelIdeal.S512 E 0x00000000#32 Cert.KernelIdeal.Gen.reduces_S512x5000_S512 (.inl rfl) rfl (ix1 r)
      = ((∑ i : Fin 5000, weight x i.val : ℝ) : EReal) := by
    refine (add_apply (n := 512) _ E _ _ r).trans ?_
    rw [← coe_sum]
    exact Finset.sum_congr rfl fun k _ => he k
  generalize multiReduction (F := Ideal) .add [1] Cert.KernelIdeal.S512 E 0x00000000#32 Cert.KernelIdeal.Gen.reduces_S512x5000_S512 (.inl rfl) rfl = S at hs ⊢
  rw [mulf_apply, he, col, divf_apply, up, hs]
  show (weight x k.val : EReal) * Ideal.div (Ideal.ofBits .f32 0x3F800000#32) _ = _
  rw [lit_one, Ideal.mul_one_div (by exact_mod_cast (weight_pos hT).ne'), div_row hT]

/-! ## The reference's softmax -/

theorem along_apply (v : FVec Ideal Cert.ReferenceIdeal.S8192 .f32) (r : Fin 8192) (k : Fin 5000) : Ref.along v (ix2 r k) = v (ix1 r) := by
  unfold Ref.along
  refine (broadcastInDim_apply _ _ _ _ (ix2 r 0) fun a => by match a with | ⟨0, _⟩ => rfl | ⟨1, _⟩ => rfl).trans ?_
  exact broadcastInDim_apply _ _ _ _ (ix1 r) fun a => by match a with | ⟨0, _⟩ => rfl

theorem exps_apply (X : FVec Ideal Cert.ReferenceIdeal.S8192x5000 .f32) (r : Fin 8192) (x : ℕ → EReal) (hT : Topped x) (hx : ∀ k : Fin 5000, X (ix2 r k) = x k.val)
    (k : Fin 5000) : Ref.exps (F := Ideal) X (ix2 r k) = (weight x k.val : EReal) := by
  have h' : Cert.ReferenceIdeal.S8192x5000.Reduces [1] Cert.ReferenceIdeal.S8192 := by decide
  have hM : Host.reduce (FloatOps.maximumf (F := Ideal) (φ := .f32)) X (constant Cert.ReferenceIdeal.S_ .f32 0xFF800000#32) Cert.ReferenceIdeal.Gen.reducesTo_S8192x5000_S8192_d1 Cert.ReferenceIdeal.Gen.h_S_ (ix1 r) = (top x : EReal) := by
    rw [hostReduce_maximumf_eq_multiReduction (φ := .f32) X 0xFF800000#32 _ _ h' (.inl rfl) rfl]
    refine (max_apply (n := 8192) _ X _ _ r).trans ?_
    rw [← hT]
    exact congrArg _ (funext fun k => hx k)
  refine Eq.trans ?_ (exp_row hT k)
  unfold Ref.exps
  show Ideal.exp (X (ix2 r k) - _) = _
  rw [along_apply, maximumf_apply, hM, hx]
  show Ideal.exp (x k.val - max (Ideal.ofBits .f32 0xFF800000#32) _) = _
  rw [lit_bot, max_eq_right bot_le]

theorem softR_apply (X : FVec Ideal Cert.ReferenceIdeal.S8192x5000 .f32) (r : Fin 8192) (x : ℕ → EReal) (hT : Topped x) (hx : ∀ k : Fin 5000, X (ix2 r k) = x k.val)
    (k : Fin 5000) : Ref.softR (F := Ideal) X (ix2 r k) = (share1 x k.val : EReal) := by
  have he := exps_apply X r x hT hx
  unfold Ref.softR
  generalize Ref.exps (F := Ideal) X = E at he ⊢
  have hs : Host.reduceAdd (F := Ideal) E (constant Cert.ReferenceIdeal.S_ .f32 0x00000000#32) Cert.ReferenceIdeal.Gen.reducesTo_S8192x5000_S8192_d1 Cert.ReferenceIdeal.Gen.h_S_ (ix1 r)
      = ((∑ i : Fin 5000, weight x i.val : ℝ) : EReal) := by
    refine (Ideal.hostReduceAdd_r2_a1 (n0 := 8192) (n1 := 5000) _ E _ (ix1 r)).trans ?_
    show Ideal.ofBits .f32 0x00000000#32 + _ = _
    rw [lit_zero, zero_add, ← coe_sum]
    exact Finset.sum_congr rfl fun k _ => he k
  rw [hostDivf_apply, he, along_apply, hs, div_row hT]

end Cert.Rebin

end
-- ==== Proof.Val.Pre.lean ====
/- What the precondition says: the largest logit of each row real, strictly increasing source borders within the outermost values, target borders
   that do not decrease. -/
module

public import proofs.«01_k».proof.Pre_borders_ok
public import proofs.«01_k».proof.Proof.Val.Bins
public import proofs.«01_k».proof.Proof.Val.HostAt
public import proofs.«01_k».proof.Proof.Val.Softmax
public import Idealize.ShloMosaic.Lib.ReduceAll
public import Idealize.ShloMosaic.Lib.Pointwise.Select
public import Idealize.ShloMosaic.Lib.Pipeline.Value

@[expose] public section

noncomputable section

namespace Cert.Rebin

open Idealize.ShloMosaic hiding ix0 ix1 ix2 ix3
open Cert.Pre_borders_ok Idealize.ShloMosaic.ValueIdx

theorem pre_facts : Cert.Pre_borders_ok.Facts := ⟨by decide, by decide, by decide, by decide, by decide, by decide, by decide, by decide, by decide⟩

theorem lit_top : Ideal.ofBits .f32 0x7F800000#32 = ⊤ := by
  simp [Ideal.ofBits, Ideal.ieee]

/-- The borders as functions of their number. -/
def srcAt (A : FVec Ideal S5001 .f32) (k : ℕ) : ℝ := (A (ix1 ⟨min k 5000, by omega⟩)).toReal
def tgtAt (B : FVec Ideal S5001 .f32) (k : ℕ) : EReal := B (ix1 ⟨min k 5000, by omega⟩)

theorem tgtAt_apply (B : FVec Ideal S5001 .f32) (k : Fin 5001) : B (ix1 k) = tgtAt B k.val := by
  unfold tgtAt
  exact congrArg (fun i => B (ix1 i)) (Fin.ext (by show k.val = min k.val 5000; have := k.isLt; omega))

/-- The logits of a row as a function of their number. -/
def rowAt (X : FVec Ideal S8192x5000 .f32) (r : Fin 8192) (k : ℕ) : EReal := X (ix2 r ⟨min k 4999, by omega⟩)

theorem rowAt_apply (X : FVec Ideal S8192x5000 .f32) (r : Fin 8192) (k : Fin 5000) : X (ix2 r k) = rowAt X r k.val := by
  unfold rowAt
  exact congrArg (fun i => X (ix2 r i)) (Fin.ext (by show k.val = min k.val 4999; have := k.isLt; omega))

theorem real_of_abs_lt {x : EReal} (h : max x (-x) < ⊤) : x ≠ ⊤ ∧ x ≠ ⊥ := by
  constructor
  · rintro rfl
    exact absurd (lt_of_le_of_lt (le_max_left _ _) h) (lt_irrefl _)
  · rintro rfl
    exact absurd (lt_of_le_of_lt (le_max_right _ _) h) (by rw [EReal.neg_bot]; exact lt_irrefl _)

/-- A vector whose entries' absolute values were all found below infinity. -/
theorem finite_all (M : FVec Ideal S8192 .f32) (hb : S_.BroadcastsInDim S8192 (![] : Fin 0 → Fin S8192.rank)) (hr : S8192.ReducesTo [0] S_) (h0 : 0 < S_.numel)
    (h : Host.reduce IntOp.andi (cmpf (F := Ideal) .olt (Host.absf M) (broadcastInDim S8192 ![] hb (constant (F := Ideal) S_ .f32 0x7F800000#32))) (constantI S_ 1 1#1) hr h0 ix0 = 1#1)
    (r : Fin 8192) : max (M (ix1 r)) (-(M (ix1 r))) < ⊤ := by
  have sub : Subsingleton S_.Idx := ⟨fun x y => funext fun a => a.elim0⟩
  have e := Host.reduce_andi_all _ _ _ _ _ h (ix1 r)
  have e' : Ideal.cmp .olt (max (M (ix1 r)) (-(M (ix1 r)))) (broadcastInDim S8192 ![] hb (constant (F := Ideal) S_ .f32 0x7F800000#32) (ix1 r)) = 1#1 := e
  rw [broadcastInDim_apply _ _ _ _ ix0 fun a => a.elim0] at e'
  have e'' : Ideal.cmp .olt (max (M (ix1 r)) (-(M (ix1 r)))) (Ideal.ofBits .f32 0x7F800000#32) = 1#1 := e'
  rw [lit_top] at e''
  exact (Ideal.cmp_olt_eq_one _ _).1 e''

/-- The largest entries of the rows. -/
theorem largest_apply (X : FVec Ideal S8192x5000 .f32) (hr : S8192x5000.ReducesTo [1] S8192) (h0 : 0 < S_.numel) (r : Fin 8192) :
    Host.reduce (FloatOps.maximumf (F := Ideal) (φ := .f32)) X (constant S_ .f32 0xFF800000#32) hr h0 (ix1 r)
      = Finset.univ.sup fun k : Fin 5000 => rowAt X r k.val := by
  have h' : S8192x5000.Reduces [1] S8192 := by decide
  rw [hostReduce_maximumf_eq_multiReduction (φ := .f32) X 0xFF800000#32 _ _ h' (.inl rfl) rfl]
  refine (max_apply (n := 8192) _ X _ _ r).trans ?_
  exact congrArg _ (funext fun k => rowAt_apply X r k)

variable [hF : Cert.Pre_borders_ok.Facts] (X : FVec Ideal S8192x5000 .f32) (A B : FVec Ideal S5001 .f32)
  (h : Cert.Pre_borders_ok.fn (F := Ideal) X A B = fun _ => 1#1)
include h

/-- The precondition, entry by entry. -/
theorem pre_read : (∀ r, Topped (rowAt X r)) ∧ (∀ i, max (A i) (-(A i)) ≤ big)
    ∧ (∀ k : Fin 5000, A (ix1 ⟨k.val, by omega⟩) < A (ix1 ⟨k.val + 1, by omega⟩))
    ∧ (∀ k : Fin 5000, B (ix1 ⟨k.val, by omega⟩) ≤ B (ix1 ⟨k.val + 1, by omega⟩)) := by
  have sub : Subsingleton S_.Idx := ⟨fun x y => funext fun a => a.elim0⟩
  have lit : ∀ (s : Shape) (hb : S_.BroadcastsInDim s ![]) (w : BitVec 32) (i : s.Idx),
      broadcastInDim s ![] hb (constant (F := Ideal) S_ .f32 w) i = Ideal.ofBits .f32 w := fun s hb w i =>
    broadcastInDim_apply _ _ _ _ ix0 fun a => a.elim0
  have hi : ∀ (Z : FVec Ideal S5001 .f32) (k : Fin 5000), extractStridedSlice S5000 ![1] Z Facts.slices_S5001_S5000_1 (ix1 k) = Z (ix1 ⟨k.val + 1, by omega⟩) := fun Z k =>
    extractStridedSlice_apply _ _ _ _ _ fun a => by match a with | ⟨0, _⟩ => exact Nat.add_comm _ _
  have lo : ∀ (Z : FVec Ideal S5001 .f32) (k : Fin 5000), extractStridedSlice S5000 ![0] Z Facts.slices_S5001_S5000_0 (ix1 k) = Z (ix1 ⟨k.val, by omega⟩) := fun Z k =>
    extractStridedSlice_apply _ _ _ _ _ fun a => by match a with | ⟨0, _⟩ => exact (Nat.zero_add _).symm
  have h0 := congrFun h ix0
  unfold Cert.Pre_borders_ok.fn Cert.Pre_borders_ok.fn_part1 at h0
  obtain ⟨h1, ht⟩ := IntOp.andi_eq_one.1 h0
  obtain ⟨h2, hs⟩ := IntOp.andi_eq_one.1 h1
  obtain ⟨hx, ha⟩ := IntOp.andi_eq_one.1 h2
  refine ⟨fun r => ?_, fun i => ?_, fun k => ?_, fun k => ?_⟩
  · have hM := largest_apply X Facts.reducesTo_S8192x5000_S8192_d1 Facts.h_S_ r
    obtain ⟨h1, h2⟩ := real_of_abs_lt (finite_all _ _ _ _ hx r)
    exact (EReal.coe_toReal (fun e => h1 (hM.trans e)) (fun e => h2 (hM.trans e))).symm
  · have e := Host.reduce_andi_all _ _ _ _ _ ha i
    have e' : Ideal.cmp .ole (max (A i) (-(A i))) (broadcastInDim S5001 ![] Facts.bcast_S_S5001 (constant (F := Ideal) S_ .f32 0x7149F2CA#32) i) = 1#1 := e
    rw [lit] at e'
    exact (Ideal.cmp_ole_eq_one _ _).1 e'
  · have e := Host.reduce_andi_all _ _ _ _ _ hs (ix1 k)
    have e' : Ideal.cmp .ogt (extractStridedSlice S5000 ![1] A Facts.slices_S5001_S5000_1 (ix1 k)) (extractStridedSlice S5000 ![0] A Facts.slices_S5001_S5000_0 (ix1 k)) = 1#1 := e
    rw [hi, lo] at e'
    exact (Ideal.cmp_ogt_eq_one _ _).1 e'
  · have e := Host.reduce_andi_all _ _ _ _ _ ht (ix1 k)
    have e' : Ideal.cmp .oge (extractStridedSlice S5000 ![1] B Facts.slices_S5001_S5000_1 (ix1 k)) (extractStridedSlice S5000 ![0] B Facts.slices_S5001_S5000_0 (ix1 k)) = 1#1 := e
    rw [hi, lo] at e'
    exact (Ideal.cmp_oge_eq_one _ _).1 e'

theorem row_topped (r : Fin 8192) : Topped (rowAt X r) := (pre_read X A B h).1 r

theorem src_real (k : Fin 5001) : A (ix1 k) = (srcAt A k.val : EReal) := by
  have e : (⟨min k.val 5000, by omega⟩ : Fin 5001) = k := Fin.ext (by show min k.val 5000 = k.val; have := k.isLt; omega)
  have hb := (pre_read X A B h).2.1 (ix1 k)
  obtain ⟨h1, h2⟩ := real_of_abs_lt (lt_of_le_of_lt hb (by rw [show big = _ from big_val]; exact EReal.coe_lt_top _))
  unfold srcAt
  rw [e, EReal.coe_toReal h1 h2]

theorem borders : Borders (srcAt A) (tgtAt B) where
  step k hk := by
    have e := (pre_read X A B h).2.2.1 ⟨k, hk⟩
    rw [src_real X A B h, src_real X A B h, EReal.coe_lt_coe_iff] at e
    exact e
  low k hk := by
    have e := (le_max_right _ _).trans ((pre_read X A B h).2.1 (ix1 ⟨k, by omega⟩))
    rw [src_real X A B h] at e
    exact EReal.neg_le.1 e
  high k hk := by
    have e := (le_max_left _ _).trans ((pre_read X A B h).2.1 (ix1 ⟨k, by omega⟩))
    rw [src_real X A B h] at e
    exact e
  tstep k hk := by
    have e := (pre_read X A B h).2.2.2 ⟨k, hk⟩
    rw [tgtAt_apply B ⟨k, by omega⟩, tgtAt_apply B ⟨k + 1, by omega⟩] at e
    exact e

end Cert.Rebin

end
-- ==== Proof.Val.Whole.lean ====
/- The kernel's whole result array: the mass of every target bin, row by row. -/
module

public import proofs.«01_k».proof.Proof.KI.Frame
public import proofs.«01_k».proof.Proof.Val.Kernel
public import proofs.«01_k».proof.Proof.Val.Host
public import proofs.«01_k».proof.Proof.Val.Softmax
public import proofs.«01_k».proof.Proof.Val.Pre
public import Idealize.ShloMosaic.Lib.Pipeline.ValueKit

@[expose] public section

noncomputable section

namespace Cert.Rebin

open Idealize.ShloMosaic hiding ix0 ix1 ix2 ix3
open Idealize.ShloMosaic.TcCoe Cert.KernelIdeal Cert.KernelIdeal.Gen Cert.KernelIdeal.Rebin Idealize.ShloMosaic.ValueIdx

variable (m : (ℓ : Loc nD τ sig) → Buf (Elt Ideal) ℓ)

/-- The result both programs end with. -/
def massOf (X : S8192x5000.Idx → EReal) (A B : S5001.Idx → EReal) : S8192x5000.Idx → EReal := fun i =>
  mass (srcAt A) (tgtAt B) (share1 (rowAt X (i 0))) (i 1).val

theorem index_in : ∀ t : Fin grid0.N, win0_0.index t = ![t.val, 0] := by decide +kernel
theorem index_out : ∀ t : Fin grid0.N, win0_6.index t = ![t.val, 0] := by decide +kernel
theorem index_1 : ∀ t : Fin grid0.N, win0_1.index t = ![0, 0, 0] := by decide +kernel
theorem index_2 : ∀ t : Fin grid0.N, win0_2.index t = ![0, 0, 0] := by decide +kernel
theorem index_3 : ∀ t : Fin grid0.N, win0_3.index t = ![0, 0, 0] := by decide +kernel
theorem index_4 : ∀ t : Fin grid0.N, win0_4.index t = ![0, 0, 0] := by decide +kernel
theorem index_5 : ∀ t : Fin grid0.N, win0_5.index t = ![0, 0] := by decide +kernel

/-! ## What a grid point reads -/

theorem fl_whole (c : Dev nD) (t : Fin (cfg0 (F := Ideal)).N) : iblk m c (1 : Fin 7) t = V m c main_call0_v21 := by
  funext y
  blk_simp [iblk]
  congr 1
  blk_ext [index_1]

theorem rw_whole (c : Dev nD) (t : Fin (cfg0 (F := Ideal)).N) : iblk m c (2 : Fin 7) t = V m c main_call0_v23 := by
  funext y
  blk_simp [iblk]
  congr 1
  blk_ext [index_2]

theorem to0_whole (c : Dev nD) (t : Fin (cfg0 (F := Ideal)).N) : iblk m c (3 : Fin 7) t = V m c main_call0_v25 := by
  funext y
  blk_simp [iblk]
  congr 1
  blk_ext [index_3]

theorem to1_whole (c : Dev nD) (t : Fin (cfg0 (F := Ideal)).N) : iblk m c (4 : Fin 7) t = V m c main_call0_v27 := by
  funext y
  blk_simp [iblk]
  congr 1
  blk_ext [index_4]

theorem tab_whole (c : Dev nD) (t : Fin (cfg0 (F := Ideal)).N) : iblk m c (5 : Fin 7) t = V m c main_call0_v42 := by
  funext y
  blk_simp [iblk]
  congr 1
  blk_ext [index_5]

/-- The tables are whole at every grid point. -/
theorem ins_whole (c : Dev nD) (t : Fin (cfg0 (F := Ideal)).N) : insAt m c t = insOf (frm m c) (tgt m c) := by
  unfold insAt insOf
  rw [fl_whole, rw_whole, to0_whole, to1_whole, tab_whole, V_21, V_23, V_25, V_27, V_42]

theorem point_lt (t : Fin (cfg0 (F := Ideal)).N) : t.val < 16 := lt_of_lt_of_eq t.isLt N_0

/-- The logits come 512 rows at a time. -/
theorem logits_at (c : Dev nD) (t : Fin (cfg0 (F := Ideal)).N) (r : Fin 512) (k : Fin 5000) :
    logitsAt m c t (ix2 r k) = logits m c (ix2 ⟨t.val * 512 + r.val, by have := point_lt t; omega⟩ k) := by
  unfold logitsAt logits
  rw [← V_arg0 m c]
  blk_simp [iblk]
  congr 1
  blk_ext [index_in]

/-! ## The result's array -/

theorem whole (c : Dev nD) [hF : Cert.Pre_borders_ok.Facts]
    (h : Cert.Pre_borders_ok.fn (F := Ideal) (logits m c) (frm m c) (tgt m c) = fun _ => 1#1) :
    (dats m 0 c).arrAt (6 : Fin 7) (cfg0 (F := Ideal)).N = massOf (logits m c) (frm m c) (tgt m c) := by
  refine (dats m 0 c).arrAt_eq_of_covers (6 : Fin 7) _ (by decide +kernel) fun t hf y => ?_
  blk_simp
  have e : ∀ (r : Fin 512) (j : Fin 5000), outBlk (F := Ideal) (logitsAt m c t) (insAt m c t) (ix2 r j)
      = massOf (logits m c) (frm m c) (tgt m c) (ix2 ⟨t.val * 512 + r.val, by have := point_lt t; omega⟩ j) := fun r j => by
    rw [ins_whole]
    exact outBlk_mass (frm m c) (tgt m c) _ _ (src_real _ _ _ h) (tgtAt_apply _) (borders _ _ _ h) (logitsAt m c t) r _
      (soft_apply _ r _ (row_topped _ _ _ h _) fun k => (logits_at m c t r k).trans (rowAt_apply _ _ k)) j
  rw [after0_6]
  refine (congrArg (outBlk (F := Ideal) (logitsAt m c t) (insAt m c t)) (ValueIdx.eq_ix2 (n0 := 512) (n1 := 5000) y)).trans ((e (y 0) (y 1)).trans (congrArg _ ?_))
  blk_ext [index_out]

end Cert.Rebin

end
-- ==== Proof.Val.RefOps.lean ====
/- Three of the reference's operations read at an index: the running sum of a row, a column set to new values, and the
   columns an index array names. -/
module

public import Idealize.ShloMosaic.Lib.Routing.OpsOne
public import Idealize.ShloMosaic.Lib.Routing.OpsPair
public import Idealize.ShloMosaic.PureOps.Ideal
public import Mathlib.Algebra.BigOperators.Fin

@[expose] public section

noncomputable section

namespace Cert.Rebin

open Idealize.ShloMosaic Idealize.ShloMosaic.ValueIdx
open scoped BigOperators

/-! ## The running sum -/

theorem foldl_sum {α M : Type*} [AddCommMonoid M] (g : α → M) (l : List α) (v : M) : l.foldl (fun a i => a + g i) v = v + (l.map g).sum := by
  induction l generalizing v with
  | nil => simp
  | cons a l ih => rw [List.foldl_cons, ih, List.map_cons, List.sum_cons, add_assoc]

/-- A sum over a window that ends at position `j` and may begin before the row does. -/
theorem window_sum {M : Type*} [AddCommMonoid M] (f : ℕ → M) (n j : ℕ) (hj : j ≤ n) :
    ∑ i ∈ Finset.range (n + 1), (if n ≤ j + i then f (j + i - n) else 0) = ∑ k ∈ Finset.range (j + 1), f k := by
  obtain ⟨d, rfl⟩ := Nat.exists_eq_add_of_le hj
  rw [show j + d + 1 = d + (j + 1) by omega, Finset.sum_range_add, Finset.sum_eq_zero, zero_add]
  · refine Finset.sum_congr rfl fun k _ => ?_
    rw [if_pos (by omega), show j + (d + k) - (j + d) = k by omega]
  · intro i hi
    rw [Finset.mem_range] at hi
    exact if_neg (by omega)

theorem numel_row (n : ℕ) : (⟨2, ![1, n]⟩ : Shape).numel = n := (Shape.numel_rank2 _).trans (Nat.one_mul n)

theorem symm_row {n : ℕ} (i : Fin (⟨2, ![1, n]⟩ : Shape).numel) : (⟨2, ![1, n]⟩ : Shape).rowMajor.symm i = ix2 (0 : Fin 1) (i.cast (numel_row n)) := by
  have hi : i.val < n := lt_of_lt_of_eq i.isLt (numel_row n)
  refine (Routing.symm22 (A := 1) (B := n) i (by rw [Nat.div_eq_of_lt hi]; exact Nat.one_pos) (Nat.mod_lt _ (by omega))).trans ?_
  exact congrArg₂ ix2 (Subsingleton.elim _ _) (Fin.ext (Nat.mod_eq_of_lt hi))

/-- A window that is a whole row long, padded in front by one less: the running sum. -/
theorem running {R n N : ℕ} (hN : n + 1 = N) (x : (⟨2, ![R, N]⟩ : Shape).Idx → EReal) (init : EReal) (hinit : init = 0)
    (h : (⟨2, ![R, N]⟩ : Shape).ReduceWindows (![1, N] : Fin 2 → ℕ) ![1, 1] ![0, n] ![0, 0] ⟨2, ![R, N]⟩)
    (r : Fin R) (j : Fin N) (f : ℕ → EReal) (hf : ∀ k : Fin N, x (ix2 r k) = f k.val) :
    Ideal.hostReduceWindowAdd ![1, N] ![1, 1] ![0, n] ![0, 0] h x init (ix2 r j) = ∑ k ∈ Finset.range (j.val + 1), f k := by
  subst hinit
  subst hN
  have hj := j.isLt
  have hr := r.isLt
  unfold Ideal.hostReduceWindowAdd Host.reduceWindow
  refine (foldl_sum _ _ _).trans ?_
  rw [zero_add]
  refine Eq.trans (congrArg List.sum (List.map_congr_left (g := fun i => if n ≤ j.val + i.val then f (j.val + i.val - n) else 0) fun i _ => ?_)) ?_
  · have h0 : ((⟨2, ![1, n + 1]⟩ : Shape).rowMajor.symm i 0).val = 0 := by rw [symm_row]; rfl
    have h1 : ((⟨2, ![1, n + 1]⟩ : Shape).rowMajor.symm i 1).val = i.val := by rw [symm_row]; rfl
    have hi : i.val < n + 1 := lt_of_lt_of_eq i.isLt (numel_row _)
    dsimp only
    split
    · next hin =>
      have h2 := hin 1
      change n ≤ j.val * 1 + ((⟨2, ![1, n + 1]⟩ : Shape).rowMajor.symm i 1).val ∧ j.val * 1 + ((⟨2, ![1, n + 1]⟩ : Shape).rowMajor.symm i 1).val - n < n + 1 at h2
      rw [h1] at h2
      rw [if_pos (by omega)]
      refine (congrArg x (funext fun a => Fin.ext ?_)).trans (hf ⟨j.val + i.val - n, by omega⟩)
      match a with
      | ⟨0, _⟩ =>
        show r.val * 1 + ((⟨2, ![1, n + 1]⟩ : Shape).rowMajor.symm i 0).val - 0 = r.val
        rw [h0]
        omega
      | ⟨1, _⟩ =>
        show j.val * 1 + ((⟨2, ![1, n + 1]⟩ : Shape).rowMajor.symm i 1).val - n = j.val + i.val - n
        rw [h1, Nat.mul_one]
    · next hin =>
      refine (if_neg fun hle => hin fun a => ?_).symm
      match a with
      | ⟨0, _⟩ =>
        show 0 ≤ r.val * 1 + ((⟨2, ![1, n + 1]⟩ : Shape).rowMajor.symm i 0).val ∧ r.val * 1 + ((⟨2, ![1, n + 1]⟩ : Shape).rowMajor.symm i 0).val - 0 < R
        rw [h0]
        omega
      | ⟨1, _⟩ =>
        show n ≤ j.val * 1 + ((⟨2, ![1, n + 1]⟩ : Shape).rowMajor.symm i 1).val ∧ j.val * 1 + ((⟨2, ![1, n + 1]⟩ : Shape).rowMajor.symm i 1).val - n < n + 1
        rw [h1]
        omega
  · refine Eq.trans ?_ (window_sum f n j.val (by omega))
    refine (Fin.sum_univ_def _).symm.trans ((Fin.sum_univ_eq_sum_range (fun i => if n ≤ j.val + i then f (j.val + i - n) else 0) _).trans ?_)
    exact congrArg (fun m => ∑ i ∈ Finset.range m, if n ≤ j.val + i then f (j.val + i - n) else 0) (numel_row (n + 1))

/-! ## A column set -/

theorem set_column {α : Type} {R N : ℕ} (d : ScatterDims (Routing.shape2 R N) (Routing.shape1 1) (Routing.shape1 R)) (hiw : d.insertedWindowDims = [1])
    (hsd : d.scatterDimsToOperandDims = [1]) (x : (Routing.shape2 R N).Idx → α) (idx : IVec (Routing.shape1 1) 32)
    (u : (Routing.shape1 R).Idx → α) (k : Fin N) (hidx : (idx (ix1 0)).toInt = (k.val : Int)) (r : Fin R) (e : Fin N) :
    Host.scatter d (fun _ b => b) x idx u (ix2 r e) = if e = k then u (ix1 r) else x (ix2 r e) := by
  have from1 : ∀ j : (Routing.shape1 R).Idx, d.resultIdx? j idx = some (ix2 r e) → j 0 = r ∧ e = k := fun j hj =>
    (Routing.lands_col d hiw hsd idx k hidx (j 0) r e).1 ((congrArg (fun t => d.resultIdx? t idx) (eq_ix1 j).symm).trans hj)
  split
  · rename_i h
    exact Routing.scatter_set_hit d x idx u _ _ (fun j hj => congrArg u ((eq_ix1 j).trans (congrArg ix1 (from1 j hj).1))) (ix1 r)
      ((Routing.lands_col d hiw hsd idx k hidx r r e).2 ⟨rfl, h⟩)
  · rename_i h
    exact Routing.scatter_set_miss d x idx u _ fun j hj => h (from1 j hj).2

/-! ## Columns taken -/

/-- The dimension numbers of a take along the second axis. -/
def takeColumns (R N M : ℕ) (wf : GatherDims.WF ⟨2, ![R, N]⟩ ⟨2, ![M, 1]⟩ ⟨2, ![R, M]⟩ [0] [1] [] [1] [] 1 ![R, 1]) :
    GatherDims ⟨2, ![R, N]⟩ ⟨2, ![M, 1]⟩ ⟨2, ![R, M]⟩ where
  offsetDims := [0]
  collapsedSliceDims := [1]
  operandBatchingDims := []
  startIndicesBatchingDims := []
  startIndexMap := [1]
  indexVectorDim := 1
  sliceSizes := ![R, 1]
  wf := wf

theorem take_columns {α : Type} {R N M w : ℕ} (hN : 0 < N)
    (wf : GatherDims.WF ⟨2, ![R, N]⟩ ⟨2, ![M, 1]⟩ ⟨2, ![R, M]⟩ [0] [1] [] [1] [] 1 ![R, 1])
    (x : (⟨2, ![R, N]⟩ : Shape).Idx → α) (idx : IVec ⟨2, ![M, 1]⟩ w) (r : Fin R) (j : Fin M) :
    Host.gather (takeColumns R N M wf) x idx (ix2 r j) = x (ix2 r ⟨min (idx (ix2 j 0)).toInt.toNat (N - 1), by omega⟩) := by
  unfold Host.gather
  congr 1
  funext a
  refine Fin.ext ?_
  show (takeColumns R N M wf).start (ix2 r j) idx a + (takeColumns R N M wf).batchCoord (ix2 r j) a + (takeColumns R N M wf).offCoord (ix2 r j) a = _
  have hb : ∀ a : Fin 2, (takeColumns R N M wf).batchCoord (ix2 r j) a = 0 := fun a => GatherDims.batchCoord_eq_zero _ _ _ (fun h => by cases h)
  have h01 : a = 0 ∨ a = 1 := by
    match a with
    | ⟨0, _⟩ => exact Or.inl rfl
    | ⟨1, _⟩ => exact Or.inr rfl
  rcases h01 with rfl | rfl
  · have hs : (takeColumns R N M wf).start (ix2 r j) idx 0 = 0 := by
      unfold GatherDims.start
      exact dif_neg fun h => absurd (List.mem_singleton.1 h) (by decide : (0 : Fin 2) ≠ 1)
    have hk : (0 : Fin 2) ∈ (takeColumns R N M wf).sKept := (GatherDims.mem_sKept _ _).2
      ⟨fun h => absurd (List.mem_singleton.1 h) (by decide : (0 : Fin 2) ≠ 1), fun h => by cases h⟩
    rw [hb, hs]
    unfold GatherDims.offCoord
    rw [dif_pos hk, Nat.add_zero, Nat.zero_add]
    rfl
  · have hk : (1 : Fin 2) ∉ (takeColumns R N M wf).sKept := fun h => ((GatherDims.mem_sKept _ _).1 h).1 (List.mem_singleton.2 rfl)
    rw [hb, GatherDims.offCoord_eq_zero _ _ _ hk, Nat.add_zero]
    unfold GatherDims.start
    rw [dif_pos (show (1 : Fin 2) ∈ (takeColumns R N M wf).startIndexMap from List.mem_singleton.2 rfl)]
    have hsi : (takeColumns R N M wf).siIdx (ix2 r j) ⟨List.idxOf (1 : Fin 2) (takeColumns R N M wf).startIndexMap,
        List.idxOf_lt_length_iff.2 (List.mem_singleton.2 rfl)⟩ = ix2 j 0 := by
      funext b
      refine Fin.ext ?_
      match b with
      | ⟨0, _⟩ => rfl
      | ⟨1, _⟩ => rfl
    rw [hsi]
    rfl

end Cert.Rebin

end
-- ==== Proof.Val.RefBins.lean ====
/- The reference's borders read at an index: which source bin a target border falls in, and the share of it left of the
   border. -/
module

public import proofs.«01_k».proof.Proof.Val.Bins
public import proofs.«01_k».proof.Proof.Val.Block
public import proofs.«01_k».proof.Proof.Val.RefParts
public import proofs.«01_k».proof.Proof.Val.RefOps
public import Idealize.ShloMosaic.Lib.Pointwise.Select
public import Idealize.ShloMosaic.Lib.StableHlo.Predicate

@[expose] public section

noncomputable section

namespace Cert.Rebin.Ref

open Idealize.ShloMosaic hiding ix0 ix1 ix2 ix3
open Cert.ReferenceIdeal Cert.ReferenceIdeal.Gen Idealize.ShloMosaic.ValueIdx Idealize.ShloMosaic.StableHlo.Predicate
open scoped BigOperators

/-! ## Words -/

theorem clamp_word (n : ℕ) (hn : n < 5000) : IntOp.minsi 4999#32 (IntOp.maxsi 0#32 (BitVec.ofNat 32 n)) = BitVec.ofNat 32 n := by
  have h := toInt_ofNat_small n (by omega)
  have h0 : (0#32 : BitVec 32).toInt = 0 := by decide
  have h1 : (4999#32 : BitVec 32).toInt = 4999 := by decide
  have e0 : IntOp.maxsi 0#32 (BitVec.ofNat 32 n) = BitVec.ofNat 32 n := by
    unfold IntOp.maxsi
    rw [if_neg]
    simp only [BitVec.slt, h, h0, decide_eq_true_eq]
    omega
  rw [e0]
  unfold IntOp.minsi
  rw [if_neg]
  simp only [BitVec.slt, h, h1, decide_eq_true_eq]
  omega

/-! ## Single borders -/

theorem everyAt {s : Shape} (h : S_.BroadcastsInDim s ![]) (w : BitVec 32) (i : s.Idx) : every (F := Ideal) s h w i = Ideal.ofBits .f32 w :=
  broadcastInDim_apply _ _ _ _ ix0 fun a => a.elim0

theorem everyIAt {s : Shape} (h : S_.BroadcastsInDim s ![]) (w : BitVec 32) (i : s.Idx) : everyI s h w i = w :=
  broadcastInDim_apply _ _ _ _ ix0 fun a => a.elim0

theorem scalar_cast (x : FVec Ideal S1 .f32) : shapeCast S_ x shapeCasts_S1_S_ ix0 = x (ix1 0) := by
  refine shapeCast_apply _ _ _ _ ?_
  rw [Shape.rowMajor_val_one]
  exact (Nat.lt_one_iff.1 (lt_of_lt_of_eq (Fin.isLt _) (by decide))).symm

theorem first_apply (A : FVec Ideal S5001 .f32) (j : S5001.Idx) : first A j = A (ix1 0) := by
  unfold first
  refine (broadcastInDim_apply _ _ _ _ ix0 fun a => a.elim0).trans ((scalar_cast _).trans ?_)
  exact extractStridedSlice_apply _ _ _ _ _ fun a => by match a with | ⟨0, _⟩ => rfl

theorem last_apply (A : FVec Ideal S5001 .f32) (j : S5001.Idx) : last A j = A (ix1 5000) := by
  unfold last
  refine (broadcastInDim_apply _ _ _ _ ix0 fun a => a.elim0).trans ((scalar_cast _).trans ?_)
  exact extractStridedSlice_apply _ _ _ _ _ fun a => by match a with | ⟨0, _⟩ => rfl

/-! ## Comparisons -/

theorem cmp_at {s : Shape} (p : CmpFPredicate) (x y : FVec Ideal s .f32) (i : s.Idx) : cmpf p x y i = Ideal.cmp p (x i) (y i) := rfl

/-! ## Entries taken -/

theorem take_entry {α : Type} {N M : ℕ} (d : GatherDims ⟨1, ![N]⟩ ⟨2, ![M, 1]⟩ ⟨1, ![M]⟩) (hc : d.collapsedSliceDims = [0])
    (hb : d.operandBatchingDims = []) (hm : d.startIndexMap = [0]) (hv : d.indexVectorDim = 1) (x : (⟨1, ![N]⟩ : Shape).Idx → α)
    (idx : IVec ⟨2, ![M, 1]⟩ 32) (p : Fin M) {n : ℕ} (hn : n < N) (hi : (idx (ix2 p 0)).toInt.toNat = n) :
    Host.gather d x idx (ix1 p) = x (ix1 ⟨n, hn⟩) := by
  have ep : (ix1 p : (⟨1, ![M]⟩ : Shape).Idx) = Shape.Idx.ofFin p := by
    funext a
    match a with
    | ⟨0, _⟩ => rfl
  have ei : (ixP p : (⟨2, ![M, 1]⟩ : Shape).Idx) = ix2 p 0 := by
    funext a
    match a with
    | ⟨0, _⟩ => rfl
    | ⟨1, _⟩ => rfl
  rw [ep]
  refine (gather_take d hc hb hm hv x idx p (by omega)).trans (congrArg x ?_)
  funext a
  match a with
  | ⟨0, _⟩ =>
    refine Fin.ext ?_
    show min (idx (ixP p)).toInt.toNat (N - 1) = n
    rw [ei, hi]
    omega

/-! ## The bin -/

variable {b : ℕ → ℝ} {T : ℕ → EReal} (H : Borders b T) (A B : FVec Ideal S5001 .f32)
  (hA : ∀ k : Fin 5001, A (ix1 k) = (b k.val : EReal)) (hB : ∀ k : Fin 5001, B (ix1 k) = T k.val)
include H hA hB

/-- A target border strictly between the outermost source borders falls in a bin. -/
theorem bin_of {y : EReal} (h0 : (b 0 : EReal) < y) (h1 : y < (b 5000 : EReal)) : ∃ n < 5000, (b n : EReal) < y ∧ y ≤ (b (n + 1) : EReal) := by
  classical
  have hex : ∃ m, y ≤ (b (m + 1) : EReal) := ⟨4999, h1.le⟩
  refine ⟨Nat.find hex, Nat.lt_of_le_of_lt (Nat.find_min' hex (m := 4999) h1.le) (by omega), ?_, Nat.find_spec hex⟩
  rcases Nat.eq_zero_or_pos (Nat.find hex) with e | e
  · rw [e]
    exact h0
  · have := Nat.find_min hex (m := Nat.find hex - 1) (by omega)
    rw [Nat.sub_add_cancel e] at this
    exact not_le.1 this

variable {n : ℕ} (hn : n < 5000) (j : Fin 5001) (hl : (b n : EReal) < T j.val) (hu : T j.val ≤ (b (n + 1) : EReal))
include hn hl hu

theorem counts_apply : counts A B (ix1 j) = BitVec.ofNat 32 (n + 1) := by
  refine BitVec.eq_of_toNat_eq ?_
  unfold counts
  refine (toNat_reduce_count_rows (n := 5001) (m := 5001) (by norm_num) _ _ _ _ (ix1 j)).trans ?_
  have hc : (BitVec.ofNat 32 (n + 1)).toNat = n + 1 := by
    rw [BitVec.toNat_ofNat]
    exact Nat.mod_eq_of_lt (by omega)
  rw [hc]
  have hp : ∀ p : Fin 5001, cmpf (F := Ideal) .olt (broadcastInDim S5001x5001 ![0, 1] bcast_S5001x1_S5001x5001_0_1 (broadcastInDim S5001x1 ![0] bcast_S5001_S5001x1_0 A))
    (broadcastInDim S5001x5001 ![0, 1] bcast_S1x5001_S5001x5001_0_1 (broadcastInDim S1x5001 ![1] bcast_S5001_S1x5001_1 B)) (ij p j) = 1#1 ↔ p.val < n + 1 := fun p => by
    have e1 : broadcastInDim S5001x5001 ![0, 1] bcast_S5001x1_S5001x5001_0_1 (broadcastInDim S5001x1 ![0] bcast_S5001_S5001x1_0 A) (ij p j) = A (ix1 p) := by
      refine (broadcastInDim_apply _ _ _ _ (ix2 p 0) fun a => by match a with | ⟨0, _⟩ => rfl | ⟨1, _⟩ => rfl).trans ?_
      exact broadcastInDim_apply _ _ _ _ (ix1 p) fun a => by match a with | ⟨0, _⟩ => rfl
    have e2 : broadcastInDim S5001x5001 ![0, 1] bcast_S1x5001_S5001x5001_0_1 (broadcastInDim S1x5001 ![1] bcast_S5001_S1x5001_1 B) (ij p j) = B (ix1 j) := by
      refine (broadcastInDim_apply _ _ _ _ (ix2 0 j) fun a => by match a with | ⟨0, _⟩ => rfl | ⟨1, _⟩ => rfl).trans ?_
      exact broadcastInDim_apply _ _ _ _ (ix1 j) fun a => by match a with | ⟨0, _⟩ => rfl
    rw [cmp_at, e1, e2, hA, hB]
    refine (Ideal.cmp_olt_eq_one _ _).trans ⟨fun h => ?_, fun h => ?_⟩
    · by_contra hc
      exact absurd (hu.trans (EReal.coe_le_coe_iff.2 (H.mono (Nat.le_of_not_lt hc) (by have := p.isLt; omega)))) (not_le.2 h)
    · exact lt_of_le_of_lt (EReal.coe_le_coe_iff.2 (H.mono (Nat.le_of_lt_succ h) (by omega))) hl
  rw [Finset.filter_congr fun p _ => hp p, Fin.card_filter_val_lt]
  omega

/-- Such a border is neither the first nor the last source border, unless it is the last. -/
theorem bins_apply (hlast : T j.val < (b 5000 : EReal)) : bins A B (ix1 j) = BitVec.ofNat 32 n := by
  have h1 : cmpf (F := Ideal) .oeq B (last A) (ix1 j) ≠ 1#1 := fun h => by
    rw [cmp_at, last_apply, hA, hB] at h
    exact absurd ((Ideal.cmp_oeq_eq_one _ _).1 h) hlast.ne
  have h2 : cmpf (F := Ideal) .oeq B (first A) (ix1 j) ≠ 1#1 := fun h => by
    rw [cmp_at, first_apply, hA, hB] at h
    exact absurd ((Ideal.cmp_oeq_eq_one _ _).1 h) (lt_of_le_of_lt (EReal.coe_le_coe_iff.2 (H.mono (Nat.zero_le n) (by omega))) hl).ne'
  have hs : select (cmpf (F := Ideal) .oeq B (last A)) (everyI S5001 bcast_S_S5001 4999#32)
      (select (cmpf (F := Ideal) .oeq B (first A)) (everyI S5001 bcast_S_S5001 0#32)
        (subi (counts A B) (everyI S5001 bcast_S_S5001 1#32))) (ix1 j) = BitVec.ofNat 32 n := by
    rw [select_apply, eq_zero_of_ne_one h1, select_zero, select_apply, eq_zero_of_ne_one h2, select_zero]
    show counts A B (ix1 j) - everyI S5001 bcast_S_S5001 1#32 (ix1 j) = _
    rw [everyIAt, counts_apply H A B hA hB hn j hl hu, sub_one_ofNat _ (by omega) (by omega), Nat.add_sub_cancel]
  unfold bins
  show IntOp.minsi (everyI S5001 bcast_S_S5001 4999#32 (ix1 j)) (IntOp.maxsi (everyI S5001 bcast_S_S5001 0#32 (ix1 j)) (select _ _ _ (ix1 j))) = _
  rw [everyIAt, everyIAt, hs, clamp_word n hn]

theorem binsCol_apply (hlast : T j.val < (b 5000 : EReal)) : (binsCol A B (ix2 j 0)).toInt.toNat = n := by
  unfold binsCol
  have e : broadcastInDim S5001x1 ![0] bcast_S5001_S5001x1_0 (bins A B) (ix2 j 0) = bins A B (ix1 j) :=
    broadcastInDim_apply _ _ _ _ (ix1 j) fun a => by match a with | ⟨0, _⟩ => rfl
  rw [e, bins_apply H A B hA hB hn j hl hu hlast, toInt_ofNat_small n (by omega)]
  exact Int.toNat_natCast n

theorem fracs_apply (hlast : T j.val < (b 5000 : EReal)) : fracs A B (ix1 j) = sh b n (T j.val) := by
  have hi := binsCol_apply H A B hA hB hn j hl hu hlast
  have e1 : Host.gather gather_S5001_S5001x1_S5001_n_0_n_n_0_1_1 A (binsCol A B) (ix1 j) = (b n : EReal) :=
    (take_entry (N := 5001) (M := 5001) _ rfl rfl rfl rfl A (binsCol A B) j (by omega) hi).trans (hA ⟨n, by omega⟩)
  have e2 : Host.gather gather_S5000_S5001x1_S5001_n_0_n_n_0_1_1
        (subf (extractStridedSlice S5000 ![1] A slices_S5001_S5000_1) (extractStridedSlice S5000 ![0] A slices_S5001_S5000_0)) (binsCol A B) (ix1 j)
      = (b (n + 1) : EReal) - (b n : EReal) := by
    refine (take_entry (N := 5000) (M := 5001) _ rfl rfl rfl rfl _ (binsCol A B) j hn hi).trans ?_
    rw [subf_apply]
    refine congrArg₂ (· - ·) ?_ ?_
    · refine (extractStridedSlice_apply _ _ _ _ (ix1 ⟨n + 1, by omega⟩) fun a => ?_).trans (hA ⟨n + 1, by omega⟩)
      match a with
      | ⟨0, _⟩ => exact Nat.add_comm _ _
    · refine (extractStridedSlice_apply _ _ _ _ (ix1 ⟨n, by omega⟩) fun a => ?_).trans (hA ⟨n, by omega⟩)
      match a with
      | ⟨0, _⟩ => exact (Nat.zero_add _).symm
  unfold fracs
  rw [minimumf_apply, maximumf_apply, everyAt, everyAt, lit_one, lit_zero, hostDivf_apply, subf_apply, e1, e2, hB, div_width (H.step n hn)]
  rfl

end Cert.Rebin.Ref

end
-- ==== Proof.Val.RefCdf.lean ====
/- The reference's result read at an index: the mass its distribution function gives a target bin. -/
module

public import proofs.«01_k».proof.Proof.Val.RefBins

@[expose] public section

noncomputable section

namespace Cert.Rebin.Ref

open Idealize.ShloMosaic hiding ix0 ix1 ix2 ix3
open Cert.ReferenceIdeal Cert.ReferenceIdeal.Gen Idealize.ShloMosaic.ValueIdx
open scoped BigOperators

theorem sums_apply (P : FVec Ideal S8192x5000 .f32) (q : ℕ → ℝ) (r : Fin 8192) (hP : ∀ k : Fin 5000, P (ix2 r k) = (q k.val : EReal)) (k : Fin 5000) :
    sums P (ix2 r k) = ((∑ i ∈ Finset.range (k.val + 1), q i : ℝ) : EReal) := by
  refine Eq.trans ?_ (coe_sum _ _)
  have h0 : ∀ i : S_.Idx, broadcastInDim S_ ![] bcast_S_S_ (constant (F := Ideal) S_ .f32 0x00000000#32) i = 0 := fun i =>
    (broadcastInDim_apply _ _ _ _ ix0 fun a => a.elim0).trans lit_zero
  unfold sums Host.reduceWindowAdd
  rw [Ideal.hostReduceWindowAdd_def]
  exact running (R := 8192) (n := 4999) (N := 5000) (by norm_num) P _ (h0 (Shape.Idx.first h_S_)) reduceWindows_S8192x5000_S8192x5000_w1s1p0_0_w5000s1p4999_0 r k
    (fun i => (q i : EReal)) hP

theorem columns_apply (P : FVec Ideal S8192x5000 .f32) (A B : FVec Ideal S5001 .f32) (r : Fin 8192) (j : Fin 5001) {n : ℕ} (hn : n < 5000)
    (hi : (binsCol A B (ix2 j 0)).toInt.toNat = n) : columns P A B (ix2 r j) = P (ix2 r ⟨n, hn⟩) := by
  unfold columns
  refine (take_columns (R := 8192) (N := 5000) (M := 5001) (by norm_num) _ P (binsCol A B) r j).trans (congrArg (fun k => P (ix2 r k)) (Fin.ext ?_))
  show min (binsCol A B (ix2 j 0)).toInt.toNat (5000 - 1) = n
  rw [hi]
  omega

theorem over_rows (f : FVec Ideal S5001 .f32) (r : Fin 8192) (j : Fin 5001) :
    broadcastInDim S8192x5001 ![0, 1] bcast_S1x5001_S8192x5001_0_1 (broadcastInDim S1x5001 ![1] bcast_S5001_S1x5001_1 f) (ix2 r j) = f (ix1 j) := by
  refine (broadcastInDim_apply _ _ _ _ (ix2 0 j) fun a => by match a with | ⟨0, _⟩ => rfl | ⟨1, _⟩ => rfl).trans ?_
  exact broadcastInDim_apply _ _ _ _ (ix1 j) fun a => by match a with | ⟨0, _⟩ => rfl

theorem mask_over_rows (f : IVec S5001 1) (r : Fin 8192) (j : Fin 5001) :
    broadcastInDim S8192x5001 ![1] bcast_S5001_S8192x5001_1 f (ix2 r j) = f (ix1 j) :=
  broadcastInDim_apply _ _ _ _ (ix1 j) fun a => by match a with | ⟨0, _⟩ => rfl

section

variable {b : ℕ → ℝ} {T : ℕ → EReal} (H : Borders b T) (A B : FVec Ideal S5001 .f32)
  (hA : ∀ k : Fin 5001, A (ix1 k) = (b k.val : EReal)) (hB : ∀ k : Fin 5001, B (ix1 k) = T k.val)
  (P : FVec Ideal S8192x5000 .f32) (q : ℕ → ℝ) (Q : Masses q) (r : Fin 8192) (hP : ∀ k : Fin 5000, P (ix2 r k) = (q k.val : EReal))
include H hA hB Q hP

theorem heights_apply (j : Fin 5001) : heights P A B (ix2 r j) = cdf b q (T j.val) := by
  unfold heights
  rw [select_apply, mask_over_rows]
  by_cases h1 : (b 5000 : EReal) ≤ T j.val
  · have e : cmpf (F := Ideal) .oge B (last A) (ix1 j) = 1#1 := by
      rw [cmp_at, last_apply, hA, hB]
      exact (Ideal.cmp_oge_eq_one _ _).2 h1
    rw [e, select_one, everyAt, lit_one, cdf_right H Q h1]
  have e1 : cmpf (F := Ideal) .oge B (last A) (ix1 j) ≠ 1#1 := fun h => by
    rw [cmp_at, last_apply, hA, hB] at h
    exact h1 ((Ideal.cmp_oge_eq_one _ _).1 h)
  rw [eq_zero_of_ne_one e1, select_zero, select_apply, mask_over_rows]
  by_cases h0 : T j.val ≤ (b 0 : EReal)
  · have e : cmpf (F := Ideal) .ole B (first A) (ix1 j) = 1#1 := by
      rw [cmp_at, first_apply, hA, hB]
      exact (Ideal.cmp_ole_eq_one _ _).2 h0
    rw [e, select_one, everyAt, lit_zero, cdf_left H q h0]
  have e0 : cmpf (F := Ideal) .ole B (first A) (ix1 j) ≠ 1#1 := fun h => by
    rw [cmp_at, first_apply, hA, hB] at h
    exact h0 ((Ideal.cmp_ole_eq_one _ _).1 h)
  rw [eq_zero_of_ne_one e0, select_zero]
  have hlast := not_le.1 h1
  obtain ⟨n, hn, hl, hu⟩ := bin_of H A B hA hB (not_le.1 h0) hlast
  have hi := binsCol_apply H A B hA hB hn j hl hu hlast
  unfold inner
  rw [addf_apply, mulf_apply, over_rows, columns_apply _ A B r j hn hi, columns_apply _ A B r j hn hi, subf_apply, sums_apply P q r hP, hP,
    fracs_apply H A B hA hB hn j hl hu hlast, cdf_within H q hn hl.le hu, EReal.coe_sub]

theorem ends_apply (j : Fin 5001) :
    ends (heights P A B) (ix2 r j) = cdf b q (if j.val = 5000 then big else if j.val = 0 then -big else T j.val) := by
  have hc : ∀ Y : FVec Ideal S8192x5001 .f32, Y (ix2 r j) = cdf b q (T j.val) →
      minimumf (every S8192x5001 bcast_S_S8192x5001 0x3F800000#32) (maximumf (every S8192x5001 bcast_S_S8192x5001 0x00000000#32) Y) (ix2 r j) = cdf b q (T j.val) := fun Y hY => by
    rw [minimumf_apply, maximumf_apply, everyAt, everyAt, lit_one, lit_zero, hY, max_eq_right (cdf_nonneg b Q _), min_eq_right (cdf_le_one b Q _)]
  have h := hc (heights P A B) (heights_apply H A B hA hB P q Q r hP j)
  unfold ends
  generalize minimumf (every S8192x5001 bcast_S_S8192x5001 0x3F800000#32) (maximumf (every S8192x5001 bcast_S_S8192x5001 0x00000000#32) (heights P A B)) = Y at h ⊢
  refine (set_column (R := 8192) (N := 5001) scatter_S8192x5001_S1_S8192_0_1_1_0 rfl rfl _ _ _ 5000 (by rw [everyIAt]; decide) r j).trans ?_
  by_cases h5 : j.val = 5000
  · rw [if_pos (Fin.ext h5), if_pos h5, everyAt, lit_one, cdf_right H Q (H.high 5000 le_rfl)]
  rw [if_neg (fun e => h5 (congrArg Fin.val e)), if_neg h5]
  refine (set_column (R := 8192) (N := 5001) scatter_S8192x5001_S1_S8192_0_1_1_0 rfl rfl _ _ _ 0 (by rw [everyIAt]; decide) r j).trans ?_
  by_cases h0 : j.val = 0
  · rw [if_pos (Fin.ext h0), if_pos h0, everyAt, lit_zero, cdf_left H q (H.low 0 (by omega))]
  rw [if_neg (fun e => h0 (congrArg Fin.val e)), if_neg h0, h]

theorem result_apply (j : Fin 5000) : steps (ends (heights P A B)) (ix2 r j) = mass b T q j.val := by
  have hj := j.isLt
  refine Eq.trans ?_ (mass_eq H Q hj)
  have e : ∀ k : Fin 5001, ends (heights P A B) (ix2 r k) = _ := ends_apply H A B hA hB P q Q r hP
  generalize ends (heights P A B) = E at e ⊢
  unfold steps
  rw [maximumf_apply, subf_apply, everyAt, lit_zero]
  refine congrArg₂ max (congrArg₂ (· - ·) ?_ ?_) rfl
  · refine (extractStridedSlice_apply _ _ _ _ (ix2 r ⟨j.val + 1, by omega⟩) fun a => ?_).trans ((e _).trans (congrArg (cdf b q) ?_))
    · match a with
      | ⟨0, _⟩ => exact (Nat.zero_add _).symm
      | ⟨1, _⟩ => exact Nat.add_comm _ _
    · show (if j.val + 1 = 5000 then big else if j.val + 1 = 0 then -big else T (j.val + 1)) = if j.val = 4999 then big else T (j.val + 1)
      by_cases h : j.val = 4999
      · rw [if_pos h, if_pos (by omega)]
      · rw [if_neg h, if_neg (by omega), if_neg (by omega)]
  · refine (extractStridedSlice_apply _ _ _ _ (ix2 r ⟨j.val, by omega⟩) fun a => ?_).trans ((e _).trans (congrArg (cdf b q) ?_))
    · match a with
      | ⟨0, _⟩ => exact (Nat.zero_add _).symm
      | ⟨1, _⟩ => exact (Nat.zero_add _).symm
    · show (if j.val = 5000 then big else if j.val = 0 then -big else T j.val) = if j.val = 0 then -big else T j.val
      rw [if_neg (by omega)]

end

end Cert.Rebin.Ref

end
-- ==== Proof.Val.Same.lean ====
/- The reference's whole result array: the same masses. -/
module

public import proofs.«01_k».proof.Proof.Val.Whole
public import proofs.«01_k».proof.Proof.Val.RefCdf

@[expose] public section

noncomputable section

namespace Cert.Rebin

open Idealize.ShloMosaic hiding ix0 ix1 ix2 ix3
open Cert.ReferenceIdeal Idealize.ShloMosaic.ValueIdx

theorem reference_whole (X : FVec Ideal S8192x5000 .f32) (A B : FVec Ideal S5001 .f32) [hF : Cert.Pre_borders_ok.Facts]
    (h : Cert.Pre_borders_ok.fn (F := Ideal) X A B = fun _ => 1#1) :
    Ref.steps (Ref.ends (Ref.heights (Ref.softR X) A B)) = massOf X A B := by
  have e : ∀ (r : Fin 8192) (j : Fin 5000), Ref.steps (Ref.ends (Ref.heights (Ref.softR X) A B)) (ix2 r j) = massOf X A B (ix2 r j) := fun r j =>
    Ref.result_apply (borders X A B h) A B (src_real X A B h) (tgtAt_apply B) (Ref.softR X) _ (share1_masses (row_topped X A B h r)) r
      (softR_apply X r _ (row_topped X A B h r) (rowAt_apply X r)) j
  funext i
  refine (congrArg _ (ValueIdx.eq_ix2 (n0 := 8192) (n1 := 5000) i)).trans ((e (i 0) (i 1)).trans (congrArg _ (ValueIdx.eq_ix2 (n0 := 8192) (n1 := 5000) i).symm))

end Cert.Rebin

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel.Launch
public import proofs.«01_k».proof.Proof.Gen.Kernel.Points
public import proofs.«01_k».proof.Proof.Gen.KernelIdeal.Launch
public import proofs.«01_k».proof.Proof.Gen.KernelIdeal.Points
public import proofs.«01_k».proof.Proof.K.Frame
public import proofs.«01_k».proof.Proof.KI.Frame
public import proofs.«01_k».proof.Proof.Val.Same
public import Idealize.ShloMosaic.Adequacy
public import Idealize.ShloMosaic.Init

@[expose] public section

namespace Cert.Proof

open Idealize.ShloMosaic Idealize.SL.Sem

/-- The kernel ends without fault, its arguments kept and its counters at zero. -/
theorem frame_kernel : Cert.quiescent_Kernel := fun m ρ _ =>
  (θ_run Cert.Kernel.defs _ _).mono (fun r h => ⟨fun c => (h.1 c).2, h.2⟩) (Cert.Kernel.Rebin.run_kept (F := Bits) m ρ)

/-- So does the ideal kernel. -/
theorem frame_kernelIdeal : Cert.quiescent_KernelIdeal := fun m ρ _ =>
  (θ_run Cert.KernelIdeal.defs _ _).mono (fun r h => ⟨fun c => (h.1 c).2, h.2⟩) (Cert.KernelIdeal.Rebin.run_kept (F := Ideal) m ρ)

/-- So does the ideal reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section

variable [hF : Cert.Pre_borders_ok.Facts]

/-- The same of the memories the precondition allows. -/
theorem frame_kernelIdeal_pre : Cert.quiescent_KernelIdeal_pre_borders_ok := fun m ρ _ => frame_kernelIdeal m ρ trivial
theorem frame_reference_pre : Cert.quiescent_ReferenceIdeal_pre_borders_ok := fun m ρ _ => frame_reference m ρ trivial

/-- Both end with the same array: the mass of every target bin, row by row. -/
theorem same : Cert.algebraic_KernelIdeal_ReferenceIdeal_pre_borders_ok := fun m ρ m' ρ' hpre hargs =>
  ⟨fun c => Cert.Rebin.massOf (Cert.Rebin.logits m c) (Cert.Rebin.frm m c) (Cert.Rebin.tgt m c),
    (θ_run Cert.KernelIdeal.defs _ _).mono (fun _ h c => ⟨(h.1 c).1.trans (Cert.Rebin.whole m c (hpre c)), (h.1 c).2⟩)
      (Cert.KernelIdeal.Rebin.run_kept (F := Ideal) m ρ),
    (θ_run Cert.ReferenceIdeal.defs _ _).mono (fun _ h c => ⟨(h c).1.trans (by
        rw [Cert.Rebin.Ref.result_eq, (hargs c).1, (hargs c).2.1, (hargs c).2.2]
        exact Cert.Rebin.reference_whole _ _ _ (hpre c)), (h c).2⟩)
      (Cert.ReferenceIdeal.Value.run (F := Ideal) m' ρ')⟩

end

theorem claim : Cert.Claim :=
  ⟨Cert.Kernel.Gen.facts, Cert.KernelIdeal.Gen.facts, Cert.ReferenceIdeal.Gen.facts, Cert.Rebin.pre_facts,
    frame_kernel, frame_kernelIdeal, frame_kernelIdeal_pre (hF := Cert.Rebin.pre_facts), frame_reference,
    frame_reference_pre (hF := Cert.Rebin.pre_facts), trivial, same (hF := Cert.Rebin.pre_facts)⟩

end Cert.Proof
